-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_GUp (m : (ℓ : Loc Cert.GUp.nD Cert.GUp.τ Cert.GUp.sig) → Buf (Elt Bits) ℓ) : Prop :=
  True

def Pre_GUpIdeal (m : (ℓ : Loc Cert.GUpIdeal.nD Cert.GUpIdeal.τ Cert.GUpIdeal.sig) → Buf (Elt Ideal) ℓ) : Prop :=
  True

def Pre_GUpRefIdeal (m : (ℓ : Loc Cert.GUpRefIdeal.nD Cert.GUpRefIdeal.τ Cert.GUpRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_GIn (m : (ℓ : Loc Cert.GIn.nD Cert.GIn.τ Cert.GIn.sig) → Buf (Elt Bits) ℓ) : Prop :=
  True

def Pre_GInIdeal (m : (ℓ : Loc Cert.GInIdeal.nD Cert.GInIdeal.τ Cert.GInIdeal.sig) → Buf (Elt Ideal) ℓ) : Prop :=
  True

def Pre_GInRefIdeal (m : (ℓ : Loc Cert.GInRefIdeal.nD Cert.GInRefIdeal.τ Cert.GInRefIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_GOutRefIdeal (m : (ℓ : Loc Cert.GOutRefIdeal.nD Cert.GOutRefIdeal.τ Cert.GOutRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_AttnNorm (m : (ℓ : Loc Cert.AttnNorm.nD Cert.AttnNorm.τ Cert.AttnNorm.sig) → Buf (Elt Bits) ℓ) : Prop :=
  True

def Pre_AttnNormIdeal (m : (ℓ : Loc Cert.AttnNormIdeal.nD Cert.AttnNormIdeal.τ Cert.AttnNormIdeal.sig) → Buf (Elt Ideal) ℓ) : Prop :=
  True

def Pre_AttnNormIdeal_finite_an [hPre_finite_an : Cert.Pre_finite_an.Facts] (m : (ℓ : Loc Cert.AttnNormIdeal.nD Cert.AttnNormIdeal.τ Cert.AttnNormIdeal.sig) → Buf (Elt Ideal) ℓ) : Prop :=
  ∀ c : Dev Cert.AttnNormIdeal.nD,
    (Cert.Pre_finite_an.fn (F := Ideal) (m ((c.tc : Thread Cert.AttnNormIdeal.nD Cert.AttnNormIdeal.τ).loc Cert.AttnNormIdeal.main_arg0)) (m ((c.tc : Thread Cert.AttnNormIdeal.nD Cert.AttnNormIdeal.τ).loc Cert.AttnNormIdeal.main_arg1)) (m ((c.tc : Thread Cert.AttnNormIdeal.nD Cert.AttnNormIdeal.τ).loc Cert.AttnNormIdeal.main_arg2))).1 = (fun _ => 1#1)
    ∧ (Cert.Pre_finite_an.fn (F := Ideal) (m ((c.tc : Thread Cert.AttnNormIdeal.nD Cert.AttnNormIdeal.τ).loc Cert.AttnNormIdeal.main_arg0)) (m ((c.tc : Thread Cert.AttnNormIdeal.nD Cert.AttnNormIdeal.τ).loc Cert.AttnNormIdeal.main_arg1)) (m ((c.tc : Thread Cert.AttnNormIdeal.nD Cert.AttnNormIdeal.τ).loc Cert.AttnNormIdeal.main_arg2))).2.1 = (fun _ => 1#1)
    ∧ (Cert.Pre_finite_an.fn (F := Ideal) (m ((c.tc : Thread Cert.AttnNormIdeal.nD Cert.AttnNormIdeal.τ).loc Cert.AttnNormIdeal.main_arg0)) (m ((c.tc : Thread Cert.AttnNormIdeal.nD Cert.AttnNormIdeal.τ).loc Cert.AttnNormIdeal.main_arg1)) (m ((c.tc : Thread Cert.AttnNormIdeal.nD Cert.AttnNormIdeal.τ).loc Cert.AttnNormIdeal.main_arg2))).2.2 = (fun _ => 1#1)

def Pre_AttnNormRefIdeal (m : (ℓ : Loc Cert.AttnNormRefIdeal.nD Cert.AttnNormRefIdeal.τ Cert.AttnNormRefIdeal.sig) → Buf (Elt Ideal) ℓ) : Prop :=
  True

def Pre_AttnNormRefIdeal_finite_an [hPre_finite_an : Cert.Pre_finite_an.Facts] (m : (ℓ : Loc Cert.AttnNormRefIdeal.nD Cert.AttnNormRefIdeal.τ Cert.AttnNormRefIdeal.sig) → Buf (Elt Ideal) ℓ) : Prop :=
  ∀ c : Dev Cert.AttnNormRefIdeal.nD,
    (Cert.Pre_finite_an.fn (F := Ideal) (m ((c.tc : Thread Cert.AttnNormRefIdeal.nD Cert.AttnNormRefIdeal.τ).loc Cert.AttnNormRefIdeal.main_arg0)) (m ((c.tc : Thread Cert.AttnNormRefIdeal.nD Cert.AttnNormRefIdeal.τ).loc Cert.AttnNormRefIdeal.main_arg1)) (m ((c.tc : Thread Cert.AttnNormRefIdeal.nD Cert.AttnNormRefIdeal.τ).loc Cert.AttnNormRefIdeal.main_arg2))).1 = (fun _ => 1#1)
    ∧ (Cert.Pre_finite_an.fn (F := Ideal) (m ((c.tc : Thread Cert.AttnNormRefIdeal.nD Cert.AttnNormRefIdeal.τ).loc Cert.AttnNormRefIdeal.main_arg0)) (m ((c.tc : Thread Cert.AttnNormRefIdeal.nD Cert.AttnNormRefIdeal.τ).loc Cert.AttnNormRefIdeal.main_arg1)) (m ((c.tc : Thread Cert.AttnNormRefIdeal.nD Cert.AttnNormRefIdeal.τ).loc Cert.AttnNormRefIdeal.main_arg2))).2.1 = (fun _ => 1#1)
    ∧ (Cert.Pre_finite_an.fn (F := Ideal) (m ((c.tc : Thread Cert.AttnNormRefIdeal.nD Cert.AttnNormRefIdeal.τ).loc Cert.AttnNormRefIdeal.main_arg0)) (m ((c.tc : Thread Cert.AttnNormRefIdeal.nD Cert.AttnNormRefIdeal.τ).loc Cert.AttnNormRefIdeal.main_arg1)) (m ((c.tc : Thread Cert.AttnNormRefIdeal.nD Cert.AttnNormRefIdeal.τ).loc Cert.AttnNormRefIdeal.main_arg2))).2.2 = (fun _ => 1#1)

def Pre_QkPrep (m : (ℓ : Loc Cert.QkPrep.nD Cert.QkPrep.τ Cert.QkPrep.sig) → Buf (Elt Bits) ℓ) : Prop :=
  True

def Pre_QkPrepIdeal (m : (ℓ : Loc Cert.QkPrepIdeal.nD Cert.QkPrepIdeal.τ Cert.QkPrepIdeal.sig) → Buf (Elt Ideal) ℓ) : Prop :=
  True

def Pre_QkPrepIdeal_finite_qk [hPre_finite_qk : Cert.Pre_finite_qk.Facts] (m : (ℓ : Loc Cert.QkPrepIdeal.nD Cert.QkPrepIdeal.τ Cert.QkPrepIdeal.sig) → Buf (Elt Ideal) ℓ) : Prop :=
  ∀ c : Dev Cert.QkPrepIdeal.nD,
    (Cert.Pre_finite_qk.fn (F := Ideal) (m ((c.tc : Thread Cert.QkPrepIdeal.nD Cert.QkPrepIdeal.τ).loc Cert.QkPrepIdeal.main_arg0)) (m ((c.tc : Thread Cert.QkPrepIdeal.nD Cert.QkPrepIdeal.τ).loc Cert.QkPrepIdeal.main_arg1)) (m ((c.tc : Thread Cert.QkPrepIdeal.nD Cert.QkPrepIdeal.τ).loc Cert.QkPrepIdeal.main_arg2)) (m ((c.tc : Thread Cert.QkPrepIdeal.nD Cert.QkPrepIdeal.τ).loc Cert.QkPrepIdeal.main_arg3)) (m ((c.tc : Thread Cert.QkPrepIdeal.nD Cert.QkPrepIdeal.τ).loc Cert.QkPrepIdeal.main_arg4)) (m ((c.tc : Thread Cert.QkPrepIdeal.nD Cert.QkPrepIdeal.τ).loc Cert.QkPrepIdeal.main_arg5)) (m ((c.tc : Thread Cert.QkPrepIdeal.nD Cert.QkPrepIdeal.τ).loc Cert.QkPrepIdeal.main_arg6))).1 = (fun _ => 1#1)
    ∧ (Cert.Pre_finite_qk.fn (F := Ideal) (m ((c.tc : Thread Cert.QkPrepIdeal.nD Cert.QkPrepIdeal.τ).loc Cert.QkPrepIdeal.main_arg0)) (m ((c.tc : Thread Cert.QkPrepIdeal.nD Cert.QkPrepIdeal.τ).loc Cert.QkPrepIdeal.main_arg1)) (m ((c.tc : Thread Cert.QkPrepIdeal.nD Cert.QkPrepIdeal.τ).loc Cert.QkPrepIdeal.main_arg2)) (m ((c.tc : Thread Cert.QkPrepIdeal.nD Cert.QkPrepIdeal.τ).loc Cert.QkPrepIdeal.main_arg3)) (m ((c.tc : Thread Cert.QkPrepIdeal.nD Cert.QkPrepIdeal.τ).loc Cert.QkPrepIdeal.main_arg4)) (m ((c.tc : Thread Cert.QkPrepIdeal.nD Cert.QkPrepIdeal.τ).loc Cert.QkPrepIdeal.main_arg5)) (m ((c.tc : Thread Cert.QkPrepIdeal.nD Cert.QkPrepIdeal.τ).loc Cert.QkPrepIdeal.main_arg6))).2.1 = (fun _ => 1#1)
    ∧ (Cert.Pre_finite_qk.fn (F := Ideal) (m ((c.tc : Thread Cert.QkPrepIdeal.nD Cert.QkPrepIdeal.τ).loc Cert.QkPrepIdeal.main_arg0)) (m ((c.tc : Thread Cert.QkPrepIdeal.nD Cert.QkPrepIdeal.τ).loc Cert.QkPrepIdeal.main_arg1)) (m ((c.tc : Thread Cert.QkPrepIdeal.nD Cert.QkPrepIdeal.τ).loc Cert.QkPrepIdeal.main_arg2)) (m ((c.tc : Thread Cert.QkPrepIdeal.nD Cert.QkPrepIdeal.τ).loc Cert.QkPrepIdeal.main_arg3)) (m ((c.tc : Thread Cert.QkPrepIdeal.nD Cert.QkPrepIdeal.τ).loc Cert.QkPrepIdeal.main_arg4)) (m ((c.tc : Thread Cert.QkPrepIdeal.nD Cert.QkPrepIdeal.τ).loc Cert.QkPrepIdeal.main_arg5)) (m ((c.tc : Thread Cert.QkPrepIdeal.nD Cert.QkPrepIdeal.τ).loc Cert.QkPrepIdeal.main_arg6))).2.2.1 = (fun _ => 1#1)
    ∧ (Cert.Pre_finite_qk.fn (F := Ideal) (m ((c.tc : Thread Cert.QkPrepIdeal.nD Cert.QkPrepIdeal.τ).loc Cert.QkPrepIdeal.main_arg0)) (m ((c.tc : Thread Cert.QkPrepIdeal.nD Cert.QkPrepIdeal.τ).loc Cert.QkPrepIdeal.main_arg1)) (m ((c.tc : Thread Cert.QkPrepIdeal.nD Cert.QkPrepIdeal.τ).loc Cert.QkPrepIdeal.main_arg2)) (m ((c.tc : Thread Cert.QkPrepIdeal.nD Cert.QkPrepIdeal.τ).loc Cert.QkPrepIdeal.main_arg3)) (m ((c.tc : Thread Cert.QkPrepIdeal.nD Cert.QkPrepIdeal.τ).loc Cert.QkPrepIdeal.main_arg4)) (m ((c.tc : Thread Cert.QkPrepIdeal.nD Cert.QkPrepIdeal.τ).loc Cert.QkPrepIdeal.main_arg5)) (m ((c.tc : Thread Cert.QkPrepIdeal.nD Cert.QkPrepIdeal.τ).loc Cert.QkPrepIdeal.main_arg6))).2.2.2.1 = (fun _ => 1#1)
    ∧ (Cert.Pre_finite_qk.fn (F := Ideal) (m ((c.tc : Thread Cert.QkPrepIdeal.nD Cert.QkPrepIdeal.τ).loc Cert.QkPrepIdeal.main_arg0)) (m ((c.tc : Thread Cert.QkPrepIdeal.nD Cert.QkPrepIdeal.τ).loc Cert.QkPrepIdeal.main_arg1)) (m ((c.tc : Thread Cert.QkPrepIdeal.nD Cert.QkPrepIdeal.τ).loc Cert.QkPrepIdeal.main_arg2)) (m ((c.tc : Thread Cert.QkPrepIdeal.nD Cert.QkPrepIdeal.τ).loc Cert.QkPrepIdeal.main_arg3)) (m ((c.tc : Thread Cert.QkPrepIdeal.nD Cert.QkPrepIdeal.τ).loc Cert.QkPrepIdeal.main_arg4)) (m ((c.tc : Thread Cert.QkPrepIdeal.nD Cert.QkPrepIdeal.τ).loc Cert.QkPrepIdeal.main_arg5)) (m ((c.tc : Thread Cert.QkPrepIdeal.nD Cert.QkPrepIdeal.τ).loc Cert.QkPrepIdeal.main_arg6))).2.2.2.2 = (fun _ => 1#1)

def Pre_QkPrepRefIdeal (m : (ℓ : Loc Cert.QkPrepRefIdeal.nD Cert.QkPrepRefIdeal.τ Cert.QkPrepRefIdeal.sig) → Buf (Elt Ideal) ℓ) : Prop :=
  True

def Pre_QkPrepRefIdeal_finite_qk [hPre_finite_qk : Cert.Pre_finite_qk.Facts] (m : (ℓ : Loc Cert.QkPrepRefIdeal.nD Cert.QkPrepRefIdeal.τ Cert.QkPrepRefIdeal.sig) → Buf (Elt Ideal) ℓ) : Prop :=
  ∀ c : Dev Cert.QkPrepRefIdeal.nD,
    (Cert.Pre_finite_qk.fn (F := Ideal) (m ((c.tc : Thread Cert.QkPrepRefIdeal.nD Cert.QkPrepRefIdeal.τ).loc Cert.QkPrepRefIdeal.main_arg0)) (m ((c.tc : Thread Cert.QkPrepRefIdeal.nD Cert.QkPrepRefIdeal.τ).loc Cert.QkPrepRefIdeal.main_arg1)) (m ((c.tc : Thread Cert.QkPrepRefIdeal.nD Cert.QkPrepRefIdeal.τ).loc Cert.QkPrepRefIdeal.main_arg2)) (m ((c.tc : Thread Cert.QkPrepRefIdeal.nD Cert.QkPrepRefIdeal.τ).loc Cert.QkPrepRefIdeal.main_arg3)) (m ((c.tc : Thread Cert.QkPrepRefIdeal.nD Cert.QkPrepRefIdeal.τ).loc Cert.QkPrepRefIdeal.main_arg4)) (m ((c.tc : Thread Cert.QkPrepRefIdeal.nD Cert.QkPrepRefIdeal.τ).loc Cert.QkPrepRefIdeal.main_arg5)) (m ((c.tc : Thread Cert.QkPrepRefIdeal.nD Cert.QkPrepRefIdeal.τ).loc Cert.QkPrepRefIdeal.main_arg6))).1 = (fun _ => 1#1)
    ∧ (Cert.Pre_finite_qk.fn (F := Ideal) (m ((c.tc : Thread Cert.QkPrepRefIdeal.nD Cert.QkPrepRefIdeal.τ).loc Cert.QkPrepRefIdeal.main_arg0)) (m ((c.tc : Thread Cert.QkPrepRefIdeal.nD Cert.QkPrepRefIdeal.τ).loc Cert.QkPrepRefIdeal.main_arg1)) (m ((c.tc : Thread Cert.QkPrepRefIdeal.nD Cert.QkPrepRefIdeal.τ).loc Cert.QkPrepRefIdeal.main_arg2)) (m ((c.tc : Thread Cert.QkPrepRefIdeal.nD Cert.QkPrepRefIdeal.τ).loc Cert.QkPrepRefIdeal.main_arg3)) (m ((c.tc : Thread Cert.QkPrepRefIdeal.nD Cert.QkPrepRefIdeal.τ).loc Cert.QkPrepRefIdeal.main_arg4)) (m ((c.tc : Thread Cert.QkPrepRefIdeal.nD Cert.QkPrepRefIdeal.τ).loc Cert.QkPrepRefIdeal.main_arg5)) (m ((c.tc : Thread Cert.QkPrepRefIdeal.nD Cert.QkPrepRefIdeal.τ).loc Cert.QkPrepRefIdeal.main_arg6))).2.1 = (fun _ => 1#1)
    ∧ (Cert.Pre_finite_qk.fn (F := Ideal) (m ((c.tc : Thread Cert.QkPrepRefIdeal.nD Cert.QkPrepRefIdeal.τ).loc Cert.QkPrepRefIdeal.main_arg0)) (m ((c.tc : Thread Cert.QkPrepRefIdeal.nD Cert.QkPrepRefIdeal.τ).loc Cert.QkPrepRefIdeal.main_arg1)) (m ((c.tc : Thread Cert.QkPrepRefIdeal.nD Cert.QkPrepRefIdeal.τ).loc Cert.QkPrepRefIdeal.main_arg2)) (m ((c.tc : Thread Cert.QkPrepRefIdeal.nD Cert.QkPrepRefIdeal.τ).loc Cert.QkPrepRefIdeal.main_arg3)) (m ((c.tc : Thread Cert.QkPrepRefIdeal.nD Cert.QkPrepRefIdeal.τ).loc Cert.QkPrepRefIdeal.main_arg4)) (m ((c.tc : Thread Cert.QkPrepRefIdeal.nD Cert.QkPrepRefIdeal.τ).loc Cert.QkPrepRefIdeal.main_arg5)) (m ((c.tc : Thread Cert.QkPrepRefIdeal.nD Cert.QkPrepRefIdeal.τ).loc Cert.QkPrepRefIdeal.main_arg6))).2.2.1 = (fun _ => 1#1)
    ∧ (Cert.Pre_finite_qk.fn (F := Ideal) (m ((c.tc : Thread Cert.QkPrepRefIdeal.nD Cert.QkPrepRefIdeal.τ).loc Cert.QkPrepRefIdeal.main_arg0)) (m ((c.tc : Thread Cert.QkPrepRefIdeal.nD Cert.QkPrepRefIdeal.τ).loc Cert.QkPrepRefIdeal.main_arg1)) (m ((c.tc : Thread Cert.QkPrepRefIdeal.nD Cert.QkPrepRefIdeal.τ).loc Cert.QkPrepRefIdeal.main_arg2)) (m ((c.tc : Thread Cert.QkPrepRefIdeal.nD Cert.QkPrepRefIdeal.τ).loc Cert.QkPrepRefIdeal.main_arg3)) (m ((c.tc : Thread Cert.QkPrepRefIdeal.nD Cert.QkPrepRefIdeal.τ).loc Cert.QkPrepRefIdeal.main_arg4)) (m ((c.tc : Thread Cert.QkPrepRefIdeal.nD Cert.QkPrepRefIdeal.τ).loc Cert.QkPrepRefIdeal.main_arg5)) (m ((c.tc : Thread Cert.QkPrepRefIdeal.nD Cert.QkPrepRefIdeal.τ).loc Cert.QkPrepRefIdeal.main_arg6))).2.2.2.1 = (fun _ => 1#1)
    ∧ (Cert.Pre_finite_qk.fn (F := Ideal) (m ((c.tc : Thread Cert.QkPrepRefIdeal.nD Cert.QkPrepRefIdeal.τ).loc Cert.QkPrepRefIdeal.main_arg0)) (m ((c.tc : Thread Cert.QkPrepRefIdeal.nD Cert.QkPrepRefIdeal.τ).loc Cert.QkPrepRefIdeal.main_arg1)) (m ((c.tc : Thread Cert.QkPrepRefIdeal.nD Cert.QkPrepRefIdeal.τ).loc Cert.QkPrepRefIdeal.main_arg2)) (m ((c.tc : Thread Cert.QkPrepRefIdeal.nD Cert.QkPrepRefIdeal.τ).loc Cert.QkPrepRefIdeal.main_arg3)) (m ((c.tc : Thread Cert.QkPrepRefIdeal.nD Cert.QkPrepRefIdeal.τ).loc Cert.QkPrepRefIdeal.main_arg4)) (m ((c.tc : Thread Cert.QkPrepRefIdeal.nD Cert.QkPrepRefIdeal.τ).loc Cert.QkPrepRefIdeal.main_arg5)) (m ((c.tc : Thread Cert.QkPrepRefIdeal.nD Cert.QkPrepRefIdeal.τ).loc Cert.QkPrepRefIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1))
      ∧ r.2.sem = fun _ => 0)

def quiescent_GUp [hGUp : Cert.GUp.Facts] : Prop :=
  ∀ (m : (ℓ : Loc Cert.GUp.nD Cert.GUp.τ Cert.GUp.sig) → Buf (Elt Bits) ℓ) (g : Dev Cert.GUp.nD → PrngReg), Pre_GUp m →
    θ_run (Cert.GUp.defs (F := Bits)) (onTc (τ := Cert.GUp.τ) (Cert.GUp.main (F := Bits))) ⟨m, fun _ => 0, g⟩ (fun r => (∀ c : Dev Cert.GUp.nD,
      r.2.mem ((c.tc : Thread Cert.GUp.nD Cert.GUp.τ).loc Cert.GUp.main_arg0) = m ((c.tc : Thread Cert.GUp.nD Cert.GUp.τ).loc Cert.GUp.main_arg0)
      ∧ r.2.mem ((c.tc : Thread Cert.GUp.nD Cert.GUp.τ).loc Cert.GUp.main_arg1) = m ((c.tc : Thread Cert.GUp.nD Cert.GUp.τ).loc Cert.GUp.main_arg1))
      ∧ r.2.sem = fun _ => 0)

def quiescent_GUpIdeal [hGUpIdeal : Cert.GUpIdeal.Facts] : Prop :=
  ∀ (m : (ℓ : Loc Cert.GUpIdeal.nD Cert.GUpIdeal.τ Cert.GUpIdeal.sig) → Buf (Elt Ideal) ℓ) (g : Dev Cert.GUpIdeal.nD → PrngReg), Pre_GUpIdeal m →
    θ_run (Cert.GUpIdeal.defs (F := Ideal)) (onTc (τ := Cert.GUpIdeal.τ) (Cert.GUpIdeal.main (F := Ideal))) ⟨m, fun _ => 0, g⟩ (fun r => (∀ c : Dev Cert.GUpIdeal.nD,
      r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
      ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1))
      ∧ r.2.sem = fun _ => 0)

def quiescent_GUpRefIdeal [hGUpRefIdeal : Cert.GUpRefIdeal.Facts] : Prop :=
  ∀ (m : (ℓ : Loc Cert.GUpRefIdeal.nD Cert.GUpRefIdeal.τ Cert.GUpRefIdeal.sig) → Buf (Elt Ideal) ℓ) (g : Dev Cert.GUpRefIdeal.nD → PrngReg), Pre_GUpRefIdeal m →
    θ_run (Cert.GUpRefIdeal.defs (F := Ideal)) (onTc (τ := Cert.GUpRefIdeal.τ) (Cert.GUpRefIdeal.main (F := Ideal))) ⟨m, fun _ => 0, g⟩ (fun r => (∀ c : Dev Cert.GUpRefIdeal.nD,
      r.2.mem ((c.tc : Thread Cert.GUpRefIdeal.nD Cert.GUpRefIdeal.τ).loc Cert.GUpRefIdeal.main_arg0) = m ((c.tc : Thread Cert.GUpRefIdeal.nD Cert.GUpRefIdeal.τ).loc Cert.GUpRefIdeal.main_arg0)
      ∧ r.2.mem ((c.tc : Thread Cert.GUpRefIdeal.nD Cert.GUpRefIdeal.τ).loc Cert.GUpRefIdeal.main_arg1) = m ((c.tc : Thread Cert.GUpRefIdeal.nD Cert.GUpRefIdeal.τ).loc Cert.GUpRefIdeal.main_arg1))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4))
      ∧ r.2.sem = fun _ => 0)

def quiescent_GIn [hGIn : Cert.GIn.Facts] : Prop :=
  ∀ (m : (ℓ : Loc Cert.GIn.nD Cert.GIn.τ Cert.GIn.sig) → Buf (Elt Bits) ℓ) (g : Dev Cert.GIn.nD → PrngReg), Pre_GIn m →
    θ_run (Cert.GIn.defs (F := Bits)) (onTc (τ := Cert.GIn.τ) (Cert.GIn.main (F := Bits))) ⟨m, fun _ => 0, g⟩ (fun r => (∀ c : Dev Cert.GIn.nD,
      r.2.mem ((c.tc : Thread Cert.GIn.nD Cert.GIn.τ).loc Cert.GIn.main_arg0) = m ((c.tc : Thread Cert.GIn.nD Cert.GIn.τ).loc Cert.GIn.main_arg0)
      ∧ r.2.mem ((c.tc : Thread Cert.GIn.nD Cert.GIn.τ).loc Cert.GIn.main_arg1) = m ((c.tc : Thread Cert.GIn.nD Cert.GIn.τ).loc Cert.GIn.main_arg1))
      ∧ r.2.sem = fun _ => 0)

def quiescent_GInIdeal [hGInIdeal : Cert.GInIdeal.Facts] : Prop :=
  ∀ (m : (ℓ : Loc Cert.GInIdeal.nD Cert.GInIdeal.τ Cert.GInIdeal.sig) → Buf (Elt Ideal) ℓ) (g : Dev Cert.GInIdeal.nD → PrngReg), Pre_GInIdeal m →
    θ_run (Cert.GInIdeal.defs (F := Ideal)) (onTc (τ := Cert.GInIdeal.τ) (Cert.GInIdeal.main (F := Ideal))) ⟨m, fun _ => 0, g⟩ (fun r => (∀ c : Dev Cert.GInIdeal.nD,
      r.2.mem ((c.tc : Thread Cert.GInIdeal.nD Cert.GInIdeal.τ).loc Cert.GInIdeal.main_arg0) = m ((c.tc : Thread Cert.GInIdeal.nD Cert.GInIdeal.τ).loc Cert.GInIdeal.main_arg0)
      ∧ r.2.mem ((c.tc : Thread Cert.GInIdeal.nD Cert.GInIdeal.τ).loc Cert.GInIdeal.main_arg1) = m ((c.tc : Thread Cert.GInIdeal.nD Cert.GInIdeal.τ).loc Cert.GInIdeal.main_arg1))
      ∧ r.2.sem = fun _ => 0)

def quiescent_GInRefIdeal [hGInRefIdeal : Cert.GInRefIdeal.Facts] : Prop :=
  ∀ (m : (ℓ : Loc Cert.GInRefIdeal.nD Cert.GInRefIdeal.τ Cert.GInRefIdeal.sig) → Buf (Elt Ideal) ℓ) (g : Dev Cert.GInRefIdeal.nD → PrngReg), Pre_GInRefIdeal m →
    θ_run (Cert.GInRefIdeal.defs (F := Ideal)) (onTc (τ := Cert.GInRefIdeal.τ) (Cert.GInRefIdeal.main (F := Ideal))) ⟨m, fun _ => 0, g⟩ (fun r => (∀ c : Dev Cert.GInRefIdeal.nD,
      r.2.mem ((c.tc : Thread Cert.GInRefIdeal.nD Cert.GInRefIdeal.τ).loc Cert.GInRefIdeal.main_arg0) = m ((c.tc : Thread Cert.GInRefIdeal.nD Cert.GInRefIdeal.τ).loc Cert.GInRefIdeal.main_arg0)
      ∧ r.2.mem ((c.tc : Thread Cert.GInRefIdeal.nD Cert.GInRefIdeal.τ).loc Cert.GInRefIdeal.main_arg1) = m ((c.tc : Thread Cert.GInRefIdeal.nD Cert.GInRefIdeal.τ).loc Cert.GInRefIdeal.main_arg1))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ r.2.sem = fun _ => 0)

def quiescent_GOutRefIdeal [hGOutRefIdeal : Cert.GOutRefIdeal.Facts] : Prop :=
  ∀ (m : (ℓ : Loc Cert.GOutRefIdeal.nD Cert.GOutRefIdeal.τ Cert.GOutRefIdeal.sig) → Buf (Elt Ideal) ℓ) (g : Dev Cert.GOutRefIdeal.nD → PrngReg), Pre_GOutRefIdeal m →
    θ_run (Cert.GOutRefIdeal.defs (F := Ideal)) (onTc (τ := Cert.GOutRefIdeal.τ) (Cert.GOutRefIdeal.main (F := Ideal))) ⟨m, fun _ => 0, g⟩ (fun r => (∀ c : Dev Cert.GOutRefIdeal.nD,
      r.2.mem ((c.tc : Thread Cert.GOutRefIdeal.nD Cert.GOutRefIdeal.τ).loc Cert.GOutRefIdeal.main_arg0) = m ((c.tc : Thread Cert.GOutRefIdeal.nD Cert.GOutRefIdeal.τ).loc Cert.GOutRefIdeal.main_arg0)
      ∧ r.2.mem ((c.tc : Thread Cert.GOutRefIdeal.nD Cert.GOutRefIdeal.τ).loc Cert.GOutRefIdeal.main_arg1) = m ((c.tc : Thread Cert.GOutRefIdeal.nD Cert.GOutRefIdeal.τ).loc Cert.GOutRefIdeal.main_arg1))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2)
      ∧ r.2.mem ((c.tc : Thread Cert.UpProj.nD Cert.UpProj.τ).loc Cert.UpProj.main_arg3) = m ((c.tc : Thread Cert.UpProj.nD Cert.UpProj.τ).loc Cert.UpProj.main_arg3)
      ∧ r.2.mem ((c.tc : Thread Cert.UpProj.nD Cert.UpProj.τ).loc Cert.UpProj.main_arg4) = m ((c.tc : Thread Cert.UpProj.nD Cert.UpProj.τ).loc Cert.UpProj.main_arg4))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
      ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3)
      ∧ r.2.mem ((c.tc : Thread Cert.UpProjIdeal.nD Cert.UpProjIdeal.τ).loc Cert.UpProjIdeal.main_arg4) = m ((c.tc : Thread Cert.UpProjIdeal.nD Cert.UpProjIdeal.τ).loc Cert.UpProjIdeal.main_arg4))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2)
      ∧ r.2.mem ((c.tc : Thread Cert.UpProjRefIdeal.nD Cert.UpProjRefIdeal.τ).loc Cert.UpProjRefIdeal.main_arg3) = m ((c.tc : Thread Cert.UpProjRefIdeal.nD Cert.UpProjRefIdeal.τ).loc Cert.UpProjRefIdeal.main_arg3)
      ∧ r.2.mem ((c.tc : Thread Cert.UpProjRefIdeal.nD Cert.UpProjRefIdeal.τ).loc Cert.UpProjRefIdeal.main_arg4) = m ((c.tc : Thread Cert.UpProjRefIdeal.nD Cert.UpProjRefIdeal.τ).loc Cert.UpProjRefIdeal.main_arg4))
      ∧ r.2.sem = fun _ => 0)

def quiescent_AttnNorm [hAttnNorm : Cert.AttnNorm.Facts] : Prop :=
  ∀ (m : (ℓ : Loc Cert.AttnNorm.nD Cert.AttnNorm.τ Cert.AttnNorm.sig) → Buf (Elt Bits) ℓ) (g : Dev Cert.AttnNorm.nD → PrngReg), Pre_AttnNorm m →
    θ_run (Cert.AttnNorm.defs (F := Bits)) (onTc (τ := Cert.AttnNorm.τ) (Cert.AttnNorm.main (F := Bits))) ⟨m, fun _ => 0, g⟩ (fun r => (∀ c : Dev Cert.AttnNorm.nD,
      r.2.mem ((c.tc : Thread Cert.AttnNorm.nD Cert.AttnNorm.τ).loc Cert.AttnNorm.main_arg0) = m ((c.tc : Thread Cert.AttnNorm.nD Cert.AttnNorm.τ).loc Cert.AttnNorm.main_arg0)
      ∧ r.2.mem ((c.tc : Thread Cert.AttnNorm.nD Cert.AttnNorm.τ).loc Cert.AttnNorm.main_arg1) = m ((c.tc : Thread Cert.AttnNorm.nD Cert.AttnNorm.τ).loc Cert.AttnNorm.main_arg1)
      ∧ r.2.mem ((c.tc : Thread Cert.AttnNorm.nD Cert.AttnNorm.τ).loc Cert.AttnNorm.main_arg2) = m ((c.tc : Thread Cert.AttnNorm.nD Cert.AttnNorm.τ).loc Cert.AttnNorm.main_arg2))
      ∧ r.2.sem = fun _ => 0)

def quiescent_AttnNormIdeal [hAttnNormIdeal : Cert.AttnNormIdeal.Facts] : Prop :=
  ∀ (m : (ℓ : Loc Cert.AttnNormIdeal.nD Cert.AttnNormIdeal.τ Cert.AttnNormIdeal.sig) → Buf (Elt Ideal) ℓ) (g : Dev Cert.AttnNormIdeal.nD → PrngReg), Pre_AttnNormIdeal m →
    θ_run (Cert.AttnNormIdeal.defs (F := Ideal)) (onTc (τ := Cert.AttnNormIdeal.τ) (Cert.AttnNormIdeal.main (F := Ideal))) ⟨m, fun _ => 0, g⟩ (fun r => (∀ c : Dev Cert.AttnNormIdeal.nD,
      r.2.mem ((c.tc : Thread Cert.AttnNormIdeal.nD Cert.AttnNormIdeal.τ).loc Cert.AttnNormIdeal.main_arg0) = m ((c.tc : Thread Cert.AttnNormIdeal.nD Cert.AttnNormIdeal.τ).loc Cert.AttnNormIdeal.main_arg0)
      ∧ r.2.mem ((c.tc : Thread Cert.AttnNormIdeal.nD Cert.AttnNormIdeal.τ).loc Cert.AttnNormIdeal.main_arg1) = m ((c.tc : Thread Cert.AttnNormIdeal.nD Cert.AttnNormIdeal.τ).loc Cert.AttnNormIdeal.main_arg1)
      ∧ r.2.mem ((c.tc : Thread Cert.AttnNormIdeal.nD Cert.AttnNormIdeal.τ).loc Cert.AttnNormIdeal.main_arg2) = m ((c.tc : Thread Cert.AttnNormIdeal.nD Cert.AttnNormIdeal.τ).loc Cert.AttnNormIdeal.main_arg2))
      ∧ r.2.sem = fun _ => 0)

def quiescent_AttnNormIdeal_pre_finite_an [hAttnNormIdeal : Cert.AttnNormIdeal.Facts] [hPre_finite_an : Cert.Pre_finite_an.Facts] : Prop :=
  ∀ (m : (ℓ : Loc Cert.AttnNormIdeal.nD Cert.AttnNormIdeal.τ Cert.AttnNormIdeal.sig) → Buf (Elt Ideal) ℓ) (g : Dev Cert.AttnNormIdeal.nD → PrngReg), Pre_AttnNormIdeal_finite_an m →
    θ_run (Cert.AttnNormIdeal.defs (F := Ideal)) (onTc (τ := Cert.AttnNormIdeal.τ) (Cert.AttnNormIdeal.main (F := Ideal))) ⟨m, fun _ => 0, g⟩ (fun r => (∀ c : Dev Cert.AttnNormIdeal.nD,
      r.2.mem ((c.tc : Thread Cert.AttnNormIdeal.nD Cert.AttnNormIdeal.τ).loc Cert.AttnNormIdeal.main_arg0) = m ((c.tc : Thread Cert.AttnNormIdeal.nD Cert.AttnNormIdeal.τ).loc Cert.AttnNormIdeal.main_arg0)
      ∧ r.2.mem ((c.tc : Thread Cert.AttnNormIdeal.nD Cert.AttnNormIdeal.τ).loc Cert.AttnNormIdeal.main_arg1) = m ((c.tc : Thread Cert.AttnNormIdeal.nD Cert.AttnNormIdeal.τ).loc Cert.AttnNormIdeal.main_arg1)
      ∧ r.2.mem ((c.tc : Thread Cert.AttnNormIdeal.nD Cert.AttnNormIdeal.τ).loc Cert.AttnNormIdeal.main_arg2) = m ((c.tc : Thread Cert.AttnNormIdeal.nD Cert.AttnNormIdeal.τ).loc Cert.AttnNormIdeal.main_arg2))
      ∧ r.2.sem = fun _ => 0)

def quiescent_AttnNormRefIdeal [hAttnNormRefIdeal : Cert.AttnNormRefIdeal.Facts] : Prop :=
  ∀ (m : (ℓ : Loc Cert.AttnNormRefIdeal.nD Cert.AttnNormRefIdeal.τ Cert.AttnNormRefIdeal.sig) → Buf (Elt Ideal) ℓ) (g : Dev Cert.AttnNormRefIdeal.nD → PrngReg), Pre_AttnNormRefIdeal m →
    θ_run (Cert.AttnNormRefIdeal.defs (F := Ideal)) (onTc (τ := Cert.AttnNormRefIdeal.τ) (Cert.AttnNormRefIdeal.main (F := Ideal))) ⟨m, fun _ => 0, g⟩ (fun r => (∀ c : Dev Cert.AttnNormRefIdeal.nD,
      r.2.mem ((c.tc : Thread Cert.AttnNormRefIdeal.nD Cert.AttnNormRefIdeal.τ).loc Cert.AttnNormRefIdeal.main_arg0) = m ((c.tc : Thread Cert.AttnNormRefIdeal.nD Cert.AttnNormRefIdeal.τ).loc Cert.AttnNormRefIdeal.main_arg0)
      ∧ r.2.mem ((c.tc : Thread Cert.AttnNormRefIdeal.nD Cert.AttnNormRefIdeal.τ).loc Cert.AttnNormRefIdeal.main_arg1) = m ((c.tc : Thread Cert.AttnNormRefIdeal.nD Cert.AttnNormRefIdeal.τ).loc Cert.AttnNormRefIdeal.main_arg1)
      ∧ r.2.mem ((c.tc : Thread Cert.AttnNormRefIdeal.nD Cert.AttnNormRefIdeal.τ).loc Cert.AttnNormRefIdeal.main_arg2) = m ((c.tc : Thread Cert.AttnNormRefIdeal.nD Cert.AttnNormRefIdeal.τ).loc Cert.AttnNormRefIdeal.main_arg2))
      ∧ r.2.sem = fun _ => 0)

def quiescent_AttnNormRefIdeal_pre_finite_an [hAttnNormRefIdeal : Cert.AttnNormRefIdeal.Facts] [hPre_finite_an : Cert.Pre_finite_an.Facts] : Prop :=
  ∀ (m : (ℓ : Loc Cert.AttnNormRefIdeal.nD Cert.AttnNormRefIdeal.τ Cert.AttnNormRefIdeal.sig) → Buf (Elt Ideal) ℓ) (g : Dev Cert.AttnNormRefIdeal.nD → PrngReg), Pre_AttnNormRefIdeal_finite_an m →
    θ_run (Cert.AttnNormRefIdeal.defs (F := Ideal)) (onTc (τ := Cert.AttnNormRefIdeal.τ) (Cert.AttnNormRefIdeal.main (F := Ideal))) ⟨m, fun _ => 0, g⟩ (fun r => (∀ c : Dev Cert.AttnNormRefIdeal.nD,
      r.2.mem ((c.tc : Thread Cert.AttnNormRefIdeal.nD Cert.AttnNormRefIdeal.τ).loc Cert.AttnNormRefIdeal.main_arg0) = m ((c.tc : Thread Cert.AttnNormRefIdeal.nD Cert.AttnNormRefIdeal.τ).loc Cert.AttnNormRefIdeal.main_arg0)
      ∧ r.2.mem ((c.tc : Thread Cert.AttnNormRefIdeal.nD Cert.AttnNormRefIdeal.τ).loc Cert.AttnNormRefIdeal.main_arg1) = m ((c.tc : Thread Cert.AttnNormRefIdeal.nD Cert.AttnNormRefIdeal.τ).loc Cert.AttnNormRefIdeal.main_arg1)
      ∧ r.2.mem ((c.tc : Thread Cert.AttnNormRefIdeal.nD Cert.AttnNormRefIdeal.τ).loc Cert.AttnNormRefIdeal.main_arg2) = m ((c.tc : Thread Cert.AttnNormRefIdeal.nD Cert.AttnNormRefIdeal.τ).loc Cert.AttnNormRefIdeal.main_arg2))
      ∧ r.2.sem = fun _ => 0)

def quiescent_QkPrep [hQkPrep : Cert.QkPrep.Facts] : Prop :=
  ∀ (m : (ℓ : Loc Cert.QkPrep.nD Cert.QkPrep.τ Cert.QkPrep.sig) → Buf (Elt Bits) ℓ) (g : Dev Cert.QkPrep.nD → PrngReg), Pre_QkPrep m →
    θ_run (Cert.QkPrep.defs (F := Bits)) (onTc (τ := Cert.QkPrep.τ) (Cert.QkPrep.main (F := Bits))) ⟨m, fun _ => 0, g⟩ (fun r => (∀ c : Dev Cert.QkPrep.nD,
      r.2.mem ((c.tc : Thread Cert.QkPrep.nD Cert.QkPrep.τ).loc Cert.QkPrep.main_arg0) = m ((c.tc : Thread Cert.QkPrep.nD Cert.QkPrep.τ).loc Cert.QkPrep.main_arg0)
      ∧ r.2.mem ((c.tc : Thread Cert.QkPrep.nD Cert.QkPrep.τ).loc Cert.QkPrep.main_arg1) = m ((c.tc : Thread Cert.QkPrep.nD Cert.QkPrep.τ).loc Cert.QkPrep.main_arg1)
      ∧ r.2.mem ((c.tc : Thread Cert.QkPrep.nD Cert.QkPrep.τ).loc Cert.QkPrep.main_arg2) = m ((c.tc : Thread Cert.QkPrep.nD Cert.QkPrep.τ).loc Cert.QkPrep.main_arg2)
      ∧ r.2.mem ((c.tc : Thread Cert.QkPrep.nD Cert.QkPrep.τ).loc Cert.QkPrep.main_arg3) = m ((c.tc : Thread Cert.QkPrep.nD Cert.QkPrep.τ).loc Cert.QkPrep.main_arg3)
      ∧ r.2.mem ((c.tc : Thread Cert.QkPrep.nD Cert.QkPrep.τ).loc Cert.QkPrep.main_arg4) = m ((c.tc : Thread Cert.QkPrep.nD Cert.QkPrep.τ).loc Cert.QkPrep.main_arg4)
      ∧ r.2.mem ((c.tc : Thread Cert.QkPrep.nD Cert.QkPrep.τ).loc Cert.QkPrep.main_arg5) = m ((c.tc : Thread Cert.QkPrep.nD Cert.QkPrep.τ).loc Cert.QkPrep.main_arg5)
      ∧ r.2.mem ((c.tc : Thread Cert.QkPrep.nD Cert.QkPrep.τ).loc Cert.QkPrep.main_arg6) = m ((c.tc : Thread Cert.QkPrep.nD Cert.QkPrep.τ).loc Cert.QkPrep.main_arg6))
      ∧ r.2.sem = fun _ => 0)

def quiescent_QkPrepIdeal [hQkPrepIdeal : Cert.QkPrepIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
      ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
      ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4)
      ∧ r.2.mem ((c.tc : Thread Cert.QkPrepIdeal.nD Cert.QkPrepIdeal.τ).loc Cert.QkPrepIdeal.main_arg5) = m ((c.tc : Thread Cert.QkPrepIdeal.nD Cert.QkPrepIdeal.τ).loc Cert.QkPrepIdeal.main_arg5)
      ∧ r.2.mem ((c.tc : Thread Cert.QkPrepIdeal.nD Cert.QkPrepIdeal.τ).loc Cert.QkPrepIdeal.main_arg6) = m ((c.tc : Thread Cert.QkPrepIdeal.nD Cert.QkPrepIdeal.τ).loc Cert.QkPrepIdeal.main_arg6))
      ∧ r.2.sem = fun _ => 0)

def quiescent_QkPrepIdeal_pre_finite_qk [hQkPrepIdeal : Cert.QkPrepIdeal.Facts] [hPre_finite_qk : Cert.Pre_finite_qk.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal_finite_qk m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
      ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
      ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4)
      ∧ r.2.mem ((c.tc : Thread Cert.QkPrepIdeal.nD Cert.QkPrepIdeal.τ).loc Cert.QkPrepIdeal.main_arg5) = m ((c.tc : Thread Cert.QkPrepIdeal.nD Cert.QkPrepIdeal.τ).loc Cert.QkPrepIdeal.main_arg5)
      ∧ r.2.mem ((c.tc : Thread Cert.QkPrepIdeal.nD Cert.QkPrepIdeal.τ).loc Cert.QkPrepIdeal.main_arg6) = m ((c.tc : Thread Cert.QkPrepIdeal.nD Cert.QkPrepIdeal.τ).loc Cert.QkPrepIdeal.main_arg6))
      ∧ r.2.sem = fun _ => 0)

def quiescent_QkPrepRefIdeal [hQkPrepRefIdeal : Cert.QkPrepRefIdeal.Facts] : Prop :=
  ∀ (m : (ℓ : Loc Cert.QkPrepRefIdeal.nD Cert.QkPrepRefIdeal.τ Cert.QkPrepRefIdeal.sig) → Buf (Elt Ideal) ℓ) (g : Dev Cert.QkPrepRefIdeal.nD → PrngReg), Pre_QkPrepRefIdeal m →
    θ_run (Cert.QkPrepRefIdeal.defs (F := Ideal)) (onTc (τ := Cert.QkPrepRefIdeal.τ) (Cert.QkPrepRefIdeal.main (F := Ideal))) ⟨m, fun _ => 0, g⟩ (fun r => (∀ c : Dev Cert.QkPrepRefIdeal.nD,
      r.2.mem ((c.tc : Thread Cert.QkPrepRefIdeal.nD Cert.QkPrepRefIdeal.τ).loc Cert.QkPrepRefIdeal.main_arg0) = m ((c.tc : Thread Cert.QkPrepRefIdeal.nD Cert.QkPrepRefIdeal.τ).loc Cert.QkPrepRefIdeal.main_arg0)
      ∧ r.2.mem ((c.tc : Thread Cert.QkPrepRefIdeal.nD Cert.QkPrepRefIdeal.τ).loc Cert.QkPrepRefIdeal.main_arg1) = m ((c.tc : Thread Cert.QkPrepRefIdeal.nD Cert.QkPrepRefIdeal.τ).loc Cert.QkPrepRefIdeal.main_arg1)
      ∧ r.2.mem ((c.tc : Thread Cert.QkPrepRefIdeal.nD Cert.QkPrepRefIdeal.τ).loc Cert.QkPrepRefIdeal.main_arg2) = m ((c.tc : Thread Cert.QkPrepRefIdeal.nD Cert.QkPrepRefIdeal.τ).loc Cert.QkPrepRefIdeal.main_arg2)
      ∧ r.2.mem ((c.tc : Thread Cert.QkPrepRefIdeal.nD Cert.QkPrepRefIdeal.τ).loc Cert.QkPrepRefIdeal.main_arg3) = m ((c.tc : Thread Cert.QkPrepRefIdeal.nD Cert.QkPrepRefIdeal.τ).loc Cert.QkPrepRefIdeal.main_arg3)
      ∧ r.2.mem ((c.tc : Thread Cert.QkPrepRefIdeal.nD Cert.QkPrepRefIdeal.τ).loc Cert.QkPrepRefIdeal.main_arg4) = m ((c.tc : Thread Cert.QkPrepRefIdeal.nD Cert.QkPrepRefIdeal.τ).loc Cert.QkPrepRefIdeal.main_arg4)
      ∧ r.2.mem ((c.tc : Thread Cert.QkPrepRefIdeal.nD Cert.QkPrepRefIdeal.τ).loc Cert.QkPrepRefIdeal.main_arg5) = m ((c.tc : Thread Cert.QkPrepRefIdeal.nD Cert.QkPrepRefIdeal.τ).loc Cert.QkPrepRefIdeal.main_arg5)
      ∧ r.2.mem ((c.tc : Thread Cert.QkPrepRefIdeal.nD Cert.QkPrepRefIdeal.τ).loc Cert.QkPrepRefIdeal.main_arg6) = m ((c.tc : Thread Cert.QkPrepRefIdeal.nD Cert.QkPrepRefIdeal.τ).loc Cert.QkPrepRefIdeal.main_arg6))
      ∧ r.2.sem = fun _ => 0)

def quiescent_QkPrepRefIdeal_pre_finite_qk [hQkPrepRefIdeal : Cert.QkPrepRefIdeal.Facts] [hPre_finite_qk : Cert.Pre_finite_qk.Facts] : Prop :=
  ∀ (m : (ℓ : Loc Cert.QkPrepRefIdeal.nD Cert.QkPrepRefIdeal.τ Cert.QkPrepRefIdeal.sig) → Buf (Elt Ideal) ℓ) (g : Dev Cert.QkPrepRefIdeal.nD → PrngReg), Pre_QkPrepRefIdeal_finite_qk m →
    θ_run (Cert.QkPrepRefIdeal.defs (F := Ideal)) (onTc (τ := Cert.QkPrepRefIdeal.τ) (Cert.QkPrepRefIdeal.main (F := Ideal))) ⟨m, fun _ => 0, g⟩ (fun r => (∀ c : Dev Cert.QkPrepRefIdeal.nD,
      r.2.mem ((c.tc : Thread Cert.QkPrepRefIdeal.nD Cert.QkPrepRefIdeal.τ).loc Cert.QkPrepRefIdeal.main_arg0) = m ((c.tc : Thread Cert.QkPrepRefIdeal.nD Cert.QkPrepRefIdeal.τ).loc Cert.QkPrepRefIdeal.main_arg0)
      ∧ r.2.mem ((c.tc : Thread Cert.QkPrepRefIdeal.nD Cert.QkPrepRefIdeal.τ).loc Cert.QkPrepRefIdeal.main_arg1) = m ((c.tc : Thread Cert.QkPrepRefIdeal.nD Cert.QkPrepRefIdeal.τ).loc Cert.QkPrepRefIdeal.main_arg1)
      ∧ r.2.mem ((c.tc : Thread Cert.QkPrepRefIdeal.nD Cert.QkPrepRefIdeal.τ).loc Cert.QkPrepRefIdeal.main_arg2) = m ((c.tc : Thread Cert.QkPrepRefIdeal.nD Cert.QkPrepRefIdeal.τ).loc Cert.QkPrepRefIdeal.main_arg2)
      ∧ r.2.mem ((c.tc : Thread Cert.QkPrepRefIdeal.nD Cert.QkPrepRefIdeal.τ).loc Cert.QkPrepRefIdeal.main_arg3) = m ((c.tc : Thread Cert.QkPrepRefIdeal.nD Cert.QkPrepRefIdeal.τ).loc Cert.QkPrepRefIdeal.main_arg3)
      ∧ r.2.mem ((c.tc : Thread Cert.QkPrepRefIdeal.nD Cert.QkPrepRefIdeal.τ).loc Cert.QkPrepRefIdeal.main_arg4) = m ((c.tc : Thread Cert.QkPrepRefIdeal.nD Cert.QkPrepRefIdeal.τ).loc Cert.QkPrepRefIdeal.main_arg4)
      ∧ r.2.mem ((c.tc : Thread Cert.QkPrepRefIdeal.nD Cert.QkPrepRefIdeal.τ).loc Cert.QkPrepRefIdeal.main_arg5) = m ((c.tc : Thread Cert.QkPrepRefIdeal.nD Cert.QkPrepRefIdeal.τ).loc Cert.QkPrepRefIdeal.main_arg5)
      ∧ r.2.mem ((c.tc : Thread Cert.QkPrepRefIdeal.nD Cert.QkPrepRefIdeal.τ).loc Cert.QkPrepRefIdeal.main_arg6) = m ((c.tc : Thread Cert.QkPrepRefIdeal.nD Cert.QkPrepRefIdeal.τ).loc Cert.QkPrepRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)) (v3 : (c : Dev Cert.KernelIdeal.nD) → Buf (Elt Ideal) ((c.tc : Thread Cert.KernelIdeal.nD Cert.KernelIdeal.τ).loc Cert.KernelIdeal.main_v71_3)) (v4 : (c : Dev Cert.KernelIdeal.nD) → Buf (Elt Ideal) ((c.tc : Thread Cert.KernelIdeal.nD Cert.KernelIdeal.τ).loc Cert.KernelIdeal.main_v71_4)) (v5 : (c : Dev Cert.KernelIdeal.nD) → Buf (Elt Ideal) ((c.tc : Thread Cert.KernelIdeal.nD Cert.KernelIdeal.τ).loc Cert.KernelIdeal.main_v71_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_v71_3) = v3 c
          ∧ r.2.mem ((c.tc : Thread Cert.KernelIdeal.nD Cert.KernelIdeal.τ).loc Cert.KernelIdeal.main_v71_4) = v4 c
          ∧ r.2.mem ((c.tc : Thread Cert.KernelIdeal.nD Cert.KernelIdeal.τ).loc Cert.KernelIdeal.main_v71_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_v113) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)) →
    ∃ (v0 : (c : Dev Cert.Norm2Ideal.nD) → Buf (Elt Ideal) ((c.tc : Thread Cert.Norm2Ideal.nD Cert.Norm2Ideal.τ).loc Cert.Norm2Ideal.main_v7_0)) (v1 : (c : Dev Cert.Norm2Ideal.nD) → Buf (Elt Ideal) ((c.tc : Thread Cert.Norm2Ideal.nD Cert.Norm2Ideal.τ).loc Cert.Norm2Ideal.main_v7_1)) (v2 : (c : Dev Cert.Norm2Ideal.nD) → Buf (Elt Ideal) ((c.tc : Thread Cert.Norm2Ideal.nD Cert.Norm2Ideal.τ).loc Cert.Norm2Ideal.main_v7_2)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v7_0) = v0 c
          ∧ r.2.mem ((c.tc : Thread Cert.Norm2Ideal.nD Cert.Norm2Ideal.τ).loc Cert.Norm2Ideal.main_v7_1) = v1 c
          ∧ r.2.mem ((c.tc : Thread Cert.Norm2Ideal.nD Cert.Norm2Ideal.τ).loc Cert.Norm2Ideal.main_v7_2) = v2 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v38) = v0 c
          ∧ r.2.mem ((c.tc : Thread Cert.Norm2RefIdeal.nD Cert.Norm2RefIdeal.τ).loc Cert.Norm2RefIdeal.main_v39) = v1 c
          ∧ r.2.mem ((c.tc : Thread Cert.Norm2RefIdeal.nD Cert.Norm2RefIdeal.τ).loc Cert.Norm2RefIdeal.main_v40) = v2 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)) →
    ∃ (v0 : (c : Dev Cert.GDownIdeal.nD) → Buf (Elt Ideal) ((c.tc : Thread Cert.GDownIdeal.nD Cert.GDownIdeal.τ).loc Cert.GDownIdeal.main_v2)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v2) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v4) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1))

def preserves_GUp_GUpIdeal : Prop :=
  True

def algebraic_GUpIdeal_GUpRefIdeal [hGUpIdeal : Cert.GUpIdeal.Facts] [hGUpRefIdeal : Cert.GUpRefIdeal.Facts] : Prop :=
  ∀ (m : (ℓ : Loc Cert.GUpIdeal.nD Cert.GUpIdeal.τ Cert.GUpIdeal.sig) → Buf (Elt Ideal) ℓ) (g : Dev Cert.GUpIdeal.nD → PrngReg)
    (m' : (ℓ : Loc Cert.GUpRefIdeal.nD Cert.GUpRefIdeal.τ Cert.GUpRefIdeal.sig) → Buf (Elt Ideal) ℓ) (g' : Dev Cert.GUpRefIdeal.nD → PrngReg), Pre_GUpIdeal m →
    (∀ c : Dev Cert.GUpIdeal.nD,
      m' ((c.tc : Thread Cert.GUpRefIdeal.nD Cert.GUpRefIdeal.τ).loc Cert.GUpRefIdeal.main_arg0) = m ((c.tc : Thread Cert.GUpIdeal.nD Cert.GUpIdeal.τ).loc Cert.GUpIdeal.main_arg0)
      ∧ m' ((c.tc : Thread Cert.GUpRefIdeal.nD Cert.GUpRefIdeal.τ).loc Cert.GUpRefIdeal.main_arg1) = m ((c.tc : Thread Cert.GUpIdeal.nD Cert.GUpIdeal.τ).loc Cert.GUpIdeal.main_arg1)) →
    ∃ (v0 : (c : Dev Cert.GUpIdeal.nD) → Buf (Elt Ideal) ((c.tc : Thread Cert.GUpIdeal.nD Cert.GUpIdeal.τ).loc Cert.GUpIdeal.main_v6)),
      θ_run (Cert.GUpIdeal.defs (F := Ideal)) (onTc (τ := Cert.GUpIdeal.τ) (Cert.GUpIdeal.main (F := Ideal))) ⟨m, fun _ => 0, g⟩ (fun r => ∀ c : Dev Cert.GUpIdeal.nD,
          r.2.mem ((c.tc : Thread Cert.GUpIdeal.nD Cert.GUpIdeal.τ).loc Cert.GUpIdeal.main_v6) = v0 c
          ∧ r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
          ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1))
      ∧ θ_run (Cert.GUpRefIdeal.defs (F := Ideal)) (onTc (τ := Cert.GUpRefIdeal.τ) (Cert.GUpRefIdeal.main (F := Ideal))) ⟨m', fun _ => 0, g'⟩ (fun r => ∀ c : Dev Cert.GUpRefIdeal.nD,
          r.2.mem ((c.tc : Thread Cert.GUpRefIdeal.nD Cert.GUpRefIdeal.τ).loc Cert.GUpRefIdeal.main_v5) = v0 c
          ∧ r.2.mem ((c.tc : Thread Cert.GUpRefIdeal.nD Cert.GUpRefIdeal.τ).loc Cert.GUpRefIdeal.main_arg0) = m' ((c.tc : Thread Cert.GUpRefIdeal.nD Cert.GUpRefIdeal.τ).loc Cert.GUpRefIdeal.main_arg0)
          ∧ r.2.mem ((c.tc : Thread Cert.GUpRefIdeal.nD Cert.GUpRefIdeal.τ).loc Cert.GUpRefIdeal.main_arg1) = m' ((c.tc : Thread Cert.GUpRefIdeal.nD Cert.GUpRefIdeal.τ).loc Cert.GUpRefIdeal.main_arg1))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)) →
    ∃ (v0 : (c : Dev Cert.Norm1Ideal.nD) → Buf (Elt Ideal) ((c.tc : Thread Cert.Norm1Ideal.nD Cert.Norm1Ideal.τ).loc Cert.Norm1Ideal.main_v7_0)) (v1 : (c : Dev Cert.Norm1Ideal.nD) → Buf (Elt Ideal) ((c.tc : Thread Cert.Norm1Ideal.nD Cert.Norm1Ideal.τ).loc Cert.Norm1Ideal.main_v7_1)) (v2 : (c : Dev Cert.Norm1Ideal.nD) → Buf (Elt Ideal) ((c.tc : Thread Cert.Norm1Ideal.nD Cert.Norm1Ideal.τ).loc Cert.Norm1Ideal.main_v7_2)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v7_0) = v0 c
          ∧ r.2.mem ((c.tc : Thread Cert.Norm1Ideal.nD Cert.Norm1Ideal.τ).loc Cert.Norm1Ideal.main_v7_1) = v1 c
          ∧ r.2.mem ((c.tc : Thread Cert.Norm1Ideal.nD Cert.Norm1Ideal.τ).loc Cert.Norm1Ideal.main_v7_2) = v2 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v38) = v0 c
          ∧ r.2.mem ((c.tc : Thread Cert.Norm1RefIdeal.nD Cert.Norm1RefIdeal.τ).loc Cert.Norm1RefIdeal.main_v39) = v1 c
          ∧ r.2.mem ((c.tc : Thread Cert.Norm1RefIdeal.nD Cert.Norm1RefIdeal.τ).loc Cert.Norm1RefIdeal.main_v40) = v2 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4))

def preserves_GIn_GInIdeal : Prop :=
  True

def algebraic_GInIdeal_GInRefIdeal [hGInIdeal : Cert.GInIdeal.Facts] [hGInRefIdeal : Cert.GInRefIdeal.Facts] : Prop :=
  ∀ (m : (ℓ : Loc Cert.GInIdeal.nD Cert.GInIdeal.τ Cert.GInIdeal.sig) → Buf (Elt Ideal) ℓ) (g : Dev Cert.GInIdeal.nD → PrngReg)
    (m' : (ℓ : Loc Cert.GInRefIdeal.nD Cert.GInRefIdeal.τ Cert.GInRefIdeal.sig) → Buf (Elt Ideal) ℓ) (g' : Dev Cert.GInRefIdeal.nD → PrngReg), Pre_GInIdeal m →
    (∀ c : Dev Cert.GInIdeal.nD,
      m' ((c.tc : Thread Cert.GInRefIdeal.nD Cert.GInRefIdeal.τ).loc Cert.GInRefIdeal.main_arg0) = m ((c.tc : Thread Cert.GInIdeal.nD Cert.GInIdeal.τ).loc Cert.GInIdeal.main_arg0)
      ∧ m' ((c.tc : Thread Cert.GInRefIdeal.nD Cert.GInRefIdeal.τ).loc Cert.GInRefIdeal.main_arg1) = m ((c.tc : Thread Cert.GInIdeal.nD Cert.GInIdeal.τ).loc Cert.GInIdeal.main_arg1)) →
    ∃ (v0 : (c : Dev Cert.GInIdeal.nD) → Buf (Elt Ideal) ((c.tc : Thread Cert.GInIdeal.nD Cert.GInIdeal.τ).loc Cert.GInIdeal.main_v6)),
      θ_run (Cert.GInIdeal.defs (F := Ideal)) (onTc (τ := Cert.GInIdeal.τ) (Cert.GInIdeal.main (F := Ideal))) ⟨m, fun _ => 0, g⟩ (fun r => ∀ c : Dev Cert.GInIdeal.nD,
          r.2.mem ((c.tc : Thread Cert.GInIdeal.nD Cert.GInIdeal.τ).loc Cert.GInIdeal.main_v6) = v0 c
          ∧ r.2.mem ((c.tc : Thread Cert.GInIdeal.nD Cert.GInIdeal.τ).loc Cert.GInIdeal.main_arg0) = m ((c.tc : Thread Cert.GInIdeal.nD Cert.GInIdeal.τ).loc Cert.GInIdeal.main_arg0)
          ∧ r.2.mem ((c.tc : Thread Cert.GInIdeal.nD Cert.GInIdeal.τ).loc Cert.GInIdeal.main_arg1) = m ((c.tc : Thread Cert.GInIdeal.nD Cert.GInIdeal.τ).loc Cert.GInIdeal.main_arg1))
      ∧ θ_run (Cert.GInRefIdeal.defs (F := Ideal)) (onTc (τ := Cert.GInRefIdeal.τ) (Cert.GInRefIdeal.main (F := Ideal))) ⟨m', fun _ => 0, g'⟩ (fun r => ∀ c : Dev Cert.GInRefIdeal.nD,
          r.2.mem ((c.tc : Thread Cert.GInRefIdeal.nD Cert.GInRefIdeal.τ).loc Cert.GInRefIdeal.main_v5) = v0 c
          ∧ r.2.mem ((c.tc : Thread Cert.GInRefIdeal.nD Cert.GInRefIdeal.τ).loc Cert.GInRefIdeal.main_arg0) = m' ((c.tc : Thread Cert.GInRefIdeal.nD Cert.GInRefIdeal.τ).loc Cert.GInRefIdeal.main_arg0)
          ∧ r.2.mem ((c.tc : Thread Cert.GInRefIdeal.nD Cert.GInRefIdeal.τ).loc Cert.GInRefIdeal.main_arg1) = m' ((c.tc : Thread Cert.GInRefIdeal.nD Cert.GInRefIdeal.τ).loc Cert.GInRefIdeal.main_arg1))

def preserves_GOut_GOutIdeal : Prop :=
  True

def algebraic_GOutIdeal_GOutRefIdeal [hGOutIdeal : Cert.GOutIdeal.Facts] [hGOutRefIdeal : Cert.GOutRefIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.GOutRefIdeal.nD Cert.GOutRefIdeal.τ Cert.GOutRefIdeal.sig) → Buf (Elt Ideal) ℓ) (g' : Dev Cert.GOutRefIdeal.nD → PrngReg), Pre_GOutIdeal m →
    (∀ c : Dev Cert.GOutIdeal.nD,
      m' ((c.tc : Thread Cert.GOutRefIdeal.nD Cert.GOutRefIdeal.τ).loc Cert.GOutRefIdeal.main_arg0) = m ((c.tc : Thread Cert.GOutIdeal.nD Cert.GOutIdeal.τ).loc Cert.GOutIdeal.main_arg0)
      ∧ m' ((c.tc : Thread Cert.GOutRefIdeal.nD Cert.GOutRefIdeal.τ).loc Cert.GOutRefIdeal.main_arg1) = m ((c.tc : Thread Cert.GOutIdeal.nD Cert.GOutIdeal.τ).loc Cert.GOutIdeal.main_arg1)) →
    ∃ (v0 : (c : Dev Cert.GOutIdeal.nD) → Buf (Elt Ideal) ((c.tc : Thread Cert.GOutIdeal.nD Cert.GOutIdeal.τ).loc Cert.GOutIdeal.main_v2)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v2) = v0 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ θ_run (Cert.GOutRefIdeal.defs (F := Ideal)) (onTc (τ := Cert.GOutRefIdeal.τ) (Cert.GOutRefIdeal.main (F := Ideal))) ⟨m', fun _ => 0, g'⟩ (fun r => ∀ c : Dev Cert.GOutRefIdeal.nD,
          r.2.mem ((c.tc : Thread Cert.GOutRefIdeal.nD Cert.GOutRefIdeal.τ).loc Cert.GOutRefIdeal.main_v4) = v0 c
          ∧ r.2.mem ((c.tc : Thread Cert.GOutRefIdeal.nD Cert.GOutRefIdeal.τ).loc Cert.GOutRefIdeal.main_arg0) = m' ((c.tc : Thread Cert.GOutRefIdeal.nD Cert.GOutRefIdeal.τ).loc Cert.GOutRefIdeal.main_arg0)
          ∧ r.2.mem ((c.tc : Thread Cert.GOutRefIdeal.nD Cert.GOutRefIdeal.τ).loc Cert.GOutRefIdeal.main_arg1) = m' ((c.tc : Thread Cert.GOutRefIdeal.nD Cert.GOutRefIdeal.τ).loc Cert.GOutRefIdeal.main_arg1))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v2)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v2) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v2) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)) →
    ∃ (v0 : (c : Dev Cert.DownLossIdeal.nD) → Buf (Elt Ideal) ((c.tc : Thread Cert.DownLossIdeal.nD Cert.DownLossIdeal.τ).loc Cert.DownLossIdeal.main_v2_0)) (v1 : (c : Dev Cert.DownLossIdeal.nD) → Buf (Elt Ideal) ((c.tc : Thread Cert.DownLossIdeal.nD Cert.DownLossIdeal.τ).loc Cert.DownLossIdeal.main_v2_1)) (v2 : (c : Dev Cert.DownLossIdeal.nD) → Buf (Elt Ideal) ((c.tc : Thread Cert.DownLossIdeal.nD Cert.DownLossIdeal.τ).loc Cert.DownLossIdeal.main_v4)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v2_0) = v0 c
          ∧ r.2.mem ((c.tc : Thread Cert.DownLossIdeal.nD Cert.DownLossIdeal.τ).loc Cert.DownLossIdeal.main_v2_1) = v1 c
          ∧ r.2.mem ((c.tc : Thread Cert.DownLossIdeal.nD Cert.DownLossIdeal.τ).loc Cert.DownLossIdeal.main_v4) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v16) = v0 c
          ∧ r.2.mem ((c.tc : Thread Cert.DownLossRefIdeal.nD Cert.DownLossRefIdeal.τ).loc Cert.DownLossRefIdeal.main_v17) = v1 c
          ∧ r.2.mem ((c.tc : Thread Cert.DownLossRefIdeal.nD Cert.DownLossRefIdeal.τ).loc Cert.DownLossRefIdeal.main_v10) = v2 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_v14) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_UpProj_UpProjIdeal : Prop :=
  IdealRules.named_const.Statement Cert.UpProjIdeal.κ "gelu_ca" .f32 0x3D122279#32 ((80338380498831 / 2251799813685248 : ℝ) : EReal)
  ∧ IdealRules.named_const.Statement Cert.UpProjIdeal.κ "gelu_3ca" .f32 0x3DDB33B6#32 ((241015141496493 / 2251799813685248 : ℝ) : EReal)

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)
      ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2)
      ∧ m' ((c.tc : Thread Cert.UpProjRefIdeal.nD Cert.UpProjRefIdeal.τ).loc Cert.UpProjRefIdeal.main_arg3) = m ((c.tc : Thread Cert.UpProjIdeal.nD Cert.UpProjIdeal.τ).loc Cert.UpProjIdeal.main_arg3)
      ∧ m' ((c.tc : Thread Cert.UpProjRefIdeal.nD Cert.UpProjRefIdeal.τ).loc Cert.UpProjRefIdeal.main_arg4) = m ((c.tc : Thread Cert.UpProjIdeal.nD Cert.UpProjIdeal.τ).loc Cert.UpProjIdeal.main_arg4)) →
    ∃ (v0 : (c : Dev Cert.UpProjIdeal.nD) → Buf (Elt Ideal) ((c.tc : Thread Cert.UpProjIdeal.nD Cert.UpProjIdeal.τ).loc Cert.UpProjIdeal.main_v5_0)) (v1 : (c : Dev Cert.UpProjIdeal.nD) → Buf (Elt Ideal) ((c.tc : Thread Cert.UpProjIdeal.nD Cert.UpProjIdeal.τ).loc Cert.UpProjIdeal.main_v5_1)) (v2 : (c : Dev Cert.UpProjIdeal.nD) → Buf (Elt Ideal) ((c.tc : Thread Cert.UpProjIdeal.nD Cert.UpProjIdeal.τ).loc Cert.UpProjIdeal.main_v5_2)) (v3 : (c : Dev Cert.UpProjIdeal.nD) → Buf (Elt Ideal) ((c.tc : Thread Cert.UpProjIdeal.nD Cert.UpProjIdeal.τ).loc Cert.UpProjIdeal.main_v5_3)) (v4 : (c : Dev Cert.UpProjIdeal.nD) → Buf (Elt Ideal) ((c.tc : Thread Cert.UpProjIdeal.nD Cert.UpProjIdeal.τ).loc Cert.UpProjIdeal.main_v5_4)) (v5 : (c : Dev Cert.UpProjIdeal.nD) → Buf (Elt Ideal) ((c.tc : Thread Cert.UpProjIdeal.nD Cert.UpProjIdeal.τ).loc Cert.UpProjIdeal.main_v5_5)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v5_0) = v0 c
          ∧ r.2.mem ((c.tc : Thread Cert.UpProjIdeal.nD Cert.UpProjIdeal.τ).loc Cert.UpProjIdeal.main_v5_1) = v1 c
          ∧ r.2.mem ((c.tc : Thread Cert.UpProjIdeal.nD Cert.UpProjIdeal.τ).loc Cert.UpProjIdeal.main_v5_2) = v2 c
          ∧ r.2.mem ((c.tc : Thread Cert.UpProjIdeal.nD Cert.UpProjIdeal.τ).loc Cert.UpProjIdeal.main_v5_3) = v3 c
          ∧ r.2.mem ((c.tc : Thread Cert.UpProjIdeal.nD Cert.UpProjIdeal.τ).loc Cert.UpProjIdeal.main_v5_4) = v4 c
          ∧ r.2.mem ((c.tc : Thread Cert.UpProjIdeal.nD Cert.UpProjIdeal.τ).loc Cert.UpProjIdeal.main_v5_5) = v5 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
          ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3)
          ∧ r.2.mem ((c.tc : Thread Cert.UpProjIdeal.nD Cert.UpProjIdeal.τ).loc Cert.UpProjIdeal.main_arg4) = m ((c.tc : Thread Cert.UpProjIdeal.nD Cert.UpProjIdeal.τ).loc Cert.UpProjIdeal.main_arg4))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v76) = v0 c
          ∧ r.2.mem ((c.tc : Thread Cert.UpProjRefIdeal.nD Cert.UpProjRefIdeal.τ).loc Cert.UpProjRefIdeal.main_v78) = v1 c
          ∧ r.2.mem ((c.tc : Thread Cert.UpProjRefIdeal.nD Cert.UpProjRefIdeal.τ).loc Cert.UpProjRefIdeal.main_v79) = v2 c
          ∧ r.2.mem ((c.tc : Thread Cert.UpProjRefIdeal.nD Cert.UpProjRefIdeal.τ).loc Cert.UpProjRefIdeal.main_v81) = v3 c
          ∧ r.2.mem ((c.tc : Thread Cert.UpProjRefIdeal.nD Cert.UpProjRefIdeal.τ).loc Cert.UpProjRefIdeal.main_v83) = v4 c
          ∧ r.2.mem ((c.tc : Thread Cert.UpProjRefIdeal.nD Cert.UpProjRefIdeal.τ).loc Cert.UpProjRefIdeal.main_v84) = v5 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1)
          ∧ r.2.mem ((c.tc : Thread Cert.UpProjRefIdeal.nD Cert.UpProjRefIdeal.τ).loc Cert.UpProjRefIdeal.main_arg2) = m' ((c.tc : Thread Cert.UpProjRefIdeal.nD Cert.UpProjRefIdeal.τ).loc Cert.UpProjRefIdeal.main_arg2)
          ∧ r.2.mem ((c.tc : Thread Cert.UpProjRefIdeal.nD Cert.UpProjRefIdeal.τ).loc Cert.UpProjRefIdeal.main_arg3) = m' ((c.tc : Thread Cert.UpProjRefIdeal.nD Cert.UpProjRefIdeal.τ).loc Cert.UpProjRefIdeal.main_arg3)
          ∧ r.2.mem ((c.tc : Thread Cert.UpProjRefIdeal.nD Cert.UpProjRefIdeal.τ).loc Cert.UpProjRefIdeal.main_arg4) = m' ((c.tc : Thread Cert.UpProjRefIdeal.nD Cert.UpProjRefIdeal.τ).loc Cert.UpProjRefIdeal.main_arg4))

def preserves_AttnNorm_AttnNormIdeal : Prop :=
  True

def algebraic_AttnNormIdeal_AttnNormRefIdeal_pre_finite_an [hAttnNormIdeal : Cert.AttnNormIdeal.Facts] [hAttnNormRefIdeal : Cert.AttnNormRefIdeal.Facts] [hPre_finite_an : Cert.Pre_finite_an.Facts] : Prop :=
  ∀ (m : (ℓ : Loc Cert.AttnNormIdeal.nD Cert.AttnNormIdeal.τ Cert.AttnNormIdeal.sig) → Buf (Elt Ideal) ℓ) (g : Dev Cert.AttnNormIdeal.nD → PrngReg)
    (m' : (ℓ : Loc Cert.AttnNormRefIdeal.nD Cert.AttnNormRefIdeal.τ Cert.AttnNormRefIdeal.sig) → Buf (Elt Ideal) ℓ) (g' : Dev Cert.AttnNormRefIdeal.nD → PrngReg), Pre_AttnNormIdeal_finite_an m →
    (∀ c : Dev Cert.AttnNormIdeal.nD,
      m' ((c.tc : Thread Cert.AttnNormRefIdeal.nD Cert.AttnNormRefIdeal.τ).loc Cert.AttnNormRefIdeal.main_arg0) = m ((c.tc : Thread Cert.AttnNormIdeal.nD Cert.AttnNormIdeal.τ).loc Cert.AttnNormIdeal.main_arg0)
      ∧ m' ((c.tc : Thread Cert.AttnNormRefIdeal.nD Cert.AttnNormRefIdeal.τ).loc Cert.AttnNormRefIdeal.main_arg1) = m ((c.tc : Thread Cert.AttnNormIdeal.nD Cert.AttnNormIdeal.τ).loc Cert.AttnNormIdeal.main_arg1)
      ∧ m' ((c.tc : Thread Cert.AttnNormRefIdeal.nD Cert.AttnNormRefIdeal.τ).loc Cert.AttnNormRefIdeal.main_arg2) = m ((c.tc : Thread Cert.AttnNormIdeal.nD Cert.AttnNormIdeal.τ).loc Cert.AttnNormIdeal.main_arg2)) →
    ∃ (v0 : (c : Dev Cert.AttnNormIdeal.nD) → Buf (Elt Ideal) ((c.tc : Thread Cert.AttnNormIdeal.nD Cert.AttnNormIdeal.τ).loc Cert.AttnNormIdeal.main_v6_0)) (v1 : (c : Dev Cert.AttnNormIdeal.nD) → Buf (Elt Ideal) ((c.tc : Thread Cert.AttnNormIdeal.nD Cert.AttnNormIdeal.τ).loc Cert.AttnNormIdeal.main_v6_1)) (v2 : (c : Dev Cert.AttnNormIdeal.nD) → Buf (Elt Ideal) ((c.tc : Thread Cert.AttnNormIdeal.nD Cert.AttnNormIdeal.τ).loc Cert.AttnNormIdeal.main_v6_2)),
      θ_run (Cert.AttnNormIdeal.defs (F := Ideal)) (onTc (τ := Cert.AttnNormIdeal.τ) (Cert.AttnNormIdeal.main (F := Ideal))) ⟨m, fun _ => 0, g⟩ (fun r => ∀ c : Dev Cert.AttnNormIdeal.nD,
          r.2.mem ((c.tc : Thread Cert.AttnNormIdeal.nD Cert.AttnNormIdeal.τ).loc Cert.AttnNormIdeal.main_v6_0) = v0 c
          ∧ r.2.mem ((c.tc : Thread Cert.AttnNormIdeal.nD Cert.AttnNormIdeal.τ).loc Cert.AttnNormIdeal.main_v6_1) = v1 c
          ∧ r.2.mem ((c.tc : Thread Cert.AttnNormIdeal.nD Cert.AttnNormIdeal.τ).loc Cert.AttnNormIdeal.main_v6_2) = v2 c
          ∧ r.2.mem ((c.tc : Thread Cert.AttnNormIdeal.nD Cert.AttnNormIdeal.τ).loc Cert.AttnNormIdeal.main_arg0) = m ((c.tc : Thread Cert.AttnNormIdeal.nD Cert.AttnNormIdeal.τ).loc Cert.AttnNormIdeal.main_arg0)
          ∧ r.2.mem ((c.tc : Thread Cert.AttnNormIdeal.nD Cert.AttnNormIdeal.τ).loc Cert.AttnNormIdeal.main_arg1) = m ((c.tc : Thread Cert.AttnNormIdeal.nD Cert.AttnNormIdeal.τ).loc Cert.AttnNormIdeal.main_arg1)
          ∧ r.2.mem ((c.tc : Thread Cert.AttnNormIdeal.nD Cert.AttnNormIdeal.τ).loc Cert.AttnNormIdeal.main_arg2) = m ((c.tc : Thread Cert.AttnNormIdeal.nD Cert.AttnNormIdeal.τ).loc Cert.AttnNormIdeal.main_arg2))
      ∧ θ_run (Cert.AttnNormRefIdeal.defs (F := Ideal)) (onTc (τ := Cert.AttnNormRefIdeal.τ) (Cert.AttnNormRefIdeal.main (F := Ideal))) ⟨m', fun _ => 0, g'⟩ (fun r => ∀ c : Dev Cert.AttnNormRefIdeal.nD,
          r.2.mem ((c.tc : Thread Cert.AttnNormRefIdeal.nD Cert.AttnNormRefIdeal.τ).loc Cert.AttnNormRefIdeal.main_v36) = v0 c
          ∧ r.2.mem ((c.tc : Thread Cert.AttnNormRefIdeal.nD Cert.AttnNormRefIdeal.τ).loc Cert.AttnNormRefIdeal.main_v42) = v1 c
          ∧ r.2.mem ((c.tc : Thread Cert.AttnNormRefIdeal.nD Cert.AttnNormRefIdeal.τ).loc Cert.AttnNormRefIdeal.main_v43) = v2 c
          ∧ r.2.mem ((c.tc : Thread Cert.AttnNormRefIdeal.nD Cert.AttnNormRefIdeal.τ).loc Cert.AttnNormRefIdeal.main_arg0) = m' ((c.tc : Thread Cert.AttnNormRefIdeal.nD Cert.AttnNormRefIdeal.τ).loc Cert.AttnNormRefIdeal.main_arg0)
          ∧ r.2.mem ((c.tc : Thread Cert.AttnNormRefIdeal.nD Cert.AttnNormRefIdeal.τ).loc Cert.AttnNormRefIdeal.main_arg1) = m' ((c.tc : Thread Cert.AttnNormRefIdeal.nD Cert.AttnNormRefIdeal.τ).loc Cert.AttnNormRefIdeal.main_arg1)
          ∧ r.2.mem ((c.tc : Thread Cert.AttnNormRefIdeal.nD Cert.AttnNormRefIdeal.τ).loc Cert.AttnNormRefIdeal.main_arg2) = m' ((c.tc : Thread Cert.AttnNormRefIdeal.nD Cert.AttnNormRefIdeal.τ).loc Cert.AttnNormRefIdeal.main_arg2))

def preserves_QkPrep_QkPrepIdeal : Prop :=
  True

def algebraic_QkPrepIdeal_QkPrepRefIdeal_pre_finite_qk [hQkPrepIdeal : Cert.QkPrepIdeal.Facts] [hQkPrepRefIdeal : Cert.QkPrepRefIdeal.Facts] [hPre_finite_qk : Cert.Pre_finite_qk.Facts] : Prop :=
  ∀ (m : (ℓ : Loc Cert.QkPrepIdeal.nD Cert.QkPrepIdeal.τ Cert.QkPrepIdeal.sig) → Buf (Elt Ideal) ℓ) (g : Dev Cert.QkPrepIdeal.nD → PrngReg)
    (m' : (ℓ : Loc Cert.QkPrepRefIdeal.nD Cert.QkPrepRefIdeal.τ Cert.QkPrepRefIdeal.sig) → Buf (Elt Ideal) ℓ) (g' : Dev Cert.QkPrepRefIdeal.nD → PrngReg), Pre_QkPrepIdeal_finite_qk m →
    (∀ c : Dev Cert.QkPrepIdeal.nD,
      m' ((c.tc : Thread Cert.QkPrepRefIdeal.nD Cert.QkPrepRefIdeal.τ).loc Cert.QkPrepRefIdeal.main_arg0) = m ((c.tc : Thread Cert.QkPrepIdeal.nD Cert.QkPrepIdeal.τ).loc Cert.QkPrepIdeal.main_arg0)
      ∧ m' ((c.tc : Thread Cert.QkPrepRefIdeal.nD Cert.QkPrepRefIdeal.τ).loc Cert.QkPrepRefIdeal.main_arg1) = m ((c.tc : Thread Cert.QkPrepIdeal.nD Cert.QkPrepIdeal.τ).loc Cert.QkPrepIdeal.main_arg1)
      ∧ m' ((c.tc : Thread Cert.QkPrepRefIdeal.nD Cert.QkPrepRefIdeal.τ).loc Cert.QkPrepRefIdeal.main_arg2) = m ((c.tc : Thread Cert.QkPrepIdeal.nD Cert.QkPrepIdeal.τ).loc Cert.QkPrepIdeal.main_arg2)
      ∧ m' ((c.tc : Thread Cert.QkPrepRefIdeal.nD Cert.QkPrepRefIdeal.τ).loc Cert.QkPrepRefIdeal.main_arg3) = m ((c.tc : Thread Cert.QkPrepIdeal.nD Cert.QkPrepIdeal.τ).loc Cert.QkPrepIdeal.main_arg3)
      ∧ m' ((c.tc : Thread Cert.QkPrepRefIdeal.nD Cert.QkPrepRefIdeal.τ).loc Cert.QkPrepRefIdeal.main_arg4) = m ((c.tc : Thread Cert.QkPrepIdeal.nD Cert.QkPrepIdeal.τ).loc Cert.QkPrepIdeal.main_arg4)
      ∧ m' ((c.tc : Thread Cert.QkPrepRefIdeal.nD Cert.QkPrepRefIdeal.τ).loc Cert.QkPrepRefIdeal.main_arg5) = m ((c.tc : Thread Cert.QkPrepIdeal.nD Cert.QkPrepIdeal.τ).loc Cert.QkPrepIdeal.main_arg5)
      ∧ m' ((c.tc : Thread Cert.QkPrepRefIdeal.nD Cert.QkPrepRefIdeal.τ).loc Cert.QkPrepRefIdeal.main_arg6) = m ((c.tc : Thread Cert.QkPrepIdeal.nD Cert.QkPrepIdeal.τ).loc Cert.QkPrepIdeal.main_arg6)) →
    ∃ (v0 : (c : Dev Cert.QkPrepIdeal.nD) → Buf (Elt Ideal) ((c.tc : Thread Cert.QkPrepIdeal.nD Cert.QkPrepIdeal.τ).loc Cert.QkPrepIdeal.main_v24_0)) (v1 : (c : Dev Cert.QkPrepIdeal.nD) → Buf (Elt Ideal) ((c.tc : Thread Cert.QkPrepIdeal.nD Cert.QkPrepIdeal.τ).loc Cert.QkPrepIdeal.main_v24_1)) (v2 : (c : Dev Cert.QkPrepIdeal.nD) → Buf (Elt Ideal) ((c.tc : Thread Cert.QkPrepIdeal.nD Cert.QkPrepIdeal.τ).loc Cert.QkPrepIdeal.main_v24_2)),
      θ_run (Cert.QkPrepIdeal.defs (F := Ideal)) (onTc (τ := Cert.QkPrepIdeal.τ) (Cert.QkPrepIdeal.main (F := Ideal))) ⟨m, fun _ => 0, g⟩ (fun r => ∀ c : Dev Cert.QkPrepIdeal.nD,
          r.2.mem ((c.tc : Thread Cert.QkPrepIdeal.nD Cert.QkPrepIdeal.τ).loc Cert.QkPrepIdeal.main_v24_0) = v0 c
          ∧ r.2.mem ((c.tc : Thread Cert.QkPrepIdeal.nD Cert.QkPrepIdeal.τ).loc Cert.QkPrepIdeal.main_v24_1) = v1 c
          ∧ r.2.mem ((c.tc : Thread Cert.QkPrepIdeal.nD Cert.QkPrepIdeal.τ).loc Cert.QkPrepIdeal.main_v24_2) = v2 c
          ∧ r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
          ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
          ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
          ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
          ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4)
          ∧ r.2.mem ((c.tc : Thread Cert.QkPrepIdeal.nD Cert.QkPrepIdeal.τ).loc Cert.QkPrepIdeal.main_arg5) = m ((c.tc : Thread Cert.QkPrepIdeal.nD Cert.QkPrepIdeal.τ).loc Cert.QkPrepIdeal.main_arg5)
          ∧ r.2.mem ((c.tc : Thread Cert.QkPrepIdeal.nD Cert.QkPrepIdeal.τ).loc Cert.QkPrepIdeal.main_arg6) = m ((c.tc : Thread Cert.QkPrepIdeal.nD Cert.QkPrepIdeal.τ).loc Cert.QkPrepIdeal.main_arg6))
      ∧ θ_run (Cert.QkPrepRefIdeal.defs (F := Ideal)) (onTc (τ := Cert.QkPrepRefIdeal.τ) (Cert.QkPrepRefIdeal.main (F := Ideal))) ⟨m', fun _ => 0, g'⟩ (fun r => ∀ c : Dev Cert.QkPrepRefIdeal.nD,
          r.2.mem ((c.tc : Thread Cert.QkPrepRefIdeal.nD Cert.QkPrepRefIdeal.τ).loc Cert.QkPrepRefIdeal.main_v149) = v0 c
          ∧ r.2.mem ((c.tc : Thread Cert.QkPrepRefIdeal.nD Cert.QkPrepRefIdeal.τ).loc Cert.QkPrepRefIdeal.main_v150) = v1 c
          ∧ r.2.mem ((c.tc : Thread Cert.QkPrepRefIdeal.nD Cert.QkPrepRefIdeal.τ).loc Cert.QkPrepRefIdeal.main_v151) = v2 c
          ∧ r.2.mem ((c.tc : Thread Cert.QkPrepRefIdeal.nD Cert.QkPrepRefIdeal.τ).loc Cert.QkPrepRefIdeal.main_arg0) = m' ((c.tc : Thread Cert.QkPrepRefIdeal.nD Cert.QkPrepRefIdeal.τ).loc Cert.QkPrepRefIdeal.main_arg0)
          ∧ r.2.mem ((c.tc : Thread Cert.QkPrepRefIdeal.nD Cert.QkPrepRefIdeal.τ).loc Cert.QkPrepRefIdeal.main_arg1) = m' ((c.tc : Thread Cert.QkPrepRefIdeal.nD Cert.QkPrepRefIdeal.τ).loc Cert.QkPrepRefIdeal.main_arg1)
          ∧ r.2.mem ((c.tc : Thread Cert.QkPrepRefIdeal.nD Cert.QkPrepRefIdeal.τ).loc Cert.QkPrepRefIdeal.main_arg2) = m' ((c.tc : Thread Cert.QkPrepRefIdeal.nD Cert.QkPrepRefIdeal.τ).loc Cert.QkPrepRefIdeal.main_arg2)
          ∧ r.2.mem ((c.tc : Thread Cert.QkPrepRefIdeal.nD Cert.QkPrepRefIdeal.τ).loc Cert.QkPrepRefIdeal.main_arg3) = m' ((c.tc : Thread Cert.QkPrepRefIdeal.nD Cert.QkPrepRefIdeal.τ).loc Cert.QkPrepRefIdeal.main_arg3)
          ∧ r.2.mem ((c.tc : Thread Cert.QkPrepRefIdeal.nD Cert.QkPrepRefIdeal.τ).loc Cert.QkPrepRefIdeal.main_arg4) = m' ((c.tc : Thread Cert.QkPrepRefIdeal.nD Cert.QkPrepRefIdeal.τ).loc Cert.QkPrepRefIdeal.main_arg4)
          ∧ r.2.mem ((c.tc : Thread Cert.QkPrepRefIdeal.nD Cert.QkPrepRefIdeal.τ).loc Cert.QkPrepRefIdeal.main_arg5) = m' ((c.tc : Thread Cert.QkPrepRefIdeal.nD Cert.QkPrepRefIdeal.τ).loc Cert.QkPrepRefIdeal.main_arg5)
          ∧ r.2.mem ((c.tc : Thread Cert.QkPrepRefIdeal.nD Cert.QkPrepRefIdeal.τ).loc Cert.QkPrepRefIdeal.main_arg6) = m' ((c.tc : Thread Cert.QkPrepRefIdeal.nD Cert.QkPrepRefIdeal.τ).loc Cert.QkPrepRefIdeal.main_arg6))

def Claim : Prop :=
  ∃ (hKernel : Cert.Kernel.Facts) (hKernelIdeal : Cert.KernelIdeal.Facts) (hReferenceIdeal : Cert.ReferenceIdeal.Facts) (hNorm2 : Cert.Norm2.Facts) (hNorm2Ideal : Cert.Norm2Ideal.Facts) (hNorm2RefIdeal : Cert.Norm2RefIdeal.Facts) (hGDown : Cert.GDown.Facts) (hGDownIdeal : Cert.GDownIdeal.Facts) (hGDownRefIdeal : Cert.GDownRefIdeal.Facts) (hGUp : Cert.GUp.Facts) (hGUpIdeal : Cert.GUpIdeal.Facts) (hGUpRefIdeal : Cert.GUpRefIdeal.Facts) (hNorm1 : Cert.Norm1.Facts) (hNorm1Ideal : Cert.Norm1Ideal.Facts) (hNorm1RefIdeal : Cert.Norm1RefIdeal.Facts) (hGIn : Cert.GIn.Facts) (hGInIdeal : Cert.GInIdeal.Facts) (hGInRefIdeal : Cert.GInRefIdeal.Facts) (hGOut : Cert.GOut.Facts) (hGOutIdeal : Cert.GOutIdeal.Facts) (hGOutRefIdeal : Cert.GOutRefIdeal.Facts) (hDMix : Cert.DMix.Facts) (hDMixIdeal : Cert.DMixIdeal.Facts) (hDMixRefIdeal : Cert.DMixRefIdeal.Facts) (hOutProj : Cert.OutProj.Facts) (hOutProjIdeal : Cert.OutProjIdeal.Facts) (hOutProjRefIdeal : Cert.OutProjRefIdeal.Facts) (hDownLoss : Cert.DownLoss.Facts) (hDownLossIdeal : Cert.DownLossIdeal.Facts) (hDownLossRefIdeal : Cert.DownLossRefIdeal.Facts) (hInProj : Cert.InProj.Facts) (hInProjIdeal : Cert.InProjIdeal.Facts) (hInProjRefIdeal : Cert.InProjRefIdeal.Facts) (hUpProj : Cert.UpProj.Facts) (hUpProjIdeal : Cert.UpProjIdeal.Facts) (hUpProjRefIdeal : Cert.UpProjRefIdeal.Facts) (hAttnNorm : Cert.AttnNorm.Facts) (hAttnNormIdeal : Cert.AttnNormIdeal.Facts) (hAttnNormRefIdeal : Cert.AttnNormRefIdeal.Facts) (hQkPrep : Cert.QkPrep.Facts) (hQkPrepIdeal : Cert.QkPrepIdeal.Facts) (hQkPrepRefIdeal : Cert.QkPrepRefIdeal.Facts) (hPre_finite : Cert.Pre_finite.Facts) (hPre_finite_an : Cert.Pre_finite_an.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_GDown (hGDown := hGDown)
    ∧ quiescent_GDownIdeal (hGDownIdeal := hGDownIdeal)
    ∧ quiescent_GDownRefIdeal (hGDownRefIdeal := hGDownRefIdeal)
    ∧ quiescent_GUp (hGUp := hGUp)
    ∧ quiescent_GUpIdeal (hGUpIdeal := hGUpIdeal)
    ∧ quiescent_GUpRefIdeal (hGUpRefIdeal := hGUpRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_GIn (hGIn := hGIn)
    ∧ quiescent_GInIdeal (hGInIdeal := hGInIdeal)
    ∧ quiescent_GInRefIdeal (hGInRefIdeal := hGInRefIdeal)
    ∧ quiescent_GOut (hGOut := hGOut)
    ∧ quiescent_GOutIdeal (hGOutIdeal := hGOutIdeal)
    ∧ quiescent_GOutRefIdeal (hGOutRefIdeal := hGOutRefIdeal)
    ∧ quiescent_DMix (hDMix := hDMix)
    ∧ quiescent_DMixIdeal (hDMixIdeal := hDMixIdeal)
    ∧ quiescent_DMixRefIdeal (hDMixRefIdeal := hDMixRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_InProj (hInProj := hInProj)
    ∧ quiescent_InProjIdeal (hInProjIdeal := hInProjIdeal)
    ∧ quiescent_InProjRefIdeal (hInProjRefIdeal := hInProjRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_AttnNorm (hAttnNorm := hAttnNorm)
    ∧ quiescent_AttnNormIdeal (hAttnNormIdeal := hAttnNormIdeal)
    ∧ quiescent_AttnNormIdeal_pre_finite_an (hAttnNormIdeal := hAttnNormIdeal) (hPre_finite_an := hPre_finite_an)
    ∧ quiescent_AttnNormRefIdeal (hAttnNormRefIdeal := hAttnNormRefIdeal)
    ∧ quiescent_AttnNormRefIdeal_pre_finite_an (hAttnNormRefIdeal := hAttnNormRefIdeal) (hPre_finite_an := hPre_finite_an)
    ∧ quiescent_QkPrep (hQkPrep := hQkPrep)
    ∧ quiescent_QkPrepIdeal (hQkPrepIdeal := hQkPrepIdeal)
    ∧ quiescent_QkPrepIdeal_pre_finite_qk (hQkPrepIdeal := hQkPrepIdeal) (hPre_finite_qk := hPre_finite_qk)
    ∧ quiescent_QkPrepRefIdeal (hQkPrepRefIdeal := hQkPrepRefIdeal)
    ∧ quiescent_QkPrepRefIdeal_pre_finite_qk (hQkPrepRefIdeal := hQkPrepRefIdeal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_Norm2_Norm2Ideal
    ∧ algebraic_Norm2Ideal_Norm2RefIdeal (hNorm2Ideal := hNorm2Ideal) (hNorm2RefIdeal := hNorm2RefIdeal)
    ∧ preserves_GDown_GDownIdeal
    ∧ algebraic_GDownIdeal_GDownRefIdeal (hGDownIdeal := hGDownIdeal) (hGDownRefIdeal := hGDownRefIdeal)
    ∧ preserves_GUp_GUpIdeal
    ∧ algebraic_GUpIdeal_GUpRefIdeal (hGUpIdeal := hGUpIdeal) (hGUpRefIdeal := hGUpRefIdeal)
    ∧ preserves_Norm1_Norm1Ideal
    ∧ algebraic_Norm1Ideal_Norm1RefIdeal (hNorm1Ideal := hNorm1Ideal) (hNorm1RefIdeal := hNorm1RefIdeal)
    ∧ preserves_GIn_GInIdeal
    ∧ algebraic_GInIdeal_GInRefIdeal (hGInIdeal := hGInIdeal) (hGInRefIdeal := hGInRefIdeal)
    ∧ preserves_GOut_GOutIdeal
    ∧ algebraic_GOutIdeal_GOutRefIdeal (hGOutIdeal := hGOutIdeal) (hGOutRefIdeal := hGOutRefIdeal)
    ∧ preserves_DMix_DMixIdeal
    ∧ algebraic_DMixIdeal_DMixRefIdeal (hDMixIdeal := hDMixIdeal) (hDMixRefIdeal := hDMixRefIdeal)
    ∧ preserves_OutProj_OutProjIdeal
    ∧ algebraic_OutProjIdeal_OutProjRefIdeal (hOutProjIdeal := hOutProjIdeal) (hOutProjRefIdeal := hOutProjRefIdeal)
    ∧ preserves_DownLoss_DownLossIdeal
    ∧ algebraic_DownLossIdeal_DownLossRefIdeal (hDownLossIdeal := hDownLossIdeal) (hDownLossRefIdeal := hDownLossRefIdeal)
    ∧ preserves_InProj_InProjIdeal
    ∧ algebraic_InProjIdeal_InProjRefIdeal (hInProjIdeal := hInProjIdeal) (hInProjRefIdeal := hInProjRefIdeal)
    ∧ preserves_UpProj_UpProjIdeal
    ∧ algebraic_UpProjIdeal_UpProjRefIdeal (hUpProjIdeal := hUpProjIdeal) (hUpProjRefIdeal := hUpProjRefIdeal)
    ∧ preserves_AttnNorm_AttnNormIdeal
    ∧ algebraic_AttnNormIdeal_AttnNormRefIdeal_pre_finite_an (hAttnNormIdeal := hAttnNormIdeal) (hAttnNormRefIdeal := hAttnNormRefIdeal) (hPre_finite_an := hPre_finite_an)
    ∧ preserves_QkPrep_QkPrepIdeal
    ∧ algebraic_QkPrepIdeal_QkPrepRefIdeal_pre_finite_qk (hQkPrepIdeal := hQkPrepIdeal) (hQkPrepRefIdeal := hQkPrepRefIdeal) (hPre_finite_qk := hPre_finite_qk)
-- ==== Pre_finite.lean ====
abbrev S4096x6144 : Shape := ⟨2, ![4096, 6144]⟩
abbrev S3x6144 : Shape := ⟨2, ![3, 6144]⟩
abbrev S6144 : Shape := ⟨1, ![6144]⟩
abbrev S3072x1024 : Shape := ⟨2, ![3072, 1024]⟩
abbrev S4096x1024 : Shape := ⟨2, ![4096, 1024]⟩
abbrev S_ : Shape := ⟨0, ![]⟩

class Facts : Prop where
  bcast_S_S4096x6144 : S_.BroadcastsInDim S4096x6144 (![] : Fin 0 → Fin S4096x6144.rank)
  bcast_S_S3x6144 : S_.BroadcastsInDim S3x6144 (![] : Fin 0 → Fin S3x6144.rank)
  bcast_S_S6144 : S_.BroadcastsInDim S6144 (![] : Fin 0 → Fin S6144.rank)
  bcast_S_S3072x1024 : S_.BroadcastsInDim S3072x1024 (![] : Fin 0 → Fin S3072x1024.rank)
  bcast_S_S4096x1024 : S_.BroadcastsInDim S4096x1024 (![] : Fin 0 → Fin S4096x1024.rank)

variable [Facts]

def fn {F : FTy → Type} [FloatOps F] (main_arg0 : FVec F S4096x6144 .f32) (main_arg1 : FVec F S3x6144 .f32) (main_arg2 : FVec F S6144 .f32) (main_arg3 : FVec F S3072x1024 .f32) (main_arg4 : FVec F S4096x1024 .f32) : IVec S4096x6144 1 × IVec S3x6144 1 × IVec S6144 1 × IVec S3072x1024 1 × IVec S4096x1024 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_v3 : FVec F S3x6144 .f32 := Host.absf main_arg1
  let main_cst_0 : FVec F S_ .f32 := constant S_ .f32 0x7F800000#32
  let main_v4 : FVec F S3x6144 .f32 := broadcastInDim S3x6144 ![] bcast_S_S3x6144 main_cst_0
  let main_v5 : IVec S3x6144 1 := cmpf .olt main_v3 main_v4
  let main_v6 : FVec F S6144 .f32 := Host.absf main_arg2
  let main_cst_1 : FVec F S_ .f32 := constant S_ .f32 0x7F800000#32
  let main_v7 : FVec F S6144 .f32 := broadcastInDim S6144 ![] bcast_S_S6144 main_cst_1
  let main_v8 : IVec S6144 1 := cmpf .olt main_v6 main_v7
  let main_v9 : FVec F S3072x1024 .f32 := Host.absf main_arg3
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_an.lean ====
abbrev S4096x1024 : Shape := ⟨2, ![4096, 1024]⟩
abbrev S4096x512 : Shape := ⟨2, ![4096, 512]⟩
abbrev S512 : Shape := ⟨1, ![512]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S512 : S_.BroadcastsInDim S512 (![] : Fin 0 → Fin S512.rank)

variable [Facts]

def fn {F : FTy → Type} [FloatOps F] (main_arg0 : FVec F S4096x1024 .f32) (main_arg1 : FVec F S4096x512 .f32) (main_arg2 : FVec F S512 .f32) : IVec S4096x1024 1 × IVec S4096x512 1 × IVec S512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  (main_v2, main_v5, main_v8)
-- ==== Pre_finite_qk.lean ====
abbrev S4096x2560 : Shape := ⟨2, ![4096, 2560]⟩
abbrev S4096x512 : Shape := ⟨2, ![4096, 512]⟩
abbrev S4096 : Shape := ⟨1, ![4096]⟩
abbrev S64 : Shape := ⟨1, ![64]⟩
abbrev S_ : Shape := ⟨0, ![]⟩

class Facts : Prop where
  bcast_S_S4096x2560 : S_.BroadcastsInDim S4096x2560 (![] : Fin 0 → Fin S4096x2560.rank)
  bcast_S_S4096x512 : S_.BroadcastsInDim S4096x512 (![] : Fin 0 → Fin S4096x512.rank)
  bcast_S_S64 : S_.BroadcastsInDim S64 (![] : Fin 0 → Fin S64.rank)

variable [Facts]

def fn {F : FTy → Type} [FloatOps F] (main_arg0 : FVec F S4096x2560 .f32) (main_arg1 : FVec F S4096x512 .f32) (main_arg2 : FVec F S4096x512 .f32) (main_arg3 : FVec F S4096x512 .f32) (main_arg4 : IVec S4096 32) (main_arg5 : FVec F S64 .f32) (main_arg6 : FVec F S64 .f32) : IVec S4096x2560 1 × IVec S4096x512 1 × IVec S4096x512 1 × IVec S64 1 × IVec S64 1 :=
  let main_v0 : FVec F S4096x2560 .f32 := Host.absf main_arg0
  let main_cst : FVec F S_ .f32 := constant S_ .f32 0x7F800000#32
  let main_v1 : FVec F S4096x2560 .f32 := broadcastInDim S4096x2560 ![] bcast_S_S4096x2560 main_cst
  let main_v2 : IVec S4096x2560 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg6
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Kernel.lean ====
abbrev S4096x6144 : Shape := ⟨2, ![4096, 6144]⟩
abbrev S3x6144 : Shape := ⟨2, ![3, 6144]⟩
abbrev S6144 : Shape := ⟨1, ![6144]⟩
abbrev S3072x1024 : Shape := ⟨2, ![3072, 1024]⟩
abbrev S4096x1024 : Shape := ⟨2, ![4096, 1024]⟩
abbrev S_ : Shape := ⟨0, ![]⟩
abbrev S2x6144 : Shape := ⟨2, ![2, 6144]⟩
abbrev S4098x6144 : Shape := ⟨2, ![4098, 6144]⟩
abbrev S1x6144 : Shape := ⟨2, ![1, 6144]⟩
abbrev S4096x3072 : Shape := ⟨2, ![4096, 3072]⟩
abbrev S8x6144 : Shape := ⟨2, ![8, 6144]⟩
abbrev S8x3072 : Shape := ⟨2, ![8, 3072]⟩
abbrev S1x3072 : Shape := ⟨2, ![1, 3072]⟩
abbrev S1024x1024 : Shape := ⟨2, ![1024, 1024]⟩
abbrev S16x1024 : Shape := ⟨2, ![16, 1024]⟩
abbrev S768x1024 : Shape := ⟨2, ![768, 1024]⟩
abbrev S1024x768 : Shape := ⟨2, ![1024, 768]⟩
abbrev S16x768 : Shape := ⟨2, ![16, 768]⟩
abbrev S8x768 : Shape := ⟨2, ![8, 768]⟩
abbrev S1x768 : Shape := ⟨2, ![1, 768]⟩
abbrev S1032x768 : Shape := ⟨2, ![1032, 768]⟩
abbrev S768 : Shape := ⟨1, ![768]⟩

abbrev nBuf : Space → Nat
  | .hbm => 96
  | .vmem => 34
  | .smem => 0
  | _ => 0

abbrev bufTy : (tb : Table) → Fin (tcTables nBuf tb) → BufTy
  | .hbm, ⟨0, _⟩ => ⟨S4096x6144, .f32⟩
  | .hbm, ⟨1, _⟩ => ⟨S3x6144, .f32⟩
  | .hbm, ⟨2, _⟩ => ⟨S6144, .f32⟩
  | .hbm, ⟨3, _⟩ => ⟨S3072x1024, .f32⟩
  | .hbm, ⟨4, _⟩ => ⟨S4096x1024, .f32⟩
  | .hbm, ⟨5, _⟩ => ⟨S_, .f32⟩
  | .hbm, ⟨6, _⟩ => ⟨S2x6144, .f32⟩
  | .hbm, ⟨7, _⟩ => ⟨S4098x6144, .f32⟩
  | .hbm, ⟨8, _⟩ => ⟨S4096x6144, .f32⟩
  | .hbm, ⟨9, _⟩ => ⟨S1x6144, .f32⟩
  | .hbm, ⟨10, _⟩ => ⟨S6144, .f32⟩
  | .hbm, ⟨11, _⟩ => ⟨S1x6144, .f32⟩
  | .hbm, ⟨12, _⟩ => ⟨S4096x6144, .f32⟩
  | .hbm, ⟨13, _⟩ => ⟨S4096x6144, .f32⟩
  | .hbm, ⟨14, _⟩ => ⟨S1x6144, .f32⟩
  | .hbm, ⟨15, _⟩ => ⟨S4096x6144, .f32⟩
  | .hbm, ⟨16, _⟩ => ⟨S4096x6144, .f32⟩
  | .hbm, ⟨17, _⟩ => ⟨S4096x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S4096x6144, .f32⟩
  | .hbm, ⟨22, _⟩ => ⟨S4096x6144, .f32⟩
  | .hbm, ⟨23, _⟩ => ⟨S4096x6144, .f32⟩
  | .hbm, ⟨24, _⟩ => ⟨S4096x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S4096x6144, .f32⟩
  | .hbm, ⟨29, _⟩ => ⟨S4096x6144, .f32⟩
  | .hbm, ⟨30, _⟩ => ⟨S4096x6144, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S_, .f32⟩
  | .hbm, ⟨37, _⟩ => ⟨S4096x3072, .f32⟩
  | .hbm, ⟨38, _⟩ => ⟨S4096x3072, .f32⟩
  | .hbm, ⟨39, _⟩ => ⟨S_, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | .hbm, ⟨50, _⟩ => ⟨S_, .f32⟩
  | .hbm, ⟨51, _⟩ => ⟨S4096x3072, .f32⟩
  | .hbm, ⟨52, _⟩ => ⟨S4096x3072, .f32⟩
  | .hbm, ⟨53, _⟩ => ⟨S4096x3072, .f32⟩
  | .hbm, ⟨54, _⟩ => ⟨S_, .f32⟩
  | .hbm, ⟨55, _⟩ => ⟨S4096x3072, .f32⟩
  | .hbm, ⟨56, _⟩ => ⟨S4096x3072, .f32⟩
  | .hbm, ⟨57, _⟩ => ⟨S_, .f32⟩
  | .hbm, ⟨58, _⟩ => ⟨S4096x3072, .f32⟩
  | .hbm, ⟨59, _⟩ => ⟨S4096x3072, .f32⟩
  | .hbm, ⟨60, _⟩ => ⟨S4096x3072, .f32⟩
  | .hbm, ⟨61, _⟩ => ⟨S_, .f32⟩
  | .hbm, ⟨62, _⟩ => ⟨S4096x3072, .f32⟩
  | .hbm, ⟨63, _⟩ => ⟨S4096x3072, .f32⟩
  | .hbm, ⟨64, _⟩ => ⟨S4096x3072, .f32⟩
  | .hbm, ⟨65, _⟩ => ⟨S_, .f32⟩
  | .hbm, ⟨66, _⟩ => ⟨S4096x3072, .f32⟩
  | .hbm, ⟨67, _⟩ => ⟨S4096x3072, .f32⟩
  | .hbm, ⟨68, _⟩ => ⟨S4096x3072, .f32⟩
  | .hbm, ⟨69, _⟩ => ⟨S_, .f32⟩
  | .hbm, ⟨70, _⟩ => ⟨S4096x3072, .f32⟩
  | .hbm, ⟨71, _⟩ => ⟨S4096x3072, .f32⟩
  | .hbm, ⟨72, _⟩ => ⟨S4096x3072, .f32⟩
  | .hbm, ⟨73, _⟩ => ⟨S_, .f32⟩
  | .hbm, ⟨74, _⟩ => ⟨S4096x3072, .f32⟩
  | .hbm, ⟨75, _⟩ => ⟨S4096x3072, .f32⟩
  | .hbm, ⟨76, _⟩ => ⟨S4096x3072, .f32⟩
  | .hbm, ⟨77, _⟩ => ⟨S4096x3072, .f32⟩
  | .hbm, ⟨78, _⟩ => ⟨S4096x3072, .f32⟩
  | .hbm, ⟨79, _⟩ => ⟨S4096x3072, .bf16⟩
  | .hbm, ⟨80, _⟩ => ⟨S4096x3072, .bf16⟩
  | .hbm, ⟨81, _⟩ => ⟨S_, .i32⟩
  | .hbm, ⟨82, _⟩ => ⟨S_, .f32⟩
  | .hbm, ⟨83, _⟩ => ⟨S8x6144, .f32⟩
  | .hbm, ⟨84, _⟩ => ⟨S4096x1024, .bf16⟩
  | .hbm, ⟨85, _⟩ => ⟨S3072x1024, .bf16⟩
  | .hbm, ⟨86, _⟩ => ⟨S4096x3072, .f32⟩
  | .hbm, ⟨87, _⟩ => ⟨S4096x3072, .bf16⟩
  | .hbm, ⟨88, _⟩ => ⟨S4096x3072, .f32⟩
  | .hbm, ⟨89, _⟩ => ⟨S4096x3072, .bf16⟩
  | .hbm, ⟨90, _⟩ => ⟨S4096x3072, .bf16⟩
  | .hbm, ⟨91, _⟩ => ⟨S4096x3072, .bf16⟩
  | .hbm, ⟨92, _⟩ => ⟨S8x3072, .f32⟩
  | .hbm, ⟨93, _⟩ => ⟨S8x3072, .f32⟩
  | .hbm, ⟨94, _⟩ => ⟨S1x3072, .f32⟩
  | .hbm, ⟨95, _⟩ => ⟨S1x3072, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S768x1024, .bf16⟩
  | .local _ .vmem, ⟨5, _⟩ => ⟨S768x1024, .bf16⟩
  | .local _ .vmem, ⟨6, _⟩ => ⟨S1024x768, .bf16⟩
  | .local _ .vmem, ⟨7, _⟩ => ⟨S1024x768, .bf16⟩
  | .local _ .vmem, ⟨8, _⟩ => ⟨S16x768, .bf16⟩
  | .local _ .vmem, ⟨9, _⟩ => ⟨S16x768, .bf16⟩
  | .local _ .vmem, ⟨10, _⟩ => ⟨S1024x768, .bf16⟩
  | .local _ .vmem, ⟨11, _⟩ => ⟨S1024x768, .bf16⟩
  | .local _ .vmem, ⟨12, _⟩ => ⟨S16x768, .bf16⟩
  | .local _ .vmem, ⟨13, _⟩ => ⟨S16x768, .bf16⟩
  | .local _ .vmem, ⟨14, _⟩ => ⟨S1024x768, .bf16⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S8x768, .f32⟩
  | .local _ .vmem, ⟨19, _⟩ => ⟨S8x768, .f32⟩
  | .local _ .vmem, ⟨20, _⟩ => ⟨S8x768, .f32⟩
  | .local _ .vmem, ⟨21, _⟩ => ⟨S8x768, .f32⟩
  | .local _ .vmem, ⟨22, _⟩ => ⟨S1024x768, .bf16⟩
  | .local _ .vmem, ⟨23, _⟩ => ⟨S1024x768, .bf16⟩
  | .local _ .vmem, ⟨24, _⟩ => ⟨S1024x768, .bf16⟩
  | .local _ .vmem, ⟨25, _⟩ => ⟨S1024x768, .bf16⟩
  | .local _ .vmem, ⟨26, _⟩ => ⟨S8x768, .f32⟩
  | .local _ .vmem, ⟨27, _⟩ => ⟨S8x768, .f32⟩
  | .local _ .vmem, ⟨28, _⟩ => ⟨S8x768, .f32⟩
  | .local _ .vmem, ⟨29, _⟩ => ⟨S8x768, .f32⟩
  | .local _ .vmem, ⟨30, _⟩ => ⟨S1x768, .f32⟩
  | .local _ .vmem, ⟨31, _⟩ => ⟨S1x768, .f32⟩
  | .local _ .vmem, ⟨32, _⟩ => ⟨S1x768, .f32⟩
  | .local _ .vmem, ⟨33, _⟩ => ⟨S1x768, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c : Ref sig .tc := ⟨.hbm, 81, rfl⟩
abbrev main_call0_v0 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71_0 : Ref sig .tc := ⟨.hbm, 90, rfl⟩
abbrev main_v71_1 : Ref sig .tc := ⟨.hbm, 91, rfl⟩
abbrev main_v71_2 : Ref sig .tc := ⟨.hbm, 92, rfl⟩
abbrev main_v71_3 : Ref sig .tc := ⟨.hbm, 93, rfl⟩
abbrev main_v71_4 : Ref sig .tc := ⟨.hbm, 94, rfl⟩
abbrev main_v71_5 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S4096x6144 : Shape := ⟨2, ![4096, 6144]⟩
abbrev S3x6144 : Shape := ⟨2, ![3, 6144]⟩
abbrev S6144 : Shape := ⟨1, ![6144]⟩
abbrev S3072x1024 : Shape := ⟨2, ![3072, 1024]⟩
abbrev S4096x1024 : Shape := ⟨2, ![4096, 1024]⟩
abbrev S_ : Shape := ⟨0, ![]⟩
abbrev S2x6144 : Shape := ⟨2, ![2, 6144]⟩
abbrev S4098x6144 : Shape := ⟨2, ![4098, 6144]⟩
abbrev S1x6144 : Shape := ⟨2, ![1, 6144]⟩
abbrev S4096x3072 : Shape := ⟨2, ![4096, 3072]⟩
abbrev S8x6144 : Shape := ⟨2, ![8, 6144]⟩
abbrev S8x3072 : Shape := ⟨2, ![8, 3072]⟩
abbrev S3072 : Shape := ⟨1, ![3072]⟩
abbrev S1x3072 : Shape := ⟨2, ![1, 3072]⟩

abbrev nBuf : Space → Nat
  | .hbm => 147
  | .vmem => 0
  | .smem => 0
  | _ => 0

abbrev hbmTy0_0 (i : Nat) : BufTy := match i % 128 with
  | 0 => ⟨S4096x6144, .f32⟩
  | 1 => ⟨S3x6144, .f32⟩
  | 2 => ⟨S6144, .f32⟩
  | 3 => ⟨S3072x1024, .f32⟩
  | 4 => ⟨S4096x1024, .f32⟩
  | 5 => ⟨S_, .f32⟩
  | 6 => ⟨S2x6144, .f32⟩
  | 7 => ⟨S4098x6144, .f32⟩
  | 8 => ⟨S_, .f32⟩
  | 9 => ⟨S2x6144, .f32⟩
  | 10 => ⟨S4096x6144, .f32⟩
  | 11 => ⟨S1x6144, .f32⟩
  | 12 => ⟨S6144, .f32⟩
  | 13 => ⟨S1x6144, .f32⟩
  | 14 => ⟨S4096x6144, .f32⟩
  | 15 => ⟨S4096x6144, .f32⟩
  | 16 => ⟨S1x6144, .f32⟩
  | 17 => ⟨S4096x6144, .f32⟩
  | 18 => ⟨S4096x6144, .f32⟩
  | 19 => ⟨S4096x6144, .f32⟩
  | 20 => ⟨S1x6144, .f32⟩
  | 21 => ⟨S6144, .f32⟩
  | 22 => ⟨S1x6144, .f32⟩
  | 23 => ⟨S4096x6144, .f32⟩
  | 24 => ⟨S4096x6144, .f32⟩
  | 25 => ⟨S4096x6144, .f32⟩
  | 26 => ⟨S4096x6144, .f32⟩
  | 27 => ⟨S1x6144, .f32⟩
  | 28 => ⟨S6144, .f32⟩
  | 29 => ⟨S1x6144, .f32⟩
  | 30 => ⟨S4096x6144, .f32⟩
  | 31 => ⟨S4096x6144, .f32⟩
  | 32 => ⟨S4096x6144, .f32⟩
  | 33 => ⟨S4096x3072, .f32⟩
  | 34 => ⟨S4096x3072, .f32⟩
  | 35 => ⟨S4096x3072, .f32⟩
  | 36 => ⟨S4096x3072, .f32⟩
  | 37 => ⟨S4096x3072, .f32⟩
  | 38 => ⟨S_, .f32⟩
  | 39 => ⟨S4096x3072, .f32⟩
  | 40 => ⟨S4096x3072, .f32⟩
  | 41 => ⟨S_, .f32⟩
  | 42 => ⟨S4096x3072, .f32⟩
  | 43 => ⟨S4096x3072, .f32⟩
  | 44 => ⟨S4096x3072, .f32⟩
  | 45 => ⟨S_, .f32⟩
  | 46 => ⟨S4096x3072, .f32⟩
  | 47 => ⟨S4096x3072, .f32⟩
  | 48 => ⟨S4096x3072, .f32⟩
  | 49 => ⟨S_, .f32⟩
  | 50 => ⟨S4096x3072, .f32⟩
  | 51 => ⟨S4096x3072, .f32⟩
  | 52 => ⟨S_, .f32⟩
  | 53 => ⟨S4096x3072, .f32⟩
  | 54 => ⟨S4096x3072, .f32⟩
  | 55 => ⟨S4096x3072, .f32⟩
  | 56 => ⟨S_, .f32⟩
  | 57 => ⟨S4096x3072, .f32⟩
  | 58 => ⟨S4096x3072, .f32⟩
  | 59 => ⟨S_, .f32⟩
  | 60 => ⟨S4096x3072, .f32⟩
  | 61 => ⟨S4096x3072, .f32⟩
  | 62 => ⟨S4096x3072, .f32⟩
  | 63 => ⟨S4096x3072, .f32⟩
  | 64 => ⟨S4096x1024, .f32⟩
  | 65 => ⟨S4096x3072, .f32⟩
  | 66 => ⟨S4096x3072, .f32⟩
  | 67 => ⟨S4096x3072, .f32⟩
  | 68 => ⟨S4096x3072, .f32⟩
  | 69 => ⟨S4096x3072, .f32⟩
  | 70 => ⟨S_, .f32⟩
  | 71 => ⟨S4096x3072, .f32⟩
  | 72 => ⟨S4096x3072, .f32⟩
  | 73 => ⟨S4096x3072, .f32⟩
  | 74 => ⟨S_, .f32⟩
  | 75 => ⟨S4096x3072, .f32⟩
  | 76 => ⟨S4096x3072, .f32⟩
  | 77 => ⟨S4096x3072, .f32⟩
  | 78 => ⟨S_, .f32⟩
  | 79 => ⟨S4096x3072, .f32⟩
  | 80 => ⟨S4096x3072, .f32⟩
  | 81 => ⟨S4096x3072, .f32⟩
  | 82 => ⟨S4096x3072, .f32⟩
  | 83 => ⟨S4096x6144, .f32⟩
  | 84 => ⟨S4096x6144, .f32⟩
  | 85 => ⟨S_, .f32⟩
  | 86 => ⟨S6144, .f32⟩
  | 87 => ⟨S1x6144, .f32⟩
  | 88 => ⟨S4096x6144, .f32⟩
  | 89 => ⟨S4096x6144, .f32⟩
  | 90 => ⟨S_, .f32⟩
  | 91 => ⟨S6144, .f32⟩
  | 92 => ⟨S1x6144, .f32⟩
  | 93 => ⟨S_, .f32⟩
  | 94 => ⟨S3x6144, .f32⟩
  | 95 => ⟨S_, .f32⟩
  | 96 => ⟨S4098x6144, .f32⟩
  | 97 => ⟨S4096x6144, .f32⟩
  | 98 => ⟨S_, .f32⟩
  | 99 => ⟨S6144, .f32⟩
  | 100 => ⟨S1x6144, .f32⟩
  | 101 => ⟨S4096x6144, .f32⟩
  | 102 => ⟨S4096x6144, .f32⟩
  | 103 => ⟨S_, .f32⟩
  | 104 => ⟨S6144, .f32⟩
  | 105 => ⟨S1x6144, .f32⟩
  | 106 => ⟨S_, .f32⟩
  | 107 => ⟨S3x6144, .f32⟩
  | 108 => ⟨S3x6144, .f32⟩
  | 109 => ⟨S_, .f32⟩
  | 110 => ⟨S4098x6144, .f32⟩
  | 111 => ⟨S4098x6144, .f32⟩
  | 112 => ⟨S_, .f32⟩
  | 113 => ⟨S6144, .f32⟩
  | 114 => ⟨S1x6144, .f32⟩
  | 115 => ⟨S_, .f32⟩
  | 116 => ⟨S6144, .f32⟩
  | 117 => ⟨S4096x6144, .f32⟩
  | 118 => ⟨S_, .f32⟩
  | 119 => ⟨S6144, .f32⟩
  | 120 => ⟨S1x6144, .f32⟩
  | 121 => ⟨S4096x6144, .f32⟩
  | 122 => ⟨S4096x6144, .f32⟩
  | 123 => ⟨S_, .f32⟩
  | 124 => ⟨S6144, .f32⟩
  | 125 => ⟨S1x6144, .f32⟩
  | 126 => ⟨S_, .f32⟩
  | 127 => ⟨S3x6144, .f32⟩
  | _ => ⟨S4096x6144, .f32⟩

abbrev hbmTy0_1 (i : Nat) : BufTy := match i % 128 with
  | 0 => ⟨S3x6144, .f32⟩
  | 1 => ⟨S_, .f32⟩
  | 2 => ⟨S4098x6144, .f32⟩
  | 3 => ⟨S4098x6144, .f32⟩
  | 4 => ⟨S2x6144, .f32⟩
  | 5 => ⟨S4096x6144, .f32⟩
  | 6 => ⟨S_, .i32⟩
  | 7 => ⟨S_, .f32⟩
  | 8 => ⟨S8x6144, .f32⟩
  | 9 => ⟨S4096x3072, .f32⟩
  | 10 => ⟨S4096x3072, .bf16⟩
  | 11 => ⟨S4096x3072, .f32⟩
  | 12 => ⟨S4096x3072, .bf16⟩
  | 13 => ⟨S8x3072, .f32⟩
  | 14 => ⟨S8x3072, .f32⟩
  | 15 => ⟨S3072, .f32⟩
  | 16 => ⟨S1x3072, .f32⟩
  | 17 => ⟨S3072, .f32⟩
  | 18 => ⟨S1x3072, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_cst_15 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_16 : Ref sig .tc := ⟨.hbm, 103, rfl⟩
abbrev main_v81 : Ref sig .tc := ⟨.hbm, 104, rfl⟩
abbrev main_v82 : Ref sig .tc := ⟨.hbm, 105, rfl⟩
abbrev main_cst_17 : Ref sig .tc := ⟨.hbm, 106, rfl⟩
abbrev main_v83 : Ref sig .tc := ⟨.hbm, 107, rfl⟩
abbrev main_v84 : Ref sig .tc := ⟨.hbm, 108, rfl⟩
abbrev main_cst_18 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_cst_21 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_22 : Ref sig .tc := ⟨.hbm, 123, rfl⟩
abbrev main_v95 : Ref sig .tc := ⟨.hbm, 124, rfl⟩
abbrev main_v96 : Ref sig .tc := ⟨.hbm, 125, rfl⟩
abbrev main_cst_23 : Ref sig .tc := ⟨.hbm, 126, rfl⟩
abbrev main_v97 : Ref sig .tc := ⟨.hbm, 127, rfl⟩
abbrev main_v98 : Ref sig .tc := ⟨.hbm, 128, rfl⟩
abbrev main_cst_24 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c : Ref sig .tc := ⟨.hbm, 134, rfl⟩
abbrev main_call0_v0 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩

abbrev nD : Nat := 1
abbrev τ : Topo := Topo.v7x

variable {F : FTy → Type} [FloatOps F]
-- ==== Norm2.lean ====
abbrev S4096x1024 : Shape := ⟨2, ![4096, 1024]⟩
abbrev S1024 : Shape := ⟨1, ![1024]⟩
abbrev S1024x6144 : Shape := ⟨2, ![1024, 6144]⟩
abbrev S4096x6144 : Shape := ⟨2, ![4096, 6144]⟩
abbrev S4096x3072 : Shape := ⟨2, ![4096, 3072]⟩
abbrev S6144x1024 : Shape := ⟨2, ![6144, 1024]⟩
abbrev S1x1024 : Shape := ⟨2, ![1, 1024]⟩
abbrev S1024x1536 : Shape := ⟨2, ![1024, 1536]⟩
abbrev S1536x1024 : Shape := ⟨2, ![1536, 1024]⟩
abbrev S1024x1024 : Shape := ⟨2, ![1024, 1024]⟩
abbrev S1024x1 : Shape := ⟨2, ![1024, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x1024, .f32⟩
  | .hbm, ⟨4, _⟩ => ⟨S4096x6144, .f32⟩
  | .hbm, ⟨5, _⟩ => ⟨S4096x3072, .f32⟩
  | .hbm, ⟨6, _⟩ => ⟨S4096x3072, .bf16⟩
  | .hbm, ⟨7, _⟩ => ⟨S4096x3072, .f32⟩
  | .hbm, ⟨8, _⟩ => ⟨S4096x3072, .bf16⟩
  | .hbm, ⟨9, _⟩ => ⟨S6144x1024, .f32⟩
  | .hbm, ⟨10, _⟩ => ⟨S6144x1024, .bf16⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1536x1024, .bf16⟩
  | .local _ .vmem, ⟨5, _⟩ => ⟨S1536x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 4], ![false, false]⟩

def k0_cond8 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_6 : BitVec 32 := 0#32
  let v17 : BitVec 1 := Scalar.cmpi .ne v16 c0_i32_6
  v17

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Norm2RefIdeal.lean ====
abbrev S4096x1024 : Shape := ⟨2, ![4096, 1024]⟩
abbrev S1024 : Shape := ⟨1, ![1024]⟩
abbrev S1024x6144 : Shape := ⟨2, ![1024, 6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x1024, .f32⟩
  | .hbm, ⟨4, _⟩ => ⟨S4096x6144, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6144, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== GDown.lean ====
abbrev S4096x3072 : Shape := ⟨2, ![4096, 3072]⟩
abbrev S4096x1024 : Shape := ⟨2, ![4096, 1024]⟩
abbrev S3072x1024 : Shape := ⟨2, ![3072, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x3072, .bf16⟩
  | .hbm, ⟨3, _⟩ => ⟨S4096x1024, .bf16⟩
  | .hbm, ⟨4, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S_, .f32⟩
  | .hbm, ⟨3, _⟩ => ⟨S3072x1024, .f32⟩
  | .hbm, ⟨4, _⟩ => ⟨S4096x1024, .f32⟩
  | .hbm, ⟨5, _⟩ => ⟨S1024x3072, .f32⟩
  | .hbm, ⟨6, _⟩ => ⟨S3072x1024, .f32⟩
  | .hbm, ⟨7, _⟩ => ⟨S3072x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GUp.lean ====
abbrev S4096x1024 : Shape := ⟨2, ![4096, 1024]⟩
abbrev S4096x6144 : Shape := ⟨2, ![4096, 6144]⟩
abbrev S4096x3072 : Shape := ⟨2, ![4096, 3072]⟩
abbrev S6144x1024 : Shape := ⟨2, ![6144, 1024]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x1024, .bf16⟩
  | .hbm, ⟨3, _⟩ => ⟨S4096x3072, .f32⟩
  | .hbm, ⟨4, _⟩ => ⟨S4096x3072, .bf16⟩
  | .hbm, ⟨5, _⟩ => ⟨S6144x1024, .bf16⟩
  | .hbm, ⟨6, _⟩ => ⟨S4096x3072, .f32⟩
  | .hbm, ⟨7, _⟩ => ⟨S4096x3072, .bf16⟩
  | .hbm, ⟨8, _⟩ => ⟨S6144x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S4096x1024, .bf16⟩
  | .local _ .vmem, ⟨6, _⟩ => ⟨S4096x1024, .bf16⟩
  | .local _ .vmem, ⟨7, _⟩ => ⟨S4096x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![3, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  ![v0.toNat, arg1.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== GUpRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S6144x1024, .f32⟩
  | .hbm, ⟨8, _⟩ => ⟨S6144x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm1.lean ====
abbrev S4096x1024 : Shape := ⟨2, ![4096, 1024]⟩
abbrev S1024 : Shape := ⟨1, ![1024]⟩
abbrev S1024x2560 : Shape := ⟨2, ![1024, 2560]⟩
abbrev S4096x2560 : Shape := ⟨2, ![4096, 2560]⟩
abbrev S4096x1536 : Shape := ⟨2, ![4096, 1536]⟩
abbrev S2560x1024 : Shape := ⟨2, ![2560, 1024]⟩
abbrev S1x1024 : Shape := ⟨2, ![1, 1024]⟩
abbrev S1024x512 : Shape := ⟨2, ![1024, 512]⟩
abbrev S512x1024 : Shape := ⟨2, ![512, 1024]⟩
abbrev S1024x1024 : Shape := ⟨2, ![1024, 1024]⟩
abbrev S1024x1 : Shape := ⟨2, ![1024, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x1024, .f32⟩
  | .hbm, ⟨4, _⟩ => ⟨S4096x2560, .f32⟩
  | .hbm, ⟨5, _⟩ => ⟨S4096x1536, .f32⟩
  | .hbm, ⟨6, _⟩ => ⟨S4096x1536, .bf16⟩
  | .hbm, ⟨7, _⟩ => ⟨S4096x1024, .f32⟩
  | .hbm, ⟨8, _⟩ => ⟨S4096x1024, .bf16⟩
  | .hbm, ⟨9, _⟩ => ⟨S2560x1024, .f32⟩
  | .hbm, ⟨10, _⟩ => ⟨S2560x1024, .bf16⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 5], ![false, false]⟩

def k0_cond8 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_6 : BitVec 32 := 0#32
  let v17 : BitVec 1 := Scalar.cmpi .ne v16 c0_i32_6
  v17

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Norm1RefIdeal.lean ====
abbrev S4096x1024 : Shape := ⟨2, ![4096, 1024]⟩
abbrev S1024 : Shape := ⟨1, ![1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x1024, .f32⟩
  | .hbm, ⟨4, _⟩ => ⟨S4096x2560, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2560, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== GIn.lean ====
abbrev S4096x1024 : Shape := ⟨2, ![4096, 1024]⟩
abbrev S4096x2560 : Shape := ⟨2, ![4096, 2560]⟩
abbrev S4096x1536 : Shape := ⟨2, ![4096, 1536]⟩
abbrev S2560x1024 : Shape := ⟨2, ![2560, 1024]⟩
abbrev S4096x512 : Shape := ⟨2, ![4096, 512]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S4096x1024, .bf16⟩
  | .hbm, ⟨3, _⟩ => ⟨S4096x1536, .f32⟩
  | .hbm, ⟨4, _⟩ => ⟨S4096x1536, .bf16⟩
  | .hbm, ⟨5, _⟩ => ⟨S2560x1024, .bf16⟩
  | .hbm, ⟨6, _⟩ => ⟨S4096x1024, .f32⟩
  | .hbm, ⟨7, _⟩ => ⟨S4096x1024, .bf16⟩
  | .hbm, ⟨8, _⟩ => ⟨S2560x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S4096x512, .bf16⟩
  | .local _ .vmem, ⟨6, _⟩ => ⟨S4096x512, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  ![v0.toNat, arg1.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== GInRefIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | .hbm, ⟨7, _⟩ => ⟨S2560x1024, .f32⟩
  | .hbm, ⟨8, _⟩ => ⟨S2560x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GOut.lean ====
abbrev S4096x1024 : Shape := ⟨2, ![4096, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DMix.lean ====
abbrev S1024x1024 : Shape := ⟨2, ![1024, 1024]⟩
abbrev S4096x1024 : Shape := ⟨2, ![4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixRefIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownLoss.lean ====
abbrev S4096x1024 : Shape := ⟨2, ![4096, 1024]⟩
abbrev S4096x3072 : Shape := ⟨2, ![4096, 3072]⟩
abbrev S3072x1024 : Shape := ⟨2, ![3072, 1024]⟩
abbrev S8x1x1024 : Shape := ⟨3, ![8, 1, 1024]⟩
abbrev S512x3072 : Shape := ⟨2, ![512, 3072]⟩
abbrev S512x1024 : Shape := ⟨2, ![512, 1024]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3072x1024, .f32⟩
  | .hbm, ⟨3, _⟩ => ⟨S4096x1024, .f32⟩
  | .hbm, ⟨4, _⟩ => ⟨S4096x3072, .bf16⟩
  | .hbm, ⟨5, _⟩ => ⟨S3072x1024, .bf16⟩
  | .hbm, ⟨6, _⟩ => ⟨S4096x1024, .f32⟩
  | .hbm, ⟨7, _⟩ => ⟨S4096x1024, .bf16⟩
  | .hbm, ⟨8, _⟩ => ⟨S8x1x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1x1024, .f32⟩
  | .local _ .vmem, ⟨12, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== DownLossRefIdeal.lean ====
abbrev S4096x1024 : Shape := ⟨2, ![4096, 1024]⟩
abbrev S4096x3072 : Shape := ⟨2, ![4096, 3072]⟩
abbrev S3072x1024 : Shape := ⟨2, ![3072, 1024]⟩
abbrev S_ : Shape := ⟨0, ![]⟩
abbrev S4096 : Shape := ⟨1, ![4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3072x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== InProj.lean ====
abbrev S4096x1024 : Shape := ⟨2, ![4096, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S4096x2560 : Shape := ⟨2, ![4096, 2560]⟩
abbrev S1024x1024 : Shape := ⟨2, ![1024, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S2560x1024, .f32⟩
  | .hbm, ⟨5, _⟩ => ⟨S2560x1024, .bf16⟩
  | .hbm, ⟨6, _⟩ => ⟨S4096x2560, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x2560, .f32⟩
  | .local _ .vmem, ⟨5, _⟩ => ⟨S1024x2560, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjRefIdeal.lean ====
abbrev S4096x1024 : Shape := ⟨2, ![4096, 1024]⟩
abbrev S1024 : Shape := ⟨1, ![1024]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2560, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== UpProj.lean ====
abbrev S4096x1024 : Shape := ⟨2, ![4096, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S_ : Shape := ⟨0, ![]⟩
abbrev S8x6144 : Shape := ⟨2, ![8, 6144]⟩
abbrev S1x1024 : Shape := ⟨2, ![1, 1024]⟩
abbrev S6144x1024 : Shape := ⟨2, ![6144, 1024]⟩
abbrev S1x6144 : Shape := ⟨2, ![1, 6144]⟩
abbrev S4096x3072 : Shape := ⟨2, ![4096, 3072]⟩
abbrev S1024x1024 : Shape := ⟨2, ![1024, 1024]⟩
abbrev S768x1024 : Shape := ⟨2, ![768, 1024]⟩
abbrev S8x768 : Shape := ⟨2, ![8, 768]⟩
abbrev S1x768 : Shape := ⟨2, ![1, 768]⟩
abbrev S1024x768 : Shape := ⟨2, ![1024, 768]⟩
abbrev S4x8x768 : Shape := ⟨3, ![4, 8, 768]⟩
abbrev S1024x1 : Shape := ⟨2, ![1024, 1]⟩
abbrev S1x8x768 : Shape := ⟨3, ![1, 8, 768]⟩
abbrev S1032x768 : Shape := ⟨2, ![1032, 768]⟩

abbrev nBuf : Space → Nat
  | .hbm => 18
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S3x6144, .f32⟩
  | .hbm, ⟨4, _⟩ => ⟨S6144, .f32⟩
  | .hbm, ⟨5, _⟩ => ⟨S_, .i32⟩
  | .hbm, ⟨6, _⟩ => ⟨S_, .f32⟩
  | .hbm, ⟨7, _⟩ => ⟨S8x6144, .f32⟩
  | .hbm, ⟨8, _⟩ => ⟨S1x1024, .f32⟩
  | .hbm, ⟨9, _⟩ => ⟨S6144x1024, .f32⟩
  | .hbm, ⟨10, _⟩ => ⟨S6144x1024, .bf16⟩
  | .hbm, ⟨11, _⟩ => ⟨S1x6144, .f32⟩
  | .hbm, ⟨12, _⟩ => ⟨S4096x3072, .bf16⟩
  | .hbm, ⟨13, _⟩ => ⟨S4096x3072, .bf16⟩
  | .hbm, ⟨14, _⟩ => ⟨S4096x3072, .bf16⟩
  | .hbm, ⟨15, _⟩ => ⟨S4096x3072, .bf16⟩
  | .hbm, ⟨16, _⟩ => ⟨S4096x3072, .bf16⟩
  | .hbm, ⟨17, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S8x768, .f32⟩
  | .local _ .vmem, ⟨8, _⟩ => ⟨S8x768, .f32⟩
  | .local _ .vmem, ⟨9, _⟩ => ⟨S8x768, .f32⟩
  | .local _ .vmem, ⟨10, _⟩ => ⟨S8x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1x768, .f32⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1024x768, .bf16⟩
  | .local _ .vmem, ⟨20, _⟩ => ⟨S1024x768, .bf16⟩
  | .local _ .vmem, ⟨21, _⟩ => ⟨S1024x768, .bf16⟩
  | .local _ .vmem, ⟨22, _⟩ => ⟨S1024x768, .bf16⟩
  | .local _ .vmem, ⟨23, _⟩ => ⟨S1024x768, .bf16⟩
  | .local _ .vmem, ⟨24, _⟩ => ⟨S1024x768, .bf16⟩
  | .local _ .vmem, ⟨25, _⟩ => ⟨S1024x1024, .bf16⟩
  | .local _ .vmem, ⟨26, _⟩ => ⟨S1024x1024, .bf16⟩
  | .local _ .vmem, ⟨27, _⟩ => ⟨S4x8x768, .f32⟩
  | .local _ .vmem, ⟨28, _⟩ => ⟨S4x8x768, .f32⟩
  | .local _ .vmem, ⟨29, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v11 : Index := Scalar.indexCast arg1
  let c0_8 : Index := 0#32
  let c0_9 : Index := 0#32
  ![v11.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== UpProjIdeal.lean ====
variable {F : FTy → Type} [FloatOps F] [Named F]
def κ : String → Option EReal := fun
  | "gelu_3ca" => some ((241015141496493 / 2251799813685248 : ℝ) : EReal)
  | "gelu_ca" => some ((80338380498831 / 2251799813685248 : ℝ) : EReal)
  | _ => none
-- ==== UpProjRefIdeal.lean ====
abbrev S4096x1024 : Shape := ⟨2, ![4096, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6144 : Shape := ⟨2, ![4096, 6144]⟩
abbrev S2x6144 : Shape := ⟨2, ![2, 6144]⟩
abbrev S4098x6144 : Shape := ⟨2, ![4098, 6144]⟩
abbrev S1x6144 : Shape := ⟨2, ![1, 6144]⟩
abbrev S4096x3072 : Shape := ⟨2, ![4096, 3072]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S3x6144, .f32⟩
  | .hbm, ⟨4, _⟩ => ⟨S6144, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x6144, .f32⟩
  | .hbm, ⟨22, _⟩ => ⟨S_, .f32⟩
  | .hbm, ⟨23, _⟩ => ⟨S2x6144, .f32⟩
  | .hbm, ⟨24, _⟩ => ⟨S4098x6144, .f32⟩
  | .hbm, ⟨25, _⟩ => ⟨S4096x6144, .f32⟩
  | .hbm, ⟨26, _⟩ => ⟨S1x6144, .f32⟩
  | .hbm, ⟨27, _⟩ => ⟨S6144, .f32⟩
  | .hbm, ⟨28, _⟩ => ⟨S1x6144, .f32⟩
  | .hbm, ⟨29, _⟩ => ⟨S4096x6144, .f32⟩
  | .hbm, ⟨30, _⟩ => ⟨S4096x6144, .f32⟩
  | .hbm, ⟨31, _⟩ => ⟨S1x6144, .f32⟩
  | .hbm, ⟨32, _⟩ => ⟨S4096x6144, .f32⟩
  | .hbm, ⟨33, _⟩ => ⟨S4096x6144, .f32⟩
  | .hbm, ⟨34, _⟩ => ⟨S4096x6144, .f32⟩
  | .hbm, ⟨35, _⟩ => ⟨S1x6144, .f32⟩
  | .hbm, ⟨36, _⟩ => ⟨S6144, .f32⟩
  | .hbm, ⟨37, _⟩ => ⟨S1x6144, .f32⟩
  | .hbm, ⟨38, _⟩ => ⟨S4096x6144, .f32⟩
  | .hbm, ⟨39, _⟩ => ⟨S4096x6144, .f32⟩
  | .hbm, ⟨40, _⟩ => ⟨S4096x6144, .f32⟩
  | .hbm, ⟨41, _⟩ => ⟨S4096x6144, .f32⟩
  | .hbm, ⟨42, _⟩ => ⟨S1x6144, .f32⟩
  | .hbm, ⟨43, _⟩ => ⟨S6144, .f32⟩
  | .hbm, ⟨44, _⟩ => ⟨S1x6144, .f32⟩
  | .hbm, ⟨45, _⟩ => ⟨S4096x6144, .f32⟩
  | .hbm, ⟨46, _⟩ => ⟨S4096x6144, .f32⟩
  | .hbm, ⟨47, _⟩ => ⟨S4096x6144, .f32⟩
  | .hbm, ⟨48, _⟩ => ⟨S4096x3072, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S_, .f32⟩
  | .hbm, ⟨54, _⟩ => ⟨S4096x3072, .f32⟩
  | .hbm, ⟨55, _⟩ => ⟨S4096x3072, .f32⟩
  | .hbm, ⟨56, _⟩ => ⟨S_, .f32⟩
  | .hbm, ⟨57, _⟩ => ⟨S4096x3072, .f32⟩
  | .hbm, ⟨58, _⟩ => ⟨S4096x3072, .f32⟩
  | .hbm, ⟨59, _⟩ => ⟨S4096x3072, .f32⟩
  | .hbm, ⟨60, _⟩ => ⟨S_, .f32⟩
  | .hbm, ⟨61, _⟩ => ⟨S4096x3072, .f32⟩
  | .hbm, ⟨62, _⟩ => ⟨S4096x3072, .f32⟩
  | .hbm, ⟨63, _⟩ => ⟨S4096x3072, .f32⟩
  | .hbm, ⟨64, _⟩ => ⟨S_, .f32⟩
  | .hbm, ⟨65, _⟩ => ⟨S4096x3072, .f32⟩
  | .hbm, ⟨66, _⟩ => ⟨S4096x3072, .f32⟩
  | .hbm, ⟨67, _⟩ => ⟨S_, .f32⟩
  | .hbm, ⟨68, _⟩ => ⟨S4096x3072, .f32⟩
  | .hbm, ⟨69, _⟩ => ⟨S4096x3072, .f32⟩
  | .hbm, ⟨70, _⟩ => ⟨S4096x3072, .f32⟩
  | .hbm, ⟨71, _⟩ => ⟨S_, .f32⟩
  | .hbm, ⟨72, _⟩ => ⟨S4096x3072, .f32⟩
  | .hbm, ⟨73, _⟩ => ⟨S4096x3072, .f32⟩
  | .hbm, ⟨74, _⟩ => ⟨S_, .f32⟩
  | .hbm, ⟨75, _⟩ => ⟨S4096x3072, .f32⟩
  | .hbm, ⟨76, _⟩ => ⟨S4096x3072, .f32⟩
  | .hbm, ⟨77, _⟩ => ⟨S4096x3072, .f32⟩
  | .hbm, ⟨78, _⟩ => ⟨S_, .f32⟩
  | .hbm, ⟨79, _⟩ => ⟨S4096x3072, .f32⟩
  | .hbm, ⟨80, _⟩ => ⟨S4096x3072, .f32⟩
  | .hbm, ⟨81, _⟩ => ⟨S4096x3072, .f32⟩
  | .hbm, ⟨82, _⟩ => ⟨S_, .f32⟩
  | .hbm, ⟨83, _⟩ => ⟨S4096x3072, .f32⟩
  | .hbm, ⟨84, _⟩ => ⟨S4096x3072, .f32⟩
  | .hbm, ⟨85, _⟩ => ⟨S4096x3072, .f32⟩
  | .hbm, ⟨86, _⟩ => ⟨S_, .f32⟩
  | .hbm, ⟨87, _⟩ => ⟨S4096x3072, .f32⟩
  | .hbm, ⟨88, _⟩ => ⟨S4096x3072, .f32⟩
  | .hbm, ⟨89, _⟩ => ⟨S4096x3072, .f32⟩
  | .hbm, ⟨90, _⟩ => ⟨S_, .f32⟩
  | .hbm, ⟨91, _⟩ => ⟨S4096x3072, .f32⟩
  | .hbm, ⟨92, _⟩ => ⟨S4096x3072, .f32⟩
  | .hbm, ⟨93, _⟩ => ⟨S4096x3072, .f32⟩
  | .hbm, ⟨94, _⟩ => ⟨S4096x3072, .f32⟩
  | .hbm, ⟨95, _⟩ => ⟨S4096x3072, .f32⟩
  | .hbm, ⟨96, _⟩ => ⟨S4096x3072, .bf16⟩
  | .hbm, ⟨97, _⟩ => ⟨S4096x3072, .f32⟩
  | .hbm, ⟨98, _⟩ => ⟨S4096x3072, .bf16⟩
  | .hbm, ⟨99, _⟩ => ⟨S4096x3072, .bf16⟩
  | .hbm, ⟨100, _⟩ => ⟨S4096x3072, .f32⟩
  | .hbm, ⟨101, _⟩ => ⟨S4096x3072, .bf16⟩
  | .hbm, ⟨102, _⟩ => ⟨S4096x3072, .f32⟩
  | .hbm, ⟨103, _⟩ => ⟨S4096x3072, .bf16⟩
  | .hbm, ⟨104, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_12 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== AttnNorm.lean ====
abbrev S4096x1024 : Shape := ⟨2, ![4096, 1024]⟩
abbrev S4096x512 : Shape := ⟨2, ![4096, 512]⟩
abbrev S512 : Shape := ⟨1, ![512]⟩
abbrev S_ : Shape := ⟨0, ![]⟩
abbrev S64x64 : Shape := ⟨2, ![64, 64]⟩
abbrev S64x128 : Shape := ⟨2, ![64, 128]⟩
abbrev S128x128 : Shape := ⟨2, ![128, 128]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512, .f32⟩
  | .hbm, ⟨3, _⟩ => ⟨S_, .bf16⟩
  | .hbm, ⟨4, _⟩ => ⟨S64x64, .bf16⟩
  | .hbm, ⟨5, _⟩ => ⟨S_, .bf16⟩
  | .hbm, ⟨6, _⟩ => ⟨S64x64, .bf16⟩
  | .hbm, ⟨7, _⟩ => ⟨S64x128, .bf16⟩
  | .hbm, ⟨8, _⟩ => ⟨S64x128, .bf16⟩
  | .hbm, ⟨9, _⟩ => ⟨S128x128, .bf16⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S128x128, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnNormRefIdeal.lean ====
abbrev S4096x1024 : Shape := ⟨2, ![4096, 1024]⟩
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S4096x8x64 : Shape := ⟨3, ![4096, 8, 64]⟩
abbrev S4096x8 : Shape := ⟨2, ![4096, 8]⟩
abbrev S4096x8x1 : Shape := ⟨3, ![4096, 8, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S512, .f32⟩
  | .hbm, ⟨32, _⟩ => ⟨S4096x512, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x512, .f32⟩
  | .hbm, ⟨37, _⟩ => ⟨S4096x512, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x8x64, .f32⟩
  | .hbm, ⟨51, _⟩ => ⟨S_, .f32⟩
  | .hbm, ⟨52, _⟩ => ⟨S4096x8, .f32⟩
  | .hbm, ⟨53, _⟩ => ⟨S4096x8x1, .f32⟩
  | .hbm, ⟨54, _⟩ => ⟨S4096x8x64, .f32⟩
  | .hbm, ⟨55, _⟩ => ⟨S4096x512, .f32⟩
  | .hbm, ⟨56, _⟩ => ⟨S1x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== QkPrep.lean ====
abbrev S4096x2560 : Shape := ⟨2, ![4096, 2560]⟩
abbrev S4096x512 : Shape := ⟨2, ![4096, 512]⟩
abbrev S4096 : Shape := ⟨1, ![4096]⟩
abbrev S64 : Shape := ⟨1, ![64]⟩
abbrev S32 : Shape := ⟨1, ![32]⟩
abbrev S_ : Shape := ⟨0, ![]⟩
abbrev S1x32 : Shape := ⟨2, ![1, 32]⟩
abbrev S16x32 : Shape := ⟨2, ![16, 32]⟩
abbrev S512 : Shape := ⟨1, ![512]⟩
abbrev S1x512 : Shape := ⟨2, ![1, 512]⟩
abbrev S64x64 : Shape := ⟨2, ![64, 64]⟩
abbrev S64x128 : Shape := ⟨2, ![64, 128]⟩
abbrev S128x128 : Shape := ⟨2, ![128, 128]⟩
abbrev S1x64 : Shape := ⟨2, ![1, 64]⟩
abbrev S8x64 : Shape := ⟨2, ![8, 64]⟩
abbrev S4096x1 : Shape := ⟨2, ![4096, 1]⟩
abbrev S4096x1536 : Shape := ⟨2, ![4096, 1536]⟩
abbrev S512x512 : Shape := ⟨2, ![512, 512]⟩
abbrev S512x1 : Shape := ⟨2, ![512, 1]⟩
abbrev S512x1536 : Shape := ⟨2, ![512, 1536]⟩
abbrev S1x128 : Shape := ⟨2, ![1, 128]⟩
abbrev S512x128 : Shape := ⟨2, ![512, 128]⟩

abbrev nBuf : Space → Nat
  | .hbm => 38
  | .vmem => 20
  | .smem => 0
  | _ => 0

abbrev bufTy : (tb : Table) → Fin (tcTables nBuf tb) → BufTy
  | .hbm, ⟨0, _⟩ => ⟨S4096x2560, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096, .i32⟩
  | .hbm, ⟨5, _⟩ => ⟨S64, .f32⟩
  | .hbm, ⟨6, _⟩ => ⟨S64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S16x32, .f32⟩
  | .hbm, ⟨17, _⟩ => ⟨S512, .f32⟩
  | .hbm, ⟨18, _⟩ => ⟨S1x512, .f32⟩
  | .hbm, ⟨19, _⟩ => ⟨S_, .bf16⟩
  | .hbm, ⟨20, _⟩ => ⟨S64x64, .bf16⟩
  | .hbm, ⟨21, _⟩ => ⟨S_, .bf16⟩
  | .hbm, ⟨22, _⟩ => ⟨S64x64, .bf16⟩
  | .hbm, ⟨23, _⟩ => ⟨S64x128, .bf16⟩
  | .hbm, ⟨24, _⟩ => ⟨S64x128, .bf16⟩
  | .hbm, ⟨25, _⟩ => ⟨S128x128, .bf16⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S1x512, .f32⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S1x512, .f32⟩
  | .hbm, ⟨34, _⟩ => ⟨S4096x1, .i32⟩
  | .hbm, ⟨35, _⟩ => ⟨S4096x1536, .bf16⟩
  | .hbm, ⟨36, _⟩ => ⟨S1x512, .f32⟩
  | .hbm, ⟨37, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1, .i32⟩
  | .local _ .vmem, ⟨11, _⟩ => ⟨S512x1, .i32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S128x128, .bf16⟩
  | .local _ .vmem, ⟨16, _⟩ => ⟨S512x1536, .bf16⟩
  | .local _ .vmem, ⟨17, _⟩ => ⟨S512x1536, .bf16⟩
  | .local _ .vmem, ⟨18, _⟩ => ⟨S1x512, .f32⟩
  | .local _ .vmem, ⟨19, _⟩ => ⟨S1x512, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== QkPrepRefIdeal.lean ====
abbrev S4096x2560 : Shape := ⟨2, ![4096, 2560]⟩
abbrev S4096x512 : Shape := ⟨2, ![4096, 512]⟩
abbrev S4096 : Shape := ⟨1, ![4096]⟩
abbrev S64 : Shape := ⟨1, ![64]⟩
abbrev S4096x1 : Shape := ⟨2, ![4096, 1]⟩
abbrev S32 : Shape := ⟨1, ![32]⟩
abbrev S_ : Shape := ⟨0, ![]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S32768x32 : Shape := ⟨2, ![32768, 32]⟩
abbrev S1x64 : Shape := ⟨2, ![1, 64]⟩
abbrev S8x64 : Shape := ⟨2, ![8, 64]⟩
abbrev S512 : Shape := ⟨1, ![512]⟩
abbrev S32768x64 : Shape := ⟨2, ![32768, 64]⟩
abbrev S32768 : Shape := ⟨1, ![32768]⟩
abbrev S32768x1 : Shape := ⟨2, ![32768, 1]⟩
abbrev S4096x1536 : Shape := ⟨2, ![4096, 1536]⟩
abbrev S1x512 : Shape := ⟨2, ![1, 512]⟩

abbrev nBuf : Space → Nat
  | .hbm => 182
  | .vmem => 0
  | .smem => 0
  | _ => 0

abbrev hbmTy0_0 (i : Nat) : BufTy := match i % 128 with
  | 0 => ⟨S4096x2560, .f32⟩
  | 1 => ⟨S4096x512, .f32⟩
  | 2 => ⟨S4096x512, .f32⟩
  | 3 => ⟨S4096x512, .f32⟩
  | 4 => ⟨S4096, .i32⟩
  | 5 => ⟨S64, .f32⟩
  | 6 => ⟨S64, .f32⟩
  | 7 => ⟨S4096, .f32⟩
  | 8 => ⟨S4096x1, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S1x32, .f32⟩
  | 18 => ⟨S4096x32, .f32⟩
  | 19 => ⟨S4096x32, .f32⟩
  | 20 => ⟨S4096x32, .f32⟩
  | 21 => ⟨S4096x32, .f32⟩
  | 22 => ⟨S4096x32, .f32⟩
  | 23 => ⟨S4096x1x32, .f32⟩
  | 24 => ⟨S4096x8x32, .f32⟩
  | 25 => ⟨S32768x32, .f32⟩
  | 26 => ⟨S4096x1x32, .f32⟩
  | 27 => ⟨S4096x8x32, .f32⟩
  | 28 => ⟨S32768x32, .f32⟩
  | 29 => ⟨S1x64, .f32⟩
  | 30 => ⟨S8x64, .f32⟩
  | 31 => ⟨S512, .f32⟩
  | 32 => ⟨S1x64, .f32⟩
  | 33 => ⟨S8x64, .f32⟩
  | 34 => ⟨S512, .f32⟩
  | 35 => ⟨S4096x512, .f32⟩
  | 36 => ⟨S32768x64, .f32⟩
  | 37 => ⟨S4096x512, .f32⟩
  | 38 => ⟨S32768x64, .f32⟩
  | 39 => ⟨S32768x64, .f32⟩
  | 40 => ⟨S_, .f32⟩
  | 41 => ⟨S32768, .f32⟩
  | 42 => ⟨S32768x1, .f32⟩
  | 43 => ⟨S_, .f32⟩
  | 44 => ⟨S32768x1, .f32⟩
  | 45 => ⟨S32768x1, .f32⟩
  | 46 => ⟨S_, .f32⟩
  | 47 => ⟨S32768x1, .f32⟩
  | 48 => ⟨S32768x1, .f32⟩
  | 49 => ⟨S32768x1, .f32⟩
  | 50 => ⟨S32768x1, .f32⟩
  | 51 => ⟨S_, .f32⟩
  | 52 => ⟨S32768x1, .f32⟩
  | 53 => ⟨S32768x1, .f32⟩
  | 54 => ⟨S32768x64, .f32⟩
  | 55 => ⟨S32768x64, .f32⟩
  | 56 => ⟨S32768x64, .f32⟩
  | 57 => ⟨S32768x32, .f32⟩
  | 58 => ⟨S32768x32, .f32⟩
  | 59 => ⟨S32768x32, .f32⟩
  | 60 => ⟨S32768x32, .f32⟩
  | 61 => ⟨S32768x32, .f32⟩
  | 62 => ⟨S32768x32, .f32⟩
  | 63 => ⟨S32768x32, .f32⟩
  | 64 => ⟨S32768x32, .f32⟩
  | 65 => ⟨S32768x64, .f32⟩
  | 66 => ⟨S4096x512, .f32⟩
  | 67 => ⟨S_, .f32⟩
  | 68 => ⟨S4096x512, .f32⟩
  | 69 => ⟨S4096x512, .f32⟩
  | 70 => ⟨S32768x64, .f32⟩
  | 71 => ⟨S32768x32, .f32⟩
  | 72 => ⟨S32768x32, .f32⟩
  | 73 => ⟨S32768x32, .f32⟩
  | 74 => ⟨S32768x32, .f32⟩
  | 75 => ⟨S32768x32, .f32⟩
  | 76 => ⟨S32768x32, .f32⟩
  | 77 => ⟨S32768x32, .f32⟩
  | 78 => ⟨S32768x32, .f32⟩
  | 79 => ⟨S32768x32, .f32⟩
  | 80 => ⟨S_, .f32⟩
  | 81 => ⟨S32768x64, .f32⟩
  | 82 => ⟨S_, .f32⟩
  | 83 => ⟨S32768x64, .f32⟩
  | 84 => ⟨S32768x64, .f32⟩
  | 85 => ⟨S32768x64, .f32⟩
  | 86 => ⟨S32768x64, .f32⟩
  | 87 => ⟨S32768x64, .f32⟩
  | 88 => ⟨S_, .f32⟩
  | 89 => ⟨S32768, .f32⟩
  | 90 => ⟨S32768x1, .f32⟩
  | 91 => ⟨S32768x64, .f32⟩
  | 92 => ⟨S32768x64, .f32⟩
  | 93 => ⟨S32768x1, .f32⟩
  | 94 => ⟨S_, .f32⟩
  | 95 => ⟨S32768x1, .f32⟩
  | 96 => ⟨S32768x1, .f32⟩
  | 97 => ⟨S_, .f32⟩
  | 98 => ⟨S32768, .f32⟩
  | 99 => ⟨S32768x64, .f32⟩
  | 100 => ⟨S32768x64, .f32⟩
  | 101 => ⟨S32768x64, .f32⟩
  | 102 => ⟨S32768x64, .f32⟩
  | 103 => ⟨S32768x64, .f32⟩
  | 104 => ⟨S4096x512, .f32⟩
  | 105 => ⟨S_, .f32⟩
  | 106 => ⟨S512, .f32⟩
  | 107 => ⟨S4096x512, .f32⟩
  | 108 => ⟨S4096x512, .f32⟩
  | 109 => ⟨S32768x64, .f32⟩
  | 110 => ⟨S4096x512, .f32⟩
  | 111 => ⟨S32768x64, .f32⟩
  | 112 => ⟨S32768x64, .f32⟩
  | 113 => ⟨S_, .f32⟩
  | 114 => ⟨S32768, .f32⟩
  | 115 => ⟨S32768x1, .f32⟩
  | 116 => ⟨S_, .f32⟩
  | 117 => ⟨S32768x1, .f32⟩
  | 118 => ⟨S32768x1, .f32⟩
  | 119 => ⟨S_, .f32⟩
  | 120 => ⟨S32768x1, .f32⟩
  | 121 => ⟨S32768x1, .f32⟩
  | 122 => ⟨S32768x1, .f32⟩
  | 123 => ⟨S32768x1, .f32⟩
  | 124 => ⟨S_, .f32⟩
  | 125 => ⟨S32768x1, .f32⟩
  | 126 => ⟨S32768x1, .f32⟩
  | 127 => ⟨S32768x64, .f32⟩
  | _ => ⟨S4096x2560, .f32⟩

abbrev hbmTy0_1 (i : Nat) : BufTy := match i % 128 with
  | 0 => ⟨S32768x64, .f32⟩
  | 1 => ⟨S32768x64, .f32⟩
  | 2 => ⟨S32768x32, .f32⟩
  | 3 => ⟨S32768x32, .f32⟩
  | 4 => ⟨S32768x32, .f32⟩
  | 5 => ⟨S32768x32, .f32⟩
  | 6 => ⟨S32768x32, .f32⟩
  | 7 => ⟨S32768x32, .f32⟩
  | 8 => ⟨S32768x32, .f32⟩
  | 9 => ⟨S32768x32, .f32⟩
  | 10 => ⟨S32768x64, .f32⟩
  | 11 => ⟨S4096x512, .f32⟩
  | 12 => ⟨S32768x64, .f32⟩
  | 13 => ⟨S32768x32, .f32⟩
  | 14 => ⟨S32768x32, .f32⟩
  | 15 => ⟨S32768x32, .f32⟩
  | 16 => ⟨S32768x32, .f32⟩
  | 17 => ⟨S32768x32, .f32⟩
  | 18 => ⟨S32768x32, .f32⟩
  | 19 => ⟨S32768x32, .f32⟩
  | 20 => ⟨S32768x32, .f32⟩
  | 21 => ⟨S32768x32, .f32⟩
  | 22 => ⟨S_, .f32⟩
  | 23 => ⟨S32768x64, .f32⟩
  | 24 => ⟨S_, .f32⟩
  | 25 => ⟨S32768x64, .f32⟩
  | 26 => ⟨S32768x64, .f32⟩
  | 27 => ⟨S32768x64, .f32⟩
  | 28 => ⟨S32768x64, .f32⟩
  | 29 => ⟨S32768x64, .f32⟩
  | 30 => ⟨S_, .f32⟩
  | 31 => ⟨S32768, .f32⟩
  | 32 => ⟨S32768x1, .f32⟩
  | 33 => ⟨S32768x64, .f32⟩
  | 34 => ⟨S32768x64, .f32⟩
  | 35 => ⟨S32768x1, .f32⟩
  | 36 => ⟨S_, .f32⟩
  | 37 => ⟨S32768x1, .f32⟩
  | 38 => ⟨S32768x1, .f32⟩
  | 39 => ⟨S_, .f32⟩
  | 40 => ⟨S32768, .f32⟩
  | 41 => ⟨S32768x64, .f32⟩
  | 42 => ⟨S32768x64, .f32⟩
  | 43 => ⟨S32768x64, .f32⟩
  | 44 => ⟨S32768x64, .f32⟩
  | 45 => ⟨S32768x64, .f32⟩
  | 46 => ⟨S4096x512, .f32⟩
  | 47 => ⟨S_, .f32⟩
  | 48 => ⟨S512, .f32⟩
  | 49 => ⟨S4096x512, .f32⟩
  | 50 => ⟨S4096x1536, .f32⟩
  | 51 => ⟨S4096x1536, .bf16⟩
  | 52 => ⟨S1x512, .f32⟩
  | 53 => ⟨S1x512, .f32⟩
  | _ => ⟨S4096x2560, .f32⟩

abbrev hbmTy (i : Nat) : BufTy := match i / 128 with
  | 0 => hbmTy0_0 i
  | 1 => hbmTy0_1 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_6 : Ref sig .tc := ⟨.hbm, 80, rfl⟩
abbrev main_v66 : Ref sig .tc := ⟨.hbm, 81, rfl⟩
abbrev main_cst_7 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_8 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_11 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_12 : Ref sig .tc := ⟨.hbm, 113, rfl⟩
abbrev main_v93 : Ref sig .tc := ⟨.hbm, 114, rfl⟩
abbrev main_v94 : Ref sig .tc := ⟨.hbm, 115, rfl⟩
abbrev main_cst_13 : Ref sig .tc := ⟨.hbm, 116, rfl⟩
abbrev main_v95 : Ref sig .tc := ⟨.hbm, 117, rfl⟩
abbrev main_v96 : Ref sig .tc := ⟨.hbm, 118, rfl⟩
abbrev main_cst_14 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_15 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_16 : Ref sig .tc := ⟨.hbm, 150, rfl⟩
abbrev main_v126 : Ref sig .tc := ⟨.hbm, 151, rfl⟩
abbrev main_cst_17 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_18 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_cst_19 : Ref sig .tc := ⟨.hbm, 164, rfl⟩
abbrev main_v137 : Ref sig .tc := ⟨.hbm, 165, rfl⟩
abbrev main_v138 : Ref sig .tc := ⟨.hbm, 166, rfl⟩
abbrev main_cst_20 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_21 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩

abbrev nD : Nat := 1
abbrev τ : Topo := Topo.v7x

variable {F : FTy → Type} [FloatOps F]
-- ==== Proof.Reals.lean ====
/- Arrays of real numbers inside the extended reals.

   The exact model computes with extended reals, where a product does not distribute over a sum at the infinities. Of
   the arguments the claim speaks of, every entry is finite, so every array either program makes from them is one of real
   numbers. Here that is a predicate: `Rows x f` says that entry `(r, c)` of the matrix `x` is the real number `f r c`.
   The coordinates of `f` are natural numbers, so that a slice, a shift or a tile of an array is `f` at a moved
   argument. Each operation of the two programs has one lemma. -/
module

public import Idealize.ShloMosaic.Lib.Pipeline.ValueKit
public import Idealize.ShloMosaic.Lib.MatmulPlain
public import Idealize.ShloMosaic.Lib.KernelVsHost
public import Idealize.ShloMosaic.Lib.IdealHost

@[expose] public section

noncomputable section

namespace Cert.Proof

open Idealize.ShloMosaic

/-- Entry `(r, c)` of the matrix is the real number `f r c`. -/
def Rows {a b : ℕ} (x : (⟨2, ![a, b]⟩ : Shape).Idx → EReal) (f : ℕ → ℕ → ℝ) : Prop :=
  ∀ i, x i = ((f (i 0).val (i 1).val : ℝ) : EReal)

/-- Entry `c` of the vector is the real number `f c`. -/
def Line {a : ℕ} (x : (⟨1, ![a]⟩ : Shape).Idx → EReal) (f : ℕ → ℝ) : Prop :=
  ∀ i, x i = ((f (i 0).val : ℝ) : EReal)

/-- A sum of real numbers, taken in the extended reals. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s h ih => rw [Finset.sum_insert h, Finset.sum_insert h, EReal.coe_add, ih]

/-- The number a 32-bit pattern stands for. -/
def lit (b : BitVec 32) : ℝ := (Ideal.ofBits .f32 b).toReal

/-- A pattern whose exponent is not all ones stands for a real number. -/
theorem lit_coe (b : BitVec 32) (h : (b.extractLsb' 23 8).toNat ≠ 255) : Ideal.ofBits .f32 b = ((lit b : ℝ) : EReal) := by
  have key : ∃ r : ℝ, Ideal.ofBits .f32 b = (r : EReal) := by
    simp only [Ideal.ofBits, Ideal.ieee]
    rw [if_neg (by simpa using h)]
    split
    · exact ⟨_, rfl⟩
    · exact ⟨_, rfl⟩
  obtain ⟨r, hr⟩ := key
  simp [lit, hr]

theorem lit_zero : lit 0x00000000#32 = 0 := by simp [lit, Ideal.ofBits_zero_f32]

theorem lit_one : lit 0x3F800000#32 = 1 := by simp [lit, Ideal.ofBits_one_f32]

/-! ## Matrices -/

section Matrices
variable {a b : ℕ}

theorem Rows.congr {x : (⟨2, ![a, b]⟩ : Shape).Idx → EReal} {f g : ℕ → ℕ → ℝ} (hx : Rows x f)
    (h : ∀ r c, r < a → c < b → f r c = g r c) : Rows x g := fun i => by
  rw [hx i, h _ _ (i 0).isLt (i 1).isLt]

/-- Two arrays of the same real numbers are one array. -/
theorem Rows.eq {x y : (⟨2, ![a, b]⟩ : Shape).Idx → EReal} {f g : ℕ → ℕ → ℝ} (hx : Rows x f) (hy : Rows y g)
    (h : ∀ r c, r < a → c < b → f r c = g r c) : x = y :=
  funext fun i => by rw [hx i, hy i, h _ _ (i 0).isLt (i 1).isLt]

variable {φ : FTy} {x y : FVec Ideal ⟨2, ![a, b]⟩ φ} {f g : ℕ → ℕ → ℝ}

theorem Rows.mulf (hx : Rows x f) (hy : Rows y g) : Rows (mulf x y) (fun r c => f r c * g r c) := fun i => by
  show x i * y i = _
  rw [hx i, hy i, EReal.coe_mul]

theorem Rows.addf (hx : Rows x f) (hy : Rows y g) : Rows (addf x y) (fun r c => f r c + g r c) := fun i => by
  show x i + y i = _
  rw [hx i, hy i, EReal.coe_add]

theorem Rows.subf (hx : Rows x f) (hy : Rows y g) : Rows (subf x y) (fun r c => f r c - g r c) := fun i => by
  show x i - y i = _
  rw [hx i, hy i, EReal.coe_sub]

theorem Rows.tanh (hx : Rows x f) : Rows (Host.tanh x) (fun r c => Real.tanh (f r c)) := fun i => by
  show Ideal.tanh (x i) = _
  rw [hx i, Ideal.tanh_coe]

/-- The casts between the two float formats keep the number. -/
theorem Rows.truncf {x : FVec Ideal ⟨2, ![a, b]⟩ .f32} {f : ℕ → ℕ → ℝ} (hx : Rows x f) (h : FTy.bits .bf16 < FTy.bits .f32) :
    Rows (truncf .bf16 x h : FVec Ideal ⟨2, ![a, b]⟩ .bf16) f := hx

theorem Rows.extf {x : FVec Ideal ⟨2, ![a, b]⟩ .bf16} {f : ℕ → ℕ → ℝ} (hx : Rows x f) (h : FTy.bits .bf16 < FTy.bits .f32) :
    Rows (extf .f32 x h : FVec Ideal ⟨2, ![a, b]⟩ .f32) f := hx

/-- A matrix filled with one literal, by the kernel … -/
theorem rows_constant (w : BitVec 32) (hw : (w.extractLsb' 23 8).toNat ≠ 255) :
    Rows (constant ⟨2, ![a, b]⟩ .f32 w : FVec Ideal ⟨2, ![a, b]⟩ .f32) (fun _ _ => lit w) := fun _ => lit_coe w hw

/-- … and by a host program. -/
theorem rows_literal (w : BitVec 32) (hw : (w.extractLsb' 23 8).toNat ≠ 255)
    (h : (⟨0, ![]⟩ : Shape).BroadcastsInDim ⟨2, ![a, b]⟩ ![]) :
    Rows (broadcastInDim ⟨2, ![a, b]⟩ ![] h (constant ⟨0, ![]⟩ .f32 w : FVec Ideal ⟨0, ![]⟩ .f32)) (fun _ _ => lit w) :=
  fun _ => lit_coe w hw

variable {α : Type}

end Matrices

section Layout
variable {a b m n k : ℕ} {f g : ℕ → ℕ → ℝ}

theorem Rows.self {x : (⟨2, ![a, b]⟩ : Shape).Idx → EReal} (hx : Rows x f) (h : (⟨2, ![a, b]⟩ : Shape).ShapeCasts ⟨2, ![a, b]⟩) :
    Rows (shapeCast ⟨2, ![a, b]⟩ x h) f := by
  rw [shapeCast_self]; exact hx

/-- A slice is the array at moved coordinates. -/
theorem Rows.slice {x : (⟨2, ![m, n]⟩ : Shape).Idx → EReal} (hx : Rows x f) (p q : ℕ)
    (h : (⟨2, ![m, n]⟩ : Shape).Slices ![p, q] ⟨2, ![a, b]⟩) :
    Rows (extractStridedSlice ⟨2, ![a, b]⟩ ![p, q] x h) (fun r c => f (p + r) (q + c)) := fun i => by
  have h0 : p + (i 0).val < m := by
    have h1 : p + a ≤ m := h.2 (0 : Fin 2)
    have h2 : (i 0).val < a := (i 0).isLt
    omega
  have h0' : q + (i 1).val < n := by
    have h1 : q + b ≤ n := h.2 (1 : Fin 2)
    have h2 : (i 1).val < b := (i 1).isLt
    omega
  rw [extractStridedSlice_apply ![p, q] x h i (ix2 ⟨p + (i 0).val, h0⟩ ⟨q + (i 1).val, h0'⟩)
    (fun d => match d with | ⟨0, _⟩ => rfl | ⟨1, _⟩ => rfl), hx]
  rfl

/-- Rows put below rows. -/
theorem Rows.below {x : (⟨2, ![m, b]⟩ : Shape).Idx → EReal} {y : (⟨2, ![k, b]⟩ : Shape).Idx → EReal} (hx : Rows x f) (hy : Rows y g)
    (h : Shape.Concatenates [⟨2, ![m, b]⟩, ⟨2, ![k, b]⟩] ⟨2, ![a, b]⟩ 0) (ha : a = m + k) :
    Rows (concatenate ⟨2, ![a, b]⟩ 0 [⟨⟨2, ![m, b]⟩, x⟩, ⟨⟨2, ![k, b]⟩, y⟩] h) (fun r c => if r < m then f r c else g (r - m) c) :=
  fun i => by
  have h0 : (i 0).val < a := (i 0).isLt
  by_cases hr : (i 0).val < m
  · rw [concatenate_pair_apply_left 0 x y h i rfl (ix2 ⟨(i 0).val, hr⟩ (i 1))
      (fun d => match d with | ⟨0, _⟩ => rfl | ⟨1, _⟩ => rfl)]
    exact (hx _).trans (congrArg Real.toEReal (if_pos hr).symm)
  · rw [concatenate_pair_apply_right 0 x y h i rfl rfl (ix2 ⟨(i 0).val - m, by omega⟩ (i 1))
      (fun d => match d with | ⟨0, _⟩ => fun hd => absurd rfl hd | ⟨1, _⟩ => fun _ => rfl)
      (by show (i 0).val - m + m = (i 0).val; omega)]
    exact (hy _).trans (congrArg Real.toEReal (if_neg hr).symm)

/-- Columns put beside columns. -/
theorem Rows.beside {x : (⟨2, ![a, m]⟩ : Shape).Idx → EReal} {y : (⟨2, ![a, k]⟩ : Shape).Idx → EReal} (hx : Rows x f) (hy : Rows y g)
    (h : Shape.Concatenates [⟨2, ![a, m]⟩, ⟨2, ![a, k]⟩] ⟨2, ![a, b]⟩ 1) (hb : b = m + k) :
    Rows (concatenate ⟨2, ![a, b]⟩ 1 [⟨⟨2, ![a, m]⟩, x⟩, ⟨⟨2, ![a, k]⟩, y⟩] h) (fun r c => if c < m then f r c else g r (c - m)) :=
  fun i => by
  have h0 : (i 1).val < b := (i 1).isLt
  by_cases hr : (i 1).val < m
  · rw [concatenate_pair_apply_left 1 x y h i rfl (ix2 (i 0) ⟨(i 1).val, hr⟩)
      (fun d => match d with | ⟨0, _⟩ => rfl | ⟨1, _⟩ => rfl)]
    exact (hx _).trans (congrArg Real.toEReal (if_pos hr).symm)
  · rw [concatenate_pair_apply_right 1 x y h i rfl rfl (ix2 (i 0) ⟨(i 1).val - m, by omega⟩)
      (fun d => match d with | ⟨0, _⟩ => fun _ => rfl | ⟨1, _⟩ => fun hd => absurd rfl hd)
      (by show (i 1).val - m + m = (i 1).val; omega)]
    exact (hy _).trans (congrArg Real.toEReal (if_neg hr).symm)

/-- Zero rows put above and below. -/
theorem Rows.padded {x : (⟨2, ![m, b]⟩ : Shape).Idx → EReal} (hx : Rows x f) (p q : ℕ) (v : (⟨0, ![]⟩ : Shape).Idx → EReal) (hv : ∀ i, v i = 0)
    (h : (⟨2, ![m, b]⟩ : Shape).Pads ![p, 0] ![q, 0] ![0, 0] ⟨2, ![a, b]⟩) (hu : 0 < (⟨0, ![]⟩ : Shape).numel) :
    Rows (pad ⟨2, ![a, b]⟩ ![p, 0] ![q, 0] ![0, 0] x v h hu) (fun r c => if p ≤ r ∧ r < p + m then f (r - p) c else 0) :=
  fun i => by
  by_cases hr : p ≤ (i 0).val ∧ (i 0).val < p + m
  · rw [pad_apply_of_inside ![p, 0] ![q, 0] ![0, 0] x v h hu i (ix2 ⟨(i 0).val - p, by omega⟩ (i 1))
      (fun d => match d with
        | ⟨0, _⟩ => by show (i 0).val = p + ((i 0).val - p) * (0 + 1); omega
        | ⟨1, _⟩ => by show (i 1).val = 0 + (i 1).val * (0 + 1); omega)]
    exact (hx _).trans (congrArg Real.toEReal (if_pos hr).symm)
  · rw [pad_apply_of_not_inside ![p, 0] ![q, 0] ![0, 0] x v h hu i 0 (fun hc => hr (by
      have h1 : p ≤ (i 0).val := hc.1
      have h2 : ((i 0).val - p) / (0 + 1) < m := hc.2.2
      rw [Nat.div_one] at h2
      omega))]
    exact (hv _).trans (congrArg Real.toEReal (if_neg hr).symm)

/-- Rows turned up by `s`, the first coming in again below. -/
theorem Rows.turned {x : (⟨2, ![a, b]⟩ : Shape).Idx → EReal} (hx : Rows x f) (w : BitVec 32) (s : ℕ) (hw : w.toNat + s = a) (hs : 0 < s)
    (h : (⟨2, ![a, b]⟩ : Shape).Rotates 0 none) :
    Rows (dynamicRotate 0 w none x h) (fun r c => f ((r + s) % a) c) := fun i => by
  have h0 : (i 0).val < a := (i 0).isLt
  rw [dynamicRotate_apply 0 w x h i (ix2 ⟨((i 0).val + s) % a, Nat.mod_lt _ (by omega)⟩ (i 1))
    (fun d => match d with
      | ⟨0, _⟩ => by
          show ((i 0).val + s) % a = if (0 : Fin 2) = 0 then ((i 0).val + a - w.toNat % a) % a else (i 0).val
          rw [if_pos rfl, Nat.mod_eq_of_lt (by omega : w.toNat < a)]
          congr 1; omega
      | ⟨1, _⟩ => rfl), hx]
  rfl

/-- One row repeated. -/
theorem Rows.repeated {x : (⟨2, ![1, b]⟩ : Shape).Idx → EReal} (hx : Rows x f) (h : (⟨2, ![1, b]⟩ : Shape).Broadcasts ⟨2, ![a, b]⟩) :
    Rows (broadcastTo ⟨2, ![a, b]⟩ x h) (fun _ c => f 0 c) := fun i => by
  rw [broadcastTo_apply x h i (ix2 0 (i 1)) (fun d => match d with
    | ⟨0, _⟩ => rfl
    | ⟨1, _⟩ => by
        show (i 1).val = if b = 1 then 0 else (i 1).val
        have : (i 1).val < b := (i 1).isLt
        split <;> omega), hx]
  rfl

/-- The same on the host. -/
theorem Rows.spread {x : (⟨2, ![1, b]⟩ : Shape).Idx → EReal} (hx : Rows x f) (h : (⟨2, ![1, b]⟩ : Shape).BroadcastsInDim ⟨2, ![a, b]⟩ ![0, 1]) :
    Rows (broadcastInDim ⟨2, ![a, b]⟩ ![0, 1] h x) (fun _ c => f 0 c) := fun i => by
  rw [broadcastInDim_apply ![0, 1] h x i (ix2 0 (i 1)) (fun d => match d with
    | ⟨0, _⟩ => rfl
    | ⟨1, _⟩ => by
        show (i 1).val = if b = 1 then 0 else (i 1).val
        have : (i 1).val < b := (i 1).isLt
        split <;> omega), hx]
  rfl

variable {l : ℕ → ℝ}

/-- A vector made a matrix of one row, three ways. -/
theorem Line.row {x : (⟨1, ![b]⟩ : Shape).Idx → EReal} (hx : Line x l) (h : (⟨1, ![b]⟩ : Shape).BroadcastsInDim ⟨2, ![1, b]⟩ ![1]) :
    Rows (broadcastInDim ⟨2, ![1, b]⟩ ![1] h x) (fun _ c => l c) := fun i => by
  rw [broadcastInDim_apply ![1] h x i (ix1 (i 1)) (fun d => match d with
    | ⟨0, _⟩ => by
        show (i 1).val = if b = 1 then 0 else (i 1).val
        have : (i 1).val < b := (i 1).isLt
        split <;> omega), hx]
  rfl

theorem Line.cast {x : (⟨1, ![b]⟩ : Shape).Idx → EReal} (hx : Line x l) (h : (⟨1, ![b]⟩ : Shape).ShapeCasts ⟨2, ![1, b]⟩) :
    Rows (shapeCast ⟨2, ![1, b]⟩ x h) (fun _ c => l c) := fun i => by
  rw [shapeCast_apply x h i (ix1 (i 1)) (by
    rw [Shape.rowMajor_val_one, Shape.rowMajor_val_two]
    have : (i 0).val < 1 := (i 0).isLt
    show (i 1).val = (i 0).val * b + (i 1).val
    have h0 : (i 0).val = 0 := by omega
    rw [h0]; omega), hx]
  rfl

theorem Rows.cast {x : (⟨2, ![1, b]⟩ : Shape).Idx → EReal} (hx : Rows x f) (h : (⟨2, ![1, b]⟩ : Shape).ShapeCasts ⟨1, ![b]⟩) :
    Line (shapeCast ⟨1, ![b]⟩ x h) (fun c => f 0 c) := fun i => by
  rw [shapeCast_apply x h i (ix2 0 (i 0)) (by
    rw [Shape.rowMajor_val_one, Shape.rowMajor_val_two]
    show 0 * b + (i 0).val = (i 0).val
    omega), hx]
  rfl

theorem Line.slice {x : (⟨1, ![n]⟩ : Shape).Idx → EReal} (hx : Line x l) (q : ℕ)
    (h : (⟨1, ![n]⟩ : Shape).Slices ![q] ⟨1, ![b]⟩) :
    Line (extractStridedSlice ⟨1, ![b]⟩ ![q] x h) (fun c => l (q + c)) := fun i => by
  have h0' : q + (i 0).val < n := by
    have h1 : q + b ≤ n := h.2 (0 : Fin 1)
    have h2 : (i 0).val < b := (i 0).isLt
    omega
  rw [extractStridedSlice_apply ![q] x h i (ix1 ⟨q + (i 0).val, h0'⟩)
    (fun d => match d with | ⟨0, _⟩ => rfl), hx]
  rfl

end Layout

/-! ## Sums -/

section Sums
variable {a b k : ℕ} {f g : ℕ → ℕ → ℝ}

/-- The sum of the rows, by the kernel … -/
theorem Rows.colsum {x : FVec Ideal ⟨2, ![a, b]⟩ .f32} (hx : Rows x f) (h : (⟨2, ![a, b]⟩ : Shape).Reduces [0] ⟨1, ![b]⟩)
    (hφ : FKind.Formats .f32) (hacc : (0x00000000#32 : BitVec 32) = FKind.add.neutral .f32 hφ) :
    Line (multiReduction .add [0] ⟨1, ![b]⟩ x 0x00000000#32 h hφ hacc) (fun c => ∑ r ∈ Finset.range a, f r c) := fun i => by
  rw [Ideal.multiReduction_add_single, coe_sum, ← Fin.sum_univ_eq_sum_range (fun r => ((f r (i 0).val : ℝ) : EReal)) a]
  exact Finset.sum_congr rfl fun r _ => hx _

/-- … and by a host program, from a zero. -/
theorem Rows.hostColsum {x : FVec Ideal ⟨2, ![a, b]⟩ .f32} (hx : Rows x f) (v : FVec Ideal ⟨0, ![]⟩ .f32) (hv : ∀ i, v i = 0)
    (h : (⟨2, ![a, b]⟩ : Shape).ReducesTo [0] ⟨1, ![b]⟩) (h' : (⟨2, ![a, b]⟩ : Shape).Reduces [0] ⟨1, ![b]⟩)
    (hu : 0 < (⟨0, ![]⟩ : Shape).numel) :
    Line (Host.reduceAdd x v h hu : FVec Ideal ⟨1, ![b]⟩ .f32) (fun c => ∑ r ∈ Finset.range a, f r c) := fun i => by
  simp only [Host.reduceAdd, Ideal.hostReduceAdd_def]
  rw [Ideal.hostReduceAdd_single h h', hv, zero_add, coe_sum,
    ← Fin.sum_univ_eq_sum_range (fun r => ((f r (i 0).val : ℝ) : EReal)) a]
  exact Finset.sum_congr rfl fun r _ => hx _

/-- A product with the second factor turned over, by the kernel into zeros … -/
theorem Rows.dotT {φ₁ φ₂ : FTy} {x : FVec Ideal ⟨2, ![a, k]⟩ φ₁} {y : FVec Ideal ⟨2, ![b, k]⟩ φ₂} (hx : Rows x f) (hy : Rows y g)
    (d : DotDims ⟨2, ![a, k]⟩ ⟨2, ![b, k]⟩ ⟨2, ![a, b]⟩) (hd : d = DotDims.transposedRhs a k b) :
    Rows (matmul d none x y (constant ⟨2, ![a, b]⟩ .f32 0x00000000#32 : FVec Ideal ⟨2, ![a, b]⟩ .f32))
      (fun r c => ∑ q ∈ Finset.range k, f r q * g c q) := fun i => by
  subst hd
  have e : i = ValueIdx.ix2 (n0 := a) (n1 := b) (i 0) (i 1) := by funext t; match t with | ⟨0, _⟩ => rfl | ⟨1, _⟩ => rfl
  refine (congrArg _ e).trans ((Ideal.matmul_transposedRhs_apply none x y _ (i 0) (i 1)).trans ?_)
  rw [coe_sum, ← Fin.sum_univ_eq_sum_range (fun q => ((f (i 0).val q * g (i 1).val q : ℝ) : EReal)) k]
  show Ideal.ofBits .f32 0x00000000#32 + _ = _
  rw [Ideal.ofBits_zero_f32, zero_add]
  exact Finset.sum_congr rfl fun q _ => by rw [hx, hy, EReal.coe_mul]; rfl

/-- … and by a host program. -/
theorem Rows.hostDotT {φ₁ φ₂ : FTy} {x : FVec Ideal ⟨2, ![a, k]⟩ φ₁} {y : FVec Ideal ⟨2, ![b, k]⟩ φ₂} (hx : Rows x f) (hy : Rows y g)
    (d : DotDims ⟨2, ![a, k]⟩ ⟨2, ![b, k]⟩ ⟨2, ![a, b]⟩) (hd : d = DotDims.transposedRhs a k b) :
    Rows (Host.dotGeneral d none x y) (fun r c => ∑ q ∈ Finset.range k, f r q * g c q) := fun i => by
  have e := Rows.dotT hx hy d hd i
  simp only [matmul] at e
  rw [Ideal.matmul_constant_zero_apply] at e
  simp only [Host.dotGeneral]
  rw [Ideal.dotGeneral_apply, e]

end Sums

end Cert.Proof

end
-- ==== Proof.Step.lean ====
/- The gradient of the convolutional gated layer, over the real numbers.

   The forward layer is: a causal convolution of width three along the rows, each column for itself; of its 6144 columns
   the first 3072 pass the tanh form of gelu and multiply the other 3072; the product goes through the down projection.
   Given the gradient `Y` of its result, the gradients of its input, of the convolution's weights and of its bias are the
   functions below. Coordinates are natural numbers, and an array is zero beyond its last row. -/
module

public import proofs.«01_k».proof.Proof.Reals

@[expose] public section

noncomputable section

namespace Cert.Proof

open Finset

/-- The two literals of gelu's cubic, and its half. -/
abbrev cubic : ℝ := lit 0x3D372713#32
abbrev inner : ℝ := lit 0x3F4C422A#32
abbrev half : ℝ := lit 0x3F000000#32
abbrev three : ℝ := lit 0x40400000#32

/-- The hyperbolic tangent in gelu. -/
def bend (g : ℝ) : ℝ := Real.tanh (inner * (g + cubic * (g * g * g)))

/-- The factor gelu puts on its argument. -/
def share (g : ℝ) : ℝ := half * (1 + bend g)

def gelu (g : ℝ) : ℝ := g * share g

/-- The derivative of `gelu`. -/
def slope (g : ℝ) : ℝ :=
  share g + inner * (half * g * ((1 + bend g) * (1 - bend g)))
    + cubic * (inner * (half * g * ((1 + bend g) * (1 - bend g)))) * (three * (g * g))

section
variable (P W : ℕ → ℕ → ℝ) (B : ℕ → ℝ) (D Y : ℕ → ℕ → ℝ)

/-- The input with two rows of zeros before it. -/
def past (r c : ℕ) : ℝ := if r < 2 then 0 else P (r - 2) c

/-- The convolution. -/
def conv (r c : ℕ) : ℝ := B c + past P r c * W 0 c + past P (r + 1) c * W 1 c + past P (r + 2) c * W 2 c

/-- The gradient of the gated product: `Y` back through the down projection. -/
def back (r c : ℕ) : ℝ := ∑ q ∈ range 1024, Y r q * D c q

/-- The gradient with respect to the gate half of the convolution's result, and to the other half. -/
def gradGate (r c : ℕ) : ℝ := back D Y r c * (conv P W B r (3072 + c) * slope (conv P W B r c))
def gradUp (r c : ℕ) : ℝ := back D Y r c * gelu (conv P W B r c)

/-- The gradient with respect to the convolution's result. -/
def grad (r c : ℕ) : ℝ := if c < 3072 then gradGate P W B D Y r c else gradUp P W B D Y r (c - 3072)

/-- The gradient of the convolution's input: the transposed convolution of `G`. -/
def gradIn (G : ℕ → ℕ → ℝ) (r c : ℕ) : ℝ := W 2 c * G r c + W 1 c * G (r + 1) c + W 0 c * G (r + 2) c

/-- The gradient of the weights, in the first three of eight rows. -/
def gradW (G : ℕ → ℕ → ℝ) (k c : ℕ) : ℝ := if k < 3 then ∑ r ∈ range 4096, P r c * G (r + (2 - k)) c else 0

/-- The gradient of the bias. -/
def gradB (G : ℕ → ℕ → ℝ) (c : ℕ) : ℝ := ∑ r ∈ range 4096, G r c

theorem back_beyond (hY : ∀ r c, 4096 ≤ r → Y r c = 0) (r c : ℕ) (hr : 4096 ≤ r) : back D Y r c = 0 :=
  Finset.sum_eq_zero fun q _ => by rw [hY r q hr, zero_mul]

theorem grad_beyond (hY : ∀ r c, 4096 ≤ r → Y r c = 0) (r c : ℕ) (hr : 4096 ≤ r) : grad P W B D Y r c = 0 := by
  unfold grad gradGate gradUp
  split <;> rw [back_beyond D Y hY _ _ hr, zero_mul]

/-- A sum against the input moved down one row is a sum against the gradient moved up one row … -/
theorem sum_past_one (n : ℕ) (G : ℕ → ℕ → ℝ) (c : ℕ) (hG : ∀ r, n ≤ r → G r c = 0) :
    ∑ r ∈ range n, past P (r + 1) c * G r c = ∑ r ∈ range n, P r c * G (r + 1) c := by
  cases n with
  | zero => simp
  | succ n =>
    rw [sum_range_succ', sum_range_succ, hG (n + 1) le_rfl]
    simp [past]

/-- … and by two rows likewise. -/
theorem sum_past_two (n : ℕ) (G : ℕ → ℕ → ℝ) (c : ℕ) (hG : ∀ r, n ≤ r → G r c = 0) :
    ∑ r ∈ range n, past P r c * G r c = ∑ r ∈ range n, P r c * G (r + 2) c := by
  match n with
  | 0 => simp
  | 1 => simp [past, hG 2 (by omega)]
  | n + 2 =>
    rw [sum_range_succ', sum_range_succ', sum_range_succ, sum_range_succ, hG (n + 2) le_rfl, hG (n + 1 + 2) (by omega)]
    simp [past]

theorem sum_past_zero (n : ℕ) (G : ℕ → ℕ → ℝ) (c : ℕ) :
    ∑ r ∈ range n, past P (r + 2) c * G r c = ∑ r ∈ range n, P r c * G r c := by
  simp [past]

end

end Cert.Proof

end
-- ==== Proof.Host.lean ====
/- What the kernel's host code hands to the launch: the derivative of the gate, the gate itself, the weights of the
   convolution on eight rows, and narrowed copies of the arguments, each an array of real numbers. The host code is one
   line of operations; it is read in pieces, the contents between two pieces a variable. -/
module

public import proofs.«01_k».proof.Proof.Step
public import proofs.«01_k».proof.Proof.Gen.KernelIdeal.Value
public import Idealize.ShloMosaic.Lib.StableHlo.RunRead

@[expose] public section

set_option maxRecDepth 16384
set_option maxHeartbeats 1600000

noncomputable section

namespace Cert.Proof.Entry

open Idealize.ShloMosaic Idealize.ShloMosaic.TcCoe Idealize.ShloMosaic.StableHlo Cert.KernelIdeal Cert.KernelIdeal.Gen Cert.Proof

theorem zero_word (i : (⟨0, ![]⟩ : Shape).Idx) : (constant ⟨0, ![]⟩ .f32 0x00000000#32 : FVec Ideal ⟨0, ![]⟩ .f32) i = 0 :=
  Ideal.ofBits_zero_f32

theorem whole_zero (i : (⟨0, ![]⟩ : Shape).Idx) : (sitofp .f32 (constantI ⟨0, ![]⟩ 32 0#32) : FVec Ideal ⟨0, ![]⟩ .f32) i = 0 := by
  show ((((0 : BitVec 32).toInt : ℝ)) : EReal) = 0
  simp

/-- The host code before the launch. -/
abbrev line : List (HloOp τ sig (Elt Ideal)) := List.flatten [hostOps0, hostOps0_1, hostOps0_2]

theorem after_split (n : ℕ) (σ : Valuation τ sig (Elt Ideal)) : after line σ = after (line.drop n) (after (line.take n) σ) := by
  rw [← after_append, List.take_append_drop]

theorem take_split (n k : ℕ) (σ : Valuation τ sig (Elt Ideal)) :
    after (line.take (n + k)) σ = after ((line.drop n).take k) (after (line.take n) σ) := by
  rw [← after_append, List.take_add]

variable {P W : ℕ → ℕ → ℝ} {B : ℕ → ℝ} {D Y : ℕ → ℕ → ℝ}

section
variable (σ : Valuation τ sig (Elt Ideal))

/-- The first three operations put two rows of zeros before the input. -/
theorem padded_rows (hP : @Rows 4096 6144 (σ (Proc.devRef .tc main_arg0)) P) :
    @Rows 4098 6144 (after (line.take 3) σ (Proc.devRef .tc main_v1)) (fun r c => if r < 2 then 0 else P (r - 2) c) := by
  have h0 : @Rows 2 6144 (upto (line.take 3) σ 2 (Proc.devRef .tc main_v0)) (fun _ _ => lit 0x00000000#32) := by
    after_reads_simp
    exact rows_literal 0x00000000#32 (by decide) _
  have h1 : @Rows 4096 6144 (upto (line.take 3) σ 2 (Proc.devRef .tc main_arg0)) P := by
    after_reads_simp
    exact hP
  after_reads_simp
  exact (h0.below h1 _ rfl).congr fun r c _ _ => by rw [lit_zero]

/-- The next make the convolution. -/
theorem gate_rows (hp : @Rows 4098 6144 (σ (Proc.devRef .tc main_v1)) (fun r c => if r < 2 then 0 else P (r - 2) c))
    (hW : @Rows 3 6144 (σ (Proc.devRef .tc main_arg1)) W) (hB : @Line 6144 (σ (Proc.devRef .tc main_arg2)) B) :
    @Rows 4096 3072 (after ((line.drop 3).take 25) σ (Proc.devRef .tc main_v25)) (conv P W B)
    ∧ @Rows 4096 3072 (after ((line.drop 3).take 25) σ (Proc.devRef .tc main_v26)) (fun r c => conv P W B r (3072 + c)) := by
  have key {z : (⟨2, ![4096, 6144]⟩ : Shape).Idx → EReal} {f : ℕ → ℕ → ℝ} (h : Rows z f) (hf : f = fun r c =>
      ((B c + (if 0 + r < 2 then 0 else P (0 + r - 2) (0 + c)) * W (0 + 0) (0 + c))
        + (if 1 + r < 2 then 0 else P (1 + r - 2) (0 + c)) * W (1 + 0) (0 + c))
        + (if 2 + r < 2 then 0 else P (2 + r - 2) (0 + c)) * W (2 + 0) (0 + c)) : Rows z (conv P W B) := h.congr fun r c _ _ => by
    subst hf
    simp only [conv, past, Nat.zero_add, Nat.add_zero, Nat.add_comm 1, Nat.add_comm 2]
  constructor
  · after_reads_simp
    exact (Rows.slice (key ((((hB.row _).spread _).addf ((hp.slice 0 0 _).mulf ((((hW.slice 0 0 _).cast _).row _).spread _))).addf
      ((hp.slice 1 0 _).mulf ((((hW.slice 1 0 _).cast _).row _).spread _)) |>.addf
      ((hp.slice 2 0 _).mulf ((((hW.slice 2 0 _).cast _).row _).spread _))) rfl) 0 0 _).congr fun r c _ _ => by
        rw [Nat.zero_add, Nat.zero_add]
  · after_reads_simp
    exact (Rows.slice (key ((((hB.row _).spread _).addf ((hp.slice 0 0 _).mulf ((((hW.slice 0 0 _).cast _).row _).spread _))).addf
      ((hp.slice 1 0 _).mulf ((((hW.slice 1 0 _).cast _).row _).spread _)) |>.addf
      ((hp.slice 2 0 _).mulf ((((hW.slice 2 0 _).cast _).row _).spread _))) rfl) 0 3072 _).congr fun r c _ _ => by
        rw [Nat.zero_add]

/-- The rest of the first stretch: gelu of the gate, and its derivative times the other half. -/
theorem gelu_rows {g u : ℕ → ℕ → ℝ} (hg : @Rows 4096 3072 (σ (Proc.devRef .tc main_v25)) g) (hu : @Rows 4096 3072 (σ (Proc.devRef .tc main_v26)) u) :
    @Rows 4096 3072 (after (line.drop 28) σ (Proc.devRef .tc main_v62)) (fun r c => u r c * slope (g r c))
    ∧ @Rows 4096 3072 (after (line.drop 28) σ (Proc.devRef .tc main_v63)) (fun r c => gelu (g r c)) := by
  have word (w : BitVec 32) (hw : (w.extractLsb' 23 8).toNat ≠ 255) :
      Rows (broadcastInDim S4096x3072 ![] bcast_S_S4096x3072 (constant S_ .f32 w : FVec Ideal S_ .f32)) (fun _ _ => lit w) :=
    rows_literal w hw _
  have one := word 0x3F800000#32 (by decide)
  have hf := word 0x3F000000#32 (by decide)
  have k := word 0x3F4C422A#32 (by decide)
  have q := word 0x3D372713#32 (by decide)
  have three := word 0x40400000#32 (by decide)
  have T := Rows.tanh (k.mulf (hg.addf (q.mulf ((Rows.mulf (φ := .f32) hg hg).mulf hg))))
  have s := hf.mulf (one.addf T)
  have e := k.mulf ((hf.mulf (hg.mulf one)).mulf ((one.addf T).mulf (one.subf T)))
  constructor
  · after_reads_simp
    refine Rows.congr (Rows.truncf (hu.mulf (((one.mulf s).addf e).addf ((q.mulf e).mulf (three.mulf (hg.mulf hg))))) _) fun r c _ _ => ?_
    simp only [slope, share, bend, lit_one]; ring
  · after_reads_simp
    refine Rows.congr (Rows.truncf (hg.mulf s) _) fun r c _ _ => ?_
    simp only [gelu, share, bend, lit_one]

/-- The weights on eight rows. -/
theorem weight_rows (hW : @Rows 3 6144 (σ (Proc.devRef .tc main_arg1)) W) :
    @Rows 8 6144 (after line σ (Proc.devRef .tc main_v64)) (fun r c => if r < 3 then W r c else 0) := by
  after_reads_simp
  exact (hW.padded 0 5 _ whole_zero pads_S3x6144_S8x6144_050_000 h_S_).congr fun r c _ _ => by simp

end

section
variable (m : (ℓ : Loc nD τ sig) → Buf (Elt Ideal) ℓ) (c : Dev nD)

theorem v62_rows (hP : @Rows 4096 6144 (m (c.tc.loc main_arg0)) P) (hW : @Rows 3 6144 (m (c.tc.loc main_arg1)) W)
    (hB : @Line 6144 (m (c.tc.loc main_arg2)) B) :
    @Rows 4096 3072 (V m c main_v62) (fun r c => conv P W B r (3072 + c) * slope (conv P W B r c))
    ∧ @Rows 4096 3072 (V m c main_v63) (fun r c => gelu (conv P W B r c)) := by
  have hp := padded_rows (fun b => m (c, b)) hP
  have k1 : @Rows 3 6144 (after (line.take 3) (fun b => m (c, b)) (Proc.devRef .tc main_arg1)) W := by
    after_reads_simp
    exact hW
  have k2 : @Line 6144 (after (line.take 3) (fun b => m (c, b)) (Proc.devRef .tc main_arg2)) B := by
    after_reads_simp
    exact hB
  have hg := gate_rows _ hp k1 k2
  rw [← take_split 3 25] at hg
  have h := gelu_rows _ hg.1 hg.2
  rw [← after_split] at h
  exact h

theorem v64_rows (hW : @Rows 3 6144 (m (c.tc.loc main_arg1)) W) :
    @Rows 8 6144 (V m c main_v64) (fun r c => if r < 3 then W r c else 0) := weight_rows _ hW

theorem v65_rows (hY : @Rows 4096 1024 (m (c.tc.loc main_arg4)) Y) : @Rows 4096 1024 (V m c main_v65) Y := by
  show @Rows 4096 1024 (after line (fun b => m (c, b)) (Proc.devRef .tc main_v65)) Y
  after_reads_simp
  exact Rows.truncf hY _

theorem v66_rows (hD : @Rows 3072 1024 (m (c.tc.loc main_arg3)) D) : @Rows 3072 1024 (V m c main_v66) D := by
  show @Rows 3072 1024 (after line (fun b => m (c, b)) (Proc.devRef .tc main_v66)) D
  after_reads_simp
  exact Rows.truncf hD _

theorem v68_rows (hP : @Rows 4096 6144 (m (c.tc.loc main_arg0)) P) : @Rows 4096 3072 (V m c main_v68) P := by
  show @Rows 4096 3072 (after line (fun b => m (c, b)) (Proc.devRef .tc main_v68)) P
  after_reads_simp
  exact (Rows.truncf (hP.slice 0 0 _) _).congr fun r c _ _ => by rw [Nat.zero_add, Nat.zero_add]

theorem v70_rows (hP : @Rows 4096 6144 (m (c.tc.loc main_arg0)) P) : @Rows 4096 3072 (V m c main_v70) (fun r c => P r (3072 + c)) := by
  show @Rows 4096 3072 (after line (fun b => m (c, b)) (Proc.devRef .tc main_v70)) _
  after_reads_simp
  exact (Rows.truncf (hP.slice 0 3072 _) _).congr fun r c _ _ => by rw [Nat.zero_add]

end

end Cert.Proof.Entry

end
-- ==== Proof.Tile.lean ====
/- Arrays of real numbers read and written through rectangles, and the kernel's arithmetic on one tile. -/
module

public import proofs.«01_k».proof.Proof.Step
public import proofs.«01_k».proof.Proof.Gen.KernelIdeal.Value
public import Idealize.ShloMosaic.Lib.WritesUnit

@[expose] public section

set_option maxRecDepth 16384

noncomputable section

namespace Cert.Proof

open Idealize.ShloMosaic Idealize.ShloMosaic.TcCoe Cert.KernelIdeal Cert.KernelIdeal.Gen

section
variable {m n a b : ℕ} {f g : ℕ → ℕ → ℝ}

/-- A load reads the array at moved coordinates. -/
theorem Rows.load {x : (⟨2, ![m, n]⟩ : Shape).Idx → Elt Ideal .f32} (hx : Rows x f) (p q : ℕ)
    (inb : ∀ d, (![p, q] : Fin 2 → ℕ) d + (![a, b] : Fin 2 → ℕ) d ≤ (⟨2, ![m, n]⟩ : Shape).size d) :
    @Rows a b (View.ld x (Rect.unit ![p, q] ![a, b] inb)) (fun r c => f (p + r) (q + c)) := fun i => by
  refine (hx _).trans ?_
  have h0 : ((Rect.unit (s := ⟨2, ![m, n]⟩) ![p, q] ![a, b] inb).idx i 0).val = p + (i 0).val := by
    show p + 1 * (i 0).val = _
    omega
  have h1 : ((Rect.unit (s := ⟨2, ![m, n]⟩) ![p, q] ![a, b] inb).idx i 1).val = q + (i 1).val := by
    show q + 1 * (i 1).val = _
    omega
  rw [h0, h1]

/-- A store of one whole row over earlier contents. -/
theorem Rows.store {sig : RefSig} {κ : Kind} {sp : Space} (v : View sig κ sp ⟨2, ![m, n]⟩ .f32) (w : v.ty.Contents (Elt Ideal))
    {x : (⟨2, ![1, n]⟩ : Shape).Idx → Elt Ideal .f32} (L : List (View.Piece (Elt Ideal) ⟨2, ![m, n]⟩ .f32)) (p : ℕ)
    (inb : ∀ d, (![p, 0] : Fin 2 → ℕ) d + (![1, n] : Fin 2 → ℕ) d ≤ (⟨2, ![m, n]⟩ : Shape).size d) (hx : Rows x g)
    (hL : Rows (v.read (Elt Ideal) (v.writes (Elt Ideal) w L)) f) :
    Rows (v.read (Elt Ideal) (v.writes (Elt Ideal) w (⟨Rect.unit ![p, 0] ![1, n] inb, x⟩ :: L)))
      (fun r c => if r = p then g 0 c else f r c) := fun i => by
  beta_reduce
  by_cases h : (i 0).val = p
  · rw [if_pos h, View.read_writes_cons_unit_of_mem v w inb x L i (ValueIdx.ix2 (n0 := 1) (n1 := n) 0 (i 1)) rfl
      (fun d => match d with | ⟨0, _⟩ => h | ⟨1, _⟩ => (Nat.zero_add _).symm)]
    exact hx _
  · rw [if_neg h, View.read_writes_cons_unit_of_not_mem v w inb x L i rfl (0 : Fin 2)
      (show (i 0).val < p ∨ p + 1 ≤ (i 0).val by omega)]
    exact hL i

/-- The same where the pieces fill the whole array. -/
theorem Rows.stored {x : (⟨2, ![1, n]⟩ : Shape).Idx → Elt Ideal .f32} (L : List (View.Piece (Elt Ideal) ⟨2, ![m, n]⟩ .f32)) (p : ℕ)
    (inb : ∀ d, (![p, 0] : Fin 2 → ℕ) d + (![1, n] : Fin 2 → ℕ) d ≤ (⟨2, ![m, n]⟩ : Shape).size d) (hx : Rows x g)
    (hL : Rows (View.canon L) f) :
    Rows (View.canon (⟨Rect.unit ![p, 0] ![1, n] inb, x⟩ :: L)) (fun r c => if r = p then g 0 c else f r c) := fun i => by
  beta_reduce
  by_cases h : (i 0).val = p
  · have e : (Rect.unit (s := ⟨2, ![m, n]⟩) ![p, 0] ![1, n] inb).emb (ValueIdx.ix2 (n0 := 1) (n1 := n) 0 (i 1)) = i :=
      funext fun d => Fin.ext (match d with
        | ⟨0, _⟩ => by show p + 1 * 0 = (i 0).val; omega
        | ⟨1, _⟩ => by show 0 + 1 * (i 1).val = (i 1).val; omega)
    rw [if_pos h]
    refine (congrArg (View.canon _) e.symm).trans ((View.canon_cons_emb (Rect.unit (s := ⟨2, ![m, n]⟩) ![p, 0] ![1, n] inb) x L _).trans (hx _))
  · rw [if_neg h, View.canon_cons_of_not_mem _ L (by
      rw [Rect.mem_set_unit]
      intro hall
      have := hall (0 : Fin 2)
      have h1 : p ≤ (i 0).val ∧ (i 0).val < p + 1 := this
      omega)]
    exact hL i
end

/-- The number the dense rows of zeros are made of. -/
theorem zeros_rows : Rows (k0_pay1 (F := Ideal)) (fun _ _ => 0) :=
  (rows_constant 0x00000000#32 (by decide)).congr fun _ _ _ _ => lit_zero

theorem zeros_rows' : Rows (k0_pay2 (F := Ideal)) (fun _ _ => 0) :=
  (rows_constant 0x00000000#32 (by decide)).congr fun _ _ _ _ => lit_zero

theorem zero_row : Rows (k0_pay3 (F := Ideal)) (fun _ _ => 0) :=
  (rows_constant 0x00000000#32 (by decide)).congr fun _ _ _ _ => lit_zero

theorem zero_row' : Rows (k0_pay4 (F := Ideal)) (fun _ _ => 0) :=
  (rows_constant 0x00000000#32 (by decide)).congr fun _ _ _ _ => lit_zero

section
variable {G Z X W₀ W₁ W₂ A : ℕ → ℕ → ℝ}

/-- The eight rows past the tile: zero in the last row of tiles. -/
theorem select_rows (i : grid0.Coords) {x : FVec Ideal S8x768 .f32} (hx : Rows x X) :
    Rows (Scalar.select (Scalar.cmpi .eq (BitVec.ofNat 32 (i 1).val) 3#32)
      (broadcast S8x768 (Scalar.ofBits .f32 0x00000000#32 : Ideal .f32)) x) (fun r c => if (i 1).val = 3 then 0 else X r c) := by
  have key : ∀ k : Fin 4, Scalar.cmpi .eq (BitVec.ofNat 32 k.val) 3#32 = if k.val = 3 then 1#1 else 0#1 := by decide
  have h := key (i 1)
  intro y
  rw [h]
  beta_reduce
  by_cases h3 : (i 1).val = 3
  · rw [if_pos h3, if_pos h3]
    exact (lit_coe 0x00000000#32 (by decide)).trans (congrArg _ lit_zero)
  · rw [if_neg h3, if_neg h3]
    exact hx y

/-- `dy` back through the down projection, on the rows of a tile and eight more. -/
theorem pay5_rows (i : grid0.Coords) {v4 : FVec Ideal S768x1024 .bf16} {v6 : FVec Ideal S16x1024 .bf16}
    {v12 : FVec Ideal S1024x1024 .bf16} {D' N' Y' : ℕ → ℕ → ℝ} (h4 : Rows v4 D') (h6 : Rows v6 N') (h12 : Rows v12 Y') :
    Rows (k0_pay5 (F := Ideal) i v4 v6 v12) (fun r c => if r < 1024 then ∑ q ∈ Finset.range 1024, Y' r q * D' c q
      else if (i 1).val = 3 then 0 else ∑ q ∈ Finset.range 1024, N' (r - 1024) q * D' c q) := by
  have h5 := h4.self shapeCasts_S768x1024_S768x1024
  have h9 := ((h6.self shapeCasts_S16x1024_S16x1024).dotT (φ₁ := .bf16) (φ₂ := .bf16) h5 dot_S16x1024_S768x1024_S16x768_1_1_0_0_n_n rfl).slice
    (a := 8) (b := 768) 0 0 slices_S16x768_o0_0_S8x768
  have h14 := (h12.self shapeCasts_S1024x1024_S1024x1024).dotT (φ₁ := .bf16) (φ₂ := .bf16) h5 dot_S1024x1024_S768x1024_S1024x768_1_1_0_0_n_n rfl
  refine (h14.below (select_rows i h9) concatenates_S1024x768_S8x768_S1032x768_d0 rfl).congr fun r c _ _ => ?_
  simp only [Nat.zero_add]

/-- The factor's rows of the tile and eight more. -/
theorem extend_rows {x : FVec Ideal S1024x768 .bf16} {y : FVec Ideal S16x768 .bf16} (hx : Rows x X) (hy : Rows y Z) :
    Rows (concatenate S1032x768 0 [⟨S1024x768, extf .f32 (shapeCast S1024x768 x shapeCasts_S1024x768_S1024x768) bitsLt_bf16_f32⟩,
      ⟨S8x768, extractStridedSlice S8x768 ![0, 0] (extf .f32 (shapeCast S16x768 y shapeCasts_S16x768_S16x768) bitsLt_bf16_f32 :
        FVec Ideal S16x768 .f32) slices_S16x768_o0_0_S8x768⟩] concatenates_S1024x768_S8x768_S1032x768_d0)
      (fun r c => if r < 1024 then X r c else Z (r - 1024) c) := by
  have h1 := (hx.self shapeCasts_S1024x768_S1024x768).extf bitsLt_bf16_f32
  have h2 := ((hy.self shapeCasts_S16x768_S16x768).extf bitsLt_bf16_f32).slice (a := 8) (b := 768) 0 0 slices_S16x768_o0_0_S8x768
  exact (h1.below h2 concatenates_S1024x768_S8x768_S1032x768_d0 rfl).congr fun r c _ _ => by simp only [Nat.zero_add]

theorem roll_one {v : FVec Ideal S1032x768 .f32} (hv : Rows v G) :
    Rows (dynamicRotate 0 1031#32 none v rotates_S1032x768_d0) (fun r c => G ((r + 1) % 1032) c) :=
  hv.turned 1031#32 1 (by decide) (by decide) rotates_S1032x768_d0

theorem roll_two {v : FVec Ideal S1032x768 .f32} (hv : Rows v G) :
    Rows (dynamicRotate 0 1030#32 none v rotates_S1032x768_d0) (fun r c => G ((r + 2) % 1032) c) :=
  hv.turned 1030#32 2 (by decide) (by decide) rotates_S1032x768_d0

/-- The gradient of the convolution's input on a tile. -/
theorem pay10_rows {v s : FVec Ideal S1032x768 .f32} {w₂ w₁ w₀ : FVec Ideal S1x768 .f32} (hv : Rows v G)
    (hs : Rows s (fun r c => G ((r + 1) % 1032) c)) (h₂ : Rows w₂ W₂) (h₁ : Rows w₁ W₁) (h₀ : Rows w₀ W₀) :
    Rows (k0_pay10 (F := Ideal) v s 1030#32 w₂ w₁ w₀) (fun r c => W₂ 0 c * G r c + W₁ 0 c * G (r + 1) c + W₀ 0 c * G (r + 2) c) := by
  have t₂ := ((h₂.self shapeCasts_S1x768_S1x768).repeated broadcasts_S1x768_S1032x768).mulf (φ := .f32) hv
  have t₁ := ((h₁.self shapeCasts_S1x768_S1x768).repeated broadcasts_S1x768_S1032x768).mulf (φ := .f32) hs
  have t₀ := ((h₀.self shapeCasts_S1x768_S1x768).repeated broadcasts_S1x768_S1032x768).mulf (φ := .f32) (roll_two hv)
  refine ((((t₂.addf t₁).addf t₀).slice (a := 1024) (b := 768) 0 0 slices_S1032x768_o0_0_S1024x768).truncf bitsLt_bf16_f32).congr
    fun r c hr _ => ?_
  simp only [Nat.zero_add]
  rw [Nat.mod_eq_of_lt (show r + 1 < 1032 by omega), Nat.mod_eq_of_lt (show r + 2 < 1032 by omega)]

theorem pay18_rows {v : FVec Ideal S1032x768 .f32} {w₂ w₁ w₀ : FVec Ideal S1x768 .f32} (hv : Rows v G)
    (h₂ : Rows w₂ W₂) (h₁ : Rows w₁ W₁) (h₀ : Rows w₀ W₀) :
    Rows (k0_pay18 (F := Ideal) v w₂ w₁ w₀) (fun r c => W₂ 0 c * G r c + W₁ 0 c * G (r + 1) c + W₀ 0 c * G (r + 2) c) :=
  pay10_rows hv (roll_one hv) h₂ h₁ h₀

/-- A tile's part of one row of the weights' gradient, added to what is there. -/
theorem tap_rows {x : FVec Ideal S1024x768 .bf16} {s : FVec Ideal S1032x768 .f32} {acc : FVec Ideal S1x768 .f32}
    (hx : Rows x X) (hs : Rows s Z) (ha : Rows acc A) : Rows (k0_pay14 (F := Ideal) s (k0_pay11 x) acc)
      (fun _ c => A 0 c + ∑ r ∈ Finset.range 1024, X r c * Z r c) := by
  have hp := ((hx.self shapeCasts_S1024x768_S1024x768).extf bitsLt_bf16_f32).mulf
    (hs.slice (a := 1024) (b := 768) 0 0 slices_S1032x768_o0_0_S1024x768)
  refine ((ha.self shapeCasts_S1x768_S1x768).addf (φ := .f32)
    ((hp.colsum reduces_S1024x768_S768 (.inl rfl) rfl).cast shapeCasts_S768_S1x768)).congr fun r c hr _ => ?_
  obtain rfl : r = 0 := by omega
  simp only [Nat.zero_add]

/-- A tile's part of the bias's gradient, added to what is there. -/
theorem pay15_rows {v : FVec Ideal S1032x768 .f32} {acc : FVec Ideal S1x768 .f32} (hv : Rows v G) (ha : Rows acc A) :
    Rows (k0_pay15 (F := Ideal) v acc) (fun _ c => A 0 c + ∑ r ∈ Finset.range 1024, G r c) := by
  refine ((ha.self shapeCasts_S1x768_S1x768).addf (φ := .f32)
    (((hv.slice (a := 1024) (b := 768) 0 0 slices_S1032x768_o0_0_S1024x768).colsum reduces_S1024x768_S768 (.inl rfl) rfl).cast
      shapeCasts_S768_S1x768)).congr fun r c hr _ => ?_
  obtain rfl : r = 0 := by omega
  simp only [Nat.zero_add]

end

end Cert.Proof
-- ==== Proof.Block.lean ====
/- What the kernel's body leaves at one grid point: the blocks it reads, each a part of an array of real numbers, and
   the blocks it writes. Grid point `t` works on row tile `t % 4` and column tile `t / 4`. -/
module

public import proofs.«01_k».proof.Proof.Host
public import proofs.«01_k».proof.Proof.Tile
public import Idealize.ShloMosaic.Lib.Pipeline.ReadBack

@[expose] public section

set_option maxRecDepth 16384
set_option maxHeartbeats 1600000

noncomputable section

namespace Cert.Proof.Entry

open Idealize.ShloMosaic Idealize.ShloMosaic.TcCoe Cert.KernelIdeal Cert.KernelIdeal.Gen Cert.Proof

variable (m : (ℓ : Loc nD τ sig) → Buf (Elt Ideal) ℓ) (c : Dev nD) {f : ℕ → ℕ → ℝ}

/-- The block of rows that follows row tile `t % 4`, in sixteens; the last tile has none and takes the array's last. -/
abbrev after' (t : Fin cfg0.N) : ℕ := min ((t.val % 4 + 1) * 64) 255

theorem row_of : ∀ t : Fin cfg0.N, ((grid0.coords t) 1).val = t.val % 4 :=
  (by decide +kernel : ∀ t : Fin grid0.N, ((grid0.coords t) 1).val = t.val % 4)

theorem index0 : ∀ t : Fin cfg0.N, win0_0.index t = ![t.val % 4, 0] :=
  (by decide +kernel : ∀ t : Fin grid0.N, win0_0.index t = ![t.val % 4, 0])
theorem index1 : ∀ t : Fin cfg0.N, win0_1.index t = ![after' t, 0] :=
  (by decide +kernel : ∀ t : Fin grid0.N, win0_1.index t = ![min ((t.val % 4 + 1) * 64) 255, 0])
theorem index2 : ∀ t : Fin cfg0.N, win0_2.index t = ![t.val / 4, 0] :=
  (by decide +kernel : ∀ t : Fin grid0.N, win0_2.index t = ![t.val / 4, 0])
theorem index3 : ∀ t : Fin cfg0.N, win0_3.index t = ![t.val % 4, t.val / 4] :=
  (by decide +kernel : ∀ t : Fin grid0.N, win0_3.index t = ![t.val % 4, t.val / 4])
theorem index4 : ∀ t : Fin cfg0.N, win0_4.index t = ![after' t, t.val / 4] :=
  (by decide +kernel : ∀ t : Fin grid0.N, win0_4.index t = ![min ((t.val % 4 + 1) * 64) 255, t.val / 4])
theorem index5 : ∀ t : Fin cfg0.N, win0_5.index t = ![t.val % 4, t.val / 4] :=
  (by decide +kernel : ∀ t : Fin grid0.N, win0_5.index t = ![t.val % 4, t.val / 4])
theorem index6 : ∀ t : Fin cfg0.N, win0_6.index t = ![after' t, t.val / 4] :=
  (by decide +kernel : ∀ t : Fin grid0.N, win0_6.index t = ![min ((t.val % 4 + 1) * 64) 255, t.val / 4])
theorem index7 : ∀ t : Fin cfg0.N, win0_7.index t = ![t.val % 4, t.val / 4] :=
  (by decide +kernel : ∀ t : Fin grid0.N, win0_7.index t = ![t.val % 4, t.val / 4])
theorem index8 : ∀ t : Fin cfg0.N, win0_8.index t = ![t.val % 4, t.val / 4] :=
  (by decide +kernel : ∀ t : Fin grid0.N, win0_8.index t = ![t.val % 4, t.val / 4])
theorem index9 : ∀ t : Fin cfg0.N, win0_9.index t = ![0, t.val / 4] :=
  (by decide +kernel : ∀ t : Fin grid0.N, win0_9.index t = ![0, t.val / 4])
theorem index10 : ∀ t : Fin cfg0.N, win0_10.index t = ![0, t.val / 4 + 4] :=
  (by decide +kernel : ∀ t : Fin grid0.N, win0_10.index t = ![0, t.val / 4 + 4])

section
variable (t : Fin cfg0.N)

theorem block0 (h : Rows (V m c main_v65) f) : @Rows 1024 1024 (iblk m c 0 t) (fun r q => f (t.val % 4 * 1024 + r) q) := fun y => by
  blk_simp [iblk]; refine (h _).trans ?_; blk_simp [index0 t]
theorem block1 (h : Rows (V m c main_v65) f) : @Rows 16 1024 (iblk m c 1 t) (fun r q => f (after' t * 16 + r) q) := fun y => by
  blk_simp [iblk]; refine (h _).trans ?_; blk_simp [index1 t]
theorem block2 (h : Rows (V m c main_v66) f) : @Rows 768 1024 (iblk m c 2 t) (fun r q => f (t.val / 4 * 768 + r) q) := fun y => by
  blk_simp [iblk]; refine (h _).trans ?_; blk_simp [index2 t]
theorem block3 (h : Rows (V m c main_v62) f) :
    @Rows 1024 768 (iblk m c 3 t) (fun r q => f (t.val % 4 * 1024 + r) (t.val / 4 * 768 + q)) := fun y => by
  blk_simp [iblk]; refine (h _).trans ?_; blk_simp [index3 t]
theorem block4 (h : Rows (V m c main_v62) f) :
    @Rows 16 768 (iblk m c 4 t) (fun r q => f (after' t * 16 + r) (t.val / 4 * 768 + q)) := fun y => by
  blk_simp [iblk]; refine (h _).trans ?_; blk_simp [index4 t]
theorem block5 (h : Rows (V m c main_v63) f) :
    @Rows 1024 768 (iblk m c 5 t) (fun r q => f (t.val % 4 * 1024 + r) (t.val / 4 * 768 + q)) := fun y => by
  blk_simp [iblk]; refine (h _).trans ?_; blk_simp [index5 t]
theorem block6 (h : Rows (V m c main_v63) f) :
    @Rows 16 768 (iblk m c 6 t) (fun r q => f (after' t * 16 + r) (t.val / 4 * 768 + q)) := fun y => by
  blk_simp [iblk]; refine (h _).trans ?_; blk_simp [index6 t]
theorem block7 (h : Rows (V m c main_v68) f) :
    @Rows 1024 768 (iblk m c 7 t) (fun r q => f (t.val % 4 * 1024 + r) (t.val / 4 * 768 + q)) := fun y => by
  blk_simp [iblk]; refine (h _).trans ?_; blk_simp [index7 t]
theorem block8 (h : Rows (V m c main_v70) f) :
    @Rows 1024 768 (iblk m c 8 t) (fun r q => f (t.val % 4 * 1024 + r) (t.val / 4 * 768 + q)) := fun y => by
  blk_simp [iblk]; refine (h _).trans ?_; blk_simp [index8 t]
theorem block9 (h : Rows (V m c main_v64) f) : @Rows 8 768 (iblk m c 9 t) (fun r q => f r (t.val / 4 * 768 + q)) := fun y => by
  blk_simp [iblk]; refine (h _).trans ?_; blk_simp [index9 t]
theorem block10 (h : Rows (V m c main_v64) f) :
    @Rows 8 768 (iblk m c 10 t) (fun r q => f r (3072 + (t.val / 4 * 768 + q))) := fun y => by
  blk_simp [iblk]; refine (h _).trans ?_; blk_simp [index10 t]
  congr 2
  omega

/-! The two arrays that the body makes first, and what it stores. -/

abbrev gate : FVec Ideal S1032x768 .f32 :=
  k0_pay6 (grid0.coords t) (iblk m c 2 t) (iblk m c 1 t) (iblk m c 0 t) (iblk m c 3 t) (iblk m c 4 t)
abbrev up : FVec Ideal S1032x768 .f32 :=
  k0_pay7 (grid0.coords t) (iblk m c 2 t) (iblk m c 1 t) (iblk m c 0 t) (iblk m c 5 t) (iblk m c 6 t)

abbrev row (X : S8x768.Idx → Elt Ideal .f32) (p : ℕ) (inb : ∀ d, (![p, 0] : Fin 2 → ℕ) d + (![1, 768] : Fin 2 → ℕ) d ≤ S8x768.size d) :
    FVec Ideal S1x768 .f32 := View.ld X (Rect.unit ![p, 0] ![1, 768] inb)

theorem out11 : (outsAt0 m c t.val t.isLt).1
    = k0_pay10 (gate m c t) (dynamicRotate 0 1031#32 none (gate m c t) rotates_S1032x768_d0) 1030#32
      (row (iblk m c 9 t) 2 inb_S8x768_S1x768_2_0) (row (iblk m c 9 t) 1 inb_S8x768_S1x768_1_0) (row (iblk m c 9 t) 0 inb_S8x768_S1x768_0_0) := by
  funext y
  by_cases h : t.val % 4 = 0
  · rw [outsAt0_A m c t h]; frame_out; rfl
  · rw [outsAt0_B m c t h]; frame_out; rfl

theorem out12 : (outsAt0 m c t.val t.isLt).2.1
    = k0_pay18 (up m c t)
      (row (iblk m c 10 t) 2 inb_S8x768_S1x768_2_0) (row (iblk m c 10 t) 1 inb_S8x768_S1x768_1_0) (row (iblk m c 10 t) 0 inb_S8x768_S1x768_0_0) := by
  funext y
  by_cases h : t.val % 4 = 0
  · rw [outsAt0_A m c t h]; frame_out
  · rw [outsAt0_B m c t h]; frame_out

end

section
variable (t : Fin cfg0.N) {X G A : ℕ → ℕ → ℝ}

/-- One tile's part of the three rows of the weights' gradient, over what is there. -/
abbrev taps (X G A : ℕ → ℕ → ℝ) (k q : ℕ) : ℝ := if k < 3 then A k q + ∑ r ∈ Finset.range 1024, X r q * G (r + (2 - k)) q else A k q

theorem taps_eq (k q : ℕ) : (if k = 0 then A (0 + 0) (0 + q) + ∑ r ∈ Finset.range 1024, X r q * G ((r + 2) % 1032) q
    else if k = 1 then A (1 + 0) (0 + q) + ∑ r ∈ Finset.range 1024, X r q * G ((r + 1) % 1032) q
    else if k = 2 then A (2 + 0) (0 + q) + ∑ r ∈ Finset.range 1024, X r q * G r q else A k q) = taps X G A k q := by
  have e : ∀ s, s ≤ 2 → ∑ r ∈ Finset.range 1024, X r q * G ((r + s) % 1032) q = ∑ r ∈ Finset.range 1024, X r q * G (r + s) q :=
    fun s hs => Finset.sum_congr rfl fun r hr => by
      rw [Nat.mod_eq_of_lt (show r + s < 1032 by have := Finset.mem_range.mp hr; omega)]
  rw [e 2 le_rfl, e 1 (by omega)]
  match k with
  | 0 => simp [taps]
  | 1 => simp [taps]
  | 2 => simp [taps]
  | k + 3 => simp [taps]

section
variable {x : FVec Ideal S1024x768 .bf16} {g : FVec Ideal S1032x768 .f32} {z : S8x768.Idx → Elt Ideal .f32}

/-- The three stores of weight rows: row 0 last. -/
abbrev stores (x : FVec Ideal S1024x768 .bf16) (g : FVec Ideal S1032x768 .f32) (z : S8x768.Idx → Elt Ideal .f32) :
    List (View.Piece (Elt Ideal) S8x768 .f32) :=
  [⟨Rect.unit ![0, 0] ![1, 768] inb_S8x768_S1x768_0_0, k0_pay14 (F := Ideal) (dynamicRotate 0 1030#32 none g rotates_S1032x768_d0)
      (k0_pay11 x) (row z 0 inb_S8x768_S1x768_0_0)⟩,
    ⟨Rect.unit ![1, 0] ![1, 768] inb_S8x768_S1x768_1_0, k0_pay14 (F := Ideal) (dynamicRotate 0 1031#32 none g rotates_S1032x768_d0)
      (k0_pay11 x) (row z 1 inb_S8x768_S1x768_1_0)⟩,
    ⟨Rect.unit ![2, 0] ![1, 768] inb_S8x768_S1x768_2_0, k0_pay14 (F := Ideal) g (k0_pay11 x) (row z 2 inb_S8x768_S1x768_2_0)⟩]

/-- Over a store of the whole block … -/
theorem stores_first (hX : Rows x X) (hG : Rows g G) (hz : Rows z A) :
    @Rows 8 768 (View.canon (stores x g z ++ [⟨Rect.unit ![0, 0] ![8, 768] inb_S8x768_S8x768_0_0, z⟩])) (taps X G A) := by
  have h2 := tap_rows hX (roll_two hG) (hz.load 0 0 inb_S8x768_S1x768_0_0)
  have h1 := tap_rows hX (roll_one hG) (hz.load 1 0 inb_S8x768_S1x768_1_0)
  have h0 := tap_rows hX hG (hz.load 2 0 inb_S8x768_S1x768_2_0)
  have hb : @Rows 8 768 (View.canon [(⟨Rect.unit ![0, 0] ![8, 768] inb_S8x768_S8x768_0_0, z⟩ :
      View.Piece (Elt Ideal) S8x768 .f32)]) A := by
    rw [View.canon_cons_unit_lit' _ _ _ (by decide)]; exact hz
  exact (h2.stored _ 0 inb_S8x768_S1x768_0_0 (h1.stored _ 1 inb_S8x768_S1x768_1_0 (h0.stored _ 2 inb_S8x768_S1x768_2_0 hb))).congr
    fun k q _ _ => taps_eq k q

/-- … and over the block as an earlier point left it. -/
theorem stores_next {sig : RefSig} {κ : Kind} {sp : Space} (v : View sig κ sp S8x768 .f32) (w : v.ty.Contents (Elt Ideal))
    (hX : Rows x X) (hG : Rows g G) (hz : Rows z A) (hw : v.read (Elt Ideal) w = z) :
    @Rows 8 768 (v.read (Elt Ideal) (v.writes (Elt Ideal) w (stores x g z))) (taps X G A) := by
  have h2 := tap_rows hX (roll_two hG) (hz.load 0 0 inb_S8x768_S1x768_0_0)
  have h1 := tap_rows hX (roll_one hG) (hz.load 1 0 inb_S8x768_S1x768_1_0)
  have h0 := tap_rows hX hG (hz.load 2 0 inb_S8x768_S1x768_2_0)
  have hb : @Rows 8 768 (v.read (Elt Ideal) (v.writes (Elt Ideal) w [])) A := by
    show Rows (v.read (Elt Ideal) w) A
    rw [hw]; exact hz
  exact (h2.store v w _ 0 inb_S8x768_S1x768_0_0 (h1.store v w _ 1 inb_S8x768_S1x768_1_0
    (h0.store v w _ 2 inb_S8x768_S1x768_2_0 hb))).congr fun k q _ _ => taps_eq k q

end

/-- The gate half's weight rows after a first row tile … -/
theorem out13_first (h : t.val % 4 = 0) (hX : @Rows 1024 768 (iblk m c 7 t) X) (hG : Rows (gate m c t) G) :
    @Rows 8 768 (outsAt0 m c t.val t.isLt).2.2.1 (taps X G (fun _ _ => 0)) := by
  refine fun y => Eq.trans ?_ (stores_first hX hG zeros_rows y)
  rw [outsAt0_A m c t h]
  frame_open
  simp (disch := decide) only [↓ View.readCov_skip, ↓ View.readCov_cons_toLoadRect, ↓ View.readCov_fill]
  frame_out
  rfl

/-- … and after a later one. -/
theorem out13_next (h : ¬ t.val % 4 = 0) (hX : @Rows 1024 768 (iblk m c 7 t) X) (hG : Rows (gate m c t) G)
    (hA : @Rows 8 768 (outsAt0 m c (t.val - 1) (by have := t.isLt; omega)).2.2.1 A) :
    @Rows 8 768 (outsAt0 m c t.val t.isLt).2.2.1 (taps X G A) := by
  refine fun y => Eq.trans ?_ (stores_next (ms0_13 t).view _ hX hG hA ((hs0_13 t).read_unread _) y)
  rw [outsAt0_B m c t h]
  frame_open
  simp (disch := decide) only [↓ View.readCov_skip, ↓ View.readCov_cons_toLoadRect, ↓ View.readCov_fill]
  frame_out
  rfl

/-- The other half's likewise. -/
theorem out14_first (h : t.val % 4 = 0) (hX : @Rows 1024 768 (iblk m c 8 t) X) (hG : Rows (up m c t) G) :
    @Rows 8 768 (outsAt0 m c t.val t.isLt).2.2.2.1 (taps X G (fun _ _ => 0)) := by
  refine fun y => Eq.trans ?_ (stores_first hX hG zeros_rows' y)
  rw [outsAt0_A m c t h]
  frame_open
  simp (disch := decide) only [↓ View.readCov_skip, ↓ View.readCov_cons_toLoadRect, ↓ View.readCov_fill]
  frame_out
  rfl

theorem out14_next (h : ¬ t.val % 4 = 0) (hX : @Rows 1024 768 (iblk m c 8 t) X) (hG : Rows (up m c t) G)
    (hA : @Rows 8 768 (outsAt0 m c (t.val - 1) (by have := t.isLt; omega)).2.2.2.1 A) :
    @Rows 8 768 (outsAt0 m c t.val t.isLt).2.2.2.1 (taps X G A) := by
  refine fun y => Eq.trans ?_ (stores_next (ms0_14 t).view _ hX hG hA ((hs0_14 t).read_unread _) y)
  rw [outsAt0_B m c t h]
  frame_open
  simp (disch := decide) only [↓ View.readCov_skip, ↓ View.readCov_cons_toLoadRect, ↓ View.readCov_fill]
  frame_out
  rfl

/-- The bias's gradient, of the two halves. -/
theorem out15_first (h : t.val % 4 = 0) (hG : Rows (gate m c t) G) :
    @Rows 1 768 (outsAt0 m c t.val t.isLt).2.2.2.2.1 (fun _ q => 0 + ∑ r ∈ Finset.range 1024, G r q) := by
  refine fun y => Eq.trans ?_ (pay15_rows hG zero_row y)
  rw [outsAt0_A m c t h]; frame_out

theorem out15_next (h : ¬ t.val % 4 = 0) (hG : Rows (gate m c t) G)
    (hA : @Rows 1 768 (outsAt0 m c (t.val - 1) (by have := t.isLt; omega)).2.2.2.2.1 A) :
    @Rows 1 768 (outsAt0 m c t.val t.isLt).2.2.2.2.1 (fun _ q => A 0 q + ∑ r ∈ Finset.range 1024, G r q) := by
  refine fun y => Eq.trans ?_ (pay15_rows hG hA y)
  rw [outsAt0_B m c t h]; frame_out

theorem out16_first (h : t.val % 4 = 0) (hG : Rows (up m c t) G) :
    @Rows 1 768 (outsAt0 m c t.val t.isLt).2.2.2.2.2 (fun _ q => 0 + ∑ r ∈ Finset.range 1024, G r q) := by
  refine fun y => Eq.trans ?_ (pay15_rows hG zero_row' y)
  rw [outsAt0_A m c t h]; frame_out; rfl

theorem out16_next (h : ¬ t.val % 4 = 0) (hG : Rows (up m c t) G)
    (hA : @Rows 1 768 (outsAt0 m c (t.val - 1) (by have := t.isLt; omega)).2.2.2.2.2 A) :
    @Rows 1 768 (outsAt0 m c t.val t.isLt).2.2.2.2.2 (fun _ q => A 0 q + ∑ r ∈ Finset.range 1024, G r q) := by
  refine fun y => Eq.trans ?_ (pay15_rows hG hA y)
  rw [outsAt0_B m c t h]; frame_out; rfl

end

end Cert.Proof.Entry
-- ==== Proof.Arrays.lean ====
/- The arrays that the kernel leaves, each an array of real numbers: the gradients of the two halves of the input, of the
   convolution's weights and of its bias. -/
module

public import proofs.«01_k».proof.Proof.Block

@[expose] public section

set_option maxRecDepth 16384
set_option maxHeartbeats 1600000

noncomputable section

namespace Cert.Proof.Entry

open Idealize.ShloMosaic Idealize.ShloMosaic.TcCoe Cert.KernelIdeal Cert.KernelIdeal.Gen Cert.Proof Finset

variable (m : (ℓ : Loc nD τ sig) → Buf (Elt Ideal) ℓ) (c : Dev nD) {P W D Y : ℕ → ℕ → ℝ} {B : ℕ → ℝ}

/-- The arguments are real numbers, and nothing comes after the last row of `dy`. -/
structure Given (P W : ℕ → ℕ → ℝ) (B : ℕ → ℝ) (D Y : ℕ → ℕ → ℝ) : Prop where
  input : @Rows 4096 6144 (m (c.tc.loc main_arg0)) P
  weight : @Rows 3 6144 (m (c.tc.loc main_arg1)) W
  bias : @Line 6144 (m (c.tc.loc main_arg2)) B
  down : @Rows 3072 1024 (m (c.tc.loc main_arg3)) D
  cot : @Rows 4096 1024 (m (c.tc.loc main_arg4)) Y
  stop : ∀ r q, 4096 ≤ r → Y r q = 0

section
variable {m c} (g : Given m c P W B D Y) (t : Fin cfg0.N)
include g

/-- `dy` through the down projection, times a factor, on the rows of a tile and eight more. -/
theorem product_rows {F : ℕ → ℕ → ℝ} {x : FVec Ideal S1024x768 .bf16} {y : FVec Ideal S16x768 .bf16}
    (hx : Rows x (fun r q => F (t.val % 4 * 1024 + r) (t.val / 4 * 768 + q)))
    (hy : Rows y (fun r q => F (after' t * 16 + r) (t.val / 4 * 768 + q))) :
    Rows (k0_pay6 (grid0.coords t) (iblk m c 2 t) (iblk m c 1 t) (iblk m c 0 t) x y)
      (fun r q => back D Y (t.val % 4 * 1024 + r) (t.val / 4 * 768 + q) * F (t.val % 4 * 1024 + r) (t.val / 4 * 768 + q)) := by
  have h5 := pay5_rows (grid0.coords t) (block2 m c t (v66_rows m c g.down)) (block1 m c t (v65_rows m c g.cot))
    (block0 m c t (v65_rows m c g.cot))
  refine (h5.mulf (φ := .f32) (extend_rows hx hy)).congr fun r q hr _ => ?_
  rw [row_of]
  by_cases h : r < 1024
  · simp only [if_pos h]; rfl
  · simp only [if_neg h]
    by_cases h3 : t.val % 4 = 3
    · rw [if_pos h3, zero_mul, back_beyond D Y g.stop _ _ (by omega), zero_mul]
    · rw [if_neg h3]
      have e : after' t * 16 + (r - 1024) = t.val % 4 * 1024 + r := by
        have := Nat.mod_lt t.val (show 0 < 4 by decide)
        show min ((t.val % 4 + 1) * 64) 255 * 16 + (r - 1024) = _
        omega
      rw [e]; rfl

theorem gate_tile : Rows (gate m c t)
    (fun r q => gradGate P W B D Y (t.val % 4 * 1024 + r) (t.val / 4 * 768 + q)) := by
  have h := (v62_rows m c g.input g.weight g.bias).1
  exact product_rows g t (block3 m c t h) (block4 m c t h)

theorem up_tile : Rows (up m c t)
    (fun r q => gradUp P W B D Y (t.val % 4 * 1024 + r) (t.val / 4 * 768 + q)) := by
  have h := (v62_rows m c g.input g.weight g.bias).2
  exact product_rows g t (block5 m c t h) (block6 m c t h)

theorem out11_rows : @Rows 1024 768 (outsAt0 m c t.val t.isLt).1
    (fun r q => gradIn W (gradGate P W B D Y) (t.val % 4 * 1024 + r) (t.val / 4 * 768 + q)) := by
  have w := block9 m c t (v64_rows m c g.weight)
  rw [out11]
  exact (pay10_rows (gate_tile g t) (roll_one (gate_tile g t)) (w.load 2 0 inb_S8x768_S1x768_2_0) (w.load 1 0 inb_S8x768_S1x768_1_0)
    (w.load 0 0 inb_S8x768_S1x768_0_0)).congr fun r q _ _ => by simp [gradIn, Nat.add_assoc]

theorem out12_rows : @Rows 1024 768 (outsAt0 m c t.val t.isLt).2.1
    (fun r q => gradIn (fun k q => W k (3072 + q)) (gradUp P W B D Y) (t.val % 4 * 1024 + r) (t.val / 4 * 768 + q)) := by
  have w := block10 m c t (v64_rows m c g.weight)
  rw [out12]
  exact (pay18_rows (up_tile g t) (w.load 2 0 inb_S8x768_S1x768_2_0) (w.load 1 0 inb_S8x768_S1x768_1_0)
    (w.load 0 0 inb_S8x768_S1x768_0_0)).congr fun r q _ _ => by simp [gradIn, Nat.add_assoc]

end

/-- A block that the first of every four points sets and the others add to holds the sum so far. -/
theorem so_far {a b : ℕ} (o : ∀ n, n < cfg0.N → (⟨2, ![a, b]⟩ : Shape).Idx → EReal) (T : ℕ → ℕ → ℕ → ℕ → ℝ)
    (first : ∀ t : Fin cfg0.N, t.val % 4 = 0 → Rows (o t.val t.isLt) (T (t.val / 4) (t.val % 4)))
    (next : ∀ t : Fin cfg0.N, ¬ t.val % 4 = 0 → ∀ A, Rows (o (t.val - 1) (by have := t.isLt; omega)) A →
      Rows (o t.val t.isLt) (fun k q => A k q + T (t.val / 4) (t.val % 4) k q)) :
    ∀ n h, Rows (o n h) (fun k q => ∑ s ∈ range (n % 4 + 1), T (n / 4) s k q) := by
  intro n
  induction n with
  | zero => exact fun h => (first ⟨0, h⟩ rfl).congr fun k q _ _ => by simp
  | succ n ih =>
    intro h
    by_cases h0 : (n + 1) % 4 = 0
    · exact (first ⟨n + 1, h⟩ h0).congr fun k q _ _ => by simp [h0]
    · refine (next ⟨n + 1, h⟩ h0 _ (ih (by omega))).congr fun k q _ _ => ?_
      have e1 : (n + 1) % 4 = n % 4 + 1 := by omega
      have e2 : (n + 1) / 4 = n / 4 := by omega
      simp only [e1, e2]
      rw [sum_range_succ _ (n % 4 + 1)]

section
variable {m c} (g : Given m c P W B D Y)
include g

theorem out13_rows (n : ℕ) (h : n < cfg0.N) : @Rows 8 768 (outsAt0 m c n h).2.2.1
    (fun k q => ∑ s ∈ range (n % 4 + 1), if k < 3 then ∑ r ∈ range 1024, P (s * 1024 + r) (n / 4 * 768 + q)
      * gradGate P W B D Y (s * 1024 + (r + (2 - k))) (n / 4 * 768 + q) else 0) :=
  so_far (fun n h => (outsAt0 m c n h).2.2.1) (fun j s k q => if k < 3 then ∑ r ∈ range 1024, P (s * 1024 + r) (j * 768 + q)
      * gradGate P W B D Y (s * 1024 + (r + (2 - k))) (j * 768 + q) else 0)
    (fun t h => (out13_first m c t h (block7 m c t (v68_rows m c g.input)) (gate_tile g t)).congr fun k q _ _ => by simp [taps])
    (fun t h A hA => (out13_next m c t h (block7 m c t (v68_rows m c g.input)) (gate_tile g t) hA).congr fun k q _ _ => by
      by_cases hk : k < 3 <;> simp [taps, hk]) n h

theorem out14_rows (n : ℕ) (h : n < cfg0.N) : @Rows 8 768 (outsAt0 m c n h).2.2.2.1
    (fun k q => ∑ s ∈ range (n % 4 + 1), if k < 3 then ∑ r ∈ range 1024, P (s * 1024 + r) (3072 + (n / 4 * 768 + q))
      * gradUp P W B D Y (s * 1024 + (r + (2 - k))) (n / 4 * 768 + q) else 0) :=
  so_far (fun n h => (outsAt0 m c n h).2.2.2.1) (fun j s k q => if k < 3 then ∑ r ∈ range 1024, P (s * 1024 + r) (3072 + (j * 768 + q))
      * gradUp P W B D Y (s * 1024 + (r + (2 - k))) (j * 768 + q) else 0)
    (fun t h => (out14_first m c t h (block8 m c t (v70_rows m c g.input)) (up_tile g t)).congr fun k q _ _ => by simp [taps])
    (fun t h A hA => (out14_next m c t h (block8 m c t (v70_rows m c g.input)) (up_tile g t) hA).congr fun k q _ _ => by
      by_cases hk : k < 3 <;> simp [taps, hk]) n h

theorem out15_rows (n : ℕ) (h : n < cfg0.N) : @Rows 1 768 (outsAt0 m c n h).2.2.2.2.1
    (fun _ q => ∑ s ∈ range (n % 4 + 1), ∑ r ∈ range 1024, gradGate P W B D Y (s * 1024 + r) (n / 4 * 768 + q)) :=
  so_far (fun n h => (outsAt0 m c n h).2.2.2.2.1) (fun j s _ q => ∑ r ∈ range 1024, gradGate P W B D Y (s * 1024 + r) (j * 768 + q))
    (fun t h => (out15_first m c t h (gate_tile g t)).congr fun k q _ _ => by rw [zero_add])
    (fun t h A hA => (out15_next m c t h (gate_tile g t) hA).congr fun k q hk _ => by obtain rfl : k = 0 := (by omega); rfl) n h

theorem out16_rows (n : ℕ) (h : n < cfg0.N) : @Rows 1 768 (outsAt0 m c n h).2.2.2.2.2
    (fun _ q => ∑ s ∈ range (n % 4 + 1), ∑ r ∈ range 1024, gradUp P W B D Y (s * 1024 + r) (n / 4 * 768 + q)) :=
  so_far (fun n h => (outsAt0 m c n h).2.2.2.2.2) (fun j s _ q => ∑ r ∈ range 1024, gradUp P W B D Y (s * 1024 + r) (j * 768 + q))
    (fun t h => (out16_first m c t h (up_tile g t)).congr fun k q _ _ => by rw [zero_add])
    (fun t h A hA => (out16_next m c t h (up_tile g t) hA).congr fun k q hk _ => by obtain rfl : k = 0 := (by omega); rfl) n h

end

theorem index11 : ∀ t : Fin cfg0.N, win0_11.index t = ![t.val % 4, t.val / 4] :=
  (by decide +kernel : ∀ t : Fin grid0.N, win0_11.index t = ![t.val % 4, t.val / 4])
theorem index12 : ∀ t : Fin cfg0.N, win0_12.index t = ![t.val % 4, t.val / 4] :=
  (by decide +kernel : ∀ t : Fin grid0.N, win0_12.index t = ![t.val % 4, t.val / 4])
theorem index13 : ∀ t : Fin cfg0.N, win0_13.index t = ![0, t.val / 4] :=
  (by decide +kernel : ∀ t : Fin grid0.N, win0_13.index t = ![0, t.val / 4])
theorem index14 : ∀ t : Fin cfg0.N, win0_14.index t = ![0, t.val / 4] :=
  (by decide +kernel : ∀ t : Fin grid0.N, win0_14.index t = ![0, t.val / 4])
theorem index15 : ∀ t : Fin cfg0.N, win0_15.index t = ![0, t.val / 4] :=
  (by decide +kernel : ∀ t : Fin grid0.N, win0_15.index t = ![0, t.val / 4])
theorem index16 : ∀ t : Fin cfg0.N, win0_16.index t = ![0, t.val / 4] :=
  (by decide +kernel : ∀ t : Fin grid0.N, win0_16.index t = ![0, t.val / 4])

/-- The four tiles of rows together. -/
theorem four (f : ℕ → ℝ) : ∑ s ∈ range 4, ∑ r ∈ range 1024, f (s * 1024 + r) = ∑ r ∈ range 4096, f r := by
  have := Finset.sum_range_mul_split 4 1024 f
  simpa using this.symm

/-- The weights' gradient from the four tiles of rows, and the bias's. -/
theorem weights_four (P G : ℕ → ℕ → ℝ) (k q : ℕ) :
    (∑ s ∈ range (3 + 1), if k < 3 then ∑ r ∈ range 1024, P (s * 1024 + r) q * G (s * 1024 + (r + (2 - k))) q else 0) = gradW P G k q := by
  unfold gradW
  by_cases hk : k < 3
  · simp only [if_pos hk, ← Nat.add_assoc]
    exact four fun r => P r q * G (r + (2 - k)) q
  · simp only [if_neg hk, sum_const_zero]

theorem bias_four (G : ℕ → ℕ → ℝ) (q : ℕ) : ∑ s ∈ range (3 + 1), ∑ r ∈ range 1024, G (s * 1024 + r) q = gradB G q :=
  four fun r => G r q

section
variable {m c} (g : Given m c P W B D Y)
include g

/-- The gradient of the input, of its gate half and of the other. -/
theorem array11 : @Rows 4096 3072 ((dats m 0 c).arrAt 11 cfg0.N) (gradIn W (gradGate P W B D Y)) := by
  refine fun i => congrFun ((dats m 0 c).arrAt_eq_of_covers 11
    (fun i => ((gradIn W (gradGate P W B D Y) (i 0).val (i 1).val : ℝ) : EReal)) (by decide +kernel) fun t hf y => ?_) i
  blk_simp
  refine (out11_rows g t y).trans ?_
  blk_simp [index11 t]

theorem array12 : @Rows 4096 3072 ((dats m 0 c).arrAt 12 cfg0.N) (gradIn (fun k q => W k (3072 + q)) (gradUp P W B D Y)) := by
  refine fun i => congrFun ((dats m 0 c).arrAt_eq_of_covers 12
    (fun i => ((gradIn (fun k q => W k (3072 + q)) (gradUp P W B D Y) (i 0).val (i 1).val : ℝ) : EReal)) (by decide +kernel)
    fun t hf y => ?_) i
  blk_simp
  refine (out12_rows g t y).trans ?_
  blk_simp [index12 t]

/-- The gradient of the convolution's weights. -/
theorem array13 : @Rows 8 3072 ((dats m 0 c).arrAt 13 cfg0.N) (gradW P (gradGate P W B D Y)) := by
  refine fun i => congrFun ((dats m 0 c).arrAt_eq_of_covers 13
    (fun i => ((gradW P (gradGate P W B D Y) (i 0).val (i 1).val : ℝ) : EReal)) (by decide +kernel) fun t hf y => ?_) i
  blk_simp
  refine (out13_rows g t.val t.isLt y).trans ?_
  blk_simp [index13 t]
  rw [(flush0_13 t).mp hf, weights_four]

theorem array14 : @Rows 8 3072 ((dats m 0 c).arrAt 14 cfg0.N) (gradW (fun r q => P r (3072 + q)) (gradUp P W B D Y)) := by
  refine fun i => congrFun ((dats m 0 c).arrAt_eq_of_covers 14
    (fun i => ((gradW (fun r q => P r (3072 + q)) (gradUp P W B D Y) (i 0).val (i 1).val : ℝ) : EReal)) (by decide +kernel)
    fun t hf y => ?_) i
  blk_simp
  refine (out14_rows g t.val t.isLt y).trans ?_
  blk_simp [index14 t]
  rw [(flush0_14 t).mp hf, weights_four (fun r q => P r (3072 + q))]

/-- The gradient of its bias. -/
theorem array15 : @Rows 1 3072 ((dats m 0 c).arrAt 15 cfg0.N) (fun _ q => gradB (gradGate P W B D Y) q) := by
  refine fun i => congrFun ((dats m 0 c).arrAt_eq_of_covers 15
    (fun i => ((gradB (gradGate P W B D Y) (i 1).val : ℝ) : EReal)) (by decide +kernel) fun t hf y => ?_) i
  blk_simp
  refine (out15_rows g t.val t.isLt y).trans ?_
  blk_simp [index15 t]
  rw [(flush0_15 t).mp hf, bias_four]

theorem array16 : @Rows 1 3072 ((dats m 0 c).arrAt 16 cfg0.N) (fun _ q => gradB (gradUp P W B D Y) q) := by
  refine fun i => congrFun ((dats m 0 c).arrAt_eq_of_covers 16
    (fun i => ((gradB (gradUp P W B D Y) (i 1).val : ℝ) : EReal)) (by decide +kernel) fun t hf y => ?_) i
  blk_simp
  refine (out16_rows g t.val t.isLt y).trans ?_
  blk_simp [index16 t]
  rw [(flush0_16 t).mp hf, bias_four]

end

end Cert.Proof.Entry
-- ==== Proof.RefValue.lean ====
/- What the reference computes: its operations one after another, each an array of real numbers, and its results the
   functions of `Step`. The reference differentiates the forward layer, so the gradient of a slice is a pad with zeros
   and the gradient of a row of weights is a sum over the rows. -/
module

public import proofs.«01_k».proof.Proof.Step
public import proofs.«01_k».proof.Proof.Gen.ReferenceIdeal.Read

@[expose] public section

set_option maxRecDepth 16384

noncomputable section

namespace Cert.Proof.Ref

open Idealize.ShloMosaic Cert.ReferenceIdeal Cert.ReferenceIdeal.Gen Cert.ReferenceIdeal.Read Cert.Proof Finset

theorem zero_word (i : (⟨0, ![]⟩ : Shape).Idx) : (constant ⟨0, ![]⟩ .f32 0x00000000#32 : FVec Ideal ⟨0, ![]⟩ .f32) i = 0 :=
  Ideal.ofBits_zero_f32

theorem whole_zero (i : (⟨0, ![]⟩ : Shape).Idx) : (sitofp .f32 (constantI ⟨0, ![]⟩ 32 0#32) : FVec Ideal ⟨0, ![]⟩ .f32) i = 0 := by
  show ((((0 : BitVec 32).toInt : ℝ)) : EReal) = 0
  simp

variable {x0 : (⟨2, ![4096, 6144]⟩ : Shape).Idx → EReal} {x1 : (⟨2, ![3, 6144]⟩ : Shape).Idx → EReal}
  {x2 : (⟨1, ![6144]⟩ : Shape).Idx → EReal} {x3 : (⟨2, ![3072, 1024]⟩ : Shape).Idx → EReal}
  {x4 : (⟨2, ![4096, 1024]⟩ : Shape).Idx → EReal} {P W : ℕ → ℕ → ℝ} {B : ℕ → ℝ} {D Y : ℕ → ℕ → ℝ}

/-- The convolution of the input. -/
theorem conv_rows (hx0 : Rows x0 P) (hx1 : Rows x1 W) (hx2 : Line x2 B) : Rows (val_main_v25 (F := Ideal) x0 x1 x2) (conv P W B) := by
  have hv0 : Rows (val_main_v0 (F := Ideal)) _ := rows_literal 0x00000000#32 (by decide) _
  have hv1 : Rows (val_main_v1 (F := Ideal) x0) _ := hv0.below hx0 _ rfl
  have hv2 : Rows (val_main_v2 (F := Ideal)) _ := rows_literal 0x00000000#32 (by decide) _
  have hv3 : Rows (val_main_v3 (F := Ideal) x0) _ := hv1.slice 0 0 _
  have hv4 : Rows (val_main_v4 (F := Ideal) x1) _ := hx1.slice 0 0 _
  have hv5 : Line (val_main_v5 (F := Ideal) x1) _ := hv4.cast _
  have hv6 : Rows (val_main_v6 (F := Ideal) x1) _ := hv5.row _
  have hv7 : Rows (val_main_v7 (F := Ideal) x1) _ := hv6.spread _
  have hv8 : Rows (val_main_v8 (F := Ideal) x0 x1) _ := hv3.mulf hv7
  have hv9 : Rows (val_main_v9 (F := Ideal) x2) _ := hx2.row _
  have hv10 : Rows (val_main_v10 (F := Ideal) x2) _ := hv9.spread _
  have hv11 : Rows (val_main_v11 (F := Ideal) x0 x1 x2) _ := hv10.addf hv8
  have hv12 : Rows (val_main_v12 (F := Ideal) x0) _ := hv1.slice 1 0 _
  have hv13 : Rows (val_main_v13 (F := Ideal) x1) _ := hx1.slice 1 0 _
  have hv14 : Line (val_main_v14 (F := Ideal) x1) _ := hv13.cast _
  have hv15 : Rows (val_main_v15 (F := Ideal) x1) _ := hv14.row _
  have hv16 : Rows (val_main_v16 (F := Ideal) x1) _ := hv15.spread _
  have hv17 : Rows (val_main_v17 (F := Ideal) x0 x1) _ := hv12.mulf hv16
  have hv18 : Rows (val_main_v18 (F := Ideal) x0 x1 x2) _ := hv11.addf hv17
  have hv19 : Rows (val_main_v19 (F := Ideal) x0) _ := hv1.slice 2 0 _
  have hv20 : Rows (val_main_v20 (F := Ideal) x1) _ := hx1.slice 2 0 _
  have hv21 : Line (val_main_v21 (F := Ideal) x1) _ := hv20.cast _
  have hv22 : Rows (val_main_v22 (F := Ideal) x1) _ := hv21.row _
  have hv23 : Rows (val_main_v23 (F := Ideal) x1) _ := hv22.spread _
  have hv24 : Rows (val_main_v24 (F := Ideal) x0 x1) _ := hv19.mulf hv23
  have hv25 : Rows (val_main_v25 (F := Ideal) x0 x1 x2) _ := hv18.addf hv24
  refine hv25.congr fun r c _ _ => ?_
  simp only [conv, past, lit_zero, Nat.zero_add, Nat.add_zero, Nat.add_comm 1, Nat.add_comm 2]

/-- The gradient of the gated product. -/
theorem back_rows (hx3 : Rows x3 D) (hx4 : Rows x4 Y) : Rows (val_main_v51 (F := Ideal) x3 x4) (back D Y) := by
  have hv51 : Rows (val_main_v51 (F := Ideal) x3 x4) _ := hx4.hostDotT hx3 _ rfl
  exact hv51

/-- The gradients with respect to the two halves of the convolution's result. -/
theorem halves_rows (hv25 : Rows (val_main_v25 (F := Ideal) x0 x1 x2) (conv P W B)) (hv51 : Rows (val_main_v51 (F := Ideal) x3 x4) (back D Y)) :
    Rows (val_main_v65 (F := Ideal) x0 x1 x2 x3 x4) (gradGate P W B D Y) ∧ Rows (val_main_v52 (F := Ideal) x0 x1 x2 x3 x4) (gradUp P W B D Y) := by
  have hv26 : Rows (val_main_v26 (F := Ideal) x0 x1 x2) _ := hv25.slice 0 0 _
  have hv27 : Rows (val_main_v27 (F := Ideal) x0 x1 x2) _ := hv25.slice 0 3072 _
  have hv28 : Rows (val_main_v28 (F := Ideal) x0 x1 x2) _ := hv26.mulf hv26
  have hv29 : Rows (val_main_v29 (F := Ideal) x0 x1 x2) _ := hv28.mulf hv26
  have hv30 : Rows (val_main_v30 (F := Ideal) x0 x1 x2) _ := hv26.mulf hv26
  have hv31 : Rows (val_main_v31 (F := Ideal)) _ := rows_literal 0x40400000#32 (by decide) _
  have hv32 : Rows (val_main_v32 (F := Ideal) x0 x1 x2) _ := hv31.mulf hv30
  have hv33 : Rows (val_main_v33 (F := Ideal)) _ := rows_literal 0x3D372713#32 (by decide) _
  have hv34 : Rows (val_main_v34 (F := Ideal) x0 x1 x2) _ := hv33.mulf hv29
  have hv35 : Rows (val_main_v35 (F := Ideal) x0 x1 x2) _ := hv26.addf hv34
  have hv36 : Rows (val_main_v36 (F := Ideal)) _ := rows_literal 0x3F4C422A#32 (by decide) _
  have hv37 : Rows (val_main_v37 (F := Ideal) x0 x1 x2) _ := hv36.mulf hv35
  have hv38 : Rows (val_main_v38 (F := Ideal) x0 x1 x2) _ := hv37.tanh
  have hv39 : Rows (val_main_v39 (F := Ideal)) _ := rows_literal 0x3F800000#32 (by decide) _
  have hv40 : Rows (val_main_v40 (F := Ideal) x0 x1 x2) _ := hv39.addf hv38
  have hv41 : Rows (val_main_v41 (F := Ideal)) _ := rows_literal 0x3F800000#32 (by decide) _
  have hv42 : Rows (val_main_v42 (F := Ideal) x0 x1 x2) _ := hv41.subf hv38
  have hv43 : Rows (val_main_v43 (F := Ideal) x0 x1 x2) _ := hv40.mulf hv42
  have hv44 : Rows (val_main_v44 (F := Ideal)) _ := rows_literal 0x3F800000#32 (by decide) _
  have hv45 : Rows (val_main_v45 (F := Ideal) x0 x1 x2) _ := hv44.addf hv38
  have hv46 : Rows (val_main_v46 (F := Ideal)) _ := rows_literal 0x3F000000#32 (by decide) _
  have hv47 : Rows (val_main_v47 (F := Ideal) x0 x1 x2) _ := hv46.mulf hv45
  have hv48 : Rows (val_main_v48 (F := Ideal) x0 x1 x2) _ := hv26.mulf hv47
  have hv52 : Rows (val_main_v52 (F := Ideal) x0 x1 x2 x3 x4) _ := hv48.mulf hv51
  have hv53 : Rows (val_main_v53 (F := Ideal) x0 x1 x2 x3 x4) _ := hv51.mulf hv27
  have hv54 : Rows (val_main_v54 (F := Ideal) x0 x1 x2 x3 x4) _ := hv26.mulf hv53
  have hv55 : Rows (val_main_v55 (F := Ideal) x0 x1 x2 x3 x4) _ := hv53.mulf hv47
  have hv56 : Rows (val_main_v56 (F := Ideal)) _ := rows_literal 0x3F000000#32 (by decide) _
  have hv57 : Rows (val_main_v57 (F := Ideal) x0 x1 x2 x3 x4) _ := hv56.mulf hv54
  have hv58 : Rows (val_main_v58 (F := Ideal) x0 x1 x2 x3 x4) _ := hv57.mulf hv43
  have hv59 : Rows (val_main_v59 (F := Ideal)) _ := rows_literal 0x3F4C422A#32 (by decide) _
  have hv60 : Rows (val_main_v60 (F := Ideal) x0 x1 x2 x3 x4) _ := hv59.mulf hv58
  have hv61 : Rows (val_main_v61 (F := Ideal) x0 x1 x2 x3 x4) _ := hv55.addf hv60
  have hv62 : Rows (val_main_v62 (F := Ideal)) _ := rows_literal 0x3D372713#32 (by decide) _
  have hv63 : Rows (val_main_v63 (F := Ideal) x0 x1 x2 x3 x4) _ := hv62.mulf hv60
  have hv64 : Rows (val_main_v64 (F := Ideal) x0 x1 x2 x3 x4) _ := hv63.mulf hv32
  have hv65 : Rows (val_main_v65 (F := Ideal) x0 x1 x2 x3 x4) _ := hv61.addf hv64
  refine ⟨hv65.congr fun r c _ _ => ?_, hv52.congr fun r c _ _ => ?_⟩
  · simp only [gradGate, slope, share, bend, Nat.zero_add, lit_one]; ring
  · simp only [gradUp, gelu, share, bend, Nat.zero_add, lit_one]; ring

theorem grad_rows (hv65 : Rows (val_main_v65 (F := Ideal) x0 x1 x2 x3 x4) (gradGate P W B D Y)) (hv52 : Rows (val_main_v52 (F := Ideal) x0 x1 x2 x3 x4) (gradUp P W B D Y)) :
    Rows (val_main_v66 (F := Ideal) x0 x1 x2 x3 x4) (grad P W B D Y) := by
  have hv66 : Rows (val_main_v66 (F := Ideal) x0 x1 x2 x3 x4) _ := hv65.beside hv52 _ rfl
  exact hv66

variable {G : ℕ → ℕ → ℝ}

/-- The gradient of the input, from that of the convolution's result. -/
theorem in_rows (hx1 : Rows x1 W) (hG : ∀ r c, 4096 ≤ r → G r c = 0) (hv66 : Rows (val_main_v66 (F := Ideal) x0 x1 x2 x3 x4) G) :
    Rows (val_main_v102 (F := Ideal) x0 x1 x2 x3 x4) (gradIn W G) := by
  have hv4 : Rows (val_main_v4 (F := Ideal) x1) _ := hx1.slice 0 0 _
  have hv5 : Line (val_main_v5 (F := Ideal) x1) _ := hv4.cast _
  have hv6 : Rows (val_main_v6 (F := Ideal) x1) _ := hv5.row _
  have hv13 : Rows (val_main_v13 (F := Ideal) x1) _ := hx1.slice 1 0 _
  have hv14 : Line (val_main_v14 (F := Ideal) x1) _ := hv13.cast _
  have hv15 : Rows (val_main_v15 (F := Ideal) x1) _ := hv14.row _
  have hv20 : Rows (val_main_v20 (F := Ideal) x1) _ := hx1.slice 2 0 _
  have hv21 : Line (val_main_v21 (F := Ideal) x1) _ := hv20.cast _
  have hv22 : Rows (val_main_v22 (F := Ideal) x1) _ := hv21.row _
  have hv70 : Rows (val_main_v70 (F := Ideal) x1) _ := hv22.spread _
  have hv71 : Rows (val_main_v71 (F := Ideal) x0 x1 x2 x3 x4) _ := hv66.mulf hv70
  have hv75 : Rows (val_main_v75 (F := Ideal) x0 x1 x2 x3 x4) _ := hv71.padded 2 0 _ zero_word _ _
  have hv79 : Rows (val_main_v79 (F := Ideal) x1) _ := hv15.spread _
  have hv80 : Rows (val_main_v80 (F := Ideal) x0 x1 x2 x3 x4) _ := hv66.mulf hv79
  have hv85 : Rows (val_main_v85 (F := Ideal) x0 x1 x2 x3 x4) _ := hv80.padded 1 1 _ zero_word _ _
  have hv86 : Rows (val_main_v86 (F := Ideal) x0 x1 x2 x3 x4) _ := hv75.addf hv85
  have hv93 : Rows (val_main_v93 (F := Ideal) x1) _ := hv6.spread _
  have hv94 : Rows (val_main_v94 (F := Ideal) x0 x1 x2 x3 x4) _ := hv66.mulf hv93
  have hv99 : Rows (val_main_v99 (F := Ideal) x0 x1 x2 x3 x4) _ := hv94.padded 0 2 _ zero_word _ _
  have hv100 : Rows (val_main_v100 (F := Ideal) x0 x1 x2 x3 x4) _ := hv86.addf hv99
  have hv102 : Rows (val_main_v102 (F := Ideal) x0 x1 x2 x3 x4) _ := hv100.slice 2 0 _
  refine hv102.congr fun r c hr _ => ?_
  simp only [gradIn, Nat.zero_add, Nat.add_zero]
  rw [if_pos (by omega), show 2 + r - 2 = r by omega, show 2 + r - 1 = r + 1 by omega, show 2 + r - 0 = r + 2 by omega]
  by_cases h1 : r + 1 < 4096
  · rw [if_pos (by omega)]
    by_cases h2 : r + 2 < 4096
    · rw [if_pos (by omega)]; ring
    · rw [if_neg (by omega), hG (r + 2) c (by omega)]; ring
  · rw [if_neg (by omega), if_neg (by omega), hG (r + 1) c (by omega), hG (r + 2) c (by omega)]; ring

/-- The gradient of the weights. -/
theorem w_rows (hx0 : Rows x0 P) (hG : ∀ r c, 4096 ≤ r → G r c = 0) (hv66 : Rows (val_main_v66 (F := Ideal) x0 x1 x2 x3 x4) G) :
    Rows (val_main_v103 (F := Ideal) x0 x1 x2 x3 x4) (gradW P G) := by
  have hv0 : Rows (val_main_v0 (F := Ideal)) _ := rows_literal 0x00000000#32 (by decide) _
  have hv1 : Rows (val_main_v1 (F := Ideal) x0) _ := hv0.below hx0 _ rfl
  have hv3 : Rows (val_main_v3 (F := Ideal) x0) _ := hv1.slice 0 0 _
  have hv12 : Rows (val_main_v12 (F := Ideal) x0) _ := hv1.slice 1 0 _
  have hv19 : Rows (val_main_v19 (F := Ideal) x0) _ := hv1.slice 2 0 _
  have hv67 : Rows (val_main_v67 (F := Ideal) x0 x1 x2 x3 x4) _ := hv19.mulf hv66
  have hv68 : Line (val_main_v68 (F := Ideal) x0 x1 x2 x3 x4) _ := hv67.hostColsum _ zero_word _ (by decide) _
  have hv69 : Rows (val_main_v69 (F := Ideal) x0 x1 x2 x3 x4) _ := hv68.cast _
  have hv72 : Line (val_main_v72 (F := Ideal) x0 x1 x2 x3 x4) _ := hv69.hostColsum _ zero_word _ (by decide) _
  have hv73 : Rows (val_main_v73 (F := Ideal) x0 x1 x2 x3 x4) _ := hv72.row _
  have hv74 : Rows (val_main_v74 (F := Ideal) x0 x1 x2 x3 x4) _ := hv73.padded 2 0 _ zero_word _ _
  have hv76 : Rows (val_main_v76 (F := Ideal) x0 x1 x2 x3 x4) _ := hv12.mulf hv66
  have hv77 : Line (val_main_v77 (F := Ideal) x0 x1 x2 x3 x4) _ := hv76.hostColsum _ zero_word _ (by decide) _
  have hv78 : Rows (val_main_v78 (F := Ideal) x0 x1 x2 x3 x4) _ := hv77.cast _
  have hv81 : Line (val_main_v81 (F := Ideal) x0 x1 x2 x3 x4) _ := hv78.hostColsum _ zero_word _ (by decide) _
  have hv82 : Rows (val_main_v82 (F := Ideal) x0 x1 x2 x3 x4) _ := hv81.row _
  have hv83 : Rows (val_main_v83 (F := Ideal) x0 x1 x2 x3 x4) _ := hv82.padded 1 1 _ zero_word _ _
  have hv84 : Rows (val_main_v84 (F := Ideal) x0 x1 x2 x3 x4) _ := hv74.addf hv83
  have hv90 : Rows (val_main_v90 (F := Ideal) x0 x1 x2 x3 x4) _ := hv3.mulf hv66
  have hv91 : Line (val_main_v91 (F := Ideal) x0 x1 x2 x3 x4) _ := hv90.hostColsum _ zero_word _ (by decide) _
  have hv92 : Rows (val_main_v92 (F := Ideal) x0 x1 x2 x3 x4) _ := hv91.cast _
  have hv95 : Line (val_main_v95 (F := Ideal) x0 x1 x2 x3 x4) _ := hv92.hostColsum _ zero_word _ (by decide) _
  have hv96 : Rows (val_main_v96 (F := Ideal) x0 x1 x2 x3 x4) _ := hv95.row _
  have hv97 : Rows (val_main_v97 (F := Ideal) x0 x1 x2 x3 x4) _ := hv96.padded 0 2 _ zero_word _ _
  have hv98 : Rows (val_main_v98 (F := Ideal) x0 x1 x2 x3 x4) _ := hv84.addf hv97
  have hv103 : Rows (val_main_v103 (F := Ideal) x0 x1 x2 x3 x4) _ := hv98.padded 0 5 _ whole_zero _ _
  refine hv103.congr fun k c hk _ => ?_
  have e0 : ∑ r ∈ range 4096, past P (2 + r) c * G r c = _ :=
    (sum_congr rfl fun r _ => by rw [Nat.add_comm]).trans (sum_past_zero P 4096 G c)
  have e1 : ∑ r ∈ range 4096, past P (1 + r) c * G r c = _ :=
    (sum_congr rfl fun r _ => by rw [Nat.add_comm]).trans (sum_past_one P 4096 G c (fun r h => hG r c h))
  have e2 := sum_past_two P 4096 G c (fun r h => hG r c h)
  simp only [past] at e0 e1 e2
  simp only [gradW, lit_zero, Nat.zero_add, Nat.add_zero, sum_range_one]
  obtain rfl | rfl | rfl | h : k = 0 ∨ k = 1 ∨ k = 2 ∨ 3 ≤ k := by omega
  · simpa using e2
  · simpa using e1
  · simpa using e0
  · rw [if_neg (by omega), if_neg (by omega)]

/-- The gradient of the bias. -/
theorem b_line (hv66 : Rows (val_main_v66 (F := Ideal) x0 x1 x2 x3 x4) G) : Line (val_main_v89 (F := Ideal) x0 x1 x2 x3 x4) (gradB G) := by
  have hv87 : Line (val_main_v87 (F := Ideal) x0 x1 x2 x3 x4) _ := hv66.hostColsum _ zero_word _ (by decide) _
  have hv88 : Rows (val_main_v88 (F := Ideal) x0 x1 x2 x3 x4) _ := hv87.cast _
  have hv89 : Line (val_main_v89 (F := Ideal) x0 x1 x2 x3 x4) _ := hv88.hostColsum _ zero_word _ (by decide) _
  refine fun i => (hv89 i).trans ?_
  simp only [gradB, sum_range_one]

/-- The six results. -/
theorem dgate_rows (h : Rows (val_main_v102 (F := Ideal) x0 x1 x2 x3 x4) (gradIn W G)) : Rows (val_main_v105 (F := Ideal) x0 x1 x2 x3 x4) (fun r c => gradIn W G r (0 + c)) := by
  have hv102 := h
  have hv104 : Rows (val_main_v104 (F := Ideal) x0 x1 x2 x3 x4) _ := hv102.slice 0 0 _
  have hv105 : Rows (val_main_v105 (F := Ideal) x0 x1 x2 x3 x4) _ := hv104.truncf _
  exact hv105.congr fun r c _ _ => by rw [Nat.zero_add]

theorem dup_rows (h : Rows (val_main_v102 (F := Ideal) x0 x1 x2 x3 x4) (gradIn W G)) : Rows (val_main_v107 (F := Ideal) x0 x1 x2 x3 x4) (fun r c => gradIn W G r (3072 + c)) := by
  have hv102 := h
  have hv106 : Rows (val_main_v106 (F := Ideal) x0 x1 x2 x3 x4) _ := hv102.slice 0 3072 _
  have hv107 : Rows (val_main_v107 (F := Ideal) x0 x1 x2 x3 x4) _ := hv106.truncf _
  exact hv107.congr fun r c _ _ => by rw [Nat.zero_add]

theorem wgate_rows (h : Rows (val_main_v103 (F := Ideal) x0 x1 x2 x3 x4) (gradW P G)) : Rows (val_main_v108 (F := Ideal) x0 x1 x2 x3 x4) (fun r c => gradW P G r (0 + c)) := by
  have hv103 := h
  have hv108 : Rows (val_main_v108 (F := Ideal) x0 x1 x2 x3 x4) _ := hv103.slice 0 0 _
  exact hv108.congr fun r c _ _ => by rw [Nat.zero_add r]

theorem wup_rows (h : Rows (val_main_v103 (F := Ideal) x0 x1 x2 x3 x4) (gradW P G)) : Rows (val_main_v109 (F := Ideal) x0 x1 x2 x3 x4) (fun r c => gradW P G r (3072 + c)) := by
  have hv103 := h
  have hv109 : Rows (val_main_v109 (F := Ideal) x0 x1 x2 x3 x4) _ := hv103.slice 0 3072 _
  exact hv109.congr fun r c _ _ => by rw [Nat.zero_add]

theorem bgate_rows (h : Line (val_main_v89 (F := Ideal) x0 x1 x2 x3 x4) (gradB G)) : Rows (val_main_v111 (F := Ideal) x0 x1 x2 x3 x4) (fun _ c => gradB G (0 + c)) := by
  have hv89 := h
  have hv110 : Line (val_main_v110 (F := Ideal) x0 x1 x2 x3 x4) _ := hv89.slice 0 _
  have hv111 : Rows (val_main_v111 (F := Ideal) x0 x1 x2 x3 x4) _ := hv110.cast _
  exact hv111

theorem bup_rows (h : Line (val_main_v89 (F := Ideal) x0 x1 x2 x3 x4) (gradB G)) : Rows (val_main_v113 (F := Ideal) x0 x1 x2 x3 x4) (fun _ c => gradB G (3072 + c)) := by
  have hv89 := h
  have hv112 : Line (val_main_v112 (F := Ideal) x0 x1 x2 x3 x4) _ := hv89.slice 3072 _
  have hv113 : Rows (val_main_v113 (F := Ideal) x0 x1 x2 x3 x4) _ := hv112.cast _
  exact hv113

end Cert.Proof.Ref

end
-- ==== Proof.Finite.lean ====
/- Arrays of which every entry is finite are arrays of real numbers. -/
module

public import proofs.«01_k».proof.Proof.Reals

@[expose] public section

noncomputable section

namespace Cert.Proof

open Idealize.ShloMosaic

/-- What the comparison of the precondition says of one entry. -/
theorem real_of_test {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) (i : s.Idx) :
    x i = (((x i : EReal).toReal : ℝ) : EReal) := by
  have hi : Ideal.cmp .olt (max (x i : EReal) (-(x i))) (Ideal.ofBits .f32 0x7F800000#32) = 1#1 := congrFun h i
  have top : Ideal.ofBits .f32 0x7F800000#32 = (⊤ : EReal) := by
    simp [Ideal.ofBits, Ideal.ieee]
  rw [top] at hi
  have lt : max (x i : EReal) (-(x i)) < ⊤ := by
    by_contra hn
    simp [Ideal.cmp, hn] at hi
  refine (EReal.coe_toReal (ne_of_lt (lt_of_le_of_lt (le_max_left _ _) lt)) fun hbot => ?_).symm
  rw [hbot] at lt
  simp at lt

/-- The entries of a matrix as real numbers, zero outside it. -/
def entries {a b : ℕ} (x : (⟨2, ![a, b]⟩ : Shape).Idx → EReal) (r c : ℕ) : ℝ :=
  if h : r < a ∧ c < b then (x (ValueIdx.ix2 ⟨r, h.1⟩ ⟨c, h.2⟩)).toReal else 0

/-- The entries of a vector likewise. -/
def entry {a : ℕ} (x : (⟨1, ![a]⟩ : Shape).Idx → EReal) (c : ℕ) : ℝ :=
  if h : c < a then (x (ValueIdx.ix1 ⟨c, h⟩)).toReal else 0

theorem entries_beyond {a b : ℕ} (x : (⟨2, ![a, b]⟩ : Shape).Idx → EReal) (r c : ℕ) (h : a ≤ r) : entries x r c = 0 :=
  dif_neg fun hc => absurd hc.1 (by omega)

theorem rows_entries {a b : ℕ} {x : (⟨2, ![a, b]⟩ : Shape).Idx → EReal} (h : ∀ i, x i = (((x i).toReal : ℝ) : EReal)) :
    Rows x (entries x) := fun i => by
  have e : ValueIdx.ix2 (i 0) (i 1) = i := by
    funext d; match d with | ⟨0, _⟩ => rfl | ⟨1, _⟩ => rfl
  have t : entries x (i 0).val (i 1).val = (x (ValueIdx.ix2 (i 0) (i 1))).toReal := dif_pos ⟨(i 0).isLt, (i 1).isLt⟩
  exact (h i).trans (congrArg Real.toEReal ((congrArg (fun j => (x j).toReal) e).symm.trans t.symm))

theorem line_entry {a : ℕ} {x : (⟨1, ![a]⟩ : Shape).Idx → EReal} (h : ∀ i, x i = (((x i).toReal : ℝ) : EReal)) :
    Line x (entry x) := fun i => by
  have e : ValueIdx.ix1 (i 0) = i := by
    funext d; match d with | ⟨0, _⟩ => rfl
  have t : entry x (i 0).val = (x (ValueIdx.ix1 (i 0))).toReal := dif_pos (i 0).isLt
  exact (h i).trans (congrArg Real.toEReal ((congrArg (fun j => (x j).toReal) e).symm.trans t.symm))

end Cert.Proof

end
-- ==== Proof.Tie.lean ====
/- The arrays the kernel leaves are the reference's results of the same arguments. -/
module

public import proofs.«01_k».proof.Proof.Arrays
public import proofs.«01_k».proof.Proof.RefValue
public import proofs.«01_k».proof.Proof.Finite

@[expose] public section

set_option maxRecDepth 16384

noncomputable section

namespace Cert.Proof.Entry

open Idealize.ShloMosaic Idealize.ShloMosaic.TcCoe Cert.KernelIdeal Cert.KernelIdeal.Gen Cert.ReferenceIdeal.Read Cert.Proof Cert.Proof.Ref

variable {m : (ℓ : Loc nD τ sig) → Buf (Elt Ideal) ℓ} {c : Dev nD} {P W D Y : ℕ → ℕ → ℝ} {B : ℕ → ℝ} (g : Given m c P W B D Y)

/-- The gradient with respect to the convolution's result in its first and its second half of columns. -/
theorem grad_low (r q : ℕ) (h : q < 3072) : grad P W B D Y r (0 + q) = gradGate P W B D Y r q := by
  rw [Nat.zero_add]; exact if_pos h

theorem grad_high (r q : ℕ) : grad P W B D Y r (3072 + q) = gradUp P W B D Y r q := by
  unfold grad
  rw [if_neg (by omega), Nat.add_sub_cancel_left]

include g

/-- The reference's gradient with respect to the convolution's result. -/
theorem ref_grad : Rows (val_main_v66 (F := Ideal) (m (c.tc.loc main_arg0)) (m (c.tc.loc main_arg1)) (m (c.tc.loc main_arg2))
    (m (c.tc.loc main_arg3)) (m (c.tc.loc main_arg4))) (grad P W B D Y) :=
  have h := halves_rows (conv_rows g.input g.weight g.bias) (back_rows g.down g.cot)
  grad_rows h.1 h.2

theorem tie11 : (dats m 0 c).arrAt 11 cfg0.N = val_main_v105 (F := Ideal) (m (c.tc.loc main_arg0)) (m (c.tc.loc main_arg1))
    (m (c.tc.loc main_arg2)) (m (c.tc.loc main_arg3)) (m (c.tc.loc main_arg4)) :=
  (array11 g).eq (dgate_rows (in_rows g.weight (grad_beyond P W B D Y g.stop) (ref_grad g))) fun r q _ hq => by
    simp only [gradIn, grad_low _ q hq]
    rw [Nat.zero_add q]

theorem tie12 : (dats m 0 c).arrAt 12 cfg0.N = val_main_v107 (F := Ideal) (m (c.tc.loc main_arg0)) (m (c.tc.loc main_arg1))
    (m (c.tc.loc main_arg2)) (m (c.tc.loc main_arg3)) (m (c.tc.loc main_arg4)) :=
  (array12 g).eq (dup_rows (in_rows g.weight (grad_beyond P W B D Y g.stop) (ref_grad g))) fun r q _ _ => by
    simp only [gradIn, grad_high]

theorem tie13 : (dats m 0 c).arrAt 13 cfg0.N = val_main_v108 (F := Ideal) (m (c.tc.loc main_arg0)) (m (c.tc.loc main_arg1))
    (m (c.tc.loc main_arg2)) (m (c.tc.loc main_arg3)) (m (c.tc.loc main_arg4)) :=
  (array13 g).eq (wgate_rows (w_rows g.input (grad_beyond P W B D Y g.stop) (ref_grad g))) fun r q _ hq => by
    simp only [gradW, grad_low _ q hq]
    rw [Nat.zero_add q]

theorem tie14 : (dats m 0 c).arrAt 14 cfg0.N = val_main_v109 (F := Ideal) (m (c.tc.loc main_arg0)) (m (c.tc.loc main_arg1))
    (m (c.tc.loc main_arg2)) (m (c.tc.loc main_arg3)) (m (c.tc.loc main_arg4)) :=
  (array14 g).eq (wup_rows (w_rows g.input (grad_beyond P W B D Y g.stop) (ref_grad g))) fun r q _ _ => by
    simp only [gradW, grad_high]

theorem tie15 : (dats m 0 c).arrAt 15 cfg0.N = val_main_v111 (F := Ideal) (m (c.tc.loc main_arg0)) (m (c.tc.loc main_arg1))
    (m (c.tc.loc main_arg2)) (m (c.tc.loc main_arg3)) (m (c.tc.loc main_arg4)) :=
  (array15 g).eq (bgate_rows (b_line (ref_grad g))) fun r q _ hq => by
    simp only [gradB, grad_low _ _ hq]

theorem tie16 : (dats m 0 c).arrAt 16 cfg0.N = val_main_v113 (F := Ideal) (m (c.tc.loc main_arg0)) (m (c.tc.loc main_arg1))
    (m (c.tc.loc main_arg2)) (m (c.tc.loc main_arg3)) (m (c.tc.loc main_arg4)) :=
  (array16 g).eq (bup_rows (b_line (ref_grad g))) fun r q _ _ => by
    simp only [gradB, grad_high]

end Cert.Proof.Entry

end
-- ==== Proof.Tables.lean ====
/- Arrays of extended reals, entry by entry.

   A claim without a precondition is one about extended reals, where sums and products may be put in any order but a
   product does not distribute over a sum. `Table x f` says that entry `(r, c)` of the matrix `x` is `f r c`, and
   `Listed x l` that entry `c` of the vector `x` is `l c`. As with the real numbers of `Rows`, the coordinates are
   natural numbers. -/
module

public import proofs.«01_k».proof.Proof.Reals

@[expose] public section

noncomputable section

namespace Cert.Proof

open Idealize.ShloMosaic Finset

/-- Entry `(r, c)` of the matrix is `f r c`. -/
def Table {a b : ℕ} (x : (⟨2, ![a, b]⟩ : Shape).Idx → EReal) (f : ℕ → ℕ → EReal) : Prop :=
  ∀ i, x i = f (i 0).val (i 1).val

/-- Entry `c` of the vector is `l c`. -/
def Listed {a : ℕ} (x : (⟨1, ![a]⟩ : Shape).Idx → EReal) (l : ℕ → EReal) : Prop :=
  ∀ i, x i = l (i 0).val

/-- The entries of a matrix, and of a vector, at natural coordinates; zero outside. -/
def cell {a b : ℕ} (x : (⟨2, ![a, b]⟩ : Shape).Idx → EReal) (r c : ℕ) : EReal :=
  if h : r < a ∧ c < b then x (ix2 ⟨r, h.1⟩ ⟨c, h.2⟩) else 0

def item {a : ℕ} (x : (⟨1, ![a]⟩ : Shape).Idx → EReal) (c : ℕ) : EReal :=
  if h : c < a then x (ix1 ⟨c, h⟩) else 0

theorem table_cell {a b : ℕ} (x : (⟨2, ![a, b]⟩ : Shape).Idx → EReal) : Table x (cell x) := fun i => by
  rw [cell, dif_pos ⟨(i 0).isLt, (i 1).isLt⟩]
  exact congrArg x (funext fun d => match d with | ⟨0, _⟩ => rfl | ⟨1, _⟩ => rfl)

theorem listed_item {a : ℕ} (x : (⟨1, ![a]⟩ : Shape).Idx → EReal) : Listed x (item x) := fun i => by
  rw [item, dif_pos (show (i 0).val < a from (i 0).isLt)]
  exact congrArg x (funext fun d => match d with | ⟨0, _⟩ => rfl)

/-- The number a 32-bit pattern stands for, in the extended reals. -/
abbrev word (b : BitVec 32) : EReal := Ideal.ofBits .f32 b

section Pointwise
variable {a b : ℕ}

theorem Table.congr {x : (⟨2, ![a, b]⟩ : Shape).Idx → EReal} {f g : ℕ → ℕ → EReal} (hx : Table x f)
    (h : ∀ r c, r < a → c < b → f r c = g r c) : Table x g := fun i => by
  rw [hx i, h _ _ (i 0).isLt (i 1).isLt]

theorem Table.eq {x y : (⟨2, ![a, b]⟩ : Shape).Idx → EReal} {f g : ℕ → ℕ → EReal} (hx : Table x f) (hy : Table y g)
    (h : ∀ r c, r < a → c < b → f r c = g r c) : x = y :=
  funext fun i => by rw [hx i, hy i, h _ _ (i 0).isLt (i 1).isLt]

variable {φ : FTy} {x y : FVec Ideal ⟨2, ![a, b]⟩ φ} {f g : ℕ → ℕ → EReal}

theorem Table.mulf (hx : Table x f) (hy : Table y g) : Table (mulf x y) (fun r c => f r c * g r c) := fun i => by
  show x i * y i = _
  rw [hx i, hy i]

theorem Table.addf (hx : Table x f) (hy : Table y g) : Table (addf x y) (fun r c => f r c + g r c) := fun i => by
  show x i + y i = _
  rw [hx i, hy i]

theorem Table.subf (hx : Table x f) (hy : Table y g) : Table (subf x y) (fun r c => f r c - g r c) := fun i => by
  show x i - y i = _
  rw [hx i, hy i]

theorem Table.divf (hx : Table x f) (hy : Table y g) : Table (divf x y) (fun r c => Ideal.div (f r c) (g r c)) := fun i => by
  show Ideal.div (x i) (y i) = _
  rw [hx i, hy i]

theorem Table.hostDivf (hx : Table x f) (hy : Table y g) : Table (Host.divf x y) (fun r c => Ideal.div (f r c) (g r c)) := fun i => by
  show Ideal.div (x i) (y i) = _
  rw [hx i, hy i]

theorem Table.rsqrt (hx : Table x f) : Table (rsqrt x) (fun r c => Ideal.rsqrt (f r c)) := fun i => by
  show Ideal.rsqrt (x i) = _
  rw [hx i]

theorem Table.hostRsqrt (hx : Table x f) : Table (Host.rsqrt x) (fun r c => Ideal.rsqrt (f r c)) := fun i => by
  show Ideal.rsqrt (x i) = _
  rw [hx i]

theorem Table.truncf {x : FVec Ideal ⟨2, ![a, b]⟩ .f32} {f : ℕ → ℕ → EReal} (hx : Table x f) (h : FTy.bits .bf16 < FTy.bits .f32) :
    Table (truncf .bf16 x h : FVec Ideal ⟨2, ![a, b]⟩ .bf16) f := hx

theorem Table.extf {x : FVec Ideal ⟨2, ![a, b]⟩ .bf16} {f : ℕ → ℕ → EReal} (hx : Table x f) (h : FTy.bits .bf16 < FTy.bits .f32) :
    Table (extf .f32 x h : FVec Ideal ⟨2, ![a, b]⟩ .f32) f := hx

theorem table_constant (w : BitVec 32) :
    Table (constant ⟨2, ![a, b]⟩ .f32 w : FVec Ideal ⟨2, ![a, b]⟩ .f32) (fun _ _ => word w) := fun _ => rfl

theorem table_filled (w : BitVec 32) :
    Table (broadcast ⟨2, ![a, b]⟩ (Scalar.ofBits .f32 w : Ideal .f32)) (fun _ _ => word w) := fun _ => rfl

theorem table_literal (w : BitVec 32) (h : (⟨0, ![]⟩ : Shape).BroadcastsInDim ⟨2, ![a, b]⟩ ![]) :
    Table (broadcastInDim ⟨2, ![a, b]⟩ ![] h (constant ⟨0, ![]⟩ .f32 w : FVec Ideal ⟨0, ![]⟩ .f32)) (fun _ _ => word w) :=
  fun _ => rfl

end Pointwise

section Layout
variable {a b m n k : ℕ} {f g : ℕ → ℕ → EReal} {l : ℕ → EReal}

theorem Table.self {x : (⟨2, ![a, b]⟩ : Shape).Idx → EReal} (hx : Table x f) (h : (⟨2, ![a, b]⟩ : Shape).ShapeCasts ⟨2, ![a, b]⟩) :
    Table (shapeCast ⟨2, ![a, b]⟩ x h) f := by
  rw [shapeCast_self]; exact hx

theorem Table.slice {x : (⟨2, ![m, n]⟩ : Shape).Idx → EReal} (hx : Table x f) (p q : ℕ)
    (h : (⟨2, ![m, n]⟩ : Shape).Slices ![p, q] ⟨2, ![a, b]⟩) :
    Table (extractStridedSlice ⟨2, ![a, b]⟩ ![p, q] x h) (fun r c => f (p + r) (q + c)) := fun i => by
  have h0 : p + (i 0).val < m := by
    have h1 : p + a ≤ m := h.2 (0 : Fin 2)
    have h2 : (i 0).val < a := (i 0).isLt
    omega
  have h0' : q + (i 1).val < n := by
    have h1 : q + b ≤ n := h.2 (1 : Fin 2)
    have h2 : (i 1).val < b := (i 1).isLt
    omega
  rw [extractStridedSlice_apply ![p, q] x h i (ix2 ⟨p + (i 0).val, h0⟩ ⟨q + (i 1).val, h0'⟩)
    (fun d => match d with | ⟨0, _⟩ => rfl | ⟨1, _⟩ => rfl), hx]
  rfl

/-- Rows and columns exchanged. -/
theorem Table.flip {x : (⟨2, ![a, b]⟩ : Shape).Idx → EReal} (hx : Table x f)
    (h : (⟨2, ![a, b]⟩ : Shape).Transposes [1, 0] ⟨2, ![b, a]⟩) :
    Table (transpose ⟨2, ![b, a]⟩ [1, 0] x h) (fun r c => f c r) := fun i => by
  rw [transpose_apply [1, 0] x h i (ix2 (i 1) (i 0)) (fun d => match d with | ⟨0, _⟩ => rfl | ⟨1, _⟩ => rfl), hx]
  rfl

/-- Rows put below rows. -/
theorem Table.below {x : (⟨2, ![m, b]⟩ : Shape).Idx → EReal} {y : (⟨2, ![k, b]⟩ : Shape).Idx → EReal} (hx : Table x f) (hy : Table y g)
    (h : Shape.Concatenates [⟨2, ![m, b]⟩, ⟨2, ![k, b]⟩] ⟨2, ![a, b]⟩ 0) (ha : a = m + k) :
    Table (concatenate ⟨2, ![a, b]⟩ 0 [⟨⟨2, ![m, b]⟩, x⟩, ⟨⟨2, ![k, b]⟩, y⟩] h) (fun r c => if r < m then f r c else g (r - m) c) :=
  fun i => by
  have h0 : (i 0).val < a := (i 0).isLt
  by_cases hr : (i 0).val < m
  · rw [concatenate_pair_apply_left 0 x y h i rfl (ix2 ⟨(i 0).val, hr⟩ (i 1))
      (fun d => match d with | ⟨0, _⟩ => rfl | ⟨1, _⟩ => rfl)]
    exact (hx _).trans (if_pos hr).symm
  · rw [concatenate_pair_apply_right 0 x y h i rfl rfl (ix2 ⟨(i 0).val - m, by omega⟩ (i 1))
      (fun d => match d with | ⟨0, _⟩ => fun hd => absurd rfl hd | ⟨1, _⟩ => fun _ => rfl)
      (by show (i 0).val - m + m = (i 0).val; omega)]
    exact (hy _).trans (if_neg hr).symm

/-- One row repeated, by the kernel and on the host. -/
theorem Table.repeated {x : (⟨2, ![1, b]⟩ : Shape).Idx → EReal} (hx : Table x f) (h : (⟨2, ![1, b]⟩ : Shape).Broadcasts ⟨2, ![a, b]⟩) :
    Table (broadcastTo ⟨2, ![a, b]⟩ x h) (fun _ c => f 0 c) := fun i => by
  rw [broadcastTo_apply x h i (ix2 0 (i 1)) (fun d => match d with
    | ⟨0, _⟩ => rfl
    | ⟨1, _⟩ => by
        show (i 1).val = if b = 1 then 0 else (i 1).val
        have : (i 1).val < b := (i 1).isLt
        split <;> omega), hx]
  rfl

theorem Table.spread {x : (⟨2, ![1, b]⟩ : Shape).Idx → EReal} (hx : Table x f) (h : (⟨2, ![1, b]⟩ : Shape).BroadcastsInDim ⟨2, ![a, b]⟩ ![0, 1]) :
    Table (broadcastInDim ⟨2, ![a, b]⟩ ![0, 1] h x) (fun _ c => f 0 c) := fun i => by
  rw [broadcastInDim_apply ![0, 1] h x i (ix2 0 (i 1)) (fun d => match d with
    | ⟨0, _⟩ => rfl
    | ⟨1, _⟩ => by
        show (i 1).val = if b = 1 then 0 else (i 1).val
        have : (i 1).val < b := (i 1).isLt
        split <;> omega), hx]
  rfl

/-- One column repeated, by the kernel and on the host. -/
theorem Table.widened {x : (⟨2, ![a, 1]⟩ : Shape).Idx → EReal} (hx : Table x f) (h : (⟨2, ![a, 1]⟩ : Shape).Broadcasts ⟨2, ![a, b]⟩) :
    Table (broadcastTo ⟨2, ![a, b]⟩ x h) (fun r _ => f r 0) := fun i => by
  rw [broadcastTo_apply x h i (ix2 (i 0) 0) (fun d => match d with
    | ⟨1, _⟩ => rfl
    | ⟨0, _⟩ => by
        show (i 0).val = if a = 1 then 0 else (i 0).val
        have : (i 0).val < a := (i 0).isLt
        split <;> omega), hx]
  rfl

theorem Table.hostWidened {x : (⟨2, ![a, 1]⟩ : Shape).Idx → EReal} (hx : Table x f) (h : (⟨2, ![a, 1]⟩ : Shape).BroadcastsInDim ⟨2, ![a, b]⟩ ![0, 1]) :
    Table (broadcastInDim ⟨2, ![a, b]⟩ ![0, 1] h x) (fun r _ => f r 0) := fun i => by
  rw [broadcastInDim_apply ![0, 1] h x i (ix2 (i 0) 0) (fun d => match d with
    | ⟨1, _⟩ => rfl
    | ⟨0, _⟩ => by
        show (i 0).val = if a = 1 then 0 else (i 0).val
        have : (i 0).val < a := (i 0).isLt
        split <;> omega), hx]
  rfl

/-- A vector made a matrix of one row, two ways. -/
theorem Listed.row {x : (⟨1, ![b]⟩ : Shape).Idx → EReal} (hx : Listed x l) (h : (⟨1, ![b]⟩ : Shape).BroadcastsInDim ⟨2, ![1, b]⟩ ![1]) :
    Table (broadcastInDim ⟨2, ![1, b]⟩ ![1] h x) (fun _ c => l c) := fun i => by
  rw [broadcastInDim_apply ![1] h x i (ix1 (i 1)) (fun d => match d with
    | ⟨0, _⟩ => by
        show (i 1).val = if b = 1 then 0 else (i 1).val
        have : (i 1).val < b := (i 1).isLt
        split <;> omega), hx]
  rfl

theorem Listed.cast {x : (⟨1, ![b]⟩ : Shape).Idx → EReal} (hx : Listed x l) (h : (⟨1, ![b]⟩ : Shape).ShapeCasts ⟨2, ![1, b]⟩) :
    Table (shapeCast ⟨2, ![1, b]⟩ x h) (fun _ c => l c) := fun i => by
  rw [shapeCast_apply x h i (ix1 (i 1)) (by
    rw [Shape.rowMajor_val_one, Shape.rowMajor_val_two]
    have : (i 0).val < 1 := (i 0).isLt
    show (i 1).val = (i 0).val * b + (i 1).val
    have h0 : (i 0).val = 0 := by omega
    rw [h0]; omega), hx]
  rfl

/-- A vector made a matrix with that vector in every column: one column, two ways, or many. -/
theorem Listed.column {x : (⟨1, ![a]⟩ : Shape).Idx → EReal} (hx : Listed x l) (h : (⟨1, ![a]⟩ : Shape).BroadcastsInDim ⟨2, ![a, b]⟩ ![0]) :
    Table (broadcastInDim ⟨2, ![a, b]⟩ ![0] h x) (fun r _ => l r) := fun i => by
  rw [broadcastInDim_apply ![0] h x i (ix1 (i 0)) (fun d => match d with
    | ⟨0, _⟩ => by
        show (i 0).val = if a = 1 then 0 else (i 0).val
        have : (i 0).val < a := (i 0).isLt
        split <;> omega), hx]
  rfl

theorem Listed.stand {x : (⟨1, ![a]⟩ : Shape).Idx → EReal} (hx : Listed x l) (h : (⟨1, ![a]⟩ : Shape).ShapeCasts ⟨2, ![a, 1]⟩) :
    Table (shapeCast ⟨2, ![a, 1]⟩ x h) (fun r _ => l r) := fun i => by
  rw [shapeCast_apply x h i (ix1 (i 0)) (by
    rw [Shape.rowMajor_val_one, Shape.rowMajor_val_two]
    have : (i 1).val < 1 := (i 1).isLt
    show (i 0).val = (i 0).val * 1 + (i 1).val
    omega), hx]
  rfl

end Layout

/-! ## Sums -/

section Sums
variable {a b k : ℕ} {f g : ℕ → ℕ → EReal}

/-- The sum of the rows, by the kernel and by a host program. -/
theorem Table.colsum {x : FVec Ideal ⟨2, ![a, b]⟩ .f32} (hx : Table x f) (h : (⟨2, ![a, b]⟩ : Shape).Reduces [0] ⟨1, ![b]⟩)
    (hφ : FKind.Formats .f32) (hacc : (0x00000000#32 : BitVec 32) = FKind.add.neutral .f32 hφ) :
    Listed (multiReduction .add [0] ⟨1, ![b]⟩ x 0x00000000#32 h hφ hacc) (fun c => ∑ r ∈ range a, f r c) := fun i => by
  beta_reduce
  rw [Ideal.multiReduction_add_single, ← Fin.sum_univ_eq_sum_range (fun r => f r (i 0).val) a]
  exact sum_congr rfl fun r _ => hx _

theorem Table.hostColsum {x : FVec Ideal ⟨2, ![a, b]⟩ .f32} (hx : Table x f) (v : FVec Ideal ⟨0, ![]⟩ .f32) (hv : ∀ i, v i = 0)
    (h : (⟨2, ![a, b]⟩ : Shape).ReducesTo [0] ⟨1, ![b]⟩) (h' : (⟨2, ![a, b]⟩ : Shape).Reduces [0] ⟨1, ![b]⟩)
    (hu : 0 < (⟨0, ![]⟩ : Shape).numel) :
    Listed (Host.reduceAdd x v h hu : FVec Ideal ⟨1, ![b]⟩ .f32) (fun c => ∑ r ∈ range a, f r c) := fun i => by
  simp only [Host.reduceAdd, Ideal.hostReduceAdd_def]
  rw [Ideal.hostReduceAdd_single h h', hv, zero_add, ← Fin.sum_univ_eq_sum_range (fun r => f r (i 0).val) a]
  exact sum_congr rfl fun r _ => hx _

/-- The sum of the columns likewise. -/
theorem Table.rowsum {x : FVec Ideal ⟨2, ![a, b]⟩ .f32} (hx : Table x f) (h : (⟨2, ![a, b]⟩ : Shape).Reduces [1] ⟨1, ![a]⟩)
    (hφ : FKind.Formats .f32) (hacc : (0x00000000#32 : BitVec 32) = FKind.add.neutral .f32 hφ) :
    Listed (multiReduction .add [1] ⟨1, ![a]⟩ x 0x00000000#32 h hφ hacc) (fun r => ∑ c ∈ range b, f r c) := fun i => by
  beta_reduce
  rw [Ideal.multiReduction_add_single, ← Fin.sum_univ_eq_sum_range (fun c => f (i 0).val c) b]
  exact sum_congr rfl fun r _ => hx _

theorem Table.hostRowsum {x : FVec Ideal ⟨2, ![a, b]⟩ .f32} (hx : Table x f) (v : FVec Ideal ⟨0, ![]⟩ .f32) (hv : ∀ i, v i = 0)
    (h : (⟨2, ![a, b]⟩ : Shape).ReducesTo [1] ⟨1, ![a]⟩) (h' : (⟨2, ![a, b]⟩ : Shape).Reduces [1] ⟨1, ![a]⟩)
    (hu : 0 < (⟨0, ![]⟩ : Shape).numel) :
    Listed (Host.reduceAdd x v h hu : FVec Ideal ⟨1, ![a]⟩ .f32) (fun r => ∑ c ∈ range b, f r c) := fun i => by
  simp only [Host.reduceAdd, Ideal.hostReduceAdd_def]
  rw [Ideal.hostReduceAdd_single h h', hv, zero_add, ← Fin.sum_univ_eq_sum_range (fun c => f (i 0).val c) b]
  exact sum_congr rfl fun r _ => hx _

/-! Products, by the kernel into zeros and by a host program: plain, with the second factor turned over, and with the
first. -/

theorem zero_of_literal (i : (⟨0, ![]⟩ : Shape).Idx) : (constant ⟨0, ![]⟩ .f32 0x00000000#32 : FVec Ideal ⟨0, ![]⟩ .f32) i = 0 :=
  Ideal.ofBits_zero_f32

section
variable {φ₁ φ₂ : FTy}

theorem Table.dot {x : FVec Ideal ⟨2, ![a, k]⟩ φ₁} {y : FVec Ideal ⟨2, ![k, b]⟩ φ₂} (hx : Table x f) (hy : Table y g)
    (d : DotDims ⟨2, ![a, k]⟩ ⟨2, ![k, b]⟩ ⟨2, ![a, b]⟩) (hd : d = DotDims.plain a k b) :
    Table (matmul d none x y (constant ⟨2, ![a, b]⟩ .f32 0x00000000#32 : FVec Ideal ⟨2, ![a, b]⟩ .f32))
      (fun r c => ∑ q ∈ range k, f r q * g q c) := fun i => by
  subst hd
  have e : i = ValueIdx.ix2 (n0 := a) (n1 := b) (i 0) (i 1) := by funext t; match t with | ⟨0, _⟩ => rfl | ⟨1, _⟩ => rfl
  refine (congrArg _ e).trans ((Ideal.matmul_plain_apply none x y _ (i 0) (i 1)).trans ?_)
  beta_reduce
  rw [← Fin.sum_univ_eq_sum_range (fun q => f (i 0).val q * g q (i 1).val) k]
  show Ideal.ofBits .f32 0x00000000#32 + _ = _
  rw [Ideal.ofBits_zero_f32, zero_add]
  exact sum_congr rfl fun q _ => by rw [hx, hy]; rfl

theorem Table.dotT {x : FVec Ideal ⟨2, ![a, k]⟩ φ₁} {y : FVec Ideal ⟨2, ![b, k]⟩ φ₂} (hx : Table x f) (hy : Table y g)
    (d : DotDims ⟨2, ![a, k]⟩ ⟨2, ![b, k]⟩ ⟨2, ![a, b]⟩) (hd : d = DotDims.transposedRhs a k b) :
    Table (matmul d none x y (constant ⟨2, ![a, b]⟩ .f32 0x00000000#32 : FVec Ideal ⟨2, ![a, b]⟩ .f32))
      (fun r c => ∑ q ∈ range k, f r q * g c q) := fun i => by
  subst hd
  have e : i = ValueIdx.ix2 (n0 := a) (n1 := b) (i 0) (i 1) := by funext t; match t with | ⟨0, _⟩ => rfl | ⟨1, _⟩ => rfl
  refine (congrArg _ e).trans ((Ideal.matmul_transposedRhs_apply none x y _ (i 0) (i 1)).trans ?_)
  beta_reduce
  rw [← Fin.sum_univ_eq_sum_range (fun q => f (i 0).val q * g (i 1).val q) k]
  show Ideal.ofBits .f32 0x00000000#32 + _ = _
  rw [Ideal.ofBits_zero_f32, zero_add]
  exact sum_congr rfl fun q _ => by rw [hx, hy]; rfl

/-- The dimension numbers of `xᵀ y`. -/
def leftTurned (k a b : ℕ) (w : DotDims.WF ⟨2, ![k, a]⟩ ⟨2, ![k, b]⟩ ⟨2, ![a, b]⟩ [0] [0] [1] [1] [] []) :
    DotDims ⟨2, ![k, a]⟩ ⟨2, ![k, b]⟩ ⟨2, ![a, b]⟩ where
  lhsContracting := [0]
  rhsContracting := [0]
  lhsNonContracting := [1]
  rhsNonContracting := [1]
  lhsBatch := []
  rhsBatch := []
  wf := w

theorem Table.tdot {x : FVec Ideal ⟨2, ![k, a]⟩ φ₁} {y : FVec Ideal ⟨2, ![k, b]⟩ φ₂} (hx : Table x f) (hy : Table y g)
    (d : DotDims ⟨2, ![k, a]⟩ ⟨2, ![k, b]⟩ ⟨2, ![a, b]⟩) {w} (hd : d = leftTurned k a b w) :
    Table (matmul d none x y (constant ⟨2, ![a, b]⟩ .f32 0x00000000#32 : FVec Ideal ⟨2, ![a, b]⟩ .f32))
      (fun r c => ∑ q ∈ range k, f q r * g q c) := fun i => by
  subst hd
  simp only [matmul]
  rw [Ideal.matmul_apply, ← Equiv.sum_comp (ValueIdx.contrEquiv1 (leftTurned k a b w) k rfl rfl).symm,
    ← Fin.sum_univ_eq_sum_range (fun q => f q (i 0).val * g q (i 1).val) k]
  show Ideal.ofBits .f32 0x00000000#32 + _ = _
  rw [Ideal.ofBits_zero_f32, zero_add]
  refine sum_congr rfl fun q _ => ?_
  have hk := ValueIdx.contrEquiv1_symm_val (leftTurned k a b w) k rfl rfl q
  rw [hx, hy]
  exact congrArg₂ (· * ·) (congrArg₂ f hk rfl) (congrArg₂ g hk rfl)

/-- A host product is what the kernel's is, into zeros. -/
theorem hostDot_eq {sl sr so : Shape} (d : DotDims sl sr so) (x : FVec Ideal sl φ₁) (y : FVec Ideal sr φ₂) (i : so.Idx) :
    Host.dotGeneral d none x y i = matmul d none x y (constant so .f32 0x00000000#32 : FVec Ideal so .f32) i := by
  simp only [matmul, Host.dotGeneral]
  rw [Ideal.matmul_constant_zero_apply, Ideal.dotGeneral_apply]

theorem Table.hostDot {x : FVec Ideal ⟨2, ![a, k]⟩ φ₁} {y : FVec Ideal ⟨2, ![k, b]⟩ φ₂} (hx : Table x f) (hy : Table y g)
    (d : DotDims ⟨2, ![a, k]⟩ ⟨2, ![k, b]⟩ ⟨2, ![a, b]⟩) (hd : d = DotDims.plain a k b) :
    Table (Host.dotGeneral d none x y) (fun r c => ∑ q ∈ range k, f r q * g q c) :=
  fun i => (hostDot_eq d x y i).trans (hx.dot hy d hd i)

theorem Table.hostDotT {x : FVec Ideal ⟨2, ![a, k]⟩ φ₁} {y : FVec Ideal ⟨2, ![b, k]⟩ φ₂} (hx : Table x f) (hy : Table y g)
    (d : DotDims ⟨2, ![a, k]⟩ ⟨2, ![b, k]⟩ ⟨2, ![a, b]⟩) (hd : d = DotDims.transposedRhs a k b) :
    Table (Host.dotGeneral d none x y) (fun r c => ∑ q ∈ range k, f r q * g c q) :=
  fun i => (hostDot_eq d x y i).trans (hx.dotT hy d hd i)

theorem Table.hostTdot {x : FVec Ideal ⟨2, ![k, a]⟩ φ₁} {y : FVec Ideal ⟨2, ![k, b]⟩ φ₂} (hx : Table x f) (hy : Table y g)
    (d : DotDims ⟨2, ![k, a]⟩ ⟨2, ![k, b]⟩ ⟨2, ![a, b]⟩) {w} (hd : d = leftTurned k a b w) :
    Table (Host.dotGeneral d none x y) (fun r c => ∑ q ∈ range k, f q r * g q c) :=
  fun i => (hostDot_eq d x y i).trans (hx.tdot hy d hd i)

end

/-- A block that the first of every `p` points sets and the others add to holds the sum so far. -/
theorem so_far {N p : ℕ} (hp : 0 < p) (o : ∀ n, n < N → (⟨2, ![a, b]⟩ : Shape).Idx → EReal) (T : ℕ → ℕ → ℕ → ℕ → EReal)
    (first : ∀ t : Fin N, t.val % p = 0 → Table (o t.val t.isLt) (T (t.val / p) (t.val % p)))
    (next : ∀ t : Fin N, ¬ t.val % p = 0 → ∀ A, Table (o (t.val - 1) (by have := t.isLt; omega)) A →
      Table (o t.val t.isLt) (fun r c => A r c + T (t.val / p) (t.val % p) r c)) :
    ∀ n h, Table (o n h) (fun r c => ∑ s ∈ range (n % p + 1), T (n / p) s r c) := by
  intro n
  induction n with
  | zero => exact fun h => (first ⟨0, h⟩ (Nat.zero_mod p)).congr fun r c _ _ => by simp
  | succ n ih =>
    intro h
    by_cases h0 : (n + 1) % p = 0
    · refine (first ⟨n + 1, h⟩ h0).congr fun r c _ _ => ?_
      show T ((n + 1) / p) ((n + 1) % p) r c = _
      rw [h0]
      simp
    · have e : (n + 1) / p = n / p := by
        rw [Nat.succ_div, if_neg fun d => h0 (Nat.mod_eq_zero_of_dvd d), Nat.add_zero]
      have e' : (n + 1) % p = n % p + 1 := by
        have h1 := Nat.div_add_mod n p
        have h2 := Nat.div_add_mod (n + 1) p
        rw [e] at h2
        omega
      refine (next ⟨n + 1, h⟩ h0 _ (ih (by omega))).congr fun r c _ _ => ?_
      show _ + T ((n + 1) / p) ((n + 1) % p) r c = _
      rw [e, e', sum_range_succ _ (n % p + 1)]

/-- A sum in equal parts. -/
theorem in_parts (p q : ℕ) (f : ℕ → EReal) : ∑ s ∈ range p, ∑ r ∈ range q, f (s * q + r) = ∑ r ∈ range (p * q), f r :=
  (Finset.sum_range_mul_split p q f).symm

end Sums

end Cert.Proof

end
-- ==== Proof.NormStep.lean ====
/- The gradient of a norm, in the extended reals: of `x` scaled by one over the root of its rows' mean squares, then by a
   gain. Two forms of it are equal: one with the cube of that scale, and one with the scale over the mean square, its
   half taken twice. No entry has to be finite. -/
module

public import proofs.«01_k».proof.Proof.Tables

@[expose] public section

noncomputable section

namespace Cert.Proof

open Idealize.ShloMosaic Finset

/-- The mean square of a row of 1024, with the small number that keeps it off zero. -/
def msq (X : ℕ → ℕ → EReal) (r : ℕ) : EReal :=
  Ideal.div (∑ k ∈ range 1024, X r k * X r k) (word 0x44800000#32) + word 0x358637BD#32

/-- The scale of a row. -/
def scale (X : ℕ → ℕ → EReal) (r : ℕ) : EReal := Ideal.rsqrt (msq X r)

/-- The gradient with respect to `x`, of the gradient `H` with respect to the norm and `Y` that comes past it. -/
def gradX (X : ℕ → ℕ → EReal) (G : ℕ → EReal) (Y H : ℕ → ℕ → EReal) (r c : ℕ) : EReal :=
  (Y r c + scale X r * (H r c * G c))
    - X r c * (scale X r * scale X r * scale X r) * Ideal.div (∑ k ∈ range 1024, H r k * G k * X r k) (word 0x44800000#32)

/-- The gradient with respect to the gain. -/
def gradG (X H : ℕ → ℕ → EReal) (c : ℕ) : EReal := ∑ r ∈ range 4096, H r c * X r c * scale X r

/-- A gradient through a product with the weights `W`, of `n` columns. -/
def through (n : ℕ) (P W : ℕ → ℕ → EReal) (r q : ℕ) : EReal := ∑ k ∈ range n, P r k * W q k

theorem sq_nonneg' (x : EReal) : 0 ≤ x * x := by
  rcases le_total 0 x with h | h
  · exact EReal.mul_nonneg h h
  · rw [← neg_mul_neg]
    exact EReal.mul_nonneg (EReal.neg_nonneg.mpr h) (EReal.neg_nonneg.mpr h)

theorem word_width : word 0x44800000#32 = ((1024 : ℝ) : EReal) := by
  simp [word, Ideal.ofBits, Ideal.ieee]
  norm_num
  rw [← EReal.coe_mul]
  norm_num

theorem word_half : word 0xBF000000#32 = ((-(1 / 2) : ℝ) : EReal) := by
  simp [word, Ideal.ofBits, Ideal.ieee]
  norm_num
  rw [← EReal.coe_mul]
  norm_num

theorem word_small : ∃ e : ℝ, 0 < e ∧ word 0x358637BD#32 = (e : EReal) := by
  refine ⟨_, ?_, lit_coe _ (by decide)⟩
  have : word 0x358637BD#32 = ((lit 0x358637BD#32 : ℝ) : EReal) := lit_coe _ (by decide)
  simp [word, Ideal.ofBits, Ideal.ieee] at this
  rw [← EReal.coe_pos, ← this, ← EReal.coe_mul, EReal.coe_pos]
  norm_num

/-- The cube of the scale is the scale over the mean square `v + e`, for any mean square. -/
theorem cube_of (v : EReal) (h0 : 0 ≤ v) : Ideal.div (Ideal.rsqrt (v + word 0x358637BD#32)) (v + word 0x358637BD#32)
    = Ideal.rsqrt (v + word 0x358637BD#32) * Ideal.rsqrt (v + word 0x358637BD#32) * Ideal.rsqrt (v + word 0x358637BD#32) := by
  obtain ⟨e, he, hw⟩ := word_small
  rw [hw]
  induction v with
  | bot => exact absurd h0 (by simp)
  | top => simp [EReal.top_add_coe, Ideal.div]
  | coe v =>
    have hv : 0 ≤ v := EReal.coe_nonneg.mp h0
    have hp : 0 < v + e := by linarith
    rw [← EReal.coe_add, Ideal.rsqrt_coe, if_neg (by linarith), if_neg (by linarith), Ideal.div_coe (by linarith),
      ← EReal.coe_mul, ← EReal.coe_mul, ← EReal.coe_mul]
    congr 1
    have hs : √(v + e) ≠ 0 := (Real.sqrt_pos.mpr hp).ne'
    field_simp
    rw [Real.sq_sqrt hp.le]

theorem cube (X : ℕ → ℕ → EReal) (r : ℕ) : Ideal.div (scale X r) (msq X r) = scale X r * scale X r * scale X r :=
  cube_of _ (by
    rw [word_width, Ideal.div_coe (by norm_num)]
    exact EReal.mul_nonneg (sum_nonneg fun k _ => sq_nonneg' _) (EReal.coe_nonneg.mpr (by norm_num)))

/-- Half of a number twice, with the sign turned. -/
theorem halves (x : EReal) : x * ((-(1 / 2) : ℝ) : EReal) + x * ((-(1 / 2) : ℝ) : EReal) = -x := by
  induction x with
  | bot => rw [EReal.bot_mul_coe_of_neg (by norm_num)]; rfl
  | top => rw [EReal.top_mul_coe_of_neg (by norm_num)]; rfl
  | coe x => rw [← EReal.coe_mul, ← EReal.coe_add, ← EReal.coe_neg]; congr 1; ring

/-- The other form of the gradient with respect to `x`. -/
theorem gradX_eq (X : ℕ → ℕ → EReal) (G : ℕ → EReal) (Y H : ℕ → ℕ → EReal) (r c : ℕ) (S : EReal)
    (hS : S = Ideal.div ((∑ k ∈ range 1024, X r k * (H r k * G k)) * (word 0xBF000000#32 * Ideal.div (scale X r) (msq X r)))
      (word 0x44800000#32)) :
    Y r c + H r c * G c * scale X r + X r c * S + S * X r c = gradX X G Y H r c := by
  unfold gradX
  rw [hS, cube, word_half, word_width, Ideal.div_coe (by norm_num), Ideal.div_coe (by norm_num), add_assoc, sub_eq_add_neg,
    mul_comm (H r c * G c), sum_congr rfl fun k _ => mul_comm (X r k) (H r k * G k)]
  congr 1
  rw [← halves]
  congr 1 <;> ac_rfl

end Cert.Proof

end
-- ==== Proof.NormBlock.lean ====
/- The gradient of the norm before the gated layer: what the kernel's body leaves at one grid point. Grid point `t` works
   on row tile `t / 4` and adds part `t % 4` of the product with the turned weights; the last part ends the row tile. -/
module

public import proofs.«01_k».proof.Proof.NormStep
public import proofs.«01_k».proof.Proof.Gen.Norm2Ideal.Value
public import Idealize.ShloMosaic.Lib.StableHlo.RunRead
public import Idealize.ShloMosaic.Lib.Pipeline.ReadBack

@[expose] public section

set_option maxRecDepth 16384
set_option maxHeartbeats 1600000

noncomputable section

namespace Cert.Proof.Norm2

open Idealize.ShloMosaic Idealize.ShloMosaic.TcCoe Idealize.ShloMosaic.StableHlo Cert.Norm2Ideal Cert.Norm2Ideal.Gen Cert.Proof Finset

/-! ## The stored values -/

section
variable {p : FVec Ideal S1024x1536 .bf16} {b : FVec Ideal S1536x1024 .bf16} {z x h y : FVec Ideal S1024x1024 .f32}
  {g d : FVec Ideal S1x1024 .f32} {P B Z X H Y D : ℕ → ℕ → EReal} {G : ℕ → EReal}

theorem first_part (hp : Table p P) (hb : Table b B) : Table (k0_pay3 (F := Ideal) p b) (fun r c => ∑ q ∈ range 1536, P r q * B q c) :=
  (((hp.self _).dot (φ₁ := .bf16) (φ₂ := .bf16) (hb.self _) _ rfl).self _)

theorem next_part (hp : Table p P) (hb : Table b B) (hz : Table z Z) :
    Table (k0_pay4 (F := Ideal) p b z) (fun r c => Z r c + ∑ q ∈ range 1536, P r q * B q c) :=
  ((hz.addf (φ := .f32) ((hp.self _).dot (φ₁ := .bf16) (φ₂ := .bf16) (hb.self _) _ rfl)).self _)

theorem scale_column (hx : Table x X) : Table (k0_pay9 (F := Ideal) x) (fun r _ => scale X r) :=
  ((((((hx.mulf (φ := .f32) hx).rowsum _ _ _).stand _).divf (φ := .f32) (table_filled _)).addf (φ := .f32) (table_filled _)).rsqrt
    (φ := .f32))

theorem gain_rows (hh : Table h H) (hg : Table g (fun _ c => G c)) : Table (mulf h (broadcastTo S1024x1024 (shapeCast S1x1024 g
    shapeCasts_S1x1024_S1x1024) broadcasts_S1x1024_S1024x1024) : FVec Ideal S1024x1024 .f32) (fun r c => H r c * G c) :=
  hh.mulf (φ := .f32) ((hg.self _).repeated _)

theorem x_tile (hx : Table x X) (hh : Table h H) (hg : Table g (fun _ c => G c)) (hy : Table y Y) :
    Table (k0_pay10 (F := Ideal) x h g y) (gradX X G Y H) := by
  have s := scale_column hx
  have e := gain_rows hh hg
  have w := (((e.mulf (φ := .f32) hx).rowsum reduces_S1024x1024_S1024 (.inl rfl) rfl).stand shapeCasts_S1024_S1024x1).divf (φ := .f32)
    (table_filled 0x44800000#32)
  exact (hy.addf (φ := .f32) ((s.widened broadcasts_S1024x1_S1024x1024).mulf (φ := .f32) e)).subf (φ := .f32)
    ((hx.mulf (φ := .f32) (((s.mulf (φ := .f32) s).mulf (φ := .f32) s).widened broadcasts_S1024x1_S1024x1024)).mulf (φ := .f32)
      (w.widened broadcasts_S1024x1_S1024x1024))

theorem gain_tile (hx : Table x X) (hh : Table h H) (hd : Table d D) :
    Table (k0_pay8 (F := Ideal) (k0_pay12 d) (k0_pay13 x h)) (fun _ c => D 0 c + ∑ r ∈ range 1024, H r c * X r c * scale X r) := by
  have v : Table (k0_pay13 (F := Ideal) x h) _ := (hh.mulf (φ := .f32) hx).mulf (φ := .f32)
    ((scale_column hx).widened broadcasts_S1024x1_S1024x1024)
  refine ((hd.self _).addf (φ := .f32) ((v.colsum _ _ _).cast _)).congr fun r c hr _ => ?_
  obtain rfl : r = 0 := (by omega)
  rfl

end

/-! ## The arrays the launch reads -/

variable (m : (ℓ : Loc nD τ sig) → Buf (Elt Ideal) ℓ) (c : Dev nD)

/-- The arguments. -/
abbrev argX : ℕ → ℕ → EReal := cell (a := 4096) (b := 1024) (m (c.tc.loc main_arg0))
abbrev argG : ℕ → EReal := item (a := 1024) (m (c.tc.loc main_arg1))
abbrev argW : ℕ → ℕ → EReal := cell (a := 1024) (b := 6144) (m (c.tc.loc main_arg2))
abbrev argY : ℕ → ℕ → EReal := cell (a := 4096) (b := 1024) (m (c.tc.loc main_arg3))
abbrev argP : ℕ → ℕ → EReal := cell (a := 4096) (b := 6144) (m (c.tc.loc main_arg4))

/-- The host code before the launch. -/
abbrev line : List (HloOp τ sig (Elt Ideal)) := List.flatten [hostOps0]

theorem low_part : @Table 4096 3072 (V m c main_v1) (fun r q => argP m c r q) := by
  show @Table 4096 3072 (after line (fun b => m (c, b)) (Proc.devRef .tc main_v1)) _
  after_reads_simp
  exact (((table_cell (a := 4096) (b := 6144) (m (c.tc.loc main_arg4))).slice 0 0 _).truncf _).congr fun r q _ _ => by
    rw [Nat.zero_add, Nat.zero_add]

theorem high_part : @Table 4096 3072 (V m c main_v3) (fun r q => argP m c r (3072 + q)) := by
  show @Table 4096 3072 (after line (fun b => m (c, b)) (Proc.devRef .tc main_v3)) _
  after_reads_simp
  exact (((table_cell (a := 4096) (b := 6144) (m (c.tc.loc main_arg4))).slice 0 3072 _).truncf _).congr fun r q _ _ => by
    rw [Nat.zero_add]

theorem turned : @Table 6144 1024 (V m c main_v5) (fun r q => argW m c q r) := by
  show @Table 6144 1024 (after line (fun b => m (c, b)) (Proc.devRef .tc main_v5)) _
  after_reads_simp
  exact ((table_cell (a := 1024) (b := 6144) (m (c.tc.loc main_arg2))).flip _).truncf _

theorem gain : @Table 1 1024 (V m c main_v6) (fun _ q => argG m c q) := by
  show @Table 1 1024 (after line (fun b => m (c, b)) (Proc.devRef .tc main_v6)) _
  after_reads_simp
  exact (listed_item (a := 1024) (m (c.tc.loc main_arg1))).cast _

theorem index0 : ∀ t : Fin cfg0.N, win0_0.index t = ![t.val / 4, min (t.val % 4) 1] :=
  (by decide +kernel : ∀ t : Fin grid0.N, win0_0.index t = ![t.val / 4, min (t.val % 4) 1])
theorem index1 : ∀ t : Fin cfg0.N, win0_1.index t = ![t.val / 4, t.val % 4 - 2] :=
  (by decide +kernel : ∀ t : Fin grid0.N, win0_1.index t = ![t.val / 4, t.val % 4 - 2])
theorem index2 : ∀ t : Fin cfg0.N, win0_2.index t = ![t.val % 4, 0] :=
  (by decide +kernel : ∀ t : Fin grid0.N, win0_2.index t = ![t.val % 4, 0])
theorem index3 : ∀ t : Fin cfg0.N, win0_3.index t = ![t.val / 4, 0] :=
  (by decide +kernel : ∀ t : Fin grid0.N, win0_3.index t = ![t.val / 4, 0])
theorem index4 : ∀ t : Fin cfg0.N, win0_4.index t = ![t.val / 4, 0] :=
  (by decide +kernel : ∀ t : Fin grid0.N, win0_4.index t = ![t.val / 4, 0])
theorem index5 : ∀ t : Fin cfg0.N, win0_5.index t = ![0, 0] :=
  (by decide +kernel : ∀ t : Fin grid0.N, win0_5.index t = ![0, 0])

section
variable (t : Fin cfg0.N) {f : ℕ → ℕ → EReal}

theorem block0 (h : Table (V m c main_v1) f) :
    @Table 1024 1536 (iblk m c 0 t) (fun r q => f (t.val / 4 * 1024 + r) (min (t.val % 4) 1 * 1536 + q)) := fun y => by
  blk_simp [iblk]; refine (h _).trans ?_; blk_simp [index0 t]
theorem block1 (h : Table (V m c main_v3) f) :
    @Table 1024 1536 (iblk m c 1 t) (fun r q => f (t.val / 4 * 1024 + r) ((t.val % 4 - 2) * 1536 + q)) := fun y => by
  blk_simp [iblk]; refine (h _).trans ?_; blk_simp [index1 t]
theorem block2 (h : Table (V m c main_v5) f) :
    @Table 1536 1024 (iblk m c 2 t) (fun r q => f (t.val % 4 * 1536 + r) q) := fun y => by
  blk_simp [iblk]; refine (h _).trans ?_; blk_simp [index2 t]
theorem block3 (h : @Table 4096 1024 (V m c main_arg0) f) :
    @Table 1024 1024 (iblk m c 3 t) (fun r q => f (t.val / 4 * 1024 + r) q) := fun y => by
  blk_simp [iblk]; refine (h _).trans ?_; blk_simp [index3 t]
theorem block4 (h : @Table 4096 1024 (V m c main_arg3) f) :
    @Table 1024 1024 (iblk m c 4 t) (fun r q => f (t.val / 4 * 1024 + r) q) := fun y => by
  blk_simp [iblk]; refine (h _).trans ?_; blk_simp [index4 t]
theorem block5 (h : Table (V m c main_v6) f) : @Table 1 1024 (iblk m c 5 t) (fun r q => f r q) := fun y => by
  blk_simp [iblk]; refine (h _).trans ?_; blk_simp [index5 t]

/-- The product of part `s` for row `r`. -/
def piece (r s q : ℕ) : EReal := ∑ k ∈ range 1536, argP m c r (s * 1536 + k) * argW m c q (s * 1536 + k)

/-- The block that a point adds to the sum. -/
theorem low_piece (h : t.val % 4 ≤ 1) (r q : ℕ) :
    ∑ k ∈ range 1536, argP m c (t.val / 4 * 1024 + r) (min (t.val % 4) 1 * 1536 + k) * argW m c q (t.val % 4 * 1536 + k)
      = piece m c (t.val / 4 * 1024 + r) (t.val % 4) q := by
  rw [min_eq_left h]; rfl

theorem high_piece (h : 2 ≤ t.val % 4) (r q : ℕ) :
    ∑ k ∈ range 1536, argP m c (t.val / 4 * 1024 + r) (3072 + ((t.val % 4 - 2) * 1536 + k)) * argW m c q (t.val % 4 * 1536 + k)
      = piece m c (t.val / 4 * 1024 + r) (t.val % 4) q :=
  sum_congr rfl fun k _ => by
    rw [show 3072 + ((t.val % 4 - 2) * 1536 + k) = t.val % 4 * 1536 + k by omega]

theorem acc_first (h : t.val % 4 = 0) : @Table 1024 1024 (outsAt0 m c t.val t.isLt).2.2.2
    (fun r q => piece m c (t.val / 4 * 1024 + r) (t.val % 4) q) := by
  refine Table.congr (fun y => Eq.trans ?_ (first_part (block0 m c t (low_part m c)) (block2 m c t (turned m c)) y))
    fun r q _ _ => low_piece m c t (by omega) r q
  by_cases h0 : t.val % 16 = 0
  · rw [outsAt0_A m c t h0 (by omega) h (by omega) (by omega) (by omega)]; frame_out
  · rw [outsAt0_E m c t h0 (by omega) h (by omega) (by omega) (by omega)]; frame_out

theorem acc_next (h : ¬ t.val % 4 = 0) {A : ℕ → ℕ → EReal}
    (hA : @Table 1024 1024 (outsAt0 m c (t.val - 1) (by have := t.isLt; omega)).2.2.2 A) :
    @Table 1024 1024 (outsAt0 m c t.val t.isLt).2.2.2 (fun r q => A r q + piece m c (t.val / 4 * 1024 + r) (t.val % 4) q) := by
  by_cases h1 : t.val % 4 ≤ 1
  · refine Table.congr (fun y => Eq.trans ?_ (next_part (block0 m c t (low_part m c)) (block2 m c t (turned m c)) hA y))
      fun r q _ _ => congrArg _ (low_piece m c t h1 r q)
    rw [outsAt0_B m c t (by omega) h1 h (by omega) (by omega) (by omega)]; frame_out
    exact congrArg (k0_pay4 (F := Ideal) _ _ · y) ((Memref.isWhole_whole cc0_scratch0).read_unread _)
  · refine Table.congr (fun y => Eq.trans ?_ (next_part (block1 m c t (high_part m c)) (block2 m c t (turned m c)) hA y))
      fun r q _ _ => congrArg _ (high_piece m c t (by omega) r q)
    by_cases h3 : t.val % 4 = 3
    · rw [outsAt0_D m c t (by omega) h1 (by omega) h3 h (by omega)]; frame_out
      exact congrArg (k0_pay4 (F := Ideal) _ _ · y) ((Memref.isWhole_whole cc0_scratch0).read_unread _)
    · rw [outsAt0_C m c t (by omega) h1 (by omega) h3 h (by omega)]; frame_out
      exact congrArg (k0_pay4 (F := Ideal) _ _ · y) ((Memref.isWhole_whole cc0_scratch0).read_unread _)

end

end Cert.Proof.Norm2

end
-- ==== Proof.NormArrays.lean ====
/- The gradient of the norm before the gated layer: the arrays the kernel leaves. -/
module

public import proofs.«01_k».proof.Proof.NormBlock

@[expose] public section

set_option maxRecDepth 16384
set_option maxHeartbeats 1600000

noncomputable section

namespace Cert.Proof.Norm2

open Idealize.ShloMosaic Idealize.ShloMosaic.TcCoe Cert.Norm2Ideal Cert.Norm2Ideal.Gen Cert.Proof Finset

variable (m : (ℓ : Loc nD τ sig) → Buf (Elt Ideal) ℓ) (c : Dev nD)

/-- The gradient with respect to the norm. -/
abbrev back : ℕ → ℕ → EReal := through 6144 (argP m c) (argW m c)

theorem acc_rows (n : ℕ) (h : n < cfg0.N) : @Table 1024 1024 (outsAt0 m c n h).2.2.2
    (fun r q => ∑ s ∈ range (n % 4 + 1), piece m c (n / 4 * 1024 + r) s q) :=
  so_far (by decide) (fun n h => (outsAt0 m c n h).2.2.2) (fun j s r q => piece m c (j * 1024 + r) s q)
    (fun t h => acc_first m c t h) (fun t h _ hA => acc_next m c t h hA) n h

theorem acc_last (t : Fin cfg0.N) (h : t.val % 4 = 3) : @Table 1024 1024 (outsAt0 m c t.val t.isLt).2.2.2
    (fun r q => back m c (t.val / 4 * 1024 + r) q) :=
  (acc_rows m c t.val t.isLt).congr fun r q _ _ => by
    rw [h]
    exact in_parts 4 1536 fun k => argP m c (t.val / 4 * 1024 + r) k * argW m c q k

section
variable (t : Fin cfg0.N)

theorem x_block : @Table 1024 1024 (iblk m c 3 t) (fun r q => argX m c (t.val / 4 * 1024 + r) q) :=
  block3 m c t (table_cell _)
theorem y_block : @Table 1024 1024 (iblk m c 4 t) (fun r q => argY m c (t.val / 4 * 1024 + r) q) :=
  block4 m c t (table_cell _)
theorem g_block : @Table 1 1024 (iblk m c 5 t) (fun _ q => argG m c q) := block5 m c t (gain m c)

/-- The last point of a row tile stores the gradient of the tile's rows, twice. -/
theorem out6_rows (h : t.val % 4 = 3) : @Table 1024 1024 (outsAt0 m c t.val t.isLt).1
    (fun r q => gradX (argX m c) (argG m c) (argY m c) (back m c) (t.val / 4 * 1024 + r) q) := by
  refine fun y => Eq.trans ?_ (x_tile (x_block m c t) (acc_last m c t h) (g_block m c t) (y_block m c t) y)
  rw [outsAt0_D m c t (by omega) (by omega) (by omega) h (by omega) (by omega)]
  frame_open
  simp (disch := decide) only [↓ View.readCov_skip, ↓ View.readCov_cons_toLoadRect, ↓ View.readCov_fill]
  frame_out
  try rfl

theorem out7_rows (h : t.val % 4 = 3) : @Table 1024 1024 (outsAt0 m c t.val t.isLt).2.1
    (fun r q => gradX (argX m c) (argG m c) (argY m c) (back m c) (t.val / 4 * 1024 + r) q) := by
  refine fun y => Eq.trans ?_ (x_tile (x_block m c t) (acc_last m c t h) (g_block m c t) (y_block m c t) y)
  rw [outsAt0_D m c t (by omega) (by omega) (by omega) h (by omega) (by omega)]
  frame_open
  simp (disch := decide) only [↓ View.readCov_skip, ↓ View.readCov_cons_toLoadRect, ↓ View.readCov_fill]
  frame_out
  try rfl

/-- It adds the tile's part to the gain's gradient … -/
theorem out8_last (h : t.val % 4 = 3) {A : ℕ → ℕ → EReal}
    (hA : @Table 1 1024 (outsAt0 m c (t.val - 1) (by have := t.isLt; omega)).2.2.1 A) :
    @Table 1 1024 (outsAt0 m c t.val t.isLt).2.2.1 (fun _ q => A 0 q + ∑ r ∈ range 1024,
      back m c (t.val / 4 * 1024 + r) q * argX m c (t.val / 4 * 1024 + r) q * scale (argX m c) (t.val / 4 * 1024 + r)) := by
  refine fun y => Eq.trans ?_ (gain_tile (x_block m c t) (acc_last m c t h) hA y)
  rw [outsAt0_D m c t (by omega) (by omega) (by omega) h (by omega) (by omega)]
  frame_open
  simp (disch := decide) only [↓ View.readCov_skip, ↓ View.readCov_cons_toLoadRect, ↓ View.readCov_fill]
  frame_out
  try rfl

/-- … which the first point of all sets to zero and the others leave as it is. -/
theorem out8_first (h : t.val % 16 = 0) : @Table 1 1024 (outsAt0 m c t.val t.isLt).2.2.1 (fun _ _ => 0) := by
  refine fun y => Eq.trans ?_ Ideal.ofBits_zero_f32
  rw [outsAt0_A m c t h (by omega) (by omega) (by omega) (by omega) (by omega)]
  frame_out
  try rfl

theorem out8_keep (h0 : ¬ t.val % 16 = 0) (h : ¬ t.val % 4 = 3) :
    (outsAt0 m c t.val t.isLt).2.2.1 = (outsAt0 m c (t.val - 1) (by have := t.isLt; omega)).2.2.1 := by
  by_cases h1 : t.val % 4 ≤ 1
  · by_cases h2 : t.val % 4 = 0
    · rw [outsAt0_E m c t h0 h1 h2 (by omega) (by omega) h]; rfl
    · rw [outsAt0_B m c t h0 h1 h2 (by omega) (by omega) h]; rfl
  · rw [outsAt0_C m c t h0 h1 (by omega) h (by omega) (by omega)]; rfl

end

/-- The gain's gradient so far. -/
theorem out8_rows : ∀ n h, @Table 1 1024 (outsAt0 m c n h).2.2.1 (fun _ q => ∑ s ∈ range ((n + 1) / 4), ∑ r ∈ range 1024,
    back m c (s * 1024 + r) q * argX m c (s * 1024 + r) q * scale (argX m c) (s * 1024 + r)) := by
  intro n
  induction n with
  | zero => exact fun h => out8_first m c ⟨0, h⟩ rfl
  | succ n ih =>
    intro h
    have hn : n + 1 < 16 := h
    by_cases h3 : (n + 1) % 4 = 3
    · refine (out8_last m c ⟨n + 1, h⟩ h3 (ih (by omega))).congr fun r q _ _ => ?_
      rw [show (n + 1 + 1) / 4 = (n + 1) / 4 + 1 by omega, sum_range_succ _ ((n + 1) / 4)]
    · intro y
      rw [out8_keep m c ⟨n + 1, h⟩ (by show ¬ (n + 1) % 16 = 0; omega) h3, show (n + 1 + 1) / 4 = (n + 1) / 4 by omega]
      exact ih (by omega) y

theorem index6 : ∀ t : Fin cfg0.N, win0_6.index t = ![t.val / 4, 0] :=
  (by decide +kernel : ∀ t : Fin grid0.N, win0_6.index t = ![t.val / 4, 0])
theorem index7 : ∀ t : Fin cfg0.N, win0_7.index t = ![t.val / 4, 0] :=
  (by decide +kernel : ∀ t : Fin grid0.N, win0_7.index t = ![t.val / 4, 0])
theorem index8 : ∀ t : Fin cfg0.N, win0_8.index t = ![0, 0] :=
  (by decide +kernel : ∀ t : Fin grid0.N, win0_8.index t = ![0, 0])

theorem array6 : @Table 4096 1024 ((dats m 0 c).arrAt 6 cfg0.N) (gradX (argX m c) (argG m c) (argY m c) (back m c)) := by
  refine fun i => congrFun ((dats m 0 c).arrAt_eq_of_covers 6
    (fun i => gradX (argX m c) (argG m c) (argY m c) (back m c) (i 0).val (i 1).val) (by decide +kernel) fun t hf y => ?_) i
  blk_simp
  refine (out6_rows m c t ((flush0_6 t).mp hf) y).trans ?_
  blk_simp [index6 t]

theorem array7 : @Table 4096 1024 ((dats m 0 c).arrAt 7 cfg0.N) (gradX (argX m c) (argG m c) (argY m c) (back m c)) := by
  refine fun i => congrFun ((dats m 0 c).arrAt_eq_of_covers 7
    (fun i => gradX (argX m c) (argG m c) (argY m c) (back m c) (i 0).val (i 1).val) (by decide +kernel) fun t hf y => ?_) i
  blk_simp
  refine (out7_rows m c t ((flush0_7 t).mp hf) y).trans ?_
  blk_simp [index7 t]

theorem array8 : @Table 1 1024 ((dats m 0 c).arrAt 8 cfg0.N) (fun _ q => gradG (argX m c) (back m c) q) := by
  refine fun i => congrFun ((dats m 0 c).arrAt_eq_of_covers 8
    (fun i => gradG (argX m c) (back m c) (i 1).val) (by decide +kernel) fun t hf y => ?_) i
  blk_simp
  refine (out8_rows m c t.val t.isLt y).trans ?_
  blk_simp [index8 t]
  have h15 := (flush0_8 t).mp hf
  rw [show (t.val + 1) / 4 = 4 by have : t.val < 16 := t.isLt; omega]
  exact in_parts 4 1024 fun r => back m c r (y 1).val * argX m c r (y 1).val * scale (argX m c) r

end Cert.Proof.Norm2

end
-- ==== Proof.NormRef.lean ====
/- The gradient of the norm before the gated layer: what the reference computes. It differentiates the forward norm and
   the product with the weights, so the mean square's gradient comes with its half twice. -/
module

public import proofs.«01_k».proof.Proof.NormStep
public import proofs.«01_k».proof.Proof.Gen.Norm2RefIdeal.Read

@[expose] public section

set_option maxRecDepth 16384
set_option maxHeartbeats 1600000

noncomputable section

namespace Cert.Proof.Norm2

open Idealize.ShloMosaic Cert.Norm2RefIdeal Cert.Norm2RefIdeal.Gen Cert.Norm2RefIdeal.Read Cert.Proof Finset

variable {x0 : (⟨2, ![4096, 1024]⟩ : Shape).Idx → EReal} {x1 : (⟨1, ![1024]⟩ : Shape).Idx → EReal}
  {x2 : (⟨2, ![1024, 6144]⟩ : Shape).Idx → EReal} {x3 : (⟨2, ![4096, 1024]⟩ : Shape).Idx → EReal}
  {x4 : (⟨2, ![4096, 6144]⟩ : Shape).Idx → EReal} {X W Y P : ℕ → ℕ → EReal} {G : ℕ → EReal}

/-- The scale of the rows, and the scale over the mean square. -/
theorem ref_scale (h0 : Table x0 X) :
    Table (val_main_v7 (F := Ideal) x0) (fun r _ => scale X r)
    ∧ Table (val_main_v8 (F := Ideal) x0) (fun r _ => Ideal.div (scale X r) (msq X r)) := by
  have v0 : Table (val_main_v0 (F := Ideal) x0) _ := h0.mulf h0
  have v1 : Listed (val_main_v1 (F := Ideal) x0) _ := v0.hostRowsum _ zero_of_literal _ (by decide) _
  have v2 : Table (val_main_v2 (F := Ideal) x0) _ := v1.column _
  have v3 : Table (val_main_v3 (F := Ideal)) _ := table_literal _ _
  have v4 : Table (val_main_v4 (F := Ideal) x0) _ := v2.hostDivf v3
  have v5 : Table (val_main_v5 (F := Ideal)) _ := table_literal _ _
  have v6 : Table (val_main_v6 (F := Ideal) x0) (fun r _ => msq X r) := v4.addf v5
  have v7 : Table (val_main_v7 (F := Ideal) x0) (fun r _ => scale X r) := v6.hostRsqrt
  exact ⟨v7, v7.hostDivf v6⟩

/-- The gradient with respect to the norm. -/
theorem ref_back (h2 : Table x2 W) (h4 : Table x4 P) :
    Table (val_main_v17 (F := Ideal) x2 x4) (through 6144 P W) := by
  have v17 : Table (val_main_v17 (F := Ideal) x2 x4) _ := h4.hostDotT h2 _ rfl
  exact v17

/-- The gradient with respect to the norm's input. -/
theorem ref_x (h0 : Table x0 X) (h1 : Listed x1 G) (h2 : Table x2 W) (h3 : Table x3 Y) (h4 : Table x4 P) :
    Table (val_main_v38 (F := Ideal) x0 x1 x2 x3 x4) (gradX X G Y (through 6144 P W)) := by
  obtain ⟨v7, v8⟩ := ref_scale h0
  have v9 : Table (val_main_v9 (F := Ideal)) _ := table_literal _ _
  have v10 : Table (val_main_v10 (F := Ideal) x0) _ := v9.mulf v8
  have v13 : Table (val_main_v13 (F := Ideal) x1) _ := h1.row _
  have v17 := ref_back h2 h4
  have v21 : Table (val_main_v21 (F := Ideal) x1) _ := v13.spread _
  have v22 : Table (val_main_v22 (F := Ideal) x1 x2 x4) _ := v17.mulf v21
  have v24 : Table (val_main_v24 (F := Ideal) x0 x1 x2 x4) _ := h0.mulf v22
  have v25 : Listed (val_main_v25 (F := Ideal) x0 x1 x2 x4) _ := v24.hostRowsum _ zero_of_literal _ (by decide) _
  have v26 : Table (val_main_v26 (F := Ideal) x0 x1 x2 x4) _ := v25.stand _
  have v27 : Table (val_main_v27 (F := Ideal) x0) _ := v7.hostWidened _
  have v28 : Table (val_main_v28 (F := Ideal) x0 x1 x2 x4) _ := v22.mulf v27
  have v29 : Table (val_main_v29 (F := Ideal) x0 x1 x2 x3 x4) _ := h3.addf v28
  have v30 : Table (val_main_v30 (F := Ideal) x0 x1 x2 x4) _ := v26.mulf v10
  have v31 : Table (val_main_v31 (F := Ideal)) _ := table_literal _ _
  have v32 : Table (val_main_v32 (F := Ideal) x0 x1 x2 x4) _ := v30.hostDivf v31
  have v33 : Listed (val_main_v33 (F := Ideal) x0 x1 x2 x4) _ := v32.hostRowsum _ zero_of_literal _ (by decide) _
  have v34 : Table (val_main_v34 (F := Ideal) x0 x1 x2 x4) _ := v33.column _
  have v35 : Table (val_main_v35 (F := Ideal) x0 x1 x2 x4) _ := h0.mulf v34
  have v36 : Table (val_main_v36 (F := Ideal) x0 x1 x2 x3 x4) _ := v29.addf v35
  have v37 : Table (val_main_v37 (F := Ideal) x0 x1 x2 x4) _ := v34.mulf h0
  have v38 : Table (val_main_v38 (F := Ideal) x0 x1 x2 x3 x4) _ := v36.addf v37
  exact v38.congr fun r q _ _ => gradX_eq X G Y (through 6144 P W) r q _ (sum_range_one _)

/-- The gradient with respect to the gain. -/
theorem ref_g (h0 : Table x0 X) (h2 : Table x2 W) (h4 : Table x4 P) :
    Table (val_main_v40 (F := Ideal) x0 x2 x4) (fun _ q => gradG X (through 6144 P W) q) := by
  have v11 : Table (val_main_v11 (F := Ideal) x0) _ := (ref_scale h0).1.hostWidened _
  have v12 : Table (val_main_v12 (F := Ideal) x0) _ := h0.mulf v11
  have v18 : Table (val_main_v18 (F := Ideal) x0 x2 x4) _ := v12.mulf (ref_back h2 h4)
  have v19 : Listed (val_main_v19 (F := Ideal) x0 x2 x4) _ := v18.hostColsum _ zero_of_literal _ (by decide) _
  have v20 : Table (val_main_v20 (F := Ideal) x0 x2 x4) _ := v19.cast _
  have v23 : Listed (val_main_v23 (F := Ideal) x0 x2 x4) _ := v20.hostColsum _ zero_of_literal _ (by decide) _
  have v40 : Table (val_main_v40 (F := Ideal) x0 x2 x4) _ := v23.cast _
  refine v40.congr fun r q _ _ => ?_
  beta_reduce
  rw [sum_range_one]
  exact sum_congr rfl fun r _ => by ac_rfl

end Cert.Proof.Norm2

end
-- ==== Proof.NormTie.lean ====
/- The results of the normalisation's backward kernel are the reference's. -/
module

public import proofs.«01_k».proof.Proof.NormArrays
public import proofs.«01_k».proof.Proof.NormRef

@[expose] public section

set_option maxRecDepth 16384
set_option maxHeartbeats 1600000

noncomputable section

namespace Cert.Proof.Norm2

open Idealize.ShloMosaic Idealize.ShloMosaic.TcCoe Cert.Norm2Ideal Cert.Norm2Ideal.Gen Cert.Norm2RefIdeal.Read

variable (m : (ℓ : Loc nD τ sig) → Buf (Elt Ideal) ℓ) (c : Dev nD)

theorem tie6 : (dats m 0 c).arrAt 6 cfg0.N = val_main_v38 (F := Ideal) (m (c.tc.loc main_arg0)) (m (c.tc.loc main_arg1))
    (m (c.tc.loc main_arg2)) (m (c.tc.loc main_arg3)) (m (c.tc.loc main_arg4)) :=
  (array6 m c).eq (ref_x (table_cell _) (listed_item _) (table_cell _) (table_cell _) (table_cell _)) fun _ _ _ _ => rfl

theorem tie7 : (dats m 0 c).arrAt 7 cfg0.N = val_main_v39 (F := Ideal) (m (c.tc.loc main_arg0)) (m (c.tc.loc main_arg1))
    (m (c.tc.loc main_arg2)) (m (c.tc.loc main_arg3)) (m (c.tc.loc main_arg4)) :=
  (array7 m c).eq ((ref_x (table_cell _) (listed_item _) (table_cell _) (table_cell _) (table_cell _)).truncf _)
    fun _ _ _ _ => rfl

theorem tie8 : (dats m 0 c).arrAt 8 cfg0.N = val_main_v40 (F := Ideal) (m (c.tc.loc main_arg0)) (m (c.tc.loc main_arg2))
    (m (c.tc.loc main_arg4)) :=
  (array8 m c).eq (ref_g (table_cell _) (table_cell _) (table_cell _)) fun _ _ _ _ => rfl

end Cert.Proof.Norm2

end
-- ==== Proof.GDownValue.lean ====
/- The gradient of the down projection's weights: the kernel's product of each tile of the activations, turned, with the
   gradient of the result, and the reference's product. -/
module

public import proofs.«01_k».proof.Proof.Tables
public import proofs.«01_k».proof.Proof.Gen.GDownIdeal.Value
public import proofs.«01_k».proof.Proof.Gen.GDownRefIdeal.Read
public import Idealize.ShloMosaic.Lib.StableHlo.RunRead
public import Idealize.ShloMosaic.Lib.Pipeline.ReadBack

@[expose] public section

set_option maxRecDepth 16384
set_option maxHeartbeats 400000

noncomputable section

namespace Cert.Proof.GDown

open Idealize.ShloMosaic Idealize.ShloMosaic.TcCoe Idealize.ShloMosaic.StableHlo Cert.GDownIdeal Cert.GDownIdeal.Gen Cert.Proof Finset

variable (m : (ℓ : Loc nD τ sig) → Buf (Elt Ideal) ℓ) (c : Dev nD)

/-- The arguments, and their product. -/
abbrev argA : ℕ → ℕ → EReal := cell (a := 4096) (b := 3072) (m (c.tc.loc main_arg0))
abbrev argY : ℕ → ℕ → EReal := cell (a := 4096) (b := 1024) (m (c.tc.loc main_arg1))
def weight (r q : ℕ) : EReal := ∑ k ∈ range 4096, argA m c k r * argY m c k q

/-- What the host code before the launch leaves. -/
theorem left_rows : @Table 4096 3072 (V m c main_v0) (argA m c) := by
  show @Table 4096 3072 (after hostOps0 (fun b => m (c, b)) (Proc.devRef .tc main_v0)) _
  after_reads_simp
  exact (table_cell (a := 4096) (b := 3072) (m (c.tc.loc main_arg0))).truncf _

theorem right_rows : @Table 4096 1024 (V m c main_v1) (argY m c) := by
  show @Table 4096 1024 (after hostOps0 (fun b => m (c, b)) (Proc.devRef .tc main_v1)) _
  after_reads_simp
  exact (table_cell (a := 4096) (b := 1024) (m (c.tc.loc main_arg1))).truncf _

theorem index0 : ∀ t : Fin cfg0.N, win0_0.index t = ![0, t.val] :=
  (by decide +kernel : ∀ t : Fin grid0.N, win0_0.index t = ![0, t.val])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

section
variable (t : Fin cfg0.N)

theorem block0 : @Table 4096 1024 (iblk m c 0 t) (fun r q => argA m c r (t.val * 1024 + q)) := fun y => by
  blk_simp [iblk]; refine (left_rows m c _).trans ?_; blk_simp [index0 t]
theorem block1 : @Table 4096 1024 (iblk m c 1 t) (argY m c) := fun y => by
  blk_simp [iblk]; refine (right_rows m c _).trans ?_; blk_simp [index1 t]

theorem payload_rows {x : FVec Ideal _ .bf16} {y : FVec Ideal _ .bf16} {f g : ℕ → ℕ → EReal} (hx : @Table 4096 1024 x f)
    (hy : @Table 4096 1024 y g) : @Table 1024 1024 (k0_pay1 (F := Ideal) x y) (fun r q => ∑ k ∈ range 4096, f k r * g k q) := by
  unfold k0_pay1
  exact (((hx.self _).tdot (φ₁ := .bf16) (φ₂ := .bf16) (hy.self _) _ rfl).truncf _)

theorem out2_rows : @Table 1024 1024 (out0_2 (iblk m c 0 t) (iblk m c 1 t)) (fun r q => weight m c (t.val * 1024 + r) q) := by
  refine fun y => Eq.trans ?_ (payload_rows (block0 m c t) (block1 m c t) y)
  frame_out

end

/-- The array that the kernel leaves. -/
theorem array2 : @Table 3072 1024 ((dats m 0 c).arrAt 2 cfg0.N) (weight m c) := by
  refine fun i => congrFun ((dats m 0 c).arrAt_eq_of_covers 2
    (fun i => weight m c (i 0).val (i 1).val) (by decide +kernel) fun t hf y => ?_) i
  blk_simp
  rw [after0_2]
  refine (out2_rows m c t y).trans ?_
  blk_simp [index2 t]

open Cert.GDownRefIdeal.Read in
/-- It is the reference's. -/
theorem tie2 : (dats m 0 c).arrAt 2 cfg0.N = val_main_v4 (F := Ideal) (m (c.tc.loc main_arg0)) (m (c.tc.loc main_arg1)) := by
  have h0 := table_cell (a := 4096) (b := 3072) (m (c.tc.loc main_arg0))
  have h1 := table_cell (a := 4096) (b := 1024) (m (c.tc.loc main_arg1))
  have v2 : Table (val_main_v2 (F := Ideal) (m (c.tc.loc main_arg0)) (m (c.tc.loc main_arg1))) _ := h1.hostTdot h0 _ rfl
  have v3 : Table (val_main_v3 (F := Ideal) (m (c.tc.loc main_arg0)) (m (c.tc.loc main_arg1))) _ := v2.flip _
  have v4 : Table (val_main_v4 (F := Ideal) (m (c.tc.loc main_arg0)) (m (c.tc.loc main_arg1))) _ := v3.truncf _
  exact (array2 m c).eq v4 fun r q _ _ => sum_congr rfl fun k _ => mul_comm _ _

end Cert.Proof.GDown

end
-- ==== Proof.GUpRun.lean ====
/- The two launches of the gradient of the gate and up projections' weights, run in order, with every array they leave named. -/
module

public import proofs.«01_k».proof.Proof.Gen.GUpIdeal.Frame

@[expose] public section

set_option maxRecDepth 16384
set_option maxHeartbeats 1600000

noncomputable section

namespace Cert.Proof.GUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GUpIdeal Cert.GUpIdeal.Gen

variable {F : FTy → Type} [FloatOps F]
variable (m : (ℓ : Loc nD τ sig) → Buf (Elt F) ℓ) (ρ : Dev nD → PrngReg)

set_option backward.isDefEq.respectTransparency.types false in
/-- Every buffer that outlives the launches is, at the end, at the contents `W4` of the last boundary. -/
theorem run_all : θ_run defs (onTc (τ := τ) (main (F := F))) ⟨m, fun _ => 0, ρ⟩ fun r =>
    ∀ c : Dev nD, ∀ b ∈ Pipeline.ucRefs τ sig, r.2.mem (c, b) = W4 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The result, and the arguments, at the end. -/
theorem run_result : θ_run defs (onTc (τ := τ) (main (F := F))) ⟨m, fun _ => 0, ρ⟩ fun r => ∀ c : Dev nD,
    r.2.mem ((c.tc : Thread nD τ).loc main_v6) = (dat1 (V3 m ρ) c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c _ (mem_uc main_v6 (by decide))).trans (W4_arr m ρ c 2),
    (h c _ (mem_uc main_arg0 (by decide))).trans (W4_main_arg0 m ρ c),
    (h c _ (mem_uc main_arg1 (by decide))).trans (W4_main_arg1 m ρ c)⟩) (run_all m ρ)

end Cert.Proof.GUp

end
-- ==== Proof.GUpValue.lean ====
/- The gradient of the gate and up projections' weights: what each launch writes into its half of the array, and the
   reference's product. -/
module

public import proofs.«01_k».proof.Proof.Tables
public import proofs.«01_k».proof.Proof.GUpRun
public import proofs.«01_k».proof.Proof.Gen.GUpRefIdeal.Read
public import Idealize.ShloMosaic.Lib.StableHlo.RunRead
public import Idealize.ShloMosaic.Lib.Pipeline.ReadBack

@[expose] public section

set_option maxRecDepth 16384
set_option maxHeartbeats 1600000

noncomputable section

namespace Cert.Proof.GUp

open Idealize.ShloMosaic Idealize.ShloMosaic.TcCoe Idealize.ShloMosaic.StableHlo Cert.GUpIdeal Cert.GUpIdeal.Gen Cert.Proof Finset

variable (m : (ℓ : Loc nD τ sig) → Buf (Elt Ideal) ℓ) (ρ : Dev nD → PrngReg) (c : Dev nD)

/-- The arguments, and their product. -/
abbrev argX : ℕ → ℕ → EReal := cell (a := 4096) (b := 1024) (m (c.tc.loc main_arg0))
abbrev argP : ℕ → ℕ → EReal := cell (a := 4096) (b := 6144) (m (c.tc.loc main_arg1))
def weight (r q : ℕ) : EReal := ∑ k ∈ range 4096, argP m c k r * argX m c k q

/-- What the host code before each launch leaves. -/
theorem x_rows : @Table 4096 1024 (V1 m ρ c main_v0) (argX m c) := by
  show @Table 4096 1024 (after hostOps0 (fun b => m (c, b)) (Proc.devRef .tc main_v0)) _
  after_reads_simp
  exact (table_cell (a := 4096) (b := 1024) (m (c.tc.loc main_arg0))).truncf _

theorem low_rows : @Table 4096 3072 (V1 m ρ c main_v2) (fun r q => argP m c r (0 + q)) := by
  show @Table 4096 3072 (after hostOps0 (fun b => m (c, b)) (Proc.devRef .tc main_v2)) _
  after_reads_simp
  exact (((table_cell (a := 4096) (b := 6144) (m (c.tc.loc main_arg1))).slice 0 0 _).truncf _).congr fun r _ _ _ =>
    congrArg (argP m c · _) (Nat.zero_add r)

theorem x_rows' : @Table 4096 1024 (V3 m ρ c main_v0) (argX m c) := by
  rw [show V3 m ρ c main_v0 = V1 m ρ c main_v0 from
    (W3_of m ρ c main_v0 (by decide)).trans (W2_of m ρ c main_v0 (by decide +kernel))]
  exact x_rows m ρ c

theorem high_rows : @Table 4096 3072 (V3 m ρ c main_v5) (fun r q => argP m c r (3072 + q)) := by
  show @Table 4096 3072 (after hostOps1 (W2 m ρ c) (Proc.devRef .tc main_v5)) _
  after_reads_simp
  rw [show W2 m ρ c (Proc.devRef .tc main_arg1) = m (c.tc.loc main_arg1) from W2_args m ρ c main_arg1 (by decide)]
  exact (((table_cell (a := 4096) (b := 6144) (m (c.tc.loc main_arg1))).slice 0 3072 _).truncf _).congr fun r _ _ _ =>
    congrArg (argP m c · _) (Nat.zero_add r)

theorem entry_rows : V3 m ρ c main_v6 = (dat0 (V1 m ρ) c).arrAt 2 cfg0.N := by
  rw [← W2_arr m ρ c 2]
  show after hostOps1 (W2 m ρ c) (Proc.devRef .tc main_v6) = _
  after_reads_simp
  rfl

theorem index0_0 : ∀ t : Fin cfg0.N, win0_0.index t = ![0, t.val] :=
  (by decide +kernel : ∀ t : Fin grid0.N, win0_0.index t = ![0, t.val])
theorem index0_1 : ∀ t : Fin cfg0.N, win0_1.index t = ![0, 0] :=
  (by decide +kernel : ∀ t : Fin grid0.N, win0_1.index t = ![0, 0])
theorem index0_2 : ∀ t : Fin cfg0.N, win0_2.index t = ![t.val, 0] :=
  (by decide +kernel : ∀ t : Fin grid0.N, win0_2.index t = ![t.val, 0])
theorem index1_0 : ∀ t : Fin cfg1.N, win1_0.index t = ![0, t.val] :=
  (by decide +kernel : ∀ t : Fin grid1.N, win1_0.index t = ![0, t.val])
theorem index1_1 : ∀ t : Fin cfg1.N, win1_1.index t = ![0, 0] :=
  (by decide +kernel : ∀ t : Fin grid1.N, win1_1.index t = ![0, 0])
theorem index1_2 : ∀ t : Fin cfg1.N, win1_2.index t = ![3 + t.val, 0] :=
  (by decide +kernel : ∀ t : Fin grid1.N, win1_2.index t = ![3 + t.val, 0])

section
variable {x y : FVec Ideal ⟨2, ![4096, 1024]⟩ .bf16} {f g : ℕ → ℕ → EReal} (hx : @Table 4096 1024 x f) (hy : @Table 4096 1024 y g)
include hx hy

theorem low_payload : @Table 1024 1024 (k0_pay1 (F := Ideal) x y) (fun r q => ∑ k ∈ range 4096, f k r * g k q) := by
  unfold k0_pay1
  exact (((hx.self _).tdot (φ₁ := .bf16) (φ₂ := .bf16) (hy.self _) _ rfl).truncf _)

theorem high_payload : @Table 1024 1024 (k1_pay1 (F := Ideal) x y) (fun r q => ∑ k ∈ range 4096, f k r * g k q) := by
  unfold k1_pay1
  exact (((hx.self _).tdot (φ₁ := .bf16) (φ₂ := .bf16) (hy.self _) _ rfl).truncf _)

end

section
variable (t : Fin cfg0.N)

theorem low0 : @Table 4096 1024 (iblk0 (V1 m ρ) c 0 t) (fun r q => argP m c r (t.val * 1024 + q)) := fun y => by
  blk_simp [iblk0]; refine (low_rows m ρ c _).trans ?_; blk_simp [index0_0 t]
theorem low1 : @Table 4096 1024 (iblk0 (V1 m ρ) c 1 t) (argX m c) := fun y => by
  blk_simp [iblk0]; refine (x_rows m ρ c _).trans ?_; blk_simp [index0_1 t]

theorem low_out : @Table 1024 1024 (out0_2 (iblk0 (V1 m ρ) c 0 t) (iblk0 (V1 m ρ) c 1 t))
    (fun r q => weight m c (t.val * 1024 + r) q) := by
  refine fun y => Eq.trans ?_ (low_payload (low0 m ρ c t) (low1 m ρ c t) y)
  frame_out

end

section
variable (t : Fin cfg1.N)

theorem high0 : @Table 4096 1024 (iblk1 (V3 m ρ) c 0 t) (fun r q => argP m c r ((3 + t.val) * 1024 + q)) := fun y => by
  blk_simp [iblk1]; refine (high_rows m ρ c _).trans ?_; blk_simp [index1_0 t]
  beta_reduce; congr 1; omega
theorem high1 : @Table 4096 1024 (iblk1 (V3 m ρ) c 1 t) (argX m c) := fun y => by
  blk_simp [iblk1]; refine (x_rows' m ρ c _).trans ?_; blk_simp [index1_1 t]

theorem high_out : @Table 1024 1024 (outsAt1 (V3 m ρ) c t) (fun r q => weight m c ((3 + t.val) * 1024 + r) q) := by
  refine fun y => Eq.trans ?_ (high_payload (high0 m ρ c t) (high1 m ρ c t) y)
  unfold outsAt1 out1_A_2
  frame_out

end

/-- The array that the second launch leaves, over what the first left. -/
theorem array2 : @Table 6144 1024 ((dat1 (V3 m ρ) c).arrAt 2 cfg1.N) (weight m c) := by
  refine fun i => congrFun ((dat1 (V3 m ρ) c).arrAt_eq_of_coversWhere_of_agree 2
    (fun i => weight m c (i 0).val (i 1).val) (fun β => 3 ≤ β (0 : Fin _)) (by decide +kernel) (fun t hf y => ?_)
    (fun j hj => ?_)) i
  · blk_simp
    rw [after1_2]
    refine (high_out m ρ c t y).trans ?_
    blk_simp [index1_2 t]
  · rw [A_eq1]
    refine (congrFun (entry_rows m ρ c) _).trans (((dat0 (V1 m ρ) c).arrAt_apply_of_coversWhere 2
      (fun i => weight m c (i 0).val (i 1).val) (P := fun i => (i 0).val / 1024 < 3) (fun β => β (0 : Fin _) < 3)
      (by decide +kernel) (fun t hf y => ?_) (fun j => Iff.rfl) _).trans (if_pos ?_))
    · blk_simp
      rw [after0_2]
      refine (low_out m ρ c t y).trans ?_
      blk_simp [index0_2 t]
    · exact not_le.mp hj

open Cert.GUpRefIdeal.Read in
/-- It is the reference's. -/
theorem tie2 : (dat1 (V3 m ρ) c).arrAt 2 cfg1.N = val_main_v5 (F := Ideal) (m (c.tc.loc main_arg0)) (m (c.tc.loc main_arg1)) := by
  have h0 := table_cell (a := 4096) (b := 1024) (m (c.tc.loc main_arg0))
  have h1 := table_cell (a := 4096) (b := 6144) (m (c.tc.loc main_arg1))
  have v2 : Table (val_main_v2 (F := Ideal) (m (c.tc.loc main_arg0)) (m (c.tc.loc main_arg1))) _ := h1.hostTdot h0 _ rfl
  have v3 : Table (val_main_v3 (F := Ideal) (m (c.tc.loc main_arg0)) (m (c.tc.loc main_arg1))) _ := v2.flip _
  have v4 : Table (val_main_v4 (F := Ideal) (m (c.tc.loc main_arg0)) (m (c.tc.loc main_arg1))) _ := v3.flip _
  have v5 : Table (val_main_v5 (F := Ideal) (m (c.tc.loc main_arg0)) (m (c.tc.loc main_arg1))) _ := v4.truncf _
  exact (array2 m ρ c).eq v5 fun r q _ _ => rfl

end Cert.Proof.GUp

end
-- ==== Proof.Norm1Block.lean ====
/- The gradient of the norm before the input projection: what the kernel's body leaves at one grid point. Grid point `t` works
   on row tile `t / 5` and adds part `t % 5` of the product with the turned weights; the last part ends the row tile. -/
module

public import proofs.«01_k».proof.Proof.NormStep
public import proofs.«01_k».proof.Proof.Gen.Norm1Ideal.Value
public import Idealize.ShloMosaic.Lib.StableHlo.RunRead
public import Idealize.ShloMosaic.Lib.Pipeline.ReadBack

@[expose] public section

set_option maxRecDepth 16384
set_option maxHeartbeats 1600000

noncomputable section

namespace Cert.Proof.Norm1

open Idealize.ShloMosaic Idealize.ShloMosaic.TcCoe Idealize.ShloMosaic.StableHlo Cert.Norm1Ideal Cert.Norm1Ideal.Gen Cert.Proof Finset

/-! ## The stored values -/

section
variable {p : FVec Ideal S1024x512 .bf16} {b : FVec Ideal S512x1024 .bf16} {z x h y : FVec Ideal S1024x1024 .f32}
  {g d : FVec Ideal S1x1024 .f32} {P B Z X H Y D : ℕ → ℕ → EReal} {G : ℕ → EReal}

theorem first_part (hp : Table p P) (hb : Table b B) : Table (k0_pay3 (F := Ideal) p b) (fun r c => ∑ q ∈ range 512, P r q * B q c) :=
  (((hp.self _).dot (φ₁ := .bf16) (φ₂ := .bf16) (hb.self _) _ rfl).self _)

theorem next_part (hp : Table p P) (hb : Table b B) (hz : Table z Z) :
    Table (k0_pay4 (F := Ideal) p b z) (fun r c => Z r c + ∑ q ∈ range 512, P r q * B q c) :=
  ((hz.addf (φ := .f32) ((hp.self _).dot (φ₁ := .bf16) (φ₂ := .bf16) (hb.self _) _ rfl)).self _)

theorem scale_column (hx : Table x X) : Table (k0_pay9 (F := Ideal) x) (fun r _ => scale X r) :=
  ((((((hx.mulf (φ := .f32) hx).rowsum _ _ _).stand _).divf (φ := .f32) (table_filled _)).addf (φ := .f32) (table_filled _)).rsqrt
    (φ := .f32))

theorem gain_rows (hh : Table h H) (hg : Table g (fun _ c => G c)) : Table (mulf h (broadcastTo S1024x1024 (shapeCast S1x1024 g
    shapeCasts_S1x1024_S1x1024) broadcasts_S1x1024_S1024x1024) : FVec Ideal S1024x1024 .f32) (fun r c => H r c * G c) :=
  hh.mulf (φ := .f32) ((hg.self _).repeated _)

theorem x_tile (hx : Table x X) (hh : Table h H) (hg : Table g (fun _ c => G c)) (hy : Table y Y) :
    Table (k0_pay10 (F := Ideal) x h g y) (gradX X G Y H) := by
  have s := scale_column hx
  have e := gain_rows hh hg
  have w := (((e.mulf (φ := .f32) hx).rowsum reduces_S1024x1024_S1024 (.inl rfl) rfl).stand shapeCasts_S1024_S1024x1).divf (φ := .f32)
    (table_filled 0x44800000#32)
  exact (hy.addf (φ := .f32) ((s.widened broadcasts_S1024x1_S1024x1024).mulf (φ := .f32) e)).subf (φ := .f32)
    ((hx.mulf (φ := .f32) (((s.mulf (φ := .f32) s).mulf (φ := .f32) s).widened broadcasts_S1024x1_S1024x1024)).mulf (φ := .f32)
      (w.widened broadcasts_S1024x1_S1024x1024))

theorem gain_tile (hx : Table x X) (hh : Table h H) (hd : Table d D) :
    Table (k0_pay8 (F := Ideal) (k0_pay12 d) (k0_pay13 x h)) (fun _ c => D 0 c + ∑ r ∈ range 1024, H r c * X r c * scale X r) := by
  have v : Table (k0_pay13 (F := Ideal) x h) _ := (hh.mulf (φ := .f32) hx).mulf (φ := .f32)
    ((scale_column hx).widened broadcasts_S1024x1_S1024x1024)
  refine ((hd.self _).addf (φ := .f32) ((v.colsum _ _ _).cast _)).congr fun r c hr _ => ?_
  obtain rfl : r = 0 := (by omega)
  rfl

end

/-! ## The arrays the launch reads -/

variable (m : (ℓ : Loc nD τ sig) → Buf (Elt Ideal) ℓ) (c : Dev nD)

/-- The arguments. -/
abbrev argX : ℕ → ℕ → EReal := cell (a := 4096) (b := 1024) (m (c.tc.loc main_arg0))
abbrev argG : ℕ → EReal := item (a := 1024) (m (c.tc.loc main_arg1))
abbrev argW : ℕ → ℕ → EReal := cell (a := 1024) (b := 2560) (m (c.tc.loc main_arg2))
abbrev argY : ℕ → ℕ → EReal := cell (a := 4096) (b := 1024) (m (c.tc.loc main_arg3))
abbrev argP : ℕ → ℕ → EReal := cell (a := 4096) (b := 2560) (m (c.tc.loc main_arg4))

/-- The host code before the launch. -/
abbrev line : List (HloOp τ sig (Elt Ideal)) := List.flatten [hostOps0]

theorem low_part : @Table 4096 1536 (V m c main_v1) (fun r q => argP m c r q) := by
  show @Table 4096 1536 (after line (fun b => m (c, b)) (Proc.devRef .tc main_v1)) _
  after_reads_simp
  exact (((table_cell (a := 4096) (b := 2560) (m (c.tc.loc main_arg4))).slice 0 0 _).truncf _).congr fun r q _ _ => by
    rw [Nat.zero_add, Nat.zero_add]

theorem high_part : @Table 4096 1024 (V m c main_v3) (fun r q => argP m c r (1536 + q)) := by
  show @Table 4096 1024 (after line (fun b => m (c, b)) (Proc.devRef .tc main_v3)) _
  after_reads_simp
  exact (((table_cell (a := 4096) (b := 2560) (m (c.tc.loc main_arg4))).slice 0 1536 _).truncf _).congr fun r q _ _ => by
    rw [Nat.zero_add]

theorem turned : @Table 2560 1024 (V m c main_v5) (fun r q => argW m c q r) := by
  show @Table 2560 1024 (after line (fun b => m (c, b)) (Proc.devRef .tc main_v5)) _
  after_reads_simp
  exact ((table_cell (a := 1024) (b := 2560) (m (c.tc.loc main_arg2))).flip _).truncf _

theorem gain : @Table 1 1024 (V m c main_v6) (fun _ q => argG m c q) := by
  show @Table 1 1024 (after line (fun b => m (c, b)) (Proc.devRef .tc main_v6)) _
  after_reads_simp
  exact (listed_item (a := 1024) (m (c.tc.loc main_arg1))).cast _

theorem index0 : ∀ t : Fin cfg0.N, win0_0.index t = ![t.val / 5, min (t.val % 5) 2] :=
  (by decide +kernel : ∀ t : Fin grid0.N, win0_0.index t = ![t.val / 5, min (t.val % 5) 2])
theorem index1 : ∀ t : Fin cfg0.N, win0_1.index t = ![t.val / 5, t.val % 5 - 3] :=
  (by decide +kernel : ∀ t : Fin grid0.N, win0_1.index t = ![t.val / 5, t.val % 5 - 3])
theorem index2 : ∀ t : Fin cfg0.N, win0_2.index t = ![t.val % 5, 0] :=
  (by decide +kernel : ∀ t : Fin grid0.N, win0_2.index t = ![t.val % 5, 0])
theorem index3 : ∀ t : Fin cfg0.N, win0_3.index t = ![t.val / 5, 0] :=
  (by decide +kernel : ∀ t : Fin grid0.N, win0_3.index t = ![t.val / 5, 0])
theorem index4 : ∀ t : Fin cfg0.N, win0_4.index t = ![t.val / 5, 0] :=
  (by decide +kernel : ∀ t : Fin grid0.N, win0_4.index t = ![t.val / 5, 0])
theorem index5 : ∀ t : Fin cfg0.N, win0_5.index t = ![0, 0] :=
  (by decide +kernel : ∀ t : Fin grid0.N, win0_5.index t = ![0, 0])

section
variable (t : Fin cfg0.N) {f : ℕ → ℕ → EReal}

theorem block0 (h : Table (V m c main_v1) f) :
    @Table 1024 512 (iblk m c 0 t) (fun r q => f (t.val / 5 * 1024 + r) (min (t.val % 5) 2 * 512 + q)) := fun y => by
  blk_simp [iblk]; refine (h _).trans ?_; blk_simp [index0 t]
theorem block1 (h : Table (V m c main_v3) f) :
    @Table 1024 512 (iblk m c 1 t) (fun r q => f (t.val / 5 * 1024 + r) ((t.val % 5 - 3) * 512 + q)) := fun y => by
  blk_simp [iblk]; refine (h _).trans ?_; blk_simp [index1 t]
theorem block2 (h : Table (V m c main_v5) f) :
    @Table 512 1024 (iblk m c 2 t) (fun r q => f (t.val % 5 * 512 + r) q) := fun y => by
  blk_simp [iblk]; refine (h _).trans ?_; blk_simp [index2 t]
theorem block3 (h : @Table 4096 1024 (V m c main_arg0) f) :
    @Table 1024 1024 (iblk m c 3 t) (fun r q => f (t.val / 5 * 1024 + r) q) := fun y => by
  blk_simp [iblk]; refine (h _).trans ?_; blk_simp [index3 t]
theorem block4 (h : @Table 4096 1024 (V m c main_arg3) f) :
    @Table 1024 1024 (iblk m c 4 t) (fun r q => f (t.val / 5 * 1024 + r) q) := fun y => by
  blk_simp [iblk]; refine (h _).trans ?_; blk_simp [index4 t]
theorem block5 (h : Table (V m c main_v6) f) : @Table 1 1024 (iblk m c 5 t) (fun r q => f r q) := fun y => by
  blk_simp [iblk]; refine (h _).trans ?_; blk_simp [index5 t]

/-- The product of part `s` for row `r`. -/
def piece (r s q : ℕ) : EReal := ∑ k ∈ range 512, argP m c r (s * 512 + k) * argW m c q (s * 512 + k)

/-- The block that a point adds to the sum. -/
theorem low_piece (h : t.val % 5 ≤ 2) (r q : ℕ) :
    ∑ k ∈ range 512, argP m c (t.val / 5 * 1024 + r) (min (t.val % 5) 2 * 512 + k) * argW m c q (t.val % 5 * 512 + k)
      = piece m c (t.val / 5 * 1024 + r) (t.val % 5) q := by
  rw [min_eq_left h]; rfl

theorem high_piece (h : 3 ≤ t.val % 5) (r q : ℕ) :
    ∑ k ∈ range 512, argP m c (t.val / 5 * 1024 + r) (1536 + ((t.val % 5 - 3) * 512 + k)) * argW m c q (t.val % 5 * 512 + k)
      = piece m c (t.val / 5 * 1024 + r) (t.val % 5) q :=
  sum_congr rfl fun k _ => by
    rw [show 1536 + ((t.val % 5 - 3) * 512 + k) = t.val % 5 * 512 + k by omega]

theorem acc_first (h : t.val % 5 = 0) : @Table 1024 1024 (outsAt0 m c t.val t.isLt).2.2.2
    (fun r q => piece m c (t.val / 5 * 1024 + r) (t.val % 5) q) := by
  refine Table.congr (fun y => Eq.trans ?_ (first_part (block0 m c t (low_part m c)) (block2 m c t (turned m c)) y))
    fun r q _ _ => low_piece m c t (by omega) r q
  by_cases h0 : t.val % 20 = 0
  · rw [outsAt0_A m c t h0 (by omega) h (by omega) (by omega) (by omega)]; frame_out
  · rw [outsAt0_E m c t h0 (by omega) h (by omega) (by omega) (by omega)]; frame_out

theorem acc_next (h : ¬ t.val % 5 = 0) {A : ℕ → ℕ → EReal}
    (hA : @Table 1024 1024 (outsAt0 m c (t.val - 1) (by have := t.isLt; omega)).2.2.2 A) :
    @Table 1024 1024 (outsAt0 m c t.val t.isLt).2.2.2 (fun r q => A r q + piece m c (t.val / 5 * 1024 + r) (t.val % 5) q) := by
  by_cases h1 : t.val % 5 ≤ 2
  · refine Table.congr (fun y => Eq.trans ?_ (next_part (block0 m c t (low_part m c)) (block2 m c t (turned m c)) hA y))
      fun r q _ _ => congrArg _ (low_piece m c t h1 r q)
    rw [outsAt0_B m c t (by omega) h1 h (by omega) (by omega) (by omega)]; frame_out
    exact congrArg (k0_pay4 (F := Ideal) _ _ · y) ((Memref.isWhole_whole cc0_scratch0).read_unread _)
  · refine Table.congr (fun y => Eq.trans ?_ (next_part (block1 m c t (high_part m c)) (block2 m c t (turned m c)) hA y))
      fun r q _ _ => congrArg _ (high_piece m c t (by omega) r q)
    by_cases h3 : t.val % 5 = 4
    · rw [outsAt0_D m c t (by omega) h1 (by omega) h3 h (by omega)]; frame_out
      exact congrArg (k0_pay4 (F := Ideal) _ _ · y) ((Memref.isWhole_whole cc0_scratch0).read_unread _)
    · rw [outsAt0_C m c t (by omega) h1 (by omega) h3 h (by omega)]; frame_out
      exact congrArg (k0_pay4 (F := Ideal) _ _ · y) ((Memref.isWhole_whole cc0_scratch0).read_unread _)

end

end Cert.Proof.Norm1

end
-- ==== Proof.Norm1Arrays.lean ====
/- The gradient of the norm before the input projection: the arrays the kernel leaves. -/
module

public import proofs.«01_k».proof.Proof.Norm1Block

@[expose] public section

set_option maxRecDepth 16384
set_option maxHeartbeats 1600000

noncomputable section

namespace Cert.Proof.Norm1

open Idealize.ShloMosaic Idealize.ShloMosaic.TcCoe Cert.Norm1Ideal Cert.Norm1Ideal.Gen Cert.Proof Finset

variable (m : (ℓ : Loc nD τ sig) → Buf (Elt Ideal) ℓ) (c : Dev nD)

/-- The gradient with respect to the norm. -/
abbrev back : ℕ → ℕ → EReal := through 2560 (argP m c) (argW m c)

theorem acc_rows (n : ℕ) (h : n < cfg0.N) : @Table 1024 1024 (outsAt0 m c n h).2.2.2
    (fun r q => ∑ s ∈ range (n % 5 + 1), piece m c (n / 5 * 1024 + r) s q) :=
  so_far (by decide) (fun n h => (outsAt0 m c n h).2.2.2) (fun j s r q => piece m c (j * 1024 + r) s q)
    (fun t h => acc_first m c t h) (fun t h _ hA => acc_next m c t h hA) n h

theorem acc_last (t : Fin cfg0.N) (h : t.val % 5 = 4) : @Table 1024 1024 (outsAt0 m c t.val t.isLt).2.2.2
    (fun r q => back m c (t.val / 5 * 1024 + r) q) :=
  (acc_rows m c t.val t.isLt).congr fun r q _ _ => by
    rw [h]
    exact in_parts 5 512 fun k => argP m c (t.val / 5 * 1024 + r) k * argW m c q k

section
variable (t : Fin cfg0.N)

theorem x_block : @Table 1024 1024 (iblk m c 3 t) (fun r q => argX m c (t.val / 5 * 1024 + r) q) :=
  block3 m c t (table_cell _)
theorem y_block : @Table 1024 1024 (iblk m c 4 t) (fun r q => argY m c (t.val / 5 * 1024 + r) q) :=
  block4 m c t (table_cell _)
theorem g_block : @Table 1 1024 (iblk m c 5 t) (fun _ q => argG m c q) := block5 m c t (gain m c)

/-- The last point of a row tile stores the gradient of the tile's rows, twice. -/
theorem out6_rows (h : t.val % 5 = 4) : @Table 1024 1024 (outsAt0 m c t.val t.isLt).1
    (fun r q => gradX (argX m c) (argG m c) (argY m c) (back m c) (t.val / 5 * 1024 + r) q) := by
  refine fun y => Eq.trans ?_ (x_tile (x_block m c t) (acc_last m c t h) (g_block m c t) (y_block m c t) y)
  rw [outsAt0_D m c t (by omega) (by omega) (by omega) h (by omega) (by omega)]
  frame_open
  simp (disch := decide) only [↓ View.readCov_skip, ↓ View.readCov_cons_toLoadRect, ↓ View.readCov_fill]
  frame_out
  try rfl

theorem out7_rows (h : t.val % 5 = 4) : @Table 1024 1024 (outsAt0 m c t.val t.isLt).2.1
    (fun r q => gradX (argX m c) (argG m c) (argY m c) (back m c) (t.val / 5 * 1024 + r) q) := by
  refine fun y => Eq.trans ?_ (x_tile (x_block m c t) (acc_last m c t h) (g_block m c t) (y_block m c t) y)
  rw [outsAt0_D m c t (by omega) (by omega) (by omega) h (by omega) (by omega)]
  frame_open
  simp (disch := decide) only [↓ View.readCov_skip, ↓ View.readCov_cons_toLoadRect, ↓ View.readCov_fill]
  frame_out
  try rfl

/-- It adds the tile's part to the gain's gradient … -/
theorem out8_last (h : t.val % 5 = 4) {A : ℕ → ℕ → EReal}
    (hA : @Table 1 1024 (outsAt0 m c (t.val - 1) (by have := t.isLt; omega)).2.2.1 A) :
    @Table 1 1024 (outsAt0 m c t.val t.isLt).2.2.1 (fun _ q => A 0 q + ∑ r ∈ range 1024,
      back m c (t.val / 5 * 1024 + r) q * argX m c (t.val / 5 * 1024 + r) q * scale (argX m c) (t.val / 5 * 1024 + r)) := by
  refine fun y => Eq.trans ?_ (gain_tile (x_block m c t) (acc_last m c t h) hA y)
  rw [outsAt0_D m c t (by omega) (by omega) (by omega) h (by omega) (by omega)]
  frame_open
  simp (disch := decide) only [↓ View.readCov_skip, ↓ View.readCov_cons_toLoadRect, ↓ View.readCov_fill]
  frame_out
  try rfl

/-- … which the first point of all sets to zero and the others leave as it is. -/
theorem out8_first (h : t.val % 20 = 0) : @Table 1 1024 (outsAt0 m c t.val t.isLt).2.2.1 (fun _ _ => 0) := by
  refine fun y => Eq.trans ?_ Ideal.ofBits_zero_f32
  rw [outsAt0_A m c t h (by omega) (by omega) (by omega) (by omega) (by omega)]
  frame_out
  try rfl

theorem out8_keep (h0 : ¬ t.val % 20 = 0) (h : ¬ t.val % 5 = 4) :
    (outsAt0 m c t.val t.isLt).2.2.1 = (outsAt0 m c (t.val - 1) (by have := t.isLt; omega)).2.2.1 := by
  by_cases h1 : t.val % 5 ≤ 2
  · by_cases h2 : t.val % 5 = 0
    · rw [outsAt0_E m c t h0 h1 h2 (by omega) (by omega) h]; rfl
    · rw [outsAt0_B m c t h0 h1 h2 (by omega) (by omega) h]; rfl
  · rw [outsAt0_C m c t h0 h1 (by omega) h (by omega) (by omega)]; rfl

end

/-- The gain's gradient so far. -/
theorem out8_rows : ∀ n h, @Table 1 1024 (outsAt0 m c n h).2.2.1 (fun _ q => ∑ s ∈ range ((n + 1) / 5), ∑ r ∈ range 1024,
    back m c (s * 1024 + r) q * argX m c (s * 1024 + r) q * scale (argX m c) (s * 1024 + r)) := by
  intro n
  induction n with
  | zero => exact fun h => out8_first m c ⟨0, h⟩ rfl
  | succ n ih =>
    intro h
    have hn : n + 1 < 20 := h
    by_cases h3 : (n + 1) % 5 = 4
    · refine (out8_last m c ⟨n + 1, h⟩ h3 (ih (by omega))).congr fun r q _ _ => ?_
      rw [show (n + 1 + 1) / 5 = (n + 1) / 5 + 1 by omega, sum_range_succ _ ((n + 1) / 5)]
    · intro y
      rw [out8_keep m c ⟨n + 1, h⟩ (by show ¬ (n + 1) % 20 = 0; omega) h3, show (n + 1 + 1) / 5 = (n + 1) / 5 by omega]
      exact ih (by omega) y

theorem index6 : ∀ t : Fin cfg0.N, win0_6.index t = ![t.val / 5, 0] :=
  (by decide +kernel : ∀ t : Fin grid0.N, win0_6.index t = ![t.val / 5, 0])
theorem index7 : ∀ t : Fin cfg0.N, win0_7.index t = ![t.val / 5, 0] :=
  (by decide +kernel : ∀ t : Fin grid0.N, win0_7.index t = ![t.val / 5, 0])
theorem index8 : ∀ t : Fin cfg0.N, win0_8.index t = ![0, 0] :=
  (by decide +kernel : ∀ t : Fin grid0.N, win0_8.index t = ![0, 0])

theorem array6 : @Table 4096 1024 ((dats m 0 c).arrAt 6 cfg0.N) (gradX (argX m c) (argG m c) (argY m c) (back m c)) := by
  refine fun i => congrFun ((dats m 0 c).arrAt_eq_of_covers 6
    (fun i => gradX (argX m c) (argG m c) (argY m c) (back m c) (i 0).val (i 1).val) (by decide +kernel) fun t hf y => ?_) i
  blk_simp
  refine (out6_rows m c t ((flush0_6 t).mp hf) y).trans ?_
  blk_simp [index6 t]

theorem array7 : @Table 4096 1024 ((dats m 0 c).arrAt 7 cfg0.N) (gradX (argX m c) (argG m c) (argY m c) (back m c)) := by
  refine fun i => congrFun ((dats m 0 c).arrAt_eq_of_covers 7
    (fun i => gradX (argX m c) (argG m c) (argY m c) (back m c) (i 0).val (i 1).val) (by decide +kernel) fun t hf y => ?_) i
  blk_simp
  refine (out7_rows m c t ((flush0_7 t).mp hf) y).trans ?_
  blk_simp [index7 t]

theorem array8 : @Table 1 1024 ((dats m 0 c).arrAt 8 cfg0.N) (fun _ q => gradG (argX m c) (back m c) q) := by
  refine fun i => congrFun ((dats m 0 c).arrAt_eq_of_covers 8
    (fun i => gradG (argX m c) (back m c) (i 1).val) (by decide +kernel) fun t hf y => ?_) i
  blk_simp
  refine (out8_rows m c t.val t.isLt y).trans ?_
  blk_simp [index8 t]
  have h19 := (flush0_8 t).mp hf
  rw [show (t.val + 1) / 5 = 4 by have : t.val < 20 := t.isLt; omega]
  exact in_parts 4 1024 fun r => back m c r (y 1).val * argX m c r (y 1).val * scale (argX m c) r

end Cert.Proof.Norm1

end
-- ==== Proof.Norm1Ref.lean ====
/- The gradient of the norm before the input projection: what the reference computes. It differentiates the forward norm and
   the product with the weights, so the mean square's gradient comes with its half twice. -/
module

public import proofs.«01_k».proof.Proof.NormStep
public import proofs.«01_k».proof.Proof.Gen.Norm1RefIdeal.Read

@[expose] public section

set_option maxRecDepth 16384
set_option maxHeartbeats 1600000

noncomputable section

namespace Cert.Proof.Norm1

open Idealize.ShloMosaic Cert.Norm1RefIdeal Cert.Norm1RefIdeal.Gen Cert.Norm1RefIdeal.Read Cert.Proof Finset

variable {x0 : (⟨2, ![4096, 1024]⟩ : Shape).Idx → EReal} {x1 : (⟨1, ![1024]⟩ : Shape).Idx → EReal}
  {x2 : (⟨2, ![1024, 2560]⟩ : Shape).Idx → EReal} {x3 : (⟨2, ![4096, 1024]⟩ : Shape).Idx → EReal}
  {x4 : (⟨2, ![4096, 2560]⟩ : Shape).Idx → EReal} {X W Y P : ℕ → ℕ → EReal} {G : ℕ → EReal}

/-- The scale of the rows, and the scale over the mean square. -/
theorem ref_scale (h0 : Table x0 X) :
    Table (val_main_v7 (F := Ideal) x0) (fun r _ => scale X r)
    ∧ Table (val_main_v8 (F := Ideal) x0) (fun r _ => Ideal.div (scale X r) (msq X r)) := by
  have v0 : Table (val_main_v0 (F := Ideal) x0) _ := h0.mulf h0
  have v1 : Listed (val_main_v1 (F := Ideal) x0) _ := v0.hostRowsum _ zero_of_literal _ (by decide) _
  have v2 : Table (val_main_v2 (F := Ideal) x0) _ := v1.column _
  have v3 : Table (val_main_v3 (F := Ideal)) _ := table_literal _ _
  have v4 : Table (val_main_v4 (F := Ideal) x0) _ := v2.hostDivf v3
  have v5 : Table (val_main_v5 (F := Ideal)) _ := table_literal _ _
  have v6 : Table (val_main_v6 (F := Ideal) x0) (fun r _ => msq X r) := v4.addf v5
  have v7 : Table (val_main_v7 (F := Ideal) x0) (fun r _ => scale X r) := v6.hostRsqrt
  exact ⟨v7, v7.hostDivf v6⟩

/-- The gradient with respect to the norm. -/
theorem ref_back (h2 : Table x2 W) (h4 : Table x4 P) :
    Table (val_main_v17 (F := Ideal) x2 x4) (through 2560 P W) := by
  have v17 : Table (val_main_v17 (F := Ideal) x2 x4) _ := h4.hostDotT h2 _ rfl
  exact v17

/-- The gradient with respect to the norm's input. -/
theorem ref_x (h0 : Table x0 X) (h1 : Listed x1 G) (h2 : Table x2 W) (h3 : Table x3 Y) (h4 : Table x4 P) :
    Table (val_main_v38 (F := Ideal) x0 x1 x2 x3 x4) (gradX X G Y (through 2560 P W)) := by
  obtain ⟨v7, v8⟩ := ref_scale h0
  have v9 : Table (val_main_v9 (F := Ideal)) _ := table_literal _ _
  have v10 : Table (val_main_v10 (F := Ideal) x0) _ := v9.mulf v8
  have v13 : Table (val_main_v13 (F := Ideal) x1) _ := h1.row _
  have v17 := ref_back h2 h4
  have v21 : Table (val_main_v21 (F := Ideal) x1) _ := v13.spread _
  have v22 : Table (val_main_v22 (F := Ideal) x1 x2 x4) _ := v17.mulf v21
  have v24 : Table (val_main_v24 (F := Ideal) x0 x1 x2 x4) _ := h0.mulf v22
  have v25 : Listed (val_main_v25 (F := Ideal) x0 x1 x2 x4) _ := v24.hostRowsum _ zero_of_literal _ (by decide) _
  have v26 : Table (val_main_v26 (F := Ideal) x0 x1 x2 x4) _ := v25.stand _
  have v27 : Table (val_main_v27 (F := Ideal) x0) _ := v7.hostWidened _
  have v28 : Table (val_main_v28 (F := Ideal) x0 x1 x2 x4) _ := v22.mulf v27
  have v29 : Table (val_main_v29 (F := Ideal) x0 x1 x2 x3 x4) _ := h3.addf v28
  have v30 : Table (val_main_v30 (F := Ideal) x0 x1 x2 x4) _ := v26.mulf v10
  have v31 : Table (val_main_v31 (F := Ideal)) _ := table_literal _ _
  have v32 : Table (val_main_v32 (F := Ideal) x0 x1 x2 x4) _ := v30.hostDivf v31
  have v33 : Listed (val_main_v33 (F := Ideal) x0 x1 x2 x4) _ := v32.hostRowsum _ zero_of_literal _ (by decide) _
  have v34 : Table (val_main_v34 (F := Ideal) x0 x1 x2 x4) _ := v33.column _
  have v35 : Table (val_main_v35 (F := Ideal) x0 x1 x2 x4) _ := h0.mulf v34
  have v36 : Table (val_main_v36 (F := Ideal) x0 x1 x2 x3 x4) _ := v29.addf v35
  have v37 : Table (val_main_v37 (F := Ideal) x0 x1 x2 x4) _ := v34.mulf h0
  have v38 : Table (val_main_v38 (F := Ideal) x0 x1 x2 x3 x4) _ := v36.addf v37
  exact v38.congr fun r q _ _ => gradX_eq X G Y (through 2560 P W) r q _ (sum_range_one _)

/-- The gradient with respect to the gain. -/
theorem ref_g (h0 : Table x0 X) (h2 : Table x2 W) (h4 : Table x4 P) :
    Table (val_main_v40 (F := Ideal) x0 x2 x4) (fun _ q => gradG X (through 2560 P W) q) := by
  have v11 : Table (val_main_v11 (F := Ideal) x0) _ := (ref_scale h0).1.hostWidened _
  have v12 : Table (val_main_v12 (F := Ideal) x0) _ := h0.mulf v11
  have v18 : Table (val_main_v18 (F := Ideal) x0 x2 x4) _ := v12.mulf (ref_back h2 h4)
  have v19 : Listed (val_main_v19 (F := Ideal) x0 x2 x4) _ := v18.hostColsum _ zero_of_literal _ (by decide) _
  have v20 : Table (val_main_v20 (F := Ideal) x0 x2 x4) _ := v19.cast _
  have v23 : Listed (val_main_v23 (F := Ideal) x0 x2 x4) _ := v20.hostColsum _ zero_of_literal _ (by decide) _
  have v40 : Table (val_main_v40 (F := Ideal) x0 x2 x4) _ := v23.cast _
  refine v40.congr fun r q _ _ => ?_
  beta_reduce
  rw [sum_range_one]
  exact sum_congr rfl fun r _ => by ac_rfl

end Cert.Proof.Norm1

end
-- ==== Proof.Norm1Tie.lean ====
/- The results of the first normalisation's backward kernel are the reference's. -/
module

public import proofs.«01_k».proof.Proof.Norm1Arrays
public import proofs.«01_k».proof.Proof.Norm1Ref

@[expose] public section

set_option maxRecDepth 16384
set_option maxHeartbeats 1600000

noncomputable section

namespace Cert.Proof.Norm1

open Idealize.ShloMosaic Idealize.ShloMosaic.TcCoe Cert.Norm1Ideal Cert.Norm1Ideal.Gen Cert.Norm1RefIdeal.Read

variable (m : (ℓ : Loc nD τ sig) → Buf (Elt Ideal) ℓ) (c : Dev nD)

theorem tie6 : (dats m 0 c).arrAt 6 cfg0.N = val_main_v38 (F := Ideal) (m (c.tc.loc main_arg0)) (m (c.tc.loc main_arg1))
    (m (c.tc.loc main_arg2)) (m (c.tc.loc main_arg3)) (m (c.tc.loc main_arg4)) :=
  (array6 m c).eq (ref_x (table_cell _) (listed_item _) (table_cell _) (table_cell _) (table_cell _)) fun _ _ _ _ => rfl

theorem tie7 : (dats m 0 c).arrAt 7 cfg0.N = val_main_v39 (F := Ideal) (m (c.tc.loc main_arg0)) (m (c.tc.loc main_arg1))
    (m (c.tc.loc main_arg2)) (m (c.tc.loc main_arg3)) (m (c.tc.loc main_arg4)) :=
  (array7 m c).eq ((ref_x (table_cell _) (listed_item _) (table_cell _) (table_cell _) (table_cell _)).truncf _)
    fun _ _ _ _ => rfl

theorem tie8 : (dats m 0 c).arrAt 8 cfg0.N = val_main_v40 (F := Ideal) (m (c.tc.loc main_arg0)) (m (c.tc.loc main_arg2))
    (m (c.tc.loc main_arg4)) :=
  (array8 m c).eq (ref_g (table_cell _) (table_cell _) (table_cell _)) fun _ _ _ _ => rfl

end Cert.Proof.Norm1

end
-- ==== Proof.GInRun.lean ====
/- The two launches of the gradient of the input projection's weights, run in order, with every array they leave named. -/
module

public import proofs.«01_k».proof.Proof.Gen.GInIdeal.Frame

@[expose] public section

set_option maxRecDepth 16384
set_option maxHeartbeats 1600000

noncomputable section

namespace Cert.Proof.GIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GInIdeal Cert.GInIdeal.Gen

variable {F : FTy → Type} [FloatOps F]
variable (m : (ℓ : Loc nD τ sig) → Buf (Elt F) ℓ) (ρ : Dev nD → PrngReg)

set_option backward.isDefEq.respectTransparency.types false in
/-- Every buffer that outlives the launches is, at the end, at the contents `W4` of the last boundary. -/
theorem run_all : θ_run defs (onTc (τ := τ) (main (F := F))) ⟨m, fun _ => 0, ρ⟩ fun r =>
    ∀ c : Dev nD, ∀ b ∈ Pipeline.ucRefs τ sig, r.2.mem (c, b) = W4 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The result, and the arguments, at the end. -/
theorem run_result : θ_run defs (onTc (τ := τ) (main (F := F))) ⟨m, fun _ => 0, ρ⟩ fun r => ∀ c : Dev nD,
    r.2.mem ((c.tc : Thread nD τ).loc main_v6) = (dat1 (V3 m ρ) c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c _ (mem_uc main_v6 (by decide))).trans (W4_arr m ρ c 2),
    (h c _ (mem_uc main_arg0 (by decide))).trans (W4_main_arg0 m ρ c),
    (h c _ (mem_uc main_arg1 (by decide))).trans (W4_main_arg1 m ρ c)⟩) (run_all m ρ)

end Cert.Proof.GIn

end
-- ==== Proof.GInValue.lean ====
/- The gradient of the input projection's weights: what each launch writes into its rows of the array, and the
   reference's product. -/
module

public import proofs.«01_k».proof.Proof.Tables
public import proofs.«01_k».proof.Proof.GInRun
public import proofs.«01_k».proof.Proof.Gen.GInRefIdeal.Read
public import Idealize.ShloMosaic.Lib.StableHlo.RunRead
public import Idealize.ShloMosaic.Lib.Pipeline.ReadBack

@[expose] public section

set_option maxRecDepth 16384
set_option maxHeartbeats 1600000

noncomputable section

namespace Cert.Proof.GIn

open Idealize.ShloMosaic Idealize.ShloMosaic.TcCoe Idealize.ShloMosaic.StableHlo Cert.GInIdeal Cert.GInIdeal.Gen Cert.Proof Finset

variable (m : (ℓ : Loc nD τ sig) → Buf (Elt Ideal) ℓ) (ρ : Dev nD → PrngReg) (c : Dev nD)

/-- The arguments, and their product. -/
abbrev argX : ℕ → ℕ → EReal := cell (a := 4096) (b := 1024) (m (c.tc.loc main_arg0))
abbrev argP : ℕ → ℕ → EReal := cell (a := 4096) (b := 2560) (m (c.tc.loc main_arg1))
def weight (r q : ℕ) : EReal := ∑ k ∈ range 4096, argP m c k r * argX m c k q

/-- What the host code before each launch leaves. -/
theorem x_rows : @Table 4096 1024 (V1 m ρ c main_v0) (argX m c) := by
  show @Table 4096 1024 (after hostOps0 (fun b => m (c, b)) (Proc.devRef .tc main_v0)) _
  after_reads_simp
  exact (table_cell (a := 4096) (b := 1024) (m (c.tc.loc main_arg0))).truncf _

theorem low_rows : @Table 4096 1536 (V1 m ρ c main_v2) (fun r q => argP m c r (0 + q)) := by
  show @Table 4096 1536 (after hostOps0 (fun b => m (c, b)) (Proc.devRef .tc main_v2)) _
  after_reads_simp
  exact (((table_cell (a := 4096) (b := 2560) (m (c.tc.loc main_arg1))).slice 0 0 _).truncf _).congr fun r _ _ _ =>
    congrArg (argP m c · _) (Nat.zero_add r)

theorem x_rows' : @Table 4096 1024 (V3 m ρ c main_v0) (argX m c) := by
  rw [show V3 m ρ c main_v0 = V1 m ρ c main_v0 from
    (W3_of m ρ c main_v0 (by decide)).trans (W2_of m ρ c main_v0 (by decide +kernel))]
  exact x_rows m ρ c

theorem high_rows : @Table 4096 1024 (V3 m ρ c main_v5) (fun r q => argP m c r (1536 + q)) := by
  show @Table 4096 1024 (after hostOps1 (W2 m ρ c) (Proc.devRef .tc main_v5)) _
  after_reads_simp
  rw [show W2 m ρ c (Proc.devRef .tc main_arg1) = m (c.tc.loc main_arg1) from W2_args m ρ c main_arg1 (by decide)]
  exact (((table_cell (a := 4096) (b := 2560) (m (c.tc.loc main_arg1))).slice 0 1536 _).truncf _).congr fun r _ _ _ =>
    congrArg (argP m c · _) (Nat.zero_add r)

theorem entry_rows : V3 m ρ c main_v6 = (dat0 (V1 m ρ) c).arrAt 2 cfg0.N := by
  rw [← W2_arr m ρ c 2]
  show after hostOps1 (W2 m ρ c) (Proc.devRef .tc main_v6) = _
  after_reads_simp
  rfl

theorem index0_0 : ∀ t : Fin cfg0.N, win0_0.index t = ![0, t.val] :=
  (by decide +kernel : ∀ t : Fin grid0.N, win0_0.index t = ![0, t.val])
theorem index0_1 : ∀ t : Fin cfg0.N, win0_1.index t = ![0, 0] :=
  (by decide +kernel : ∀ t : Fin grid0.N, win0_1.index t = ![0, 0])
theorem index0_2 : ∀ t : Fin cfg0.N, win0_2.index t = ![t.val, 0] :=
  (by decide +kernel : ∀ t : Fin grid0.N, win0_2.index t = ![t.val, 0])
theorem index1_0 : ∀ t : Fin cfg1.N, win1_0.index t = ![0, t.val] :=
  (by decide +kernel : ∀ t : Fin grid1.N, win1_0.index t = ![0, t.val])
theorem index1_1 : ∀ t : Fin cfg1.N, win1_1.index t = ![0, 0] :=
  (by decide +kernel : ∀ t : Fin grid1.N, win1_1.index t = ![0, 0])
theorem index1_2 : ∀ t : Fin cfg1.N, win1_2.index t = ![3 + t.val, 0] :=
  (by decide +kernel : ∀ t : Fin grid1.N, win1_2.index t = ![3 + t.val, 0])

section
variable {x : FVec Ideal ⟨2, ![4096, 512]⟩ .bf16} {y : FVec Ideal ⟨2, ![4096, 1024]⟩ .bf16} {f g : ℕ → ℕ → EReal} (hx : @Table 4096 512 x f) (hy : @Table 4096 1024 y g)
include hx hy

theorem low_payload : @Table 512 1024 (k0_pay1 (F := Ideal) x y) (fun r q => ∑ k ∈ range 4096, f k r * g k q) := by
  unfold k0_pay1
  exact (((hx.self _).tdot (φ₁ := .bf16) (φ₂ := .bf16) (hy.self _) _ rfl).truncf _)

theorem high_payload : @Table 512 1024 (k1_pay1 (F := Ideal) x y) (fun r q => ∑ k ∈ range 4096, f k r * g k q) := by
  unfold k1_pay1
  exact (((hx.self _).tdot (φ₁ := .bf16) (φ₂ := .bf16) (hy.self _) _ rfl).truncf _)

end

section
variable (t : Fin cfg0.N)

theorem low0 : @Table 4096 512 (iblk0 (V1 m ρ) c 0 t) (fun r q => argP m c r (t.val * 512 + q)) := fun y => by
  blk_simp [iblk0]; refine (low_rows m ρ c _).trans ?_; blk_simp [index0_0 t]
theorem low1 : @Table 4096 1024 (iblk0 (V1 m ρ) c 1 t) (argX m c) := fun y => by
  blk_simp [iblk0]; refine (x_rows m ρ c _).trans ?_; blk_simp [index0_1 t]

theorem low_out : @Table 512 1024 (out0_2 (iblk0 (V1 m ρ) c 0 t) (iblk0 (V1 m ρ) c 1 t))
    (fun r q => weight m c (t.val * 512 + r) q) := by
  refine fun y => Eq.trans ?_ (low_payload (low0 m ρ c t) (low1 m ρ c t) y)
  frame_out

end

section
variable (t : Fin cfg1.N)

theorem high0 : @Table 4096 512 (iblk1 (V3 m ρ) c 0 t) (fun r q => argP m c r ((3 + t.val) * 512 + q)) := fun y => by
  blk_simp [iblk1]; refine (high_rows m ρ c _).trans ?_; blk_simp [index1_0 t]
  beta_reduce; congr 1; omega
theorem high1 : @Table 4096 1024 (iblk1 (V3 m ρ) c 1 t) (argX m c) := fun y => by
  blk_simp [iblk1]; refine (x_rows' m ρ c _).trans ?_; blk_simp [index1_1 t]

theorem high_out : @Table 512 1024 (outsAt1 (V3 m ρ) c t) (fun r q => weight m c ((3 + t.val) * 512 + r) q) := by
  refine fun y => Eq.trans ?_ (high_payload (high0 m ρ c t) (high1 m ρ c t) y)
  unfold outsAt1 out1_A_2
  frame_out

end

/-- The array that the second launch leaves, over what the first left. -/
theorem array2 : @Table 2560 1024 ((dat1 (V3 m ρ) c).arrAt 2 cfg1.N) (weight m c) := by
  refine fun i => congrFun ((dat1 (V3 m ρ) c).arrAt_eq_of_coversWhere_of_agree 2
    (fun i => weight m c (i 0).val (i 1).val) (fun β => 3 ≤ β (0 : Fin _)) (by decide +kernel) (fun t hf y => ?_)
    (fun j hj => ?_)) i
  · blk_simp
    rw [after1_2]
    refine (high_out m ρ c t y).trans ?_
    blk_simp [index1_2 t]
  · rw [A_eq1]
    refine (congrFun (entry_rows m ρ c) _).trans (((dat0 (V1 m ρ) c).arrAt_apply_of_coversWhere 2
      (fun i => weight m c (i 0).val (i 1).val) (P := fun i => (i 0).val / 512 < 3) (fun β => β (0 : Fin _) < 3)
      (by decide +kernel) (fun t hf y => ?_) (fun j => Iff.rfl) _).trans (if_pos ?_))
    · blk_simp
      rw [after0_2]
      refine (low_out m ρ c t y).trans ?_
      blk_simp [index0_2 t]
    · exact not_le.mp hj

open Cert.GInRefIdeal.Read in
/-- It is the reference's. -/
theorem tie2 : (dat1 (V3 m ρ) c).arrAt 2 cfg1.N = val_main_v5 (F := Ideal) (m (c.tc.loc main_arg0)) (m (c.tc.loc main_arg1)) := by
  have h0 := table_cell (a := 4096) (b := 1024) (m (c.tc.loc main_arg0))
  have h1 := table_cell (a := 4096) (b := 2560) (m (c.tc.loc main_arg1))
  have v2 : Table (val_main_v2 (F := Ideal) (m (c.tc.loc main_arg0)) (m (c.tc.loc main_arg1))) _ := h1.hostTdot h0 _ rfl
  have v3 : Table (val_main_v3 (F := Ideal) (m (c.tc.loc main_arg0)) (m (c.tc.loc main_arg1))) _ := v2.flip _
  have v4 : Table (val_main_v4 (F := Ideal) (m (c.tc.loc main_arg0)) (m (c.tc.loc main_arg1))) _ := v3.flip _
  have v5 : Table (val_main_v5 (F := Ideal) (m (c.tc.loc main_arg0)) (m (c.tc.loc main_arg1))) _ := v4.truncf _
  exact (array2 m ρ c).eq v5 fun r q _ _ => rfl

end Cert.Proof.GIn

end
-- ==== Proof.GOutValue.lean ====
/- The gradient of the output projection's weights: the kernel's product of the mixed activations, turned, with the gradient
   of the result, and the reference's product. -/
module

public import proofs.«01_k».proof.Proof.Tables
public import proofs.«01_k».proof.Proof.Gen.GOutIdeal.Value
public import proofs.«01_k».proof.Proof.Gen.GOutRefIdeal.Read
public import Idealize.ShloMosaic.Lib.StableHlo.RunRead
public import Idealize.ShloMosaic.Lib.Pipeline.ReadBack

@[expose] public section

set_option maxRecDepth 16384
set_option maxHeartbeats 400000

noncomputable section

namespace Cert.Proof.GOut

open Idealize.ShloMosaic Idealize.ShloMosaic.TcCoe Idealize.ShloMosaic.StableHlo Cert.GOutIdeal Cert.GOutIdeal.Gen Cert.Proof Finset

variable (m : (ℓ : Loc nD τ sig) → Buf (Elt Ideal) ℓ) (c : Dev nD)

/-- The arguments, and their product. -/
abbrev argA : ℕ → ℕ → EReal := cell (a := 4096) (b := 1024) (m (c.tc.loc main_arg0))
abbrev argY : ℕ → ℕ → EReal := cell (a := 4096) (b := 1024) (m (c.tc.loc main_arg1))
def weight (r q : ℕ) : EReal := ∑ k ∈ range 4096, argA m c k r * argY m c k q

/-- What the host code before the launch leaves. -/
theorem left_rows : @Table 4096 1024 (V m c main_v0) (argA m c) := by
  show @Table 4096 1024 (after hostOps0 (fun b => m (c, b)) (Proc.devRef .tc main_v0)) _
  after_reads_simp
  exact (table_cell (a := 4096) (b := 1024) (m (c.tc.loc main_arg0))).truncf _

theorem right_rows : @Table 4096 1024 (V m c main_v1) (argY m c) := by
  show @Table 4096 1024 (after hostOps0 (fun b => m (c, b)) (Proc.devRef .tc main_v1)) _
  after_reads_simp
  exact (table_cell (a := 4096) (b := 1024) (m (c.tc.loc main_arg1))).truncf _

theorem index0 : ∀ t : Fin cfg0.N, win0_0.index t = ![0, 0] :=
  (by decide +kernel : ∀ t : Fin grid0.N, win0_0.index t = ![0, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])

section
variable (t : Fin cfg0.N)

theorem block0 : @Table 4096 1024 (iblk m c 0 t) (argA m c) := fun y => by
  blk_simp [iblk]; refine (left_rows m c _).trans ?_; blk_simp [index0 t]
theorem block1 : @Table 4096 1024 (iblk m c 1 t) (argY m c) := fun y => by
  blk_simp [iblk]; refine (right_rows m c _).trans ?_; blk_simp [index1 t]

theorem payload_rows {x : FVec Ideal _ .bf16} {y : FVec Ideal _ .bf16} {f g : ℕ → ℕ → EReal} (hx : @Table 4096 1024 x f)
    (hy : @Table 4096 1024 y g) : @Table 1024 1024 (k0_pay1 (F := Ideal) x y) (fun r q => ∑ k ∈ range 4096, f k r * g k q) := by
  unfold k0_pay1
  exact (((hx.self _).tdot (φ₁ := .bf16) (φ₂ := .bf16) (hy.self _) _ rfl).truncf _)

theorem out2_rows : @Table 1024 1024 (out0_2 (iblk m c 0 t) (iblk m c 1 t)) (weight m c) := by
  refine fun y => Eq.trans ?_ (payload_rows (block0 m c t) (block1 m c t) y)
  frame_out

end

/-- The array that the kernel leaves. -/
theorem array2 : @Table 1024 1024 ((dats m 0 c).arrAt 2 cfg0.N) (weight m c) := by
  refine fun i => congrFun ((dats m 0 c).arrAt_eq_of_covers 2
    (fun i => weight m c (i 0).val (i 1).val) (by decide +kernel) fun t hf y => ?_) i
  blk_simp
  rw [after0_2]
  refine (out2_rows m c t y).trans ?_
  blk_simp [index2 t]

open Cert.GOutRefIdeal.Read in
/-- It is the reference's. -/
theorem tie2 : (dats m 0 c).arrAt 2 cfg0.N = val_main_v4 (F := Ideal) (m (c.tc.loc main_arg0)) (m (c.tc.loc main_arg1)) := by
  have h0 := table_cell (a := 4096) (b := 1024) (m (c.tc.loc main_arg0))
  have h1 := table_cell (a := 4096) (b := 1024) (m (c.tc.loc main_arg1))
  have v2 : Table (val_main_v2 (F := Ideal) (m (c.tc.loc main_arg0)) (m (c.tc.loc main_arg1))) _ := h1.hostTdot h0 _ rfl
  have v3 : Table (val_main_v3 (F := Ideal) (m (c.tc.loc main_arg0)) (m (c.tc.loc main_arg1))) _ := v2.flip _
  have v4 : Table (val_main_v4 (F := Ideal) (m (c.tc.loc main_arg0)) (m (c.tc.loc main_arg1))) _ := v3.truncf _
  exact (array2 m c).eq v4 fun r q _ _ => sum_congr rfl fun k _ => mul_comm _ _

end Cert.Proof.GOut

end
-- ==== Proof.DMixValue.lean ====
/- The gradient of the mixed activations: the kernel's product of each row tile of the gradient with the turned weights,
   and the reference's product. -/
module

public import proofs.«01_k».proof.Proof.Tables
public import proofs.«01_k».proof.Proof.Gen.DMixIdeal.Value
public import proofs.«01_k».proof.Proof.Gen.DMixRefIdeal.Read
public import Idealize.ShloMosaic.Lib.StableHlo.RunRead
public import Idealize.ShloMosaic.Lib.Pipeline.ReadBack

@[expose] public section

set_option maxRecDepth 16384
set_option maxHeartbeats 400000

noncomputable section

namespace Cert.Proof.DMix

open Idealize.ShloMosaic Idealize.ShloMosaic.TcCoe Idealize.ShloMosaic.StableHlo Cert.DMixIdeal Cert.DMixIdeal.Gen Cert.Proof Finset

variable (m : (ℓ : Loc nD τ sig) → Buf (Elt Ideal) ℓ) (c : Dev nD)

/-- The arguments, and their product. -/
abbrev argW : ℕ → ℕ → EReal := cell (a := 1024) (b := 1024) (m (c.tc.loc main_arg0))
abbrev argY : ℕ → ℕ → EReal := cell (a := 4096) (b := 1024) (m (c.tc.loc main_arg1))
def back (r q : ℕ) : EReal := ∑ k ∈ range 1024, argY m c r k * argW m c q k

/-- What the host code before the launch leaves. -/
theorem left_rows : @Table 4096 1024 (V m c main_v0) (argY m c) := by
  show @Table 4096 1024 (after hostOps0 (fun b => m (c, b)) (Proc.devRef .tc main_v0)) _
  after_reads_simp
  exact (table_cell (a := 4096) (b := 1024) (m (c.tc.loc main_arg1))).truncf _

theorem right_rows : @Table 1024 1024 (V m c main_v1) (argW m c) := by
  show @Table 1024 1024 (after hostOps0 (fun b => m (c, b)) (Proc.devRef .tc main_v1)) _
  after_reads_simp
  exact (table_cell (a := 1024) (b := 1024) (m (c.tc.loc main_arg0))).truncf _

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

section
variable (t : Fin cfg0.N)

theorem block0 : @Table 1024 1024 (iblk m c 0 t) (fun r q => argY m c (t.val * 1024 + r) q) := fun y => by
  blk_simp [iblk]; refine (left_rows m c _).trans ?_; blk_simp [index0 t]
theorem block1 : @Table 1024 1024 (iblk m c 1 t) (argW m c) := fun y => by
  blk_simp [iblk]; refine (right_rows m c _).trans ?_; blk_simp [index1 t]

theorem payload_rows {x : FVec Ideal _ .bf16} {y : FVec Ideal _ .bf16} {f g : ℕ → ℕ → EReal} (hx : @Table 1024 1024 x f)
    (hy : @Table 1024 1024 y g) : @Table 1024 1024 (k0_pay1 (F := Ideal) x y) (fun r q => ∑ k ∈ range 1024, f r k * g q k) := by
  unfold k0_pay1
  exact (hx.self _).dotT (φ₁ := .bf16) (φ₂ := .bf16) (hy.self _) _ rfl

theorem out2_rows : @Table 1024 1024 (out0_2 (iblk m c 0 t) (iblk m c 1 t)) (fun r q => back m c (t.val * 1024 + r) q) := by
  refine fun y => Eq.trans ?_ (payload_rows (block0 m c t) (block1 m c t) y)
  frame_out

end

/-- The array that the kernel leaves. -/
theorem array2 : @Table 4096 1024 ((dats m 0 c).arrAt 2 cfg0.N) (back m c) := by
  refine fun i => congrFun ((dats m 0 c).arrAt_eq_of_covers 2
    (fun i => back m c (i 0).val (i 1).val) (by decide +kernel) fun t hf y => ?_) i
  blk_simp
  rw [after0_2]
  refine (out2_rows m c t y).trans ?_
  blk_simp [index2 t]

open Cert.DMixRefIdeal.Read in
/-- It is the reference's. -/
theorem tie2 : (dats m 0 c).arrAt 2 cfg0.N = val_main_v2 (F := Ideal) (m (c.tc.loc main_arg0)) (m (c.tc.loc main_arg1)) := by
  have h0 := table_cell (a := 1024) (b := 1024) (m (c.tc.loc main_arg0))
  have h1 := table_cell (a := 4096) (b := 1024) (m (c.tc.loc main_arg1))
  have v2 : Table (val_main_v2 (F := Ideal) (m (c.tc.loc main_arg0)) (m (c.tc.loc main_arg1))) _ := h1.hostDotT h0 _ rfl
  exact (array2 m c).eq v2 fun r q _ _ => rfl

end Cert.Proof.DMix

end
-- ==== Proof.OutProjValue.lean ====
/- The output projection: the kernel's product of each row tile of the mixed activations with the weights, added to the
   layer's input, and the reference's. -/
module

public import proofs.«01_k».proof.Proof.Tables
public import proofs.«01_k».proof.Proof.Gen.OutProjIdeal.Value
public import proofs.«01_k».proof.Proof.Gen.OutProjRefIdeal.Read
public import Idealize.ShloMosaic.Lib.StableHlo.RunRead
public import Idealize.ShloMosaic.Lib.Pipeline.ReadBack

@[expose] public section

set_option maxRecDepth 16384
set_option maxHeartbeats 400000

noncomputable section

namespace Cert.Proof.OutProj

open Idealize.ShloMosaic Idealize.ShloMosaic.TcCoe Idealize.ShloMosaic.StableHlo Cert.OutProjIdeal Cert.OutProjIdeal.Gen Cert.Proof Finset

variable (m : (ℓ : Loc nD τ sig) → Buf (Elt Ideal) ℓ) (c : Dev nD)

/-- The arguments, and the result. -/
abbrev argX : ℕ → ℕ → EReal := cell (a := 4096) (b := 1024) (m (c.tc.loc main_arg0))
abbrev argM : ℕ → ℕ → EReal := cell (a := 4096) (b := 1024) (m (c.tc.loc main_arg1))
abbrev argW : ℕ → ℕ → EReal := cell (a := 1024) (b := 1024) (m (c.tc.loc main_arg2))
def past (r q : ℕ) : EReal := argX m c r q + ∑ k ∈ range 1024, argM m c r k * argW m c k q

/-- What the host code before the launch leaves. -/
theorem left_rows : @Table 4096 1024 (V m c main_v0) (argM m c) := by
  show @Table 4096 1024 (after hostOps0 (fun b => m (c, b)) (Proc.devRef .tc main_v0)) _
  after_reads_simp
  exact (table_cell (a := 4096) (b := 1024) (m (c.tc.loc main_arg1))).truncf _

theorem right_rows : @Table 1024 1024 (V m c main_v1) (argW m c) := by
  show @Table 1024 1024 (after hostOps0 (fun b => m (c, b)) (Proc.devRef .tc main_v1)) _
  after_reads_simp
  exact (table_cell (a := 1024) (b := 1024) (m (c.tc.loc main_arg2))).truncf _

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])

section
variable (t : Fin cfg0.N)

theorem block0 : @Table 1024 1024 (iblk m c 0 t) (fun r q => argM m c (t.val * 1024 + r) q) := fun y => by
  blk_simp [iblk]; refine (left_rows m c _).trans ?_; blk_simp [index0 t]
theorem block1 : @Table 1024 1024 (iblk m c 1 t) (argW m c) := fun y => by
  blk_simp [iblk]; refine (right_rows m c _).trans ?_; blk_simp [index1 t]
theorem block2 : @Table 1024 1024 (iblk m c 2 t) (fun r q => argX m c (t.val * 1024 + r) q) := fun y => by
  blk_simp [iblk]; refine (table_cell (a := 4096) (b := 1024) (m (c.tc.loc main_arg0)) _).trans ?_; blk_simp [index2 t]

theorem payload_rows {x y : FVec Ideal _ .bf16} {z : FVec Ideal _ .f32} {f g h : ℕ → ℕ → EReal} (hx : @Table 1024 1024 x f)
    (hy : @Table 1024 1024 y g) (hz : @Table 1024 1024 z h) :
    @Table 1024 1024 (k0_pay1 (F := Ideal) x y z) (fun r q => (∑ k ∈ range 1024, f r k * g k q) + h r q) := by
  unfold k0_pay1
  exact ((hx.self _).dot (φ₁ := .bf16) (φ₂ := .bf16) (hy.self _) _ rfl).addf (φ := .f32) hz

theorem out3_rows : @Table 1024 1024 (out0_3 (iblk m c 0 t) (iblk m c 1 t) (iblk m c 2 t))
    (fun r q => past m c (t.val * 1024 + r) q) := by
  refine Table.congr (fun y => Eq.trans ?_ (payload_rows (block0 m c t) (block1 m c t) (block2 m c t) y))
    fun r q _ _ => add_comm _ _
  frame_out

end

/-- The array that the kernel leaves. -/
theorem array3 : @Table 4096 1024 ((dats m 0 c).arrAt 3 cfg0.N) (past m c) := by
  refine fun i => congrFun ((dats m 0 c).arrAt_eq_of_covers 3
    (fun i => past m c (i 0).val (i 1).val) (by decide +kernel) fun t hf y => ?_) i
  blk_simp
  rw [after0_3]
  refine (out3_rows m c t y).trans ?_
  blk_simp [index3 t]

open Cert.OutProjRefIdeal.Read in
/-- It is the reference's. -/
theorem tie3 : (dats m 0 c).arrAt 3 cfg0.N = val_main_v1 (F := Ideal) (m (c.tc.loc main_arg0)) (m (c.tc.loc main_arg1))
    (m (c.tc.loc main_arg2)) := by
  have h0 := table_cell (a := 4096) (b := 1024) (m (c.tc.loc main_arg0))
  have h1 := table_cell (a := 4096) (b := 1024) (m (c.tc.loc main_arg1))
  have h2 := table_cell (a := 1024) (b := 1024) (m (c.tc.loc main_arg2))
  have v0 : Table (val_main_v0 (F := Ideal) (m (c.tc.loc main_arg1)) (m (c.tc.loc main_arg2))) _ := h1.hostDot h2 _ rfl
  have v1 : Table (val_main_v1 (F := Ideal) (m (c.tc.loc main_arg0)) (m (c.tc.loc main_arg1)) (m (c.tc.loc main_arg2))) _ := h0.addf v0
  exact (array3 m c).eq v1 fun r q _ _ => rfl

end Cert.Proof.OutProj

end
-- ==== Proof.DownLossValue.lean ====
/- The down projection with the loss: what each launch leaves of the gradient of the loss and of its parts, the sum that
   the host code after it makes of the parts, and the reference's. -/
module

public import proofs.«01_k».proof.Proof.NormStep
public import proofs.«01_k».proof.Proof.Gen.DownLossIdeal.Frame
public import proofs.«01_k».proof.Proof.Gen.DownLossRefIdeal.Read
public import Idealize.ShloMosaic.Lib.StableHlo.RunRead
public import Idealize.ShloMosaic.Lib.Pipeline.ReadBack

@[expose] public section

set_option maxRecDepth 16384
set_option maxHeartbeats 400000

noncomputable section

namespace Cert.Proof.DownLoss

open Idealize.ShloMosaic Idealize.ShloMosaic.TcCoe Idealize.ShloMosaic.StableHlo Idealize.SL.Sem Cert.DownLossIdeal Cert.DownLossIdeal.Gen Cert.Proof Finset

/-! ## Arithmetic -/

theorem word_two : word 0x40000000#32 = ((2 : ℝ) : EReal) := by
  simp [word, Ideal.ofBits, Ideal.ieee]
  norm_num
  try rw [← EReal.coe_mul]
  try norm_num
theorem word_plus_half : word 0x3F000000#32 = ((1 / 2 : ℝ) : EReal) := by
  simp [word, Ideal.ofBits, Ideal.ieee]
  norm_num
  rw [← EReal.coe_mul]
  norm_num
theorem word_one : word 0x3F800000#32 = ((1 : ℝ) : EReal) := by
  simp [word, Ideal.ofBits, Ideal.ieee]
  try norm_num
  try rw [← EReal.coe_mul]
  try norm_num
theorem word_per_width : word 0x3A800000#32 = ((1 / 1024 : ℝ) : EReal) := by
  simp [word, Ideal.ofBits, Ideal.ieee]
  norm_num
  rw [← EReal.coe_mul]
  norm_num
theorem word_half_per_width : word 0x3A000000#32 = ((1 / 2048 : ℝ) : EReal) := by
  simp [word, Ideal.ofBits, Ideal.ieee]
  norm_num
  rw [← EReal.coe_mul]
  norm_num

/-- A positive real times a sum is the sum of its products. -/
theorem real_times_sum (a : ℝ) (ha : 0 ≤ a) (n : ℕ) (f : ℕ → EReal) : (a : EReal) * ∑ r ∈ range n, f r = ∑ r ∈ range n, (a : EReal) * f r := by
  induction n with
  | zero => simp
  | succ n ih =>
    rw [sum_range_succ, sum_range_succ, EReal.left_distrib_of_nonneg_of_ne_top (EReal.coe_nonneg.mpr ha) (EReal.coe_ne_top a), ih]

/-- The pairs of a rank-two index, and a rank-three one whose middle axis has one place. -/
def middle (a b : ℕ) : (⟨3, ![a, 1, b]⟩ : Shape).Idx ≃ (⟨2, ![a, b]⟩ : Shape).Idx where
  toFun i := ix2 (i 0) (i 2)
  invFun j := ix3 (j 0) (0 : Fin 1) (j 1)
  left_inv i := by
    funext d
    match d with
    | ⟨0, _⟩ => rfl
    | ⟨1, _⟩ => exact (Fin.ext (by have : (i 1).val < 1 := (i 1).isLt; show 0 = (i 1).val; omega))
    | ⟨2, _⟩ => rfl
  right_inv j := by
    funext d
    match d with
    | ⟨0, _⟩ => rfl
    | ⟨1, _⟩ => rfl

theorem sum_middle {a b : ℕ} (x : (⟨3, ![a, 1, b]⟩ : Shape).Idx → EReal) (f : ℕ → ℕ → EReal) (hx : ∀ i, x i = f (i 0).val (i 2).val) :
    ∑ i, x i = ∑ r ∈ range a, ∑ q ∈ range b, f r q := by
  rw [Fintype.sum_equiv (middle a b) x (fun j => f (j 0).val (j 1).val) hx, sum_idx2, ← Fin.sum_univ_eq_sum_range]
  refine sum_congr rfl fun r _ => ?_
  rw [← Fin.sum_univ_eq_sum_range]
  rfl

variable (m : (ℓ : Loc nD τ sig) → Buf (Elt Ideal) ℓ) (c : Dev nD)

/-- The arguments, the error, the gradient, and the parts of the loss. -/
abbrev argX : ℕ → ℕ → EReal := cell (a := 4096) (b := 1024) (m (c.tc.loc main_arg0))
abbrev argA : ℕ → ℕ → EReal := cell (a := 4096) (b := 3072) (m (c.tc.loc main_arg1))
abbrev argW : ℕ → ℕ → EReal := cell (a := 3072) (b := 1024) (m (c.tc.loc main_arg2))
abbrev argT : ℕ → ℕ → EReal := cell (a := 4096) (b := 1024) (m (c.tc.loc main_arg3))
def off (r q : ℕ) : EReal := (∑ k ∈ range 3072, argA m c r k * argW m c k q) + argX m c r q - argT m c r q
def grad (r q : ℕ) : EReal := off m c r q * word 0x3A800000#32
def part (t q : ℕ) : EReal := ∑ r ∈ range 512, off m c (t * 512 + r) q * off m c (t * 512 + r) q
def loss : EReal := word 0x3A000000#32 * ∑ t ∈ range 8, ∑ q ∈ range 1024, part m c t q

/-- What the host code before the launch leaves. -/
theorem left_rows : @Table 4096 3072 (V m c main_v0) (argA m c) := by
  show @Table 4096 3072 (after hostOps0 (fun b => m (c, b)) (Proc.devRef .tc main_v0)) _
  after_reads_simp
  exact (table_cell (a := 4096) (b := 3072) (m (c.tc.loc main_arg1))).truncf _

theorem right_rows : @Table 3072 1024 (V m c main_v1) (argW m c) := by
  show @Table 3072 1024 (after hostOps0 (fun b => m (c, b)) (Proc.devRef .tc main_v1)) _
  after_reads_simp
  exact (table_cell (a := 3072) (b := 1024) (m (c.tc.loc main_arg2))).truncf _

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0, 0] :=
  (by decide +kernel : ∀ t : Fin grid0.N, win0_6.index t = ![t.val, 0, 0])

section
variable (t : Fin cfg0.N)

theorem block0 : @Table 512 3072 (iblk m c 0 t) (fun r q => argA m c (t.val * 512 + r) q) := fun y => by
  blk_simp [iblk]; refine (left_rows m c _).trans ?_; blk_simp [index0 t]
theorem block1 : @Table 3072 1024 (iblk m c 1 t) (argW m c) := fun y => by
  blk_simp [iblk]; refine (right_rows m c _).trans ?_; blk_simp [index1 t]
theorem block2 : @Table 512 1024 (iblk m c 2 t) (fun r q => argX m c (t.val * 512 + r) q) := fun y => by
  blk_simp [iblk]; refine (table_cell (a := 4096) (b := 1024) (m (c.tc.loc main_arg0)) _).trans ?_; blk_simp [index2 t]
theorem block3 : @Table 512 1024 (iblk m c 3 t) (fun r q => argT m c (t.val * 512 + r) q) := fun y => by
  blk_simp [iblk]; refine (table_cell (a := 4096) (b := 1024) (m (c.tc.loc main_arg3)) _).trans ?_; blk_simp [index3 t]

section
variable {x y : FVec Ideal _ .bf16} {z w : FVec Ideal _ .f32} {f g h k : ℕ → ℕ → EReal} (hx : @Table 512 3072 x f)
  (hy : @Table 3072 1024 y g) (hz : @Table 512 1024 z h) (hw : @Table 512 1024 w k)
include hx hy hz hw

theorem payload1 : @Table 512 1024 (k0_pay1 (F := Ideal) x y z w) (fun r q => (∑ j ∈ range 3072, f r j * g j q) + h r q - k r q) := by
  unfold k0_pay1
  exact (((hx.self _).dot (φ₁ := .bf16) (φ₂ := .bf16) (hy.self _) _ rfl).addf (φ := .f32) hz).subf (φ := .f32) hw

theorem payload2 : @Table 512 1024 (k0_pay2 (F := Ideal) x y z w)
    (fun r q => ((∑ j ∈ range 3072, f r j * g j q) + h r q - k r q) * word 0x3A800000#32) := by
  unfold k0_pay2
  exact (payload1 hx hy hz hw).mulf (φ := .f32) (table_filled _)

theorem payload3 : @Table 512 1024 (k0_pay3 (F := Ideal) x y z w)
    (fun r q => ((∑ j ∈ range 3072, f r j * g j q) + h r q - k r q) * word 0x3A800000#32) := by
  unfold k0_pay3
  exact (payload2 hx hy hz hw).truncf _

theorem payload4 (i : S1x1x1024.Idx) : k0_pay4 (F := Ideal) x y z w i
    = ∑ r ∈ range 512, ((∑ j ∈ range 3072, f r j * g j (i 2).val) + h r (i 2).val - k r (i 2).val)
        * ((∑ j ∈ range 3072, f r j * g j (i 2).val) + h r (i 2).val - k r (i 2).val) := by
  unfold k0_pay4
  have hp := payload1 hx hy hz hw
  have hc := Listed.cast (Table.colsum (hp.mulf (φ := .f32) hp) reduces_S512x1024_S1024 (.inl rfl) rfl) shapeCasts_S1024_S1x1024
  refine (shapeCast_apply _ shapeCasts_S1x1024_S1x1x1024 i (ix2 (0 : Fin 1) (i 2)) ?_).trans (hc _)
  rw [Shape.rowMajor_val_two, Shape.rowMajor_val_three]
  have h0 : (i 0).val < 1 := (i 0).isLt
  have h1 : (i 1).val < 1 := (i 1).isLt
  show 0 * 1024 + (i 2).val = ((i 0).val * 1 + (i 1).val) * 1024 + (i 2).val
  omega
end

theorem out4_rows : @Table 512 1024 (out0_4 (iblk m c 0 t) (iblk m c 1 t) (iblk m c 2 t) (iblk m c 3 t))
    (fun r q => grad m c (t.val * 512 + r) q) := by
  refine fun y => Eq.trans ?_ (payload2 (block0 m c t) (block1 m c t) (block2 m c t) (block3 m c t) y)
  frame_out

theorem out5_rows : @Table 512 1024 (out0_5 (iblk m c 0 t) (iblk m c 1 t) (iblk m c 2 t) (iblk m c 3 t))
    (fun r q => grad m c (t.val * 512 + r) q) := by
  refine fun y => Eq.trans ?_ (payload3 (block0 m c t) (block1 m c t) (block2 m c t) (block3 m c t) y)
  frame_out

theorem out6_rows (y : S1x1x1024.Idx) : out0_6 (iblk m c 0 t) (iblk m c 1 t) (iblk m c 2 t) (iblk m c 3 t) y
    = part m c t.val (y 2).val := by
  refine Eq.trans ?_ (payload4 (block0 m c t) (block1 m c t) (block2 m c t) (block3 m c t) y)
  frame_out

end

/-- The arrays that the kernel leaves. -/
theorem array4 : @Table 4096 1024 ((dats m 0 c).arrAt 4 cfg0.N) (grad m c) := by
  refine fun i => congrFun ((dats m 0 c).arrAt_eq_of_covers 4
    (fun i => grad m c (i 0).val (i 1).val) (by decide +kernel) fun t hf y => ?_) i
  blk_simp
  rw [after0_4]
  refine (out4_rows m c t y).trans ?_
  blk_simp [index4 t]

theorem array5 : @Table 4096 1024 ((dats m 0 c).arrAt 5 cfg0.N) (grad m c) := by
  refine fun i => congrFun ((dats m 0 c).arrAt_eq_of_covers 5
    (fun i => grad m c (i 0).val (i 1).val) (by decide +kernel) fun t hf y => ?_) i
  blk_simp
  rw [after0_5]
  refine (out5_rows m c t y).trans ?_
  blk_simp [index5 t]

theorem array6 (i : S8x1x1024.Idx) : (dats m 0 c).arrAt 6 cfg0.N i = part m c (i 0).val (i 2).val := by
  refine congrFun ((dats m 0 c).arrAt_eq_of_covers 6
    (fun i => part m c (i 0).val (i 2).val) (by decide +kernel) fun t hf y => ?_) i
  blk_simp
  rw [after0_6]
  refine (out6_rows m c t y).trans ?_
  blk_simp [index6 t]

/-- The loss that the host code after the launch leaves. -/
theorem after_loss (i : S_.Idx) : Pipeline.afterTail₀ cfgs (dats m) 0 (V0 m) [hostOps1] c main_v4 i = loss m c := by
  unfold Pipeline.afterTail₀
  show after hostOps1 _ (Proc.devRef .tc main_v4) i = _
  after_reads_simp
  show word 0x3A000000#32 * Host.reduceAdd (F := Ideal) (φ := .f32) _ (constant S_ .f32 0x00000000#32) reducesTo_S8x1x1024_S_d0_1_2 h_S_ i = _
  simp only [Host.reduceAdd, Ideal.hostReduceAdd_def]
  rw [Ideal.hostReduceAdd_total _ (fun b => b.elim0), zero_of_literal, zero_add]
  unfold loss
  refine congrArg _ (sum_middle _ _ fun j => ?_)
  exact (congrFun (Pipeline.withArrays_arr spec0 (by decide) c (V0 m c) (fun w => (dats m 0 c).arrAt w cfg0.N) 6) j).trans (array6 m c j)

/-- The loss as the reference takes it: each row's mean square, and half their sum. -/
theorem loss_by_rows : loss m c = word 0x3F000000#32 * ∑ r ∈ range 4096, Ideal.div (∑ q ∈ range 1024, off m c r q * off m c r q) (word 0x44800000#32) := by
  unfold loss part
  simp only [word_half_per_width, word_plus_half, word_width, Ideal.div_coe (show (1024 : ℝ) ≠ 0 by norm_num)]
  rw [sum_congr rfl fun t _ => sum_comm, in_parts 8 512 fun r => ∑ q ∈ range 1024, off m c r q * off m c r q]
  rw [real_times_sum _ (by norm_num), real_times_sum _ (by norm_num)]
  refine sum_congr rfl fun r _ => ?_
  rw [mul_comm _ ((1 / 1024 : ℝ) : EReal), ← mul_assoc, ← EReal.coe_mul]
  norm_num

section
open Cert.DownLossRefIdeal.Read
theorem differences : @Table 4096 1024 (val_main_v2 (F := Ideal) (m (c.tc.loc main_arg0)) (m (c.tc.loc main_arg1)) (m (c.tc.loc main_arg2)) (m (c.tc.loc main_arg3)))
    (off m c) := by
  have h0 := table_cell (a := 4096) (b := 1024) (m (c.tc.loc main_arg0))
  have h1 := table_cell (a := 4096) (b := 3072) (m (c.tc.loc main_arg1))
  have h2 := table_cell (a := 3072) (b := 1024) (m (c.tc.loc main_arg2))
  have h3 := table_cell (a := 4096) (b := 1024) (m (c.tc.loc main_arg3))
  have v0 : Table (val_main_v0 (F := Ideal) (m (c.tc.loc main_arg1)) (m (c.tc.loc main_arg2))) _ := h1.hostDot h2 _ rfl
  have v1 : Table (val_main_v1 (F := Ideal) (m (c.tc.loc main_arg0)) (m (c.tc.loc main_arg1)) (m (c.tc.loc main_arg2))) _ := h0.addf v0
  have v2 : Table (val_main_v2 (F := Ideal) (m (c.tc.loc main_arg0)) (m (c.tc.loc main_arg1)) (m (c.tc.loc main_arg2)) (m (c.tc.loc main_arg3))) _ := v1.subf h3
  exact v2.congr fun r q _ _ => by unfold off; rw [add_comm]

theorem gradients : @Table 4096 1024 (val_main_v16 (F := Ideal) (m (c.tc.loc main_arg0)) (m (c.tc.loc main_arg1)) (m (c.tc.loc main_arg2)) (m (c.tc.loc main_arg3)))
    (grad m c) := by
  have v5 : Table (val_main_v5 (F := Ideal) (m (c.tc.loc main_arg0)) (m (c.tc.loc main_arg1)) (m (c.tc.loc main_arg2)) (m (c.tc.loc main_arg3))) _ :=
    (table_literal 0x40000000#32 Cert.DownLossRefIdeal.Gen.bcast_S_S4096x1024).mulf (φ := .f32) (differences m c)
  have v14 : Listed (val_main_v14 (F := Ideal)) (fun _ => Ideal.div (word 0x3F000000#32 * word 0x3F800000#32) (word 0x44800000#32)) := fun i => rfl
  have v15 : Table (val_main_v15 (F := Ideal)) _ := v14.column _
  have v16 : Table (val_main_v16 (F := Ideal) (m (c.tc.loc main_arg0)) (m (c.tc.loc main_arg1)) (m (c.tc.loc main_arg2)) (m (c.tc.loc main_arg3))) _ := v15.mulf (φ := .f32) v5
  refine v16.congr fun r q _ _ => ?_
  unfold grad
  rw [word_per_width, word_plus_half, word_one, word_width, word_two, Ideal.div_coe (by norm_num), ← mul_assoc, ← EReal.coe_mul, ← EReal.coe_mul,
    ← EReal.coe_mul, mul_comm]
  norm_num

/-- They are the reference's. -/
theorem tie4 : (dats m 0 c).arrAt 4 cfg0.N = val_main_v16 (F := Ideal) (m (c.tc.loc main_arg0)) (m (c.tc.loc main_arg1)) (m (c.tc.loc main_arg2)) (m (c.tc.loc main_arg3)) :=
  (array4 m c).eq (gradients m c) fun r q _ _ => rfl

theorem tie5 : (dats m 0 c).arrAt 5 cfg0.N = val_main_v17 (F := Ideal) (m (c.tc.loc main_arg0)) (m (c.tc.loc main_arg1)) (m (c.tc.loc main_arg2)) (m (c.tc.loc main_arg3)) :=
  (array5 m c).eq ((gradients m c).truncf bitsLt_bf16_f32) fun r q _ _ => rfl

variable {x0 : Vec Ideal S4096x1024 .f32} {x1 : Vec Ideal S4096x3072 .f32} {x2 : Vec Ideal S3072x1024 .f32} {x3 : Vec Ideal S4096x1024 .f32} {e : ℕ → ℕ → EReal}

theorem mean_squares (hd : Table (val_main_v2 (F := Ideal) x0 x1 x2 x3) e) : Listed (val_main_v8 (F := Ideal) x0 x1 x2 x3)
    (fun r => Ideal.div (∑ q ∈ range 1024, e r q * e r q) (word 0x44800000#32)) := by
  have v3 : Table (val_main_v3 (F := Ideal) x0 x1 x2 x3) _ := hd.mulf (φ := .f32) hd
  have v6 : Listed (val_main_v6 (F := Ideal) x0 x1 x2 x3) _ := v3.hostRowsum _ zero_of_literal _ (by decide) _
  refine fun i => (congrArg (fun z => Ideal.div z (word 0x44800000#32)) (v6 i))

theorem reference_loss (hd : Table (val_main_v2 (F := Ideal) x0 x1 x2 x3) e) (i : S_.Idx) : val_main_v10 (F := Ideal) x0 x1 x2 x3 i
    = word 0x3F000000#32 * ∑ r ∈ range 4096, Ideal.div (∑ q ∈ range 1024, e r q * e r q) (word 0x44800000#32) := by
  have v8 := mean_squares hd
  generalize hv : val_main_v8 (F := Ideal) x0 x1 x2 x3 = v at v8
  have h9 : val_main_v9 (F := Ideal) x0 x1 x2 x3 i = ∑ r ∈ range 4096, Ideal.div (∑ q ∈ range 1024, e r q * e r q) (word 0x44800000#32) := by
    unfold val_main_v9
    rw [hv]
    simp only [Host.reduceAdd, Ideal.hostReduceAdd_def]
    rw [Ideal.hostReduceAdd_r1_a0, ← Fin.sum_univ_eq_sum_range]
    refine (congrArg₂ (· + ·) (zero_of_literal _) (sum_congr rfl fun r _ => v8 _)).trans (zero_add _)
  exact congrArg (word 0x3F000000#32 * ·) h9

theorem tie_loss : Pipeline.afterTail₀ cfgs (dats m) 0 (V0 m) [hostOps1] c main_v4
    = val_main_v10 (F := Ideal) (m (c.tc.loc main_arg0)) (m (c.tc.loc main_arg1)) (m (c.tc.loc main_arg2)) (m (c.tc.loc main_arg3)) :=
  funext fun i => (after_loss m c i).trans ((loss_by_rows m c).trans (reference_loss (differences m c) i).symm)
end

/-- The results, and the arguments, at the end. -/
theorem run_result (ρ : Dev nD → PrngReg) : θ_run defs (onTc (τ := τ) (main (F := Ideal))) ⟨m, fun _ => 0, ρ⟩ fun r => ∀ c : Dev nD,
    r.2.mem ((c.tc : Thread nD τ).loc main_v2_0) = (dats m 0 c).arrAt 4 cfg0.N
    ∧ r.2.mem ((c.tc : Thread nD τ).loc main_v2_1) = (dats m 0 c).arrAt 5 cfg0.N
    ∧ r.2.mem ((c.tc : Thread nD τ).loc main_v4) = Pipeline.afterTail₀ cfgs (dats m) 0 (V0 m) [hostOps1] c main_v4
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1 4, (h c).1 5,
    (h c).2 main_v4 (Pipeline.mem_restRefs_of main_v4 (by decide) (by decide)),
    ((h c).1 2).trans (((dats m 0 c).arrAt_in 2 rfl _).trans (V_main_arg0 m c)),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 3).trans (((dats m 0 c).arrAt_in 3 rfl _).trans (V_main_arg3 m c))⟩) (run_main m ρ)

end Cert.Proof.DownLoss

end
-- ==== Proof.InProjValue.lean ====
/- The first normalisation and the input projection: what each row tile stores, and the reference's. -/
module

public import proofs.«01_k».proof.Proof.NormStep
public import proofs.«01_k».proof.Proof.Gen.InProjIdeal.Value
public import proofs.«01_k».proof.Proof.Gen.InProjRefIdeal.Read
public import Idealize.ShloMosaic.Lib.StableHlo.RunRead
public import Idealize.ShloMosaic.Lib.Pipeline.ReadBack

@[expose] public section

set_option maxRecDepth 16384
set_option maxHeartbeats 1600000

noncomputable section

namespace Cert.Proof.InProj

open Idealize.ShloMosaic Idealize.ShloMosaic.TcCoe Idealize.ShloMosaic.StableHlo Cert.InProjIdeal Cert.InProjIdeal.Gen Cert.Proof Finset

/-! ## The stored values -/

section
variable {x : FVec Ideal S1024x1024 .f32} {g : FVec Ideal S1x1024 .f32} {w : FVec Ideal S2560x1024 .bf16} {X W : ℕ → ℕ → EReal}
  {G : ℕ → EReal}

/-- The norm of the rows. -/
def normed (X : ℕ → ℕ → EReal) (G : ℕ → EReal) (r q : ℕ) : EReal := X r q * scale X r * G q

theorem norm_tile (hx : Table x X) (hg : Table g (fun _ q => G q)) : Table (k0_pay1 (F := Ideal) x g) (normed X G) := by
  unfold k0_pay1
  exact ((hx.mulf (φ := .f32) (((((((hx.mulf (φ := .f32) hx).rowsum _ _ _).stand _).divf (φ := .f32) (table_filled _)).addf (φ := .f32)
    (table_filled _)).rsqrt (φ := .f32)).widened _)).mulf (φ := .f32) ((hg.self _).repeated _)).truncf _

theorem proj_tile (hx : Table x X) (hg : Table g (fun _ q => G q)) (hw : Table w W) :
    Table (k0_pay2 (F := Ideal) x g w) (through 1024 (normed X G) W) := by
  unfold k0_pay2
  exact (norm_tile hx hg).dotT (φ₁ := .bf16) (φ₂ := .bf16) (hw.self _) _ rfl

end

variable (m : (ℓ : Loc nD τ sig) → Buf (Elt Ideal) ℓ) (c : Dev nD)

/-- The arguments, and the results. -/
abbrev argX : ℕ → ℕ → EReal := cell (a := 4096) (b := 1024) (m (c.tc.loc main_arg0))
abbrev argG : ℕ → EReal := item (a := 1024) (m (c.tc.loc main_arg1))
abbrev argW : ℕ → ℕ → EReal := cell (a := 1024) (b := 2560) (m (c.tc.loc main_arg2))
abbrev norm : ℕ → ℕ → EReal := normed (argX m c) (argG m c)
abbrev proj : ℕ → ℕ → EReal := through 1024 (norm m c) (fun r q => argW m c q r)

/-- What the host code before the launch leaves. -/
theorem gain_rows : @Table 1 1024 (V m c main_v0) (fun _ q => argG m c q) := by
  show @Table 1 1024 (after hostOps0 (fun b => m (c, b)) (Proc.devRef .tc main_v0)) _
  after_reads_simp
  exact (listed_item (a := 1024) (m (c.tc.loc main_arg1))).cast _

theorem turned : @Table 2560 1024 (V m c main_v2) (fun r q => argW m c q r) := by
  show @Table 2560 1024 (after hostOps0 (fun b => m (c, b)) (Proc.devRef .tc main_v2)) _
  after_reads_simp
  exact ((table_cell (a := 1024) (b := 2560) (m (c.tc.loc main_arg2))).flip _).truncf _

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])

section
variable (t : Fin cfg0.N)

theorem block0 : @Table 1024 1024 (iblk m c 0 t) (fun r q => argX m c (t.val * 1024 + r) q) := fun y => by
  blk_simp [iblk]; refine (table_cell (a := 4096) (b := 1024) (m (c.tc.loc main_arg0)) _).trans ?_; blk_simp [index0 t]
theorem block1 : @Table 1 1024 (iblk m c 1 t) (fun _ q => argG m c q) := fun y => by
  blk_simp [iblk]; refine (gain_rows m c _).trans ?_; blk_simp [index1 t]
theorem block2 : @Table 2560 1024 (iblk m c 2 t) (fun r q => argW m c q r) := fun y => by
  blk_simp [iblk]; refine (turned m c _).trans ?_; blk_simp [index2 t]

theorem out3_rows : @Table 1024 2560 (outsAt0 m c t).1 (fun r q => proj m c (t.val * 1024 + r) q) := by
  refine fun y => Eq.trans ?_ (proj_tile (block0 m c t) (block1 m c t) (block2 m c t) y)
  unfold outsAt0 out0_A_3
  frame_out

theorem out4_rows : @Table 1024 1024 (outsAt0 m c t).2 (fun r q => norm m c (t.val * 1024 + r) q) := by
  refine fun y => Eq.trans ?_ (norm_tile (block0 m c t) (block1 m c t) y)
  unfold outsAt0 out0_A_4
  frame_out

end

/-- The arrays that the kernel leaves. -/
theorem array3 : @Table 4096 2560 ((dats m 0 c).arrAt 3 cfg0.N) (proj m c) := by
  refine fun i => congrFun ((dats m 0 c).arrAt_eq_of_covers 3
    (fun i => proj m c (i 0).val (i 1).val) (by decide +kernel) fun t hf y => ?_) i
  blk_simp
  rw [after0_3]
  refine (out3_rows m c t y).trans ?_
  blk_simp [index3 t]

theorem array4 : @Table 4096 1024 ((dats m 0 c).arrAt 4 cfg0.N) (norm m c) := by
  refine fun i => congrFun ((dats m 0 c).arrAt_eq_of_covers 4
    (fun i => norm m c (i 0).val (i 1).val) (by decide +kernel) fun t hf y => ?_) i
  blk_simp
  rw [after0_4]
  refine (out4_rows m c t y).trans ?_
  blk_simp [index4 t]

/-! ## The reference -/

section
open Cert.InProjRefIdeal.Read

variable {x0 : (⟨2, ![4096, 1024]⟩ : Shape).Idx → EReal} {x1 : (⟨1, ![1024]⟩ : Shape).Idx → EReal}
  {x2 : (⟨2, ![1024, 2560]⟩ : Shape).Idx → EReal} {X W : ℕ → ℕ → EReal} {G : ℕ → EReal}

theorem ref_norm (h0 : Table x0 X) (h1 : Listed x1 G) : Table (val_main_v12 (F := Ideal) x0 x1) (normed X G) := by
  have v0 : Table (val_main_v0 (F := Ideal) x0) _ := h0.mulf h0
  have v1 : Listed (val_main_v1 (F := Ideal) x0) _ := v0.hostRowsum _ zero_of_literal _ (by decide) _
  have v2 : Table (val_main_v2 (F := Ideal) x0) _ := v1.column _
  have v3 : Table (val_main_v3 (F := Ideal)) _ := table_literal _ _
  have v4 : Table (val_main_v4 (F := Ideal) x0) _ := v2.hostDivf v3
  have v5 : Table (val_main_v5 (F := Ideal)) _ := table_literal _ _
  have v6 : Table (val_main_v6 (F := Ideal) x0) _ := v4.addf v5
  have v7 : Table (val_main_v7 (F := Ideal) x0) (fun r _ => scale X r) := v6.hostRsqrt
  have v8 : Table (val_main_v8 (F := Ideal) x0) _ := v7.hostWidened _
  have v9 : Table (val_main_v9 (F := Ideal) x0) _ := h0.mulf v8
  have v10 : Table (val_main_v10 (F := Ideal) x1) _ := h1.row _
  have v11 : Table (val_main_v11 (F := Ideal) x1) _ := v10.spread _
  have v12 : Table (val_main_v12 (F := Ideal) x0 x1) _ := v9.mulf v11
  exact v12

theorem ref_proj (h0 : Table x0 X) (h1 : Listed x1 G) (h2 : Table x2 W) :
    Table (val_main_v13 (F := Ideal) x0 x1 x2) (through 1024 (normed X G) (fun r q => W q r)) := by
  have v13 : Table (val_main_v13 (F := Ideal) x0 x1 x2) _ := (ref_norm h0 h1).hostDot h2 _ rfl
  exact v13

theorem tie3 : (dats m 0 c).arrAt 3 cfg0.N = val_main_v13 (F := Ideal) (m (c.tc.loc main_arg0)) (m (c.tc.loc main_arg1))
    (m (c.tc.loc main_arg2)) :=
  (array3 m c).eq (ref_proj (table_cell _) (listed_item _) (table_cell _)) fun _ _ _ _ => rfl

theorem tie4 : (dats m 0 c).arrAt 4 cfg0.N = val_main_v14 (F := Ideal) (m (c.tc.loc main_arg0)) (m (c.tc.loc main_arg1)) :=
  (array4 m c).eq ((ref_norm (table_cell _) (listed_item _)).truncf _) fun _ _ _ _ => rfl

end

end Cert.Proof.InProj

end
-- ==== Proof.UpStep.lean ====
/- The up projection of the convolutional gated layer, over the extended reals: the norm of its input, the product with the
   weights, the convolution, and the two folded forms in which gelu and its derivative can be taken. Those forms agree with
   the plain ones at every number: at the two infinities the hyperbolic tangent is one or minus one, so that the products
   by what is then zero vanish on both sides. -/
module

public import proofs.«01_k».proof.Proof.NormStep

@[expose] public section

noncomputable section

namespace Cert.Proof.UpProj

open Idealize.ShloMosaic Cert.Proof Finset

/-! ## Literals -/

theorem word_inner : word 0x3F4C422A#32 = ((6693141 / 8388608 : ℝ) : EReal) := by
  simp [word, Ideal.ofBits, Ideal.ieee]
  norm_num
  rw [← EReal.coe_mul]
  norm_num

theorem word_cubic : word 0x3D372713#32 = ((12003091 / 268435456 : ℝ) : EReal) := by
  simp [word, Ideal.ofBits, Ideal.ieee]
  norm_num
  rw [← EReal.coe_mul]
  norm_num

theorem word_halved : word 0x3F000000#32 = ((1 / 2 : ℝ) : EReal) := by
  simp [word, Ideal.ofBits, Ideal.ieee]
  norm_num
  try rw [← EReal.coe_mul]
  try norm_num

theorem word_two : word 0x40000000#32 = ((2 : ℝ) : EReal) := by
  simp [word, Ideal.ofBits, Ideal.ieee]
  try norm_num
  try rw [← EReal.coe_mul]
  try norm_num

theorem word_three : word 0x40400000#32 = ((3 : ℝ) : EReal) := by
  simp [word, Ideal.ofBits, Ideal.ieee]
  try norm_num
  try rw [← EReal.coe_mul]
  try norm_num

theorem word_one : word 0x3F800000#32 = 1 := Ideal.ofBits_one_f32

theorem word_zero : word 0x00000000#32 = 0 := Ideal.ofBits_zero_f32

/-- The two numbers the kernel folds: the products of the literals. -/
def foldA : ℝ := 80338380498831 / 2251799813685248
def foldB : ℝ := 241015141496493 / 2251799813685248

/-! ## Gelu -/

/-- The hyperbolic tangent in gelu. -/
def curve (g : EReal) : EReal := Ideal.tanh (word 0x3F4C422A#32 * (g + word 0x3D372713#32 * (g * g * g)))

/-- The factor gelu puts on its argument. -/
def share (g : EReal) : EReal := word 0x3F000000#32 * (1 + curve g)

def gelu (g : EReal) : EReal := g * share g

/-- What comes to the derivative through the hyperbolic tangent. -/
def lean (g : EReal) : EReal := word 0x3F4C422A#32 * (word 0x3F000000#32 * g * ((1 + curve g) * (1 - curve g)))

/-- The derivative of `gelu`. -/
def slope (g : EReal) : EReal := share g + lean g + word 0x3D372713#32 * lean g * (word 0x40400000#32 * (g * g))

/-- One and the hyperbolic tangent, the cubic taken as a product. -/
def lifted (g : EReal) : EReal := 1 + Ideal.tanh (g * (word 0x3F4C422A#32 + (foldA : EReal) * (g * g)))

theorem curve_bot : curve ⊥ = -1 := by
  unfold curve
  rw [word_inner, word_cubic, EReal.bot_mul_bot, EReal.top_mul_bot, EReal.coe_mul_bot_of_pos (by norm_num), EReal.bot_add,
    EReal.coe_mul_bot_of_pos (by norm_num), Ideal.tanh_bot]

theorem curve_top : curve ⊤ = 1 := by
  unfold curve
  rw [word_inner, word_cubic, EReal.top_mul_top, EReal.top_mul_top, EReal.coe_mul_top_of_pos (by norm_num), EReal.top_add_top,
    EReal.coe_mul_top_of_pos (by norm_num), Ideal.tanh_top]

theorem lifted_eq (g : EReal) : lifted g = 1 + curve g := by
  have hA : (0 : ℝ) < foldA := by unfold foldA; norm_num
  induction g with
  | bot =>
    rw [curve_bot]; unfold lifted
    rw [word_inner, EReal.bot_mul_bot, EReal.coe_mul_top_of_pos hA, EReal.coe_add_top, EReal.bot_mul_top, Ideal.tanh_bot]
  | top =>
    rw [curve_top]; unfold lifted
    rw [word_inner, EReal.top_mul_top, EReal.coe_mul_top_of_pos hA, EReal.coe_add_top, EReal.top_mul_top, Ideal.tanh_top]
  | coe g =>
    unfold lifted curve
    rw [word_inner, word_cubic]
    simp only [← EReal.coe_mul, ← EReal.coe_add]
    congr 3
    unfold foldA
    ring

theorem gelu_folded (g : EReal) : word 0x3F000000#32 * g * lifted g = gelu g := by
  rw [lifted_eq]; unfold gelu share; ac_rfl

theorem minus_one : (1 : EReal) + -1 = 0 := by
  rw [← EReal.coe_one, ← EReal.coe_neg, ← EReal.coe_add, add_neg_cancel, EReal.coe_zero]

theorem one_less : (1 : EReal) - 1 = 0 := by rw [sub_eq_add_neg, minus_one]

theorem slope_bot : slope ⊥ = 0 := by
  unfold slope lean share
  simp only [curve_bot, minus_one, zero_mul, mul_zero, add_zero]

theorem slope_top : slope ⊤ = 1 := by
  unfold slope lean share
  simp only [curve_top, one_less, zero_mul, mul_zero, add_zero]
  rw [word_halved, ← EReal.coe_one,
    ← EReal.coe_add, ← EReal.coe_mul]
  norm_num

theorem slope_folded (g : EReal) : word 0x3F000000#32 * lifted g
    + word 0x3F000000#32 * g * ((word 0x40000000#32 - lifted g) * lifted g) * (word 0x3F4C422A#32 + (foldB : EReal) * (g * g)) = slope g := by
  rw [lifted_eq]
  induction g with
  | bot => rw [slope_bot, curve_bot, minus_one, mul_zero, mul_zero, mul_zero, zero_mul, add_zero]
  | top =>
    rw [slope_top, curve_top, word_halved, word_two, ← EReal.coe_one, ← EReal.coe_add, ← EReal.coe_sub,
      show (2 - (1 + 1) : ℝ) = 0 by norm_num, EReal.coe_zero, zero_mul, mul_zero, zero_mul, add_zero, ← EReal.coe_mul]
    norm_num
  | coe g =>
    unfold slope lean share curve
    rw [word_halved, word_two, word_three, word_inner, word_cubic]
    simp only [← EReal.coe_mul, ← EReal.coe_add]
    rw [Ideal.tanh_coe, ← EReal.coe_one]
    simp only [← EReal.coe_mul, ← EReal.coe_add, ← EReal.coe_sub]
    congr 1
    unfold foldB
    ring

/-! ## The norm, the product and the convolution -/

/-- The norm of the rows, and their product with the weights. -/
def normed (X : ℕ → ℕ → EReal) (G : ℕ → EReal) (r q : ℕ) : EReal := X r q * scale X r * G q

def pushed (X : ℕ → ℕ → EReal) (G : ℕ → EReal) (W : ℕ → ℕ → EReal) (r c : ℕ) : EReal := ∑ q ∈ range 1024, normed X G r q * W q c

/-- The product's rows, two zeros before them. -/
def past (P : ℕ → ℕ → EReal) (r c : ℕ) : EReal := if r < 2 then 0 else P (r - 2) c

def conv (P W : ℕ → ℕ → EReal) (B : ℕ → EReal) (r c : ℕ) : EReal :=
  B c + past P r c * W 0 c + past P (r + 1) c * W 1 c + past P (r + 2) c * W 2 c

/-! ## Tiles of the convolution's input -/

/-- A tile of 1024 rows with the eight rows before it, which before the first tile are zeros. -/
def led (P : ℕ → ℕ → EReal) (n r c : ℕ) : EReal :=
  if r < 8 then (if n = 0 then 0 else P ((n - 1) * 1024 + (1016 + r)) c) else P (n * 1024 + (r - 8)) c

theorem led_zero (P : ℕ → ℕ → EReal) (n r c : ℕ) : led P n (8 + r) c = past P (n * 1024 + r + 2) c := by
  unfold led past
  rw [if_neg (by omega), if_neg (by omega)]
  congr 1; omega

theorem led_one (P : ℕ → ℕ → EReal) (n r c : ℕ) (hr : r < 1024) : led P n ((8 + r + 1031) % 1032) c = past P (n * 1024 + r + 1) c := by
  rw [show (8 + r + 1031) % 1032 = 7 + r by omega]
  unfold led past
  by_cases h : 7 + r < 8
  · rw [if_pos h]
    by_cases hn : n = 0
    · rw [if_pos hn, if_pos (by omega)]
    · rw [if_neg hn, if_neg (by omega)]; congr 1; omega
  · rw [if_neg h, if_neg (by omega)]; congr 1; omega

theorem led_two (P : ℕ → ℕ → EReal) (n r c : ℕ) (hr : r < 1024) : led P n ((8 + r + 1030) % 1032) c = past P (n * 1024 + r) c := by
  rw [show (8 + r + 1030) % 1032 = 6 + r by omega]
  unfold led past
  by_cases h : 6 + r < 8
  · rw [if_pos h]
    by_cases hn : n = 0
    · rw [if_pos hn, if_pos (by omega)]
    · rw [if_neg hn, if_neg (by omega)]; congr 1; omega
  · rw [if_neg h, if_neg (by omega)]; congr 1; omega

/-! ## Arrays -/

end Cert.Proof.UpProj

namespace Cert.Proof

open Idealize.ShloMosaic Finset

section
variable {a b m : ℕ} {f : ℕ → ℕ → EReal}

/-- The hyperbolic tangent, by the kernel and on the host. -/
theorem Table.bent {φ : FTy} {x : FVec Ideal ⟨2, ![a, b]⟩ φ} (hx : Table x f) :
    Table (Idealize.ShloMosaic.tanh x) (fun r c => Ideal.tanh (f r c)) := fun i => by
  show Ideal.tanh (x i) = _
  rw [hx i]

theorem Table.hostBent {φ : FTy} {x : FVec Ideal ⟨2, ![a, b]⟩ φ} (hx : Table x f) :
    Table (Host.tanh x) (fun r c => Ideal.tanh (f r c)) := fun i => by
  show Ideal.tanh (x i) = _
  rw [hx i]

/-- A named constant. -/
theorem table_named (κ : String → Option EReal) (name : String) (w : BitVec 32) (v : EReal) (h : κ name = some v) :
    Table (broadcast ⟨2, ![a, b]⟩ (Named.named (F := Ideal) κ name (φ := .f32) w)) (fun _ _ => v) :=
  fun _ => IdealRules.named_const.ideal_named_scalar κ name (φ := .f32) w _ h

/-- Zero rows put above and below. -/
theorem Table.padded {x : (⟨2, ![m, b]⟩ : Shape).Idx → EReal} (hx : Table x f) (p q : ℕ) (v : (⟨0, ![]⟩ : Shape).Idx → EReal) (hv : ∀ i, v i = 0)
    (h : (⟨2, ![m, b]⟩ : Shape).Pads ![p, 0] ![q, 0] ![0, 0] ⟨2, ![a, b]⟩) (hu : 0 < (⟨0, ![]⟩ : Shape).numel) :
    Table (pad ⟨2, ![a, b]⟩ ![p, 0] ![q, 0] ![0, 0] x v h hu) (fun r c => if p ≤ r ∧ r < p + m then f (r - p) c else 0) :=
  fun i => by
  by_cases hr : p ≤ (i 0).val ∧ (i 0).val < p + m
  · rw [pad_apply_of_inside ![p, 0] ![q, 0] ![0, 0] x v h hu i (ix2 ⟨(i 0).val - p, by omega⟩ (i 1))
      (fun d => match d with
        | ⟨0, _⟩ => by show (i 0).val = p + ((i 0).val - p) * (0 + 1); omega
        | ⟨1, _⟩ => by show (i 1).val = 0 + (i 1).val * (0 + 1); omega)]
    exact (hx _).trans (if_pos hr).symm
  · rw [pad_apply_of_not_inside ![p, 0] ![q, 0] ![0, 0] x v h hu i 0 (fun hc => hr (by
      have h1 : p ≤ (i 0).val := hc.1
      have h2 : ((i 0).val - p) / (0 + 1) < m := hc.2.2
      rw [Nat.div_one] at h2
      omega))]
    exact (hv _).trans (if_neg hr).symm

/-- Table turned up by `s`, the first coming in again below. -/
theorem Table.turned {x : (⟨2, ![a, b]⟩ : Shape).Idx → EReal} (hx : Table x f) (w : BitVec 32) (s : ℕ) (hw : w.toNat + s = a) (hs : 0 < s)
    (h : (⟨2, ![a, b]⟩ : Shape).Rotates 0 none) :
    Table (dynamicRotate 0 w none x h) (fun r c => f ((r + s) % a) c) := fun i => by
  have h0 : (i 0).val < a := (i 0).isLt
  rw [dynamicRotate_apply 0 w x h i (ix2 ⟨((i 0).val + s) % a, Nat.mod_lt _ (by omega)⟩ (i 1))
    (fun d => match d with
      | ⟨0, _⟩ => by
          show ((i 0).val + s) % a = if (0 : Fin 2) = 0 then ((i 0).val + a - w.toNat % a) % a else (i 0).val
          rw [if_pos rfl, Nat.mod_eq_of_lt (by omega : w.toNat < a)]
          congr 1; omega
      | ⟨1, _⟩ => rfl), hx]
  rfl

/-- A matrix of one row made a vector. -/
theorem Table.cast {x : (⟨2, ![1, b]⟩ : Shape).Idx → EReal} (hx : Table x f) (h : (⟨2, ![1, b]⟩ : Shape).ShapeCasts ⟨1, ![b]⟩) :
    Listed (shapeCast ⟨1, ![b]⟩ x h) (fun c => f 0 c) := fun i => by
  rw [shapeCast_apply x h i (ix2 0 (i 0)) (by
    rw [Shape.rowMajor_val_one, Shape.rowMajor_val_two]
    show 0 * b + (i 0).val = (i 0).val
    omega), hx]
  rfl

end

end Cert.Proof

end
-- ==== Proof.UpRef.lean ====
/- The up projection: what the reference computes, its operations one after another. -/
module

public import proofs.«01_k».proof.Proof.UpStep
public import proofs.«01_k».proof.Proof.Gen.UpProjRefIdeal.Read

@[expose] public section

set_option maxRecDepth 16384

noncomputable section

namespace Cert.Proof.UpProj

open Idealize.ShloMosaic Cert.UpProjRefIdeal Cert.UpProjRefIdeal.Gen Cert.UpProjRefIdeal.Read Cert.Proof Finset

variable {x0 : (⟨2, ![4096, 1024]⟩ : Shape).Idx → EReal} {x1 : (⟨1, ![1024]⟩ : Shape).Idx → EReal}
  {x2 : (⟨2, ![1024, 6144]⟩ : Shape).Idx → EReal} {x3 : (⟨2, ![3, 6144]⟩ : Shape).Idx → EReal} {x4 : (⟨1, ![6144]⟩ : Shape).Idx → EReal}
  {X W K : ℕ → ℕ → EReal} {G B : ℕ → EReal}

/-- The norm. -/
theorem ref_hidden (hx0 : Table x0 X) (hx1 : Listed x1 G) : Table (val_main_v12 (F := Ideal) x0 x1) (normed X G) := by
  have v0 : Table (val_main_v0 (F := Ideal) x0) _ := hx0.mulf hx0
  have v1 : Listed (val_main_v1 (F := Ideal) x0) _ := v0.hostRowsum _ zero_of_literal _ (by decide) _
  have v2 : Table (val_main_v2 (F := Ideal) x0) _ := v1.column _
  have v3 : Table (val_main_v3 (F := Ideal)) _ := table_literal _ _
  have v4 : Table (val_main_v4 (F := Ideal) x0) _ := v2.hostDivf v3
  have v5 : Table (val_main_v5 (F := Ideal)) _ := table_literal _ _
  have v6 : Table (val_main_v6 (F := Ideal) x0) _ := v4.addf v5
  have v7 : Table (val_main_v7 (F := Ideal) x0) (fun r _ => scale X r) := v6.hostRsqrt
  have v8 : Table (val_main_v8 (F := Ideal) x0) _ := v7.hostWidened _
  have v9 : Table (val_main_v9 (F := Ideal) x0) _ := hx0.mulf v8
  have v10 : Table (val_main_v10 (F := Ideal) x1) _ := hx1.row _
  have v11 : Table (val_main_v11 (F := Ideal) x1) _ := v10.spread _
  have v12 : Table (val_main_v12 (F := Ideal) x0 x1) _ := v9.mulf v11
  exact v12

/-- Its product with the weights. -/
theorem ref_pushed (hx0 : Table x0 X) (hx1 : Listed x1 G) (hx2 : Table x2 W) : Table (val_main_v13 (F := Ideal) x0 x1 x2) (pushed X G W) := by
  have hv13 : Table (val_main_v13 (F := Ideal) x0 x1 x2) _ := (ref_hidden hx0 hx1).hostDot hx2 _ rfl
  exact hv13

/-- The convolution of it. -/
theorem ref_conv {P : ℕ → ℕ → EReal} (hv13 : Table (val_main_v13 (F := Ideal) x0 x1 x2) P) (hx3 : Table x3 K) (hx4 : Listed x4 B) :
    Table (val_main_v38 (F := Ideal) x0 x1 x2 x3 x4) (conv P K B) := by
  have hv14 : Table (val_main_v14 (F := Ideal)) _ := table_literal 0x00000000#32 _
  have hv15 : Table (val_main_v15 (F := Ideal) x0 x1 x2) _ := hv14.below hv13 _ rfl
  have hv16 : Table (val_main_v16 (F := Ideal) x0 x1 x2) _ := hv15.slice 0 0 _
  have hv17 : Table (val_main_v17 (F := Ideal) x3) _ := hx3.slice 0 0 _
  have hv18 : Listed (val_main_v18 (F := Ideal) x3) _ := hv17.cast _
  have hv19 : Table (val_main_v19 (F := Ideal) x3) _ := hv18.row _
  have hv20 : Table (val_main_v20 (F := Ideal) x3) _ := hv19.spread _
  have hv21 : Table (val_main_v21 (F := Ideal) x0 x1 x2 x3) _ := hv16.mulf hv20
  have hv22 : Table (val_main_v22 (F := Ideal) x4) _ := hx4.row _
  have hv23 : Table (val_main_v23 (F := Ideal) x4) _ := hv22.spread _
  have hv24 : Table (val_main_v24 (F := Ideal) x0 x1 x2 x3 x4) _ := hv23.addf hv21
  have hv25 : Table (val_main_v25 (F := Ideal) x0 x1 x2) _ := hv15.slice 1 0 _
  have hv26 : Table (val_main_v26 (F := Ideal) x3) _ := hx3.slice 1 0 _
  have hv27 : Listed (val_main_v27 (F := Ideal) x3) _ := hv26.cast _
  have hv28 : Table (val_main_v28 (F := Ideal) x3) _ := hv27.row _
  have hv29 : Table (val_main_v29 (F := Ideal) x3) _ := hv28.spread _
  have hv30 : Table (val_main_v30 (F := Ideal) x0 x1 x2 x3) _ := hv25.mulf hv29
  have hv31 : Table (val_main_v31 (F := Ideal) x0 x1 x2 x3 x4) _ := hv24.addf hv30
  have hv32 : Table (val_main_v32 (F := Ideal) x0 x1 x2) _ := hv15.slice 2 0 _
  have hv33 : Table (val_main_v33 (F := Ideal) x3) _ := hx3.slice 2 0 _
  have hv34 : Listed (val_main_v34 (F := Ideal) x3) _ := hv33.cast _
  have hv35 : Table (val_main_v35 (F := Ideal) x3) _ := hv34.row _
  have hv36 : Table (val_main_v36 (F := Ideal) x3) _ := hv35.spread _
  have hv37 : Table (val_main_v37 (F := Ideal) x0 x1 x2 x3) _ := hv32.mulf hv36
  have hv38 : Table (val_main_v38 (F := Ideal) x0 x1 x2 x3 x4) _ := hv31.addf hv37
  refine hv38.congr fun r c _ _ => ?_
  simp only [conv, past, word_zero, Nat.zero_add, Nat.add_zero, Nat.add_comm 1, Nat.add_comm 2]

section
variable {C : ℕ → ℕ → EReal}

/-- Gelu of the convolution's first half, and its derivative. -/
theorem ref_gelu (hv38 : Table (val_main_v38 (F := Ideal) x0 x1 x2 x3 x4) C) :
    Table (val_main_v61 (F := Ideal) x0 x1 x2 x3 x4) (fun r c => gelu (C r c)) ∧ Table (val_main_v74 (F := Ideal) x0 x1 x2 x3 x4) (fun r c => slope (C r c)) := by
  have hv39 : Table (val_main_v39 (F := Ideal) x0 x1 x2 x3 x4) _ := hv38.slice 0 0 _
  have hv41 : Table (val_main_v41 (F := Ideal) x0 x1 x2 x3 x4) _ := hv39.mulf hv39
  have hv42 : Table (val_main_v42 (F := Ideal) x0 x1 x2 x3 x4) _ := hv41.mulf hv39
  have hv43 : Table (val_main_v43 (F := Ideal) x0 x1 x2 x3 x4) _ := hv39.mulf hv39
  have hv44 : Table (val_main_v44 (F := Ideal)) _ := table_literal 0x40400000#32 _
  have hv45 : Table (val_main_v45 (F := Ideal) x0 x1 x2 x3 x4) _ := hv44.mulf hv43
  have hv46 : Table (val_main_v46 (F := Ideal)) _ := table_literal 0x3D372713#32 _
  have hv47 : Table (val_main_v47 (F := Ideal) x0 x1 x2 x3 x4) _ := hv46.mulf hv42
  have hv48 : Table (val_main_v48 (F := Ideal) x0 x1 x2 x3 x4) _ := hv39.addf hv47
  have hv49 : Table (val_main_v49 (F := Ideal)) _ := table_literal 0x3F4C422A#32 _
  have hv50 : Table (val_main_v50 (F := Ideal) x0 x1 x2 x3 x4) _ := hv49.mulf hv48
  have hv51 : Table (val_main_v51 (F := Ideal) x0 x1 x2 x3 x4) _ := hv50.hostBent
  have hv52 : Table (val_main_v52 (F := Ideal)) _ := table_literal 0x3F800000#32 _
  have hv53 : Table (val_main_v53 (F := Ideal) x0 x1 x2 x3 x4) _ := hv52.addf hv51
  have hv54 : Table (val_main_v54 (F := Ideal)) _ := table_literal 0x3F800000#32 _
  have hv55 : Table (val_main_v55 (F := Ideal) x0 x1 x2 x3 x4) _ := hv54.subf hv51
  have hv56 : Table (val_main_v56 (F := Ideal) x0 x1 x2 x3 x4) _ := hv53.mulf hv55
  have hv57 : Table (val_main_v57 (F := Ideal)) _ := table_literal 0x3F800000#32 _
  have hv58 : Table (val_main_v58 (F := Ideal) x0 x1 x2 x3 x4) _ := hv57.addf hv51
  have hv59 : Table (val_main_v59 (F := Ideal)) _ := table_literal 0x3F000000#32 _
  have hv60 : Table (val_main_v60 (F := Ideal) x0 x1 x2 x3 x4) _ := hv59.mulf hv58
  have hv61 : Table (val_main_v61 (F := Ideal) x0 x1 x2 x3 x4) _ := hv39.mulf hv60
  have hv62 : Table (val_main_v62 (F := Ideal)) _ := table_literal 0x3F800000#32 _
  have hv63 : Table (val_main_v63 (F := Ideal) x0 x1 x2 x3 x4) _ := hv39.mulf hv62
  have hv64 : Table (val_main_v64 (F := Ideal) x0 x1 x2 x3 x4) _ := hv62.mulf hv60
  have hv65 : Table (val_main_v65 (F := Ideal)) _ := table_literal 0x3F000000#32 _
  have hv66 : Table (val_main_v66 (F := Ideal) x0 x1 x2 x3 x4) _ := hv65.mulf hv63
  have hv67 : Table (val_main_v67 (F := Ideal) x0 x1 x2 x3 x4) _ := hv66.mulf hv56
  have hv68 : Table (val_main_v68 (F := Ideal)) _ := table_literal 0x3F4C422A#32 _
  have hv69 : Table (val_main_v69 (F := Ideal) x0 x1 x2 x3 x4) _ := hv68.mulf hv67
  have hv70 : Table (val_main_v70 (F := Ideal) x0 x1 x2 x3 x4) _ := hv64.addf hv69
  have hv71 : Table (val_main_v71 (F := Ideal)) _ := table_literal 0x3D372713#32 _
  have hv72 : Table (val_main_v72 (F := Ideal) x0 x1 x2 x3 x4) _ := hv71.mulf hv69
  have hv73 : Table (val_main_v73 (F := Ideal) x0 x1 x2 x3 x4) _ := hv72.mulf hv45
  have hv74 : Table (val_main_v74 (F := Ideal) x0 x1 x2 x3 x4) _ := hv70.addf hv73
  refine ⟨hv61.congr fun r c _ _ => ?_, hv74.congr fun r c _ _ => ?_⟩
  · simp only [gelu, share, curve, Nat.zero_add, word_one]
  · simp only [slope, lean, share, curve, Nat.zero_add, word_one, mul_one, one_mul]

/-- The results that are made of it. -/
theorem ref_act (hv38 : Table (val_main_v38 (F := Ideal) x0 x1 x2 x3 x4) C) : Table (val_main_v76 (F := Ideal) x0 x1 x2 x3 x4) (fun r c => gelu (C r c) * C r (3072 + c)) := by
  have hv61 := (ref_gelu hv38).1
  have hv40 : Table (val_main_v40 (F := Ideal) x0 x1 x2 x3 x4) _ := hv38.slice 0 3072 _
  have hv75 : Table (val_main_v75 (F := Ideal) x0 x1 x2 x3 x4) _ := hv61.mulf hv40
  have hv76 : Table (val_main_v76 (F := Ideal) x0 x1 x2 x3 x4) _ := hv75.truncf _
  exact hv76.congr fun r c _ _ => by rw [Nat.zero_add]

theorem ref_turned (hv38 : Table (val_main_v38 (F := Ideal) x0 x1 x2 x3 x4) C) : Table (val_main_v78 (F := Ideal) x0 x1 x2 x3 x4) (fun r c => C r (3072 + c) * slope (C r c)) := by
  have hv74 := (ref_gelu hv38).2
  have hv40 : Table (val_main_v40 (F := Ideal) x0 x1 x2 x3 x4) _ := hv38.slice 0 3072 _
  have hv77 : Table (val_main_v77 (F := Ideal) x0 x1 x2 x3 x4) _ := hv40.mulf hv74
  have hv78 : Table (val_main_v78 (F := Ideal) x0 x1 x2 x3 x4) _ := hv77.truncf _
  exact hv78.congr fun r c _ _ => by rw [Nat.zero_add]

theorem ref_bent (hv38 : Table (val_main_v38 (F := Ideal) x0 x1 x2 x3 x4) C) : Table (val_main_v79 (F := Ideal) x0 x1 x2 x3 x4) (fun r c => gelu (C r c)) := by
  have hv61 := (ref_gelu hv38).1
  have hv79 : Table (val_main_v79 (F := Ideal) x0 x1 x2 x3 x4) _ := hv61.truncf _
  exact hv79
end

/-- The two halves of the product. -/
theorem ref_gates {P : ℕ → ℕ → EReal} (hv13 : Table (val_main_v13 (F := Ideal) x0 x1 x2) P) : Table (val_main_v81 (F := Ideal) x0 x1 x2) P := by
  have hv80 : Table (val_main_v80 (F := Ideal) x0 x1 x2) _ := hv13.slice 0 0 _
  have hv81 : Table (val_main_v81 (F := Ideal) x0 x1 x2) _ := hv80.truncf _
  exact hv81.congr fun r c _ _ => by rw [Nat.zero_add, Nat.zero_add]

theorem ref_ups {P : ℕ → ℕ → EReal} (hv13 : Table (val_main_v13 (F := Ideal) x0 x1 x2) P) : Table (val_main_v83 (F := Ideal) x0 x1 x2) (fun r c => P r (3072 + c)) := by
  have hv82 : Table (val_main_v82 (F := Ideal) x0 x1 x2) _ := hv13.slice 0 3072 _
  have hv83 : Table (val_main_v83 (F := Ideal) x0 x1 x2) _ := hv82.truncf _
  exact hv83.congr fun r c _ _ => by rw [Nat.zero_add]

theorem ref_stored (hv12 : Table (val_main_v12 (F := Ideal) x0 x1) (normed X G)) : Table (val_main_v84 (F := Ideal) x0 x1) (normed X G) := by
  have hv84 : Table (val_main_v84 (F := Ideal) x0 x1) _ := hv12.truncf _
  exact hv84

end Cert.Proof.UpProj

end
-- ==== Proof.UpIdealRun.lean ====
module

public import proofs.«01_k».proof.Proof.Gen.UpProjIdeal.Launch
public import proofs.«01_k».proof.Proof.Gen.UpProjIdeal.Skeleton
public import proofs.«01_k».proof.Proof.Gen.UpProjIdeal.Points
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.UpProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one point computes -/

/-- The column tile's own rows of a history buffer. -/
def slot (i : grid0.Coords) (g : Vec F S4x8x768 .f32) : Vec F S1x8x768 .f32 :=
  VecWindow.window g (k0_off1 i) S1x8x768.size (k0_off1_inb i)

/-- The history buffer with those rows replaced. -/
def moved (i : grid0.Coords) (g : Vec F S4x8x768 .f32) (w : Vec F S1x8x768 .f32) : Vec F S4x8x768 .f32 :=
  VecWindow.put g (k0_off1 i) S1x8x768.size w

/-- The three rows of convolution weights. -/
def tap0 (w : Vec F S8x768 .f32) : Vec F S1x768 .f32 := VecWindow.window w ![0, 0] S1x768.size inb_S8x768_S1x768_0_0
def tap1 (w : Vec F S8x768 .f32) : Vec F S1x768 .f32 := VecWindow.window w ![1, 0] S1x768.size inb_S8x768_S1x768_1_0
def tap2 (w : Vec F S8x768 .f32) : Vec F S1x768 .f32 := VecWindow.window w ![2, 0] S1x768.size inb_S8x768_S1x768_2_0

/-- The gelu of the gate, its slope, and the up half of the convolution, as the payloads compute them. -/
def bend (i : grid0.Coords) (x : Vec F S1024x1024 .bf16) (x2 : Vec F S768x1024 .bf16) (x6 : Vec F S1x768 .f32) (w0 w1 w2 : Vec F S1x768 .f32) (s : Vec F S1x8x768 .f32) : FVec F S1024x768 .f32 :=
  k0_pay12 (k0_pay5 i x x2 s) (k0_pay7 i x x2 s x6 w2) w1 w0
def slant (i : grid0.Coords) (x : Vec F S1024x1024 .bf16) (x2 : Vec F S768x1024 .bf16) (x6 : Vec F S1x768 .f32) (w0 w1 w2 : Vec F S1x768 .f32) (s : Vec F S1x8x768 .f32) : FVec F S1024x768 .f32 :=
  k0_pay13 (k0_pay5 i x x2 s) (k0_pay7 i x x2 s x6 w2) w1 w0

def act (i : grid0.Coords) (x : Vec F S1024x1024 .bf16) (x2 x3 : Vec F S768x1024 .bf16) (x4 x5 : Vec F S8x768 .f32) (x6 x7 : Vec F S1x768 .f32) (s r : Vec F S1x8x768 .f32) : FVec F S1024x768 .bf16 :=
  k0_pay16 (k0_pay6 i x x3 r) (bend i x x2 x6 (tap0 x4) (tap1 x4) (tap2 x4) s) (k0_pay14 (k0_pay6 i x x3 r) x7 (tap2 x5)) (tap1 x5) (tap0 x5)
def slopes (i : grid0.Coords) (x : Vec F S1024x1024 .bf16) (x2 x3 : Vec F S768x1024 .bf16) (x4 x5 : Vec F S8x768 .f32) (x6 x7 : Vec F S1x768 .f32) (s r : Vec F S1x8x768 .f32) : FVec F S1024x768 .bf16 :=
  k0_pay17 (k0_pay6 i x x3 r) (slant i x x2 x6 (tap0 x4) (tap1 x4) (tap2 x4) s) (k0_pay14 (k0_pay6 i x x3 r) x7 (tap2 x5)) (tap1 x5) (tap0 x5)
def bent (i : grid0.Coords) (x : Vec F S1024x1024 .bf16) (x2 : Vec F S768x1024 .bf16) (x4 : Vec F S8x768 .f32) (x6 : Vec F S1x768 .f32) (s : Vec F S1x8x768 .f32) : FVec F S1024x768 .bf16 :=
  k0_pay18 (bend i x x2 x6 (tap0 x4) (tap1 x4) (tap2 x4) s)

/-! ## The loads, as the contents loaded -/

theorem whole_load {s : Shape} {e : EltTy} (a : Memref sig .tc .vmem s e) (h : a.IsWhole) (off : Fin s.rank → ℕ) (inb : ∀ k, off k + s.size k ≤ s.size k) (x : Vec F s e) :
    x = a.view.readAt (Elt F) (Rect.unit off s.size inb).toLoadRect (h.unread x) := by
  rw [View.readAt_full, h.read_unread]

theorem kept_load {s : Shape} {e : EltTy} (a : Memref sig .tc .vmem s e) (off off' : Fin s.rank → ℕ) (inb : ∀ k, off k + s.size k ≤ s.size k) (inb' : ∀ k, off' k + s.size k ≤ s.size k)
    (w : Vec F s e) : w = a.view.readCov [(⟨Rect.unit off' s.size inb', w⟩ : View.Piece (Elt F) s e)] (Rect.unit off s.size inb).toLoadRect :=
  (View.readCov_full _ inb inb' w []).symm

theorem slot_load (i : grid0.Coords) (a : Memref sig .tc .vmem S4x8x768 .f32) (h : a.IsWhole) (x : Vec F S4x8x768 .f32) :
    slot i x = a.view.readAt (Elt F) (Rect.unit (s := S4x8x768) (k0_off1 i) S1x8x768.size (k0_off1_inb i)).toLoadRect (h.unread x) := by
  rw [View.readAt_unit _ _ _ rfl (k0_off1_inb i), h.read_unread]; rfl

theorem tap0_load (a : Memref sig .tc .vmem S8x768 .f32) (h : a.IsWhole) (x : Vec F S8x768 .f32) :
    tap0 x = a.view.readAt (Elt F) (Rect.unit (s := S8x768) ![0, 0] S1x768.size inb_S8x768_S1x768_0_0).toLoadRect (h.unread x) := by
  rw [View.readAt_unit _ _ _ rfl inb_S8x768_S1x768_0_0, h.read_unread]; rfl
theorem tap1_load (a : Memref sig .tc .vmem S8x768 .f32) (h : a.IsWhole) (x : Vec F S8x768 .f32) :
    tap1 x = a.view.readAt (Elt F) (Rect.unit (s := S8x768) ![1, 0] S1x768.size inb_S8x768_S1x768_1_0).toLoadRect (h.unread x) := by
  rw [View.readAt_unit _ _ _ rfl inb_S8x768_S1x768_1_0, h.read_unread]; rfl
theorem tap2_load (a : Memref sig .tc .vmem S8x768 .f32) (h : a.IsWhole) (x : Vec F S8x768 .f32) :
    tap2 x = a.view.readAt (Elt F) (Rect.unit (s := S8x768) ![2, 0] S1x768.size inb_S8x768_S1x768_2_0).toLoadRect (h.unread x) := by
  rw [View.readAt_unit _ _ _ rfl inb_S8x768_S1x768_2_0, h.read_unread]; rfl

/-! ## The body's run -/

set_option maxHeartbeats 4000000 in
theorem run_first (c : Dev nD) (i : grid0.Coords)
    (a2 : Memref sig .tc .vmem S1024x1024 .f32) (h2 : a2.IsWhole)
    (a3 : Memref sig .tc .vmem S1x1024 .f32) (h3 : a3.IsWhole)
    (a4 : Memref sig .tc .vmem S768x1024 .bf16) (h4 : a4.IsWhole)
    (a5 : Memref sig .tc .vmem S768x1024 .bf16) (h5 : a5.IsWhole)
    (a6 : Memref sig .tc .vmem S8x768 .f32) (h6 : a6.IsWhole)
    (a7 : Memref sig .tc .vmem S8x768 .f32) (h7 : a7.IsWhole)
    (a8 : Memref sig .tc .vmem S1x768 .f32) (h8 : a8.IsWhole)
    (a9 : Memref sig .tc .vmem S1x768 .f32) (h9 : a9.IsWhole)
    (a10 : Memref sig .tc .vmem S1024x768 .bf16) (h10 : a10.IsWhole)
    (a11 : Memref sig .tc .vmem S1024x768 .bf16) (h11 : a11.IsWhole)
    (a12 : Memref sig .tc .vmem S1024x768 .bf16) (h12 : a12.IsWhole)
    (a13 : Memref sig .tc .vmem S1024x768 .bf16) (h13 : a13.IsWhole)
    (a14 : Memref sig .tc .vmem S1024x768 .bf16) (h14 : a14.IsWhole)
    (a15 : Memref sig .tc .vmem S1024x1024 .bf16) (h15 : a15.IsWhole)
    (a16 : Memref sig .tc .vmem S4x8x768 .f32) (h16 : a16.IsWhole)
    (a17 : Memref sig .tc .vmem S4x8x768 .f32) (h17 : a17.IsWhole)
    (a18 : Memref sig .tc .vmem S1024x1024 .bf16) (h18 : a18.IsWhole)
    (hc : k0_cond1 i = 1#1) (x0 : Vec F S1024x1024 .f32) (x1 : Vec F S1x1024 .f32) (x2 x3 : Vec F S768x1024 .bf16) (x4 x5 : Vec F S8x768 .f32) (x6 x7 : Vec F S1x768 .f32) (g u : Vec F S4x8x768 .f32)
    (E : Set ℕ) (K : PUnit → sProp 𝕄) :
    iprop(owns (c : Thread nD τ) a2 fullShare x0
      ∗ owns (c : Thread nD τ) a3 fullShare x1
      ∗ owns (c : Thread nD τ) a4 fullShare x2
      ∗ owns (c : Thread nD τ) a5 fullShare x3
      ∗ owns (c : Thread nD τ) a6 fullShare x4
      ∗ owns (c : Thread nD τ) a7 fullShare x5
      ∗ owns (c : Thread nD τ) a8 fullShare x6
      ∗ owns (c : Thread nD τ) a9 fullShare x7
      ∗ (∃ d, owns (c : Thread nD τ) a10 fullShare d)
      ∗ (∃ d, owns (c : Thread nD τ) a11 fullShare d)
      ∗ (∃ d, owns (c : Thread nD τ) a12 fullShare d)
      ∗ (∃ d, owns (c : Thread nD τ) a13 fullShare d)
      ∗ (∃ d, owns (c : Thread nD τ) a14 fullShare d)
      ∗ (∃ d, owns (c : Thread nD τ) a15 fullShare d)
      ∗ owns (c : Thread nD τ) a16 fullShare g
      ∗ owns (c : Thread nD τ) a17 fullShare u
      ∗ (∃ d, owns (c : Thread nD τ) a18 fullShare d)
      ∗ (iprop(owns (c : Thread nD τ) a2 fullShare x0
      ∗ owns (c : Thread nD τ) a3 fullShare x1
      ∗ owns (c : Thread nD τ) a4 fullShare x2
      ∗ owns (c : Thread nD τ) a5 fullShare x3
      ∗ owns (c : Thread nD τ) a6 fullShare x4
      ∗ owns (c : Thread nD τ) a7 fullShare x5
      ∗ owns (c : Thread nD τ) a8 fullShare x6
      ∗ owns (c : Thread nD τ) a9 fullShare x7
      ∗ owns (c : Thread nD τ) a10 fullShare (act i (k0_pay2 x0 x1) x2 x3 x4 x5 x6 x7 (slot i g) (slot i u))
      ∗ owns (c : Thread nD τ) a11 fullShare (slopes i (k0_pay2 x0 x1) x2 x3 x4 x5 x6 x7 (slot i g) (slot i u))
      ∗ owns (c : Thread nD τ) a12 fullShare (bent i (k0_pay2 x0 x1) x2 x4 x6 (slot i g))
      ∗ owns (c : Thread nD τ) a13 fullShare (k0_pay19 (k0_pay3 (k0_pay2 x0 x1) x2))
      ∗ owns (c : Thread nD τ) a14 fullShare (k0_pay20 (k0_pay4 (k0_pay2 x0 x1) x3))
      ∗ owns (c : Thread nD τ) a15 fullShare (k0_pay2 x0 x1)
      ∗ owns (c : Thread nD τ) a16 fullShare (moved i g (k0_pay21 (k0_pay3 (k0_pay2 x0 x1) x2)))
      ∗ owns (c : Thread nD τ) a17 fullShare (moved i u (k0_pay1 (k0_pay22 (k0_pay4 (k0_pay2 x0 x1) x3))))
      ∗ owns (c : Thread nD τ) a18 fullShare (k0_pay2 x0 x1)) -∗ K ⟨⟩))
      ⊢ wp frame (wpE (defs₀ (F := F)) Variants.none c none) E
          (cc0_up_proj_act i a2 h2 a3 h3 a4 h4 a5 h5 a6 h6 a7 h7 a8 h8 a9 h9 a10 h10 a11 h11 a12 h12 a13 h13 a14 h14 a15 h15 a16 h16 a17 h17 a18 h18) K := by
  simp only [cc0_up_proj_act_eq_skeleton, k0_part1_eq_skeleton, k0_part2_eq_skeleton, k0_part3_eq_skeleton]
  unfold cc0_up_proj_act_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %e16, H16⟩, ⟨%f17, %e17, H17⟩, ⟨%d18, %f18, -, H18⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h16.eq_unread e16
  obtain rfl := h17.eq_unread e17
  sl_exec (disch := first | sl_exact hc)
  sl_step
  iapply Hk
  isplitl [H2]
  · iexists _; isplitr
    · ipureintro; exact h2.read_unread _
    iexact H2
  isplitl [H3]
  · iexists _; isplitr
    · ipureintro; exact h3.read_unread _
    iexact H3
  isplitl [H4]
  · iexists _; isplitr
    · ipureintro; exact h4.read_unread _
    iexact H4
  isplitl [H5]
  · iexists _; isplitr
    · ipureintro; exact h5.read_unread _
    iexact H5
  isplitl [H6]
  · iexists _; isplitr
    · ipureintro; exact h6.read_unread _
    iexact H6
  isplitl [H7]
  · iexists _; isplitr
    · ipureintro; exact h7.read_unread _
    iexact H7
  isplitl [H8]
  · iexists _; isplitr
    · ipureintro; exact h8.read_unread _
    iexact H8
  isplitl [H9]
  · iexists _; isplitr
    · ipureintro; exact h9.read_unread _
    iexact H9
  isplitl [H10]
  · iexists _; isplitr; swap
    · iexact H10
    ipureintro; rw [View.read_writes_full]; conv_rhs => unfold act bend; rw [kept_load a18 ![0, 0] ![0, 0] inb_S1024x1024_S1024x1024_0_0 inb_S1024x1024_S1024x1024_0_0 (k0_pay2 x0 x1), whole_load a2 h2 ![0, 0] inb_S1024x1024_S1024x1024_0_0 x0, whole_load a3 h3 ![0, 0] inb_S1x1024_S1x1024_0_0 x1, whole_load a4 h4 ![0, 0] inb_S768x1024_S768x1024_0_0 x2, whole_load a5 h5 ![0, 0] inb_S768x1024_S768x1024_0_0 x3, tap0_load a6 h6 x4, tap1_load a6 h6 x4, tap2_load a6 h6 x4, tap0_load a7 h7 x5, tap1_load a7 h7 x5, tap2_load a7 h7 x5, whole_load a8 h8 ![0, 0] inb_S1x768_S1x768_0_0 x6, whole_load a9 h9 ![0, 0] inb_S1x768_S1x768_0_0 x7, slot_load i a16 h16 g, slot_load i a17 h17 u]
    rfl
  isplitl [H11]
  · iexists _; isplitr; swap
    · iexact H11
    ipureintro; rw [View.read_writes_full]; conv_rhs => unfold slopes slant; rw [kept_load a18 ![0, 0] ![0, 0] inb_S1024x1024_S1024x1024_0_0 inb_S1024x1024_S1024x1024_0_0 (k0_pay2 x0 x1), whole_load a2 h2 ![0, 0] inb_S1024x1024_S1024x1024_0_0 x0, whole_load a3 h3 ![0, 0] inb_S1x1024_S1x1024_0_0 x1, whole_load a4 h4 ![0, 0] inb_S768x1024_S768x1024_0_0 x2, whole_load a5 h5 ![0, 0] inb_S768x1024_S768x1024_0_0 x3, tap0_load a6 h6 x4, tap1_load a6 h6 x4, tap2_load a6 h6 x4, tap0_load a7 h7 x5, tap1_load a7 h7 x5, tap2_load a7 h7 x5, whole_load a8 h8 ![0, 0] inb_S1x768_S1x768_0_0 x6, whole_load a9 h9 ![0, 0] inb_S1x768_S1x768_0_0 x7, slot_load i a16 h16 g, slot_load i a17 h17 u]
    rfl
  isplitl [H12]
  · iexists _; isplitr; swap
    · iexact H12
    ipureintro; rw [View.read_writes_full]; conv_rhs => unfold bent bend; rw [kept_load a18 ![0, 0] ![0, 0] inb_S1024x1024_S1024x1024_0_0 inb_S1024x1024_S1024x1024_0_0 (k0_pay2 x0 x1), whole_load a2 h2 ![0, 0] inb_S1024x1024_S1024x1024_0_0 x0, whole_load a3 h3 ![0, 0] inb_S1x1024_S1x1024_0_0 x1, whole_load a4 h4 ![0, 0] inb_S768x1024_S768x1024_0_0 x2, tap0_load a6 h6 x4, tap1_load a6 h6 x4, tap2_load a6 h6 x4, whole_load a8 h8 ![0, 0] inb_S1x768_S1x768_0_0 x6, slot_load i a16 h16 g]
    rfl
  isplitl [H13]
  · iexists _; isplitr; swap
    · iexact H13
    ipureintro; rw [View.read_writes_full]; conv_rhs => skip; rw [kept_load a18 ![0, 0] ![0, 0] inb_S1024x1024_S1024x1024_0_0 inb_S1024x1024_S1024x1024_0_0 (k0_pay2 x0 x1), whole_load a2 h2 ![0, 0] inb_S1024x1024_S1024x1024_0_0 x0, whole_load a3 h3 ![0, 0] inb_S1x1024_S1x1024_0_0 x1, whole_load a4 h4 ![0, 0] inb_S768x1024_S768x1024_0_0 x2]
    rfl
  isplitl [H14]
  · iexists _; isplitr; swap
    · iexact H14
    ipureintro; rw [View.read_writes_full]; conv_rhs => skip; rw [kept_load a18 ![0, 0] ![0, 0] inb_S1024x1024_S1024x1024_0_0 inb_S1024x1024_S1024x1024_0_0 (k0_pay2 x0 x1), whole_load a2 h2 ![0, 0] inb_S1024x1024_S1024x1024_0_0 x0, whole_load a3 h3 ![0, 0] inb_S1x1024_S1x1024_0_0 x1, whole_load a5 h5 ![0, 0] inb_S768x1024_S768x1024_0_0 x3]
    rfl
  isplitl [H15]
  · iexists _; isplitr; swap
    · iexact H15
    ipureintro; rw [View.read_writes_full]; conv_rhs => rw [kept_load a18 ![0, 0] ![0, 0] inb_S1024x1024_S1024x1024_0_0 inb_S1024x1024_S1024x1024_0_0 (k0_pay2 x0 x1), whole_load a2 h2 ![0, 0] inb_S1024x1024_S1024x1024_0_0 x0, whole_load a3 h3 ![0, 0] inb_S1x1024_S1x1024_0_0 x1]
    rfl
  isplitl [H16]
  · iexists _; isplitr; swap
    · iexact H16
    ipureintro; rw [View.read_writes_cons_put _ _ _ _ _ rfl, View.writes_nil, h16.read_unread]; unfold moved; conv_rhs => rw [kept_load a18 ![0, 0] ![0, 0] inb_S1024x1024_S1024x1024_0_0 inb_S1024x1024_S1024x1024_0_0 (k0_pay2 x0 x1), whole_load a2 h2 ![0, 0] inb_S1024x1024_S1024x1024_0_0 x0, whole_load a3 h3 ![0, 0] inb_S1x1024_S1x1024_0_0 x1, whole_load a4 h4 ![0, 0] inb_S768x1024_S768x1024_0_0 x2]
    rfl
  isplitl [H17]
  · iexists _; isplitr; swap
    · iexact H17
    ipureintro; rw [View.read_writes_cons_put _ _ _ _ _ rfl, View.writes_nil, h17.read_unread]; unfold moved; conv_rhs => rw [kept_load a18 ![0, 0] ![0, 0] inb_S1024x1024_S1024x1024_0_0 inb_S1024x1024_S1024x1024_0_0 (k0_pay2 x0 x1), whole_load a2 h2 ![0, 0] inb_S1024x1024_S1024x1024_0_0 x0, whole_load a3 h3 ![0, 0] inb_S1x1024_S1x1024_0_0 x1, whole_load a5 h5 ![0, 0] inb_S768x1024_S768x1024_0_0 x3]
    rfl
  iexists _; isplitr; swap
  · iexact H18
  ipureintro; unfold run_first.sl.H18_1; rw [View.read_writes_full]; conv_rhs => rw [whole_load a2 h2 ![0, 0] inb_S1024x1024_S1024x1024_0_0 x0, whole_load a3 h3 ![0, 0] inb_S1x1024_S1x1024_0_0 x1]
  rfl

set_option maxHeartbeats 4000000 in
theorem run_next (c : Dev nD) (i : grid0.Coords)
    (a2 : Memref sig .tc .vmem S1024x1024 .f32) (h2 : a2.IsWhole)
    (a3 : Memref sig .tc .vmem S1x1024 .f32) (h3 : a3.IsWhole)
    (a4 : Memref sig .tc .vmem S768x1024 .bf16) (h4 : a4.IsWhole)
    (a5 : Memref sig .tc .vmem S768x1024 .bf16) (h5 : a5.IsWhole)
    (a6 : Memref sig .tc .vmem S8x768 .f32) (h6 : a6.IsWhole)
    (a7 : Memref sig .tc .vmem S8x768 .f32) (h7 : a7.IsWhole)
    (a8 : Memref sig .tc .vmem S1x768 .f32) (h8 : a8.IsWhole)
    (a9 : Memref sig .tc .vmem S1x768 .f32) (h9 : a9.IsWhole)
    (a10 : Memref sig .tc .vmem S1024x768 .bf16) (h10 : a10.IsWhole)
    (a11 : Memref sig .tc .vmem S1024x768 .bf16) (h11 : a11.IsWhole)
    (a12 : Memref sig .tc .vmem S1024x768 .bf16) (h12 : a12.IsWhole)
    (a13 : Memref sig .tc .vmem S1024x768 .bf16) (h13 : a13.IsWhole)
    (a14 : Memref sig .tc .vmem S1024x768 .bf16) (h14 : a14.IsWhole)
    (a15 : Memref sig .tc .vmem S1024x1024 .bf16) (h15 : a15.IsWhole)
    (a16 : Memref sig .tc .vmem S4x8x768 .f32) (h16 : a16.IsWhole)
    (a17 : Memref sig .tc .vmem S4x8x768 .f32) (h17 : a17.IsWhole)
    (a18 : Memref sig .tc .vmem S1024x1024 .bf16) (h18 : a18.IsWhole)
    (hc : ¬k0_cond1 i = 1#1) (x : Vec F S1024x1024 .bf16) (x2 x3 : Vec F S768x1024 .bf16) (x4 x5 : Vec F S8x768 .f32) (x6 x7 : Vec F S1x768 .f32) (g u : Vec F S4x8x768 .f32)
    (E : Set ℕ) (K : PUnit → sProp 𝕄) :
    iprop(owns (c : Thread nD τ) a4 fullShare x2
      ∗ owns (c : Thread nD τ) a5 fullShare x3
      ∗ owns (c : Thread nD τ) a6 fullShare x4
      ∗ owns (c : Thread nD τ) a7 fullShare x5
      ∗ owns (c : Thread nD τ) a8 fullShare x6
      ∗ owns (c : Thread nD τ) a9 fullShare x7
      ∗ (∃ d, owns (c : Thread nD τ) a10 fullShare d)
      ∗ (∃ d, owns (c : Thread nD τ) a11 fullShare d)
      ∗ (∃ d, owns (c : Thread nD τ) a12 fullShare d)
      ∗ (∃ d, owns (c : Thread nD τ) a13 fullShare d)
      ∗ (∃ d, owns (c : Thread nD τ) a14 fullShare d)
      ∗ owns (c : Thread nD τ) a16 fullShare g
      ∗ owns (c : Thread nD τ) a17 fullShare u
      ∗ owns (c : Thread nD τ) a18 fullShare x
      ∗ (iprop(owns (c : Thread nD τ) a4 fullShare x2
      ∗ owns (c : Thread nD τ) a5 fullShare x3
      ∗ owns (c : Thread nD τ) a6 fullShare x4
      ∗ owns (c : Thread nD τ) a7 fullShare x5
      ∗ owns (c : Thread nD τ) a8 fullShare x6
      ∗ owns (c : Thread nD τ) a9 fullShare x7
      ∗ owns (c : Thread nD τ) a10 fullShare (act i x x2 x3 x4 x5 x6 x7 (slot i g) (slot i u))
      ∗ owns (c : Thread nD τ) a11 fullShare (slopes i x x2 x3 x4 x5 x6 x7 (slot i g) (slot i u))
      ∗ owns (c : Thread nD τ) a12 fullShare (bent i x x2 x4 x6 (slot i g))
      ∗ owns (c : Thread nD τ) a13 fullShare (k0_pay19 (k0_pay3 x x2))
      ∗ owns (c : Thread nD τ) a14 fullShare (k0_pay20 (k0_pay4 x x3))
      ∗ owns (c : Thread nD τ) a16 fullShare (moved i g (k0_pay21 (k0_pay3 x x2)))
      ∗ owns (c : Thread nD τ) a17 fullShare (moved i u (k0_pay1 (k0_pay22 (k0_pay4 x x3))))
      ∗ owns (c : Thread nD τ) a18 fullShare x) -∗ K ⟨⟩))
      ⊢ wp frame (wpE (defs₀ (F := F)) Variants.none c none) E
          (cc0_up_proj_act i a2 h2 a3 h3 a4 h4 a5 h5 a6 h6 a7 h7 a8 h8 a9 h9 a10 h10 a11 h11 a12 h12 a13 h13 a14 h14 a15 h15 a16 h16 a17 h17 a18 h18) K := by
  simp only [cc0_up_proj_act_eq_skeleton, k0_part1_eq_skeleton, k0_part2_eq_skeleton, k0_part3_eq_skeleton]
  unfold cc0_up_proj_act_skel
  unfold owns
  iintro ⟨⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%d12, %f12, -, H12⟩, ⟨%d13, %f13, -, H13⟩, ⟨%d14, %f14, -, H14⟩, ⟨%f16, %e16, H16⟩, ⟨%f17, %e17, H17⟩, ⟨%f18, %e18, H18⟩, Hk⟩
  obtain rfl := h4.eq_unread e4
  obtain rfl := h5.eq_unread e5
  obtain rfl := h6.eq_unread e6
  obtain rfl := h7.eq_unread e7
  obtain rfl := h8.eq_unread e8
  obtain rfl := h9.eq_unread e9
  obtain rfl := h16.eq_unread e16
  obtain rfl := h17.eq_unread e17
  obtain rfl := h18.eq_unread e18
  sl_exec (disch := first | sl_exact hc)
  sl_step
  iapply Hk
  isplitl [H4]
  · iexists _; isplitr
    · ipureintro; exact h4.read_unread _
    iexact H4
  isplitl [H5]
  · iexists _; isplitr
    · ipureintro; exact h5.read_unread _
    iexact H5
  isplitl [H6]
  · iexists _; isplitr
    · ipureintro; exact h6.read_unread _
    iexact H6
  isplitl [H7]
  · iexists _; isplitr
    · ipureintro; exact h7.read_unread _
    iexact H7
  isplitl [H8]
  · iexists _; isplitr
    · ipureintro; exact h8.read_unread _
    iexact H8
  isplitl [H9]
  · iexists _; isplitr
    · ipureintro; exact h9.read_unread _
    iexact H9
  isplitl [H10]
  · iexists _; isplitr; swap
    · iexact H10
    ipureintro; rw [View.read_writes_full]; conv_rhs => unfold act bend; rw [whole_load a18 h18 ![0, 0] inb_S1024x1024_S1024x1024_0_0 x, whole_load a4 h4 ![0, 0] inb_S768x1024_S768x1024_0_0 x2, whole_load a5 h5 ![0, 0] inb_S768x1024_S768x1024_0_0 x3, tap0_load a6 h6 x4, tap1_load a6 h6 x4, tap2_load a6 h6 x4, tap0_load a7 h7 x5, tap1_load a7 h7 x5, tap2_load a7 h7 x5, whole_load a8 h8 ![0, 0] inb_S1x768_S1x768_0_0 x6, whole_load a9 h9 ![0, 0] inb_S1x768_S1x768_0_0 x7, slot_load i a16 h16 g, slot_load i a17 h17 u]
    rfl
  isplitl [H11]
  · iexists _; isplitr; swap
    · iexact H11
    ipureintro; rw [View.read_writes_full]; conv_rhs => unfold slopes slant; rw [whole_load a18 h18 ![0, 0] inb_S1024x1024_S1024x1024_0_0 x, whole_load a4 h4 ![0, 0] inb_S768x1024_S768x1024_0_0 x2, whole_load a5 h5 ![0, 0] inb_S768x1024_S768x1024_0_0 x3, tap0_load a6 h6 x4, tap1_load a6 h6 x4, tap2_load a6 h6 x4, tap0_load a7 h7 x5, tap1_load a7 h7 x5, tap2_load a7 h7 x5, whole_load a8 h8 ![0, 0] inb_S1x768_S1x768_0_0 x6, whole_load a9 h9 ![0, 0] inb_S1x768_S1x768_0_0 x7, slot_load i a16 h16 g, slot_load i a17 h17 u]
    rfl
  isplitl [H12]
  · iexists _; isplitr; swap
    · iexact H12
    ipureintro; rw [View.read_writes_full]; conv_rhs => unfold bent bend; rw [whole_load a18 h18 ![0, 0] inb_S1024x1024_S1024x1024_0_0 x, whole_load a4 h4 ![0, 0] inb_S768x1024_S768x1024_0_0 x2, tap0_load a6 h6 x4, tap1_load a6 h6 x4, tap2_load a6 h6 x4, whole_load a8 h8 ![0, 0] inb_S1x768_S1x768_0_0 x6, slot_load i a16 h16 g]
    rfl
  isplitl [H13]
  · iexists _; isplitr; swap
    · iexact H13
    ipureintro; rw [View.read_writes_full]; conv_rhs => skip; rw [whole_load a18 h18 ![0, 0] inb_S1024x1024_S1024x1024_0_0 x, whole_load a4 h4 ![0, 0] inb_S768x1024_S768x1024_0_0 x2]
    rfl
  isplitl [H14]
  · iexists _; isplitr; swap
    · iexact H14
    ipureintro; rw [View.read_writes_full]; conv_rhs => skip; rw [whole_load a18 h18 ![0, 0] inb_S1024x1024_S1024x1024_0_0 x, whole_load a5 h5 ![0, 0] inb_S768x1024_S768x1024_0_0 x3]
    rfl
  isplitl [H16]
  · iexists _; isplitr; swap
    · iexact H16
    ipureintro; rw [View.read_writes_cons_put _ _ _ _ _ rfl, View.writes_nil, h16.read_unread]; unfold moved; conv_rhs => rw [whole_load a18 h18 ![0, 0] inb_S1024x1024_S1024x1024_0_0 x, whole_load a4 h4 ![0, 0] inb_S768x1024_S768x1024_0_0 x2]
    rfl
  isplitl [H17]
  · iexists _; isplitr; swap
    · iexact H17
    ipureintro; rw [View.read_writes_cons_put _ _ _ _ _ rfl, View.writes_nil, h17.read_unread]; unfold moved; conv_rhs => rw [whole_load a18 h18 ![0, 0] inb_S1024x1024_S1024x1024_0_0 x, whole_load a5 h5 ![0, 0] inb_S768x1024_S768x1024_0_0 x3]
    rfl
  iexists _; isplitr; swap
  · iexact H18
  ipureintro; exact h18.read_unread _

end Cert.UpProjIdeal.Gen

end
-- ==== Proof.UpBlock.lean ====
/- The up projection: what its kernel's expressions are, entry by entry. -/
module

public import proofs.«01_k».proof.Proof.UpStep
public import proofs.«01_k».proof.Proof.UpIdealRun

@[expose] public section

set_option maxRecDepth 16384

noncomputable section

namespace Cert.Proof.UpProj

open Idealize.ShloMosaic Idealize.ShloMosaic.TcCoe Cert.UpProjIdeal Cert.UpProjIdeal.Gen Cert.Proof Finset

/-! ## The norm and the products -/

section
variable {x : FVec Ideal S1024x1024 .f32} {g : FVec Ideal S1x1024 .f32} {X : ℕ → ℕ → EReal} {G : ℕ → EReal}

theorem hidden_rows (hx : Table x X) (hg : Table g (fun _ q => G q)) : Table (k0_pay2 (F := Ideal) x g) (normed X G) := by
  unfold k0_pay2
  exact Table.self (((hx.mulf (φ := .f32) (((((((hx.mulf (φ := .f32) hx).rowsum _ _ _).stand _).divf (φ := .f32) (table_filled _)).addf (φ := .f32)
    (table_filled _)).rsqrt (φ := .f32)).widened _)).mulf (φ := .f32) ((hg.self _).repeated _)).truncf _) _

end

section
variable {h : FVec Ideal S1024x1024 .bf16} {w : FVec Ideal S768x1024 .bf16} {H W : ℕ → ℕ → EReal}

theorem gate_product (hh : Table h H) (hw : Table w W) : Table (k0_pay3 (F := Ideal) h w) (fun r c => ∑ q ∈ range 1024, H r q * W c q) := by
  unfold k0_pay3
  exact hh.dotT (φ₁ := .bf16) (φ₂ := .bf16) (hw.self _) _ rfl

theorem up_product (hh : Table h H) (hw : Table w W) : Table (k0_pay4 (F := Ideal) h w) (fun r c => ∑ q ∈ range 1024, H r q * W c q) := by
  unfold k0_pay4
  exact hh.dotT (φ₁ := .bf16) (φ₂ := .bf16) (hw.self _) _ rfl

end

/-! ## The rows before a tile -/

section
variable {p : FVec Ideal S1024x768 .f32} {P : ℕ → ℕ → EReal}

theorem gate_tail (hp : Table p P) : Table (shapeCast S8x768 (k0_pay21 (F := Ideal) p) shapeCasts_S1x8x768_S8x768) (fun r c => P (1016 + r) c) := by
  unfold k0_pay21
  rw [shapeCast_shapeCast]
  exact (hp.slice 1016 0 _).congr fun r c _ _ => by rw [Nat.zero_add]

theorem up_tail (hp : Table p P) : Table (shapeCast S8x768 (k0_pay1 (F := Ideal) (k0_pay22 (F := Ideal) p)) shapeCasts_S1x8x768_S8x768) (fun r c => P (1016 + r) c) := by
  unfold k0_pay1 k0_pay22
  rw [shapeCast_shapeCast]
  exact (hp.slice 1016 0 _).congr fun r c _ _ => by rw [Nat.zero_add]

end

section
variable {i : grid0.Coords} {h : FVec Ideal S1024x1024 .bf16} {w : FVec Ideal S768x1024 .bf16} {s : FVec Ideal S1x8x768 .f32} {P : ℕ → ℕ → EReal}

/-- The eight rows put before a tile. -/
theorem lead_rows (i : grid0.Coords) (s : FVec Ideal S1x8x768 .f32) (P : ℕ → ℕ → EReal)
    (hs : (i 0).val ≠ 0 → Table (shapeCast S8x768 s shapeCasts_S1x8x768_S8x768) (fun r c => P (((i 0).val - 1) * 1024 + (1016 + r)) c)) :
    Table (Scalar.select (Scalar.cmpi .sgt (BitVec.ofNat 32 (i 0).val) 0#32) (shapeCast S8x768 s shapeCasts_S1x8x768_S8x768)
      (broadcast S8x768 (Scalar.ofBits .f32 0x00000000#32 : Ideal .f32)))
      (fun r c => if (i 0).val = 0 then 0 else P (((i 0).val - 1) * 1024 + (1016 + r)) c) := by
  have hi : (i 0).val < 4 := (i 0).isLt
  by_cases h0 : (i 0).val = 0
  · rw [h0]
    refine Table.congr (table_filled _) fun r c _ _ => ?_
    rw [word_zero]; rfl
  · have hc : Scalar.cmpi .sgt (BitVec.ofNat 32 (i 0).val) 0#32 = 1#1 := by
      obtain e | e | e : (i 0).val = 1 ∨ (i 0).val = 2 ∨ (i 0).val = 3 := by omega
      all_goals rw [e]; rfl
    rw [hc]
    exact (hs h0).congr fun r c _ _ => (if_neg h0).symm

theorem gate_led (hp : Table (k0_pay3 (F := Ideal) h w) (fun r c => P ((i 0).val * 1024 + r) c))
    (hs : (i 0).val ≠ 0 → Table (shapeCast S8x768 s shapeCasts_S1x8x768_S8x768) (fun r c => P (((i 0).val - 1) * 1024 + (1016 + r)) c)) :
    Table (k0_pay5 (F := Ideal) i h w s) (led P (i 0).val) := by
  unfold k0_pay5
  exact (lead_rows i s P hs).below hp _ rfl

theorem up_led (hp : Table (k0_pay4 (F := Ideal) h w) (fun r c => P ((i 0).val * 1024 + r) c))
    (hs : (i 0).val ≠ 0 → Table (shapeCast S8x768 s shapeCasts_S1x8x768_S8x768) (fun r c => P (((i 0).val - 1) * 1024 + (1016 + r)) c)) :
    Table (k0_pay6 (F := Ideal) i h w s) (led P (i 0).val) := by
  unfold k0_pay6
  exact (lead_rows i s P hs).below hp _ rfl

end

/-! ## The convolution -/

theorem tap0_rows {x : FVec Ideal S8x768 .f32} {f : ℕ → ℕ → EReal} (hx : Table x f) : Table (a := 1) (b := 768) (tap0 (F := Ideal) x) (fun _ c => f 0 c) := fun y => by
  refine (hx _).trans ?_
  have h0 : (y 0).val < 1 := (y 0).isLt
  congr 1 <;> simp [Rect.unit, Rect.emb] <;> omega

theorem tap1_rows {x : FVec Ideal S8x768 .f32} {f : ℕ → ℕ → EReal} (hx : Table x f) : Table (a := 1) (b := 768) (tap1 (F := Ideal) x) (fun _ c => f 1 c) := fun y => by
  refine (hx _).trans ?_
  have h0 : (y 0).val < 1 := (y 0).isLt
  congr 1 <;> simp [Rect.unit, Rect.emb] <;> omega

theorem tap2_rows {x : FVec Ideal S8x768 .f32} {f : ℕ → ℕ → EReal} (hx : Table x f) : Table (a := 1) (b := 768) (tap2 (F := Ideal) x) (fun _ c => f 2 c) := fun y => by
  refine (hx _).trans ?_
  have h0 : (y 0).val < 1 := (y 0).isLt
  congr 1 <;> simp [Rect.unit, Rect.emb] <;> omega

section
variable {v u : FVec Ideal S1032x768 .f32} {w0 w1 w2 b : FVec Ideal S1x768 .f32} {P W : ℕ → ℕ → EReal} {B : ℕ → EReal} {n : ℕ}

theorem conv_form (r c : ℕ) (hr : r < 1024) : B (0 + c) + W 2 (0 + c) * led P n (8 + r) (0 + c) + W 1 (0 + c) * led P n ((8 + r + 1031) % 1032) (0 + c)
    + W 0 (0 + c) * led P n ((8 + r + 1030) % 1032) (0 + c) = conv P W B (n * 1024 + r) c := by
  rw [Nat.zero_add, led_zero, led_one _ _ _ _ hr, led_two _ _ _ _ hr]
  unfold conv
  ac_rfl

theorem gate_sum (hv : Table v (led P n)) (hu : Table u (fun r c => B c + W 2 c * led P n r c)) (h1 : Table w1 (fun _ c => W 1 c)) (h0 : Table w0 (fun _ c => W 0 c)) :
    Table (k0_pay8 (F := Ideal) v u w1 w0) (fun r c => conv P W B (n * 1024 + r) c) := by
  unfold k0_pay8
  exact (((hu.addf (φ := .f32) (((h1.self _).repeated _).mulf (φ := .f32) (hv.turned 1#32 1031 rfl (by decide) _))).addf (φ := .f32)
    (((h0.self _).repeated _).mulf (φ := .f32) (hv.turned 2#32 1030 rfl (by decide) _))).slice 8 0 _).congr fun r c hr _ => conv_form r c hr

theorem up_sum (hv : Table v (led P n)) (hu : Table u (fun r c => B c + W 2 c * led P n r c)) (h1 : Table w1 (fun _ c => W 1 c)) (h0 : Table w0 (fun _ c => W 0 c)) :
    Table (k0_pay15 (F := Ideal) v u w1 w0) (fun r c => conv P W B (n * 1024 + r) c) := by
  unfold k0_pay15
  exact (((hu.addf (φ := .f32) (((h1.self _).repeated _).mulf (φ := .f32) (hv.turned 1#32 1031 rfl (by decide) _))).addf (φ := .f32)
    (((h0.self _).repeated _).mulf (φ := .f32) (hv.turned 2#32 1030 rfl (by decide) _))).slice 8 0 _).congr fun r c hr _ => conv_form r c hr

theorem gate_start {i : grid0.Coords} {h : FVec Ideal S1024x1024 .bf16} {w : FVec Ideal S768x1024 .bf16} {s : FVec Ideal S1x8x768 .f32}
    (hv : Table (k0_pay5 (F := Ideal) i h w s) (led P n)) (hb : Table b (fun _ c => B c)) (h2 : Table w2 (fun _ c => W 2 c)) :
    Table (k0_pay7 (F := Ideal) i h w s b w2) (fun r c => B c + W 2 c * led P n r c) := by
  unfold k0_pay7
  exact ((hb.self _).repeated _).addf (φ := .f32) (((h2.self _).repeated _).mulf (φ := .f32) hv)

theorem up_start (hv : Table v (led P n)) (hb : Table b (fun _ c => B c)) (h2 : Table w2 (fun _ c => W 2 c)) :
    Table (k0_pay14 (F := Ideal) v b w2) (fun r c => B c + W 2 c * led P n r c) := by
  unfold k0_pay14
  exact ((hb.self _).repeated _).addf (φ := .f32) (((h2.self _).repeated _).mulf (φ := .f32) hv)

end

/-! ## Gelu, its derivative, and what is stored -/

section
variable {v u : FVec Ideal S1032x768 .f32} {w0 w1 : FVec Ideal S1x768 .f32} {f : ℕ → ℕ → EReal}

theorem square_rows (hf : Table (k0_pay8 (F := Ideal) v u w1 w0) f) : Table (k0_pay9 (F := Ideal) v u w1 w0) (fun r c => f r c * f r c) := by
  unfold k0_pay9
  exact hf.mulf (φ := .f32) hf

theorem lifted_rows (hf : Table (k0_pay8 (F := Ideal) v u w1 w0) f) : Table (k0_pay10 (F := Ideal) v u w1 w0) (fun r c => lifted (f r c)) := by
  have hq := square_rows hf
  unfold k0_pay10
  refine ((table_filled 0x3F800000#32).addf (φ := .f32) ((hf.mulf (φ := .f32) ((table_filled 0x3F4C422A#32).addf (φ := .f32)
    ((table_named κ "gelu_ca" 0x3D122279#32 (foldA : EReal) rfl).mulf (φ := .f32) hq))).bent (φ := .f32))).congr fun r c _ _ => ?_
  rw [word_one]; rfl

theorem halved_rows (hf : Table (k0_pay8 (F := Ideal) v u w1 w0) f) : Table (k0_pay11 (F := Ideal) v u w1 w0) (fun r c => word 0x3F000000#32 * f r c) := by
  unfold k0_pay11
  exact (table_filled 0x3F000000#32).mulf (φ := .f32) hf

theorem gelu_rows (hf : Table (k0_pay8 (F := Ideal) v u w1 w0) f) : Table (k0_pay12 (F := Ideal) v u w1 w0) (fun r c => gelu (f r c)) := by
  unfold k0_pay12
  exact ((halved_rows hf).mulf (φ := .f32) (lifted_rows hf)).congr fun r c _ _ => gelu_folded _

theorem slope_rows (hf : Table (k0_pay8 (F := Ideal) v u w1 w0) f) : Table (k0_pay13 (F := Ideal) v u w1 w0) (fun r c => slope (f r c)) := by
  have hl := lifted_rows hf
  have hh := halved_rows hf
  have hq := square_rows hf
  unfold k0_pay13
  refine (((table_filled 0x3F000000#32).mulf (φ := .f32) hl).addf (φ := .f32)
    ((hh.mulf (φ := .f32) (((table_filled 0x40000000#32).subf (φ := .f32) hl).mulf (φ := .f32) hl)).mulf (φ := .f32)
      ((table_filled 0x3F4C422A#32).addf (φ := .f32) ((table_named κ "gelu_3ca" 0x3DDB33B6#32 (foldB : EReal) rfl).mulf (φ := .f32) hq)))).congr
    fun r c _ _ => ?_
  rw [← slope_folded]

theorem act_rows {e : FVec Ideal S1024x768 .f32} {g : ℕ → ℕ → EReal} (hf : Table (k0_pay15 (F := Ideal) v u w1 w0) f) (he : Table e g) :
    Table (k0_pay16 (F := Ideal) v e u w1 w0) (fun r c => g r c * f r c) := by
  unfold k0_pay16
  exact (he.mulf (φ := .f32) hf).truncf _

theorem turned_rows {e : FVec Ideal S1024x768 .f32} {g : ℕ → ℕ → EReal} (hf : Table (k0_pay15 (F := Ideal) v u w1 w0) f) (he : Table e g) :
    Table (k0_pay17 (F := Ideal) v e u w1 w0) (fun r c => f r c * g r c) := by
  unfold k0_pay17
  exact (hf.mulf (φ := .f32) he).truncf _

end

end Cert.Proof.UpProj

end
-- ==== Proof.UpIdealFrame.lean ====
module

public import proofs.«01_k».proof.Proof.UpIdealRun
public import Idealize.ShloMosaic.Lib.Pipeline.FrameBody
public import Idealize.ShloMosaic.Lib.Pipeline.TableIdle
public import Idealize.ShloMosaic.Lib.WordCmp
public import Idealize.ShloMosaic.Lib.Claim

@[expose] public section

set_option maxRecDepth 16384

noncomputable section

namespace Cert.UpProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host's operations before the region -/

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The host's operations leave the arguments alone. -/
theorem V_of_ne (c : Dev nD) (b : Ref sig .tc)
    (hb : (List.flatten [hostOps0, hostOps0_1, hostOps0_2] : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

theorem V_main_arg0 (c : Dev nD) : V m c main_arg0 = m ((c : Thread nD τ).loc main_arg0) :=
  V_of_ne m c main_arg0 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem V_main_arg1 (c : Dev nD) : V m c main_arg1 = m ((c : Thread nD τ).loc main_arg1) :=
  V_of_ne m c main_arg1 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem V_main_arg2 (c : Dev nD) : V m c main_arg2 = m ((c : Thread nD τ).loc main_arg2) :=
  V_of_ne m c main_arg2 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem V_main_arg3 (c : Dev nD) : V m c main_arg3 = m ((c : Thread nD τ).loc main_arg3) :=
  V_of_ne m c main_arg3 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem V_main_arg4 (c : Dev nD) : V m c main_arg4 = m ((c : Thread nD τ).loc main_arg4) :=
  V_of_ne m c main_arg4 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-! ## The grid and the windows -/

theorem points : cfg0.N = 16 := N_0

/-- The condition the body stores the normed tile under: the first of the four column tiles. -/
theorem hcond : ∀ t : Fin cfg0.N, k0_cond1 (grid0.coords t) = 1#1 ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

theorem row_of (t : Fin cfg0.N) : (grid0.coords t 0).val = t.val / 4 := by
  have ht : t.val < 16 := Nat.lt_of_lt_of_eq t.isLt N_0
  have e0 : (grid0.coords t 0).val = t.val / 4 % 4 := Pipeline.Grid.coords_val t 0 (by decide) rfl
  omega
theorem column_of (t : Fin cfg0.N) : (grid0.coords t 1).val = t.val % 4 := by
  have e1 : (grid0.coords t 1).val = t.val / 1 % 4 := Pipeline.Grid.coords_val t 1 (by decide) rfl
  omega

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x768 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x768 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x768 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x768 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1024 .bf16 := win0_13.stage (cfg0.slots t 13)
abbrev hs0_13 (t : Fin cfg0.N) : (ms0_13 t).IsWhole := hstage0_13 ((cfg0.slots t 13).cast nbuf0_13)

abbrev scM0 : Memref sig .tc .vmem S4x8x768 .f32 := Memref.whole cc0_scratch0
abbrev scM1 : Memref sig .tc .vmem S4x8x768 .f32 := Memref.whole cc0_scratch1
abbrev scM2 : Memref sig .tc .vmem S1024x1024 .bf16 := Memref.whole cc0_scratch2

/-! ## What the points leave -/

/-- The first point of the row tile, and the point of the same column tile one row tile before. -/
def first (t : Fin cfg0.N) : Fin cfg0.N := ⟨4 * (t.val / 4), by have := t.isLt; omega⟩
def old (t : Fin cfg0.N) : Fin cfg0.N := ⟨t.val - 4, by have := t.isLt; omega⟩

/-- The normed row tile, its two products, and the last rows of the products one row tile before. -/
def hidden (c : Dev nD) (t : Fin cfg0.N) : Vec F S1024x1024 .bf16 := k0_pay2 (iblk m c 0 (first t)) (iblk m c 1 (first t))
def gates (c : Dev nD) (t : Fin cfg0.N) : FVec F S1024x768 .f32 := k0_pay3 (hidden m c t) (iblk m c 2 t)
def ups (c : Dev nD) (t : Fin cfg0.N) : FVec F S1024x768 .f32 := k0_pay4 (hidden m c t) (iblk m c 3 t)
def gateTail (c : Dev nD) (t : Fin cfg0.N) : Vec F S1x8x768 .f32 := k0_pay21 (gates m c t)
def upTail (c : Dev nD) (t : Fin cfg0.N) : Vec F S1x8x768 .f32 := k0_pay1 (k0_pay22 (ups m c t))

theorem hidden_congr (c : Dev nD) (t t' : Fin cfg0.N) (h : t.val / 4 = t'.val / 4) : hidden m c t = hidden m c t' := by
  unfold hidden; rw [show first t = first t' from Fin.ext (by show 4 * (t.val / 4) = 4 * (t'.val / 4); rw [h])]

theorem hidden_first (c : Dev nD) (t : Fin cfg0.N) (h : t.val % 4 = 0) : hidden m c t = k0_pay2 (iblk m c 0 t) (iblk m c 1 t) := by
  unfold hidden; rw [show first t = t from Fin.ext (by show 4 * (t.val / 4) = t.val; omega)]

/-- The contents of the three carried buffers before point `n`: the row tile's normed rows except where it is about to be
    stored, and at each of the last four points' own rows of the history buffers the tail that point left. -/
def Past (c : Dev nD) (n : ℕ) (h : Vec F S1024x1024 .bf16) (g u : Vec F S4x8x768 .f32) : Prop :=
  (∀ t : Fin cfg0.N, t.val = n → n % 4 ≠ 0 → h = hidden m c t)
  ∧ ∀ k : Fin cfg0.N, k.val < n → n ≤ k.val + 4 → slot (grid0.coords k) g = gateTail m c k ∧ slot (grid0.coords k) u = upTail m c k

theorem window_moves {s : Shape} {α : Type} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h; rfl

theorem slot_congr (i i' : grid0.Coords) (h : (i 1).val = (i' 1).val) (g : Vec F S4x8x768 .f32) : slot i g = slot i' g :=
  window_moves g (by rw [k0_off1_eq, k0_off1_eq, h]) _ _

theorem slot_moved (i : grid0.Coords) (g : Vec F S4x8x768 .f32) (w : Vec F S1x8x768 .f32) : slot i (moved i g w) = w :=
  VecWindow.window_put_same g (k0_off1 i) S1x8x768.size (k0_off1_inb i) w

theorem slot_moved_apart (i i' : grid0.Coords) (h : (i 1).val ≠ (i' 1).val) (g : Vec F S4x8x768 .f32) (w : Vec F S1x8x768 .f32) :
    slot i (moved i' g w) = slot i g := by
  refine VecWindow.window_put_of_disjoint g (k0_off1 i') S1x8x768.size (k0_off1 i) S1x8x768.size (k0_off1_inb i) w 0 ?_
  rw [k0_off1_eq, k0_off1_eq]
  show (i 1).val + 1 ≤ (i' 1).val ∨ (i' 1).val + 1 ≤ (i 1).val
  omega

theorem Past.next {c : Dev nD} {t : Fin cfg0.N} {h : Vec F S1024x1024 .bf16} {g u : Vec F S4x8x768 .f32} (past : Past m c t.val h g u) :
    Past m c (t.val + 1) (hidden m c t) (moved (grid0.coords t) g (gateTail m c t)) (moved (grid0.coords t) u (upTail m c t)) := by
  refine ⟨fun t' e h' => hidden_congr m c _ _ (by omega), fun k hk hk' => ?_⟩
  by_cases e : k = t
  · subst e; exact ⟨slot_moved _ _ _, slot_moved _ _ _⟩
  · have hv : k.val ≠ t.val := fun h => e (Fin.ext h)
    have apart : (grid0.coords k 1).val ≠ (grid0.coords t 1).val := by rw [column_of, column_of]; omega
    rw [slot_moved_apart _ _ apart, slot_moved_apart _ _ apart]
    exact past.2 k (by omega) (by omega)

/-- On the first row tile the history is not read. -/
theorem early_gates (i : grid0.Coords) (h : (i 0).val = 0) (x : Vec F S1024x1024 .bf16) (x2 : Vec F S768x1024 .bf16) (s s' : Vec F S1x8x768 .f32) :
    k0_pay5 i x x2 s = k0_pay5 i x x2 s' := by
  unfold k0_pay5; rw [h]; rfl
theorem early_ups (i : grid0.Coords) (h : (i 0).val = 0) (x : Vec F S1024x1024 .bf16) (x2 : Vec F S768x1024 .bf16) (s s' : Vec F S1x8x768 .f32) :
    k0_pay6 i x x2 s = k0_pay6 i x x2 s' := by
  unfold k0_pay6; rw [h]; rfl

theorem act_early (i : grid0.Coords) (h : (i 0).val = 0) (x : Vec F S1024x1024 .bf16) (x2 x3 : Vec F S768x1024 .bf16) (x4 x5 : Vec F S8x768 .f32) (x6 x7 : Vec F S1x768 .f32) (s r s' r' : Vec F S1x8x768 .f32) :
    act i x x2 x3 x4 x5 x6 x7 s r = act i x x2 x3 x4 x5 x6 x7 s' r' := by
  unfold act bend k0_pay7; rw [early_gates i h x x2 s s', early_ups i h x x3 r r']
theorem slopes_early (i : grid0.Coords) (h : (i 0).val = 0) (x : Vec F S1024x1024 .bf16) (x2 x3 : Vec F S768x1024 .bf16) (x4 x5 : Vec F S8x768 .f32) (x6 x7 : Vec F S1x768 .f32) (s r s' r' : Vec F S1x8x768 .f32) :
    slopes i x x2 x3 x4 x5 x6 x7 s r = slopes i x x2 x3 x4 x5 x6 x7 s' r' := by
  unfold slopes slant k0_pay7; rw [early_gates i h x x2 s s', early_ups i h x x3 r r']
theorem bent_early (i : grid0.Coords) (h : (i 0).val = 0) (x : Vec F S1024x1024 .bf16) (x2 : Vec F S768x1024 .bf16) (x4 : Vec F S8x768 .f32) (x6 : Vec F S1x768 .f32) (s s' : Vec F S1x8x768 .f32) :
    bent i x x2 x4 x6 s = bent i x x2 x4 x6 s' := by
  unfold bent bend k0_pay7; rw [early_gates i h x x2 s s']

/-- Where the history is read it holds what the point one row tile before left. -/
theorem Past.slots {c : Dev nD} {t : Fin cfg0.N} {h : Vec F S1024x1024 .bf16} {g u : Vec F S4x8x768 .f32} (past : Past m c t.val h g u) :
    (grid0.coords t 0).val = 0 ∨ (slot (grid0.coords t) g = gateTail m c (old t) ∧ slot (grid0.coords t) u = upTail m c (old t)) := by
  by_cases e : t.val < 4
  · exact .inl (by rw [row_of]; omega)
  · have v : (old t).val = t.val - 4 := rfl
    have same : (grid0.coords t 1).val = (grid0.coords (old t) 1).val := by rw [column_of, column_of]; omega
    rw [slot_congr _ _ same g, slot_congr _ _ same u]
    exact .inr (past.2 (old t) (by omega) (by omega))

def actAt (c : Dev nD) (t : Fin cfg0.N) : FVec F S1024x768 .bf16 :=
  act (grid0.coords t) (hidden m c t) (iblk m c 2 t) (iblk m c 3 t) (iblk m c 4 t) (iblk m c 5 t) (iblk m c 6 t) (iblk m c 7 t) (gateTail m c (old t)) (upTail m c (old t))
def slopesAt (c : Dev nD) (t : Fin cfg0.N) : FVec F S1024x768 .bf16 :=
  slopes (grid0.coords t) (hidden m c t) (iblk m c 2 t) (iblk m c 3 t) (iblk m c 4 t) (iblk m c 5 t) (iblk m c 6 t) (iblk m c 7 t) (gateTail m c (old t)) (upTail m c (old t))
def bentAt (c : Dev nD) (t : Fin cfg0.N) : FVec F S1024x768 .bf16 :=
  bent (grid0.coords t) (hidden m c t) (iblk m c 2 t) (iblk m c 4 t) (iblk m c 6 t) (gateTail m c (old t))

theorem Past.act {c : Dev nD} {t : Fin cfg0.N} {h : Vec F S1024x1024 .bf16} {g u : Vec F S4x8x768 .f32} (past : Past m c t.val h g u) :
    actAt m c t = Gen.act (grid0.coords t) (hidden m c t) (iblk m c 2 t) (iblk m c 3 t) (iblk m c 4 t) (iblk m c 5 t) (iblk m c 6 t) (iblk m c 7 t) (slot (grid0.coords t) g) (slot (grid0.coords t) u) := by
  rcases past.slots with h0 | ⟨eg, eu⟩
  · exact act_early _ h0 _ _ _ _ _ _ _ _ _ _ _
  · rw [eg, eu]; rfl
theorem Past.slopes {c : Dev nD} {t : Fin cfg0.N} {h : Vec F S1024x1024 .bf16} {g u : Vec F S4x8x768 .f32} (past : Past m c t.val h g u) :
    slopesAt m c t = Gen.slopes (grid0.coords t) (hidden m c t) (iblk m c 2 t) (iblk m c 3 t) (iblk m c 4 t) (iblk m c 5 t) (iblk m c 6 t) (iblk m c 7 t) (slot (grid0.coords t) g) (slot (grid0.coords t) u) := by
  rcases past.slots with h0 | ⟨eg, eu⟩
  · exact slopes_early _ h0 _ _ _ _ _ _ _ _ _ _ _
  · rw [eg, eu]; rfl
theorem Past.bent {c : Dev nD} {t : Fin cfg0.N} {h : Vec F S1024x1024 .bf16} {g u : Vec F S4x8x768 .f32} (past : Past m c t.val h g u) :
    bentAt m c t = Gen.bent (grid0.coords t) (hidden m c t) (iblk m c 2 t) (iblk m c 4 t) (iblk m c 6 t) (slot (grid0.coords t) g) := by
  rcases past.slots with h0 | ⟨eg, eu⟩
  · exact bent_early _ h0 _ _ _ _ _ _
  · rw [eg]; rfl

/-- The carried buffers before point `n`. -/
def Carried (c : Dev nD) (n : ℕ) : sProp 𝕄 :=
  iprop(∃ h g u, ⌜Past m c n h g u⌝ ∗ owns (c : Thread nD τ) scM0 fullShare g ∗ owns (c : Thread nD τ) scM1 fullShare u
    ∗ owns (c : Thread nD τ) scM2 fullShare h ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => actAt m c t
    | ⟨9, _⟩ => slopesAt m c t
    | ⟨10, _⟩ => bentAt m c t
    | ⟨11, _⟩ => k0_pay19 (gates m c t)
    | ⟨12, _⟩ => k0_pay20 (ups m c t)
    | ⟨13, _⟩ => hidden m c t
  Φ t := Carried m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = actAt m c t := by dsimp only [dats]
theorem after0_9 (c : Dev nD) (t : Fin cfg0.N) : (dats m 0 c).after 9 t = slopesAt m c t := by dsimp only [dats]
theorem after0_10 (c : Dev nD) (t : Fin cfg0.N) : (dats m 0 c).after 10 t = bentAt m c t := by dsimp only [dats]
theorem after0_11 (c : Dev nD) (t : Fin cfg0.N) : (dats m 0 c).after 11 t = k0_pay19 (gates m c t) := by dsimp only [dats]
theorem after0_12 (c : Dev nD) (t : Fin cfg0.N) : (dats m 0 c).after 12 t = k0_pay20 (ups m c t) := by dsimp only [dats]
theorem after0_13 (c : Dev nD) (t : Fin cfg0.N) : (dats m 0 c).after 13 t = hidden m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- The normed tile's window is idle at every point but the row tile's first, and written back at its last. -/
theorem idle_at (t : Fin cfg0.N) (h : ¬t.val % 4 = 0) : cfg0.idle 13 (grid0.coords t) = true := by
  have hc : ¬k0_cond1 (grid0.coords t) = 1#1 := fun e => h ((hcond t).mp e)
  show (!(k0_cond1 (grid0.coords t) == 1#1)) = true
  rw [beq_eq_false_iff_ne.mpr hc]; rfl
theorem live_at (t : Fin cfg0.N) (h : t.val % 4 = 0) : cfg0.idle 13 (grid0.coords t) = false := by
  show (!(k0_cond1 (grid0.coords t) == 1#1)) = false
  rw [(hcond t).mpr h]; rfl

theorem fresh_step : ∀ t : Fin cfg0.N, decide ((t.val + 1) % 4 = 0) = ((cfg0.win 13).flush t || (cfg0.idle 13 (cfg0.grid.coords t) && decide (t.val % 4 = 0))) := by decide +kernel
theorem fresh_eq (t : Fin cfg0.N) : cfg0.fresh 13 t.val = decide (t.val % 4 = 0) :=
  Pipeline.Cfg.fresh_tab cfg0 13 (fun n => decide (n % 4 = 0)) rfl fresh_step t.val (Nat.le_of_lt t.isLt)

theorem before_hidden (c : Dev nD) (t : Fin cfg0.N) (h : ¬t.val % 4 = 0) (d) : (dats m 0 c).before 13 t d = hidden m c t := by
  have key := (dats m 0 c).before_out_traj 13 rfl (fun _ _ => rfl) (fun t' h' _ hf => by
    have hm : ¬t'.val % 4 = 0 := fun e => by rw [fresh_eq, decide_eq_true e] at hf; exact Bool.noConfusion hf
    rw [after0_13, after0_13]; exact hidden_congr m c _ _ (by show t'.val / 4 = (t'.val - 1) / 4; omega)) t.val t rfl d
  rw [key, if_neg (by rw [fresh_eq, decide_eq_false h]; exact Bool.false_ne_true), after0_13]
  exact hidden_congr m c _ _ (by show (t.val - 1) / 4 = t.val / 4; omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves0_0 (c : Dev nD) (t : Fin cfg0.N) : (dats m 0 c).leavesExact 0 t = owns (c : Thread nD τ) (ms0_0 t) fullShare ((dats m 0 c).after 0 t) := by
  unfold Dat.leavesExact; rw [show cfg0.idle 0 (grid0.coords t) = false from rfl]
theorem leaves0_1 (c : Dev nD) (t : Fin cfg0.N) : (dats m 0 c).leavesExact 1 t = owns (c : Thread nD τ) (ms0_1 t) fullShare ((dats m 0 c).after 1 t) := by
  unfold Dat.leavesExact; rw [show cfg0.idle 1 (grid0.coords t) = false from rfl]
theorem leaves0_2 (c : Dev nD) (t : Fin cfg0.N) : (dats m 0 c).leavesExact 2 t = owns (c : Thread nD τ) (ms0_2 t) fullShare ((dats m 0 c).after 2 t) := by
  unfold Dat.leavesExact; rw [show cfg0.idle 2 (grid0.coords t) = false from rfl]
theorem leaves0_3 (c : Dev nD) (t : Fin cfg0.N) : (dats m 0 c).leavesExact 3 t = owns (c : Thread nD τ) (ms0_3 t) fullShare ((dats m 0 c).after 3 t) := by
  unfold Dat.leavesExact; rw [show cfg0.idle 3 (grid0.coords t) = false from rfl]
theorem leaves0_4 (c : Dev nD) (t : Fin cfg0.N) : (dats m 0 c).leavesExact 4 t = owns (c : Thread nD τ) (ms0_4 t) fullShare ((dats m 0 c).after 4 t) := by
  unfold Dat.leavesExact; rw [show cfg0.idle 4 (grid0.coords t) = false from rfl]
theorem leaves0_5 (c : Dev nD) (t : Fin cfg0.N) : (dats m 0 c).leavesExact 5 t = owns (c : Thread nD τ) (ms0_5 t) fullShare ((dats m 0 c).after 5 t) := by
  unfold Dat.leavesExact; rw [show cfg0.idle 5 (grid0.coords t) = false from rfl]
theorem leaves0_6 (c : Dev nD) (t : Fin cfg0.N) : (dats m 0 c).leavesExact 6 t = owns (c : Thread nD τ) (ms0_6 t) fullShare ((dats m 0 c).after 6 t) := by
  unfold Dat.leavesExact; rw [show cfg0.idle 6 (grid0.coords t) = false from rfl]
theorem leaves0_7 (c : Dev nD) (t : Fin cfg0.N) : (dats m 0 c).leavesExact 7 t = owns (c : Thread nD τ) (ms0_7 t) fullShare ((dats m 0 c).after 7 t) := by
  unfold Dat.leavesExact; rw [show cfg0.idle 7 (grid0.coords t) = false from rfl]
theorem leaves0_8 (c : Dev nD) (t : Fin cfg0.N) : (dats m 0 c).leavesExact 8 t = owns (c : Thread nD τ) (ms0_8 t) fullShare ((dats m 0 c).after 8 t) := by
  unfold Dat.leavesExact; rw [show cfg0.idle 8 (grid0.coords t) = false from rfl]
theorem leaves0_9 (c : Dev nD) (t : Fin cfg0.N) : (dats m 0 c).leavesExact 9 t = owns (c : Thread nD τ) (ms0_9 t) fullShare ((dats m 0 c).after 9 t) := by
  unfold Dat.leavesExact; rw [show cfg0.idle 9 (grid0.coords t) = false from rfl]
theorem leaves0_10 (c : Dev nD) (t : Fin cfg0.N) : (dats m 0 c).leavesExact 10 t = owns (c : Thread nD τ) (ms0_10 t) fullShare ((dats m 0 c).after 10 t) := by
  unfold Dat.leavesExact; rw [show cfg0.idle 10 (grid0.coords t) = false from rfl]
theorem leaves0_11 (c : Dev nD) (t : Fin cfg0.N) : (dats m 0 c).leavesExact 11 t = owns (c : Thread nD τ) (ms0_11 t) fullShare ((dats m 0 c).after 11 t) := by
  unfold Dat.leavesExact; rw [show cfg0.idle 11 (grid0.coords t) = false from rfl]
theorem leaves0_12 (c : Dev nD) (t : Fin cfg0.N) : (dats m 0 c).leavesExact 12 t = owns (c : Thread nD τ) (ms0_12 t) fullShare ((dats m 0 c).after 12 t) := by
  unfold Dat.leavesExact; rw [show cfg0.idle 12 (grid0.coords t) = false from rfl]
theorem leaves0_13 (c : Dev nD) (t : Fin cfg0.N) (h : t.val % 4 = 0) : (dats m 0 c).leavesExact 13 t = owns (c : Thread nD τ) (ms0_13 t) fullShare ((dats m 0 c).after 13 t) := by
  unfold Dat.leavesExact; rw [live_at t h]
theorem keeps0_13 (c : Dev nD) (t : Fin cfg0.N) (h : ¬t.val % 4 = 0) : owns (c : Thread nD τ) (ms0_13 t) fullShare (hidden m c t) ⊢ (dats m 0 c).leavesExact 13 t := by
  by_cases hf : (cfg0.win 13).flush t = true
  · unfold Dat.leavesExact; rw [idle_at t h, hf]
    exact .rfl
  · rw [Dat.leavesExact_idle (dats m 0 c) 13 t (idle_at t h) (Bool.eq_false_iff.mpr hf)]
    iintro H
    iexists (hidden m c t); rw [before_hidden m c t h]; iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Carried m c (t.val + 1) from by dsimp only [dats]; rw [Fin.val_succ],
    show (dats m 0 c).Φ t.castSucc = Carried m c t.val from by dsimp only [dats]; rw [Fin.val_castSucc],
    show (dats m 0 c).owesAt () t.succ = (dats m 0 c).owesAt () t.castSucc from rfl]
  rw [leaves0_0, leaves0_1, leaves0_2, leaves0_3, leaves0_4, leaves0_5, leaves0_6, leaves0_7, leaves0_8, leaves0_9, leaves0_10, leaves0_11, leaves0_12, after0_0, after0_1, after0_2, after0_3, after0_4, after0_5, after0_6, after0_7, after0_8, after0_9, after0_10, after0_11, after0_12]
  unfold Carried
  iintro ⟨⟨%h, %g, %u, %past, HG, HU, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  by_cases h0 : t.val % 4 = 0
  · rw [leaves0_13 m c t h0, after0_13, past.act, past.slopes, past.bent]
    have next := past.next
    unfold gateTail upTail gates ups at next
    unfold gates ups
    rw [hidden_first m c t h0] at next ⊢
    iapply (run_first c (grid0.coords t) _ _ _ _ _ _ _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) g u Set.univ _)

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HG]; · iexact HG
    isplitl [HU]; · iexact HU
    isplitl [HS]; · iexists _; iexact HS
    iintro ⟨H0, H1, H2, H3, H4, H5, H6, H7, H8, H9, H10, H11, H12, H13, HG, HU, HS⟩
    isplitl [HG HU HS Hr]
    · iexists _, _, _; isplitr
      · ipureintro; exact next
      isplitl [HG]; · iexact HG
      isplitl [HU]; · iexact HU
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [past.act, past.slopes, past.bent, before_hidden m c t h0]
    have next := past.next
    obtain rfl := past.1 t rfl h0
    unfold gateTail upTail gates ups at next
    unfold gates ups
    iapply (run_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0 (Memref.isWhole_whole _) scM1 (Memref.isWhole_whole _) scM2 (Memref.isWhole_whole _) (fun e => h0 ((hcond t).mp e)) (hidden m c t) (iblk m c 2 t) (iblk m c 3 t) (iblk m c 4 t) (iblk m c 5 t) (iblk m c 6 t) (iblk m c 7 t) g u Set.univ _)
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HG]; · iexact HG
    isplitl [HU]; · iexact HU
    isplitl [HS]; · iexact HS
    iintro ⟨H2, H3, H4, H5, H6, H7, H8, H9, H10, H11, H12, HG, HU, HS⟩
    isplitl [HG HU HS Hr]
    · iexists _, _, _; isplitr
      · ipureintro; exact next
      isplitl [HG]; · iexact HG
      isplitl [HU]; · iexact HU
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iapply (keeps0_13 m c t h0); iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Carried m c 0 from by dsimp only [dats]; rfl]
  unfold Pipeline.ΦA Carried; rw [scopedRest0_eq]; simp only [scM0, scM1, scM2, owns_whole]
  iintro ⟨⟨⟨%g, HG⟩, ⟨%u, HU⟩, ⟨%h, HS⟩⟩, Hr⟩
  iexists h, g, u; isplitr
  · ipureintro; exact ⟨fun t e hn => absurd rfl hn, fun k hk => absurd hk (Nat.not_lt_zero _)⟩
  isplitl [HG]; · iexact HG
  isplitl [HU]; · iexact HU
  isplitl [HS]; · iexact HS
  iexact Hr

theorem hout (c : Dev nD) : (dats m 0 c).Φ (Fin.last cfg0.N) ⊢ Pipeline.ΦA spec0 c := by
  rw [show (dats m 0 c).Φ (Fin.last cfg0.N) = Carried m c cfg0.N from by dsimp only [dats]; rw [Fin.val_last]]
  unfold Pipeline.ΦA Carried; rw [scopedRest0_eq]; simp only [scM0, scM1, scM2, owns_whole]
  iintro ⟨%h, %g, %u, %past, HG, HU, HS, Hr⟩
  isplitl [HG HU HS]
  · isplitl [HG]; · iexists g; iexact HG
    isplitl [HU]; · iexists u; iexact HU
    iexists h; iexact HS
  iexact Hr

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 1000000 in
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.UpProjIdeal.Gen

end
-- ==== Proof.UpArrays.lean ====
/- The arrays that the up projection's kernel leaves, entry by entry: gelu of the
   convolution's first half times its second, the two gradients that the backward call takes, the two halves of the product
   and the norm. -/
module

public import proofs.«01_k».proof.Proof.UpBlock
public import proofs.«01_k».proof.Proof.UpIdealFrame
public import Idealize.ShloMosaic.Lib.StableHlo.RunRead
public import Idealize.ShloMosaic.Lib.Pipeline.ReadBack

@[expose] public section

set_option maxRecDepth 16384
set_option maxHeartbeats 1600000

noncomputable section

namespace Cert.Proof.UpProj

open Idealize.ShloMosaic Idealize.ShloMosaic.TcCoe Idealize.ShloMosaic.StableHlo Idealize.SL.Sem Cert.UpProjIdeal Cert.UpProjIdeal.Gen Cert.Proof Finset

variable (m : (ℓ : Loc nD τ sig) → Buf (Elt Ideal) ℓ) (c : Dev nD) {X W K : ℕ → ℕ → EReal} {G B : ℕ → EReal}

/-- The arguments' entries. -/
structure Given (X : ℕ → ℕ → EReal) (G : ℕ → EReal) (W K : ℕ → ℕ → EReal) (B : ℕ → EReal) : Prop where
  input : @Table 4096 1024 (m (c.tc.loc main_arg0)) X
  gain : @Listed 1024 (m (c.tc.loc main_arg1)) G
  weight : @Table 1024 6144 (m (c.tc.loc main_arg2)) W
  taps : @Table 3 6144 (m (c.tc.loc main_arg3)) K
  bias : @Listed 6144 (m (c.tc.loc main_arg4)) B

theorem given_entries : Given m c (cell (a := 4096) (b := 1024) (m (c.tc.loc main_arg0))) (item (a := 1024) (m (c.tc.loc main_arg1)))
    (cell (a := 1024) (b := 6144) (m (c.tc.loc main_arg2))) (cell (a := 3) (b := 6144) (m (c.tc.loc main_arg3)))
    (item (a := 6144) (m (c.tc.loc main_arg4))) :=
  ⟨table_cell _, listed_item _, table_cell _, table_cell _, listed_item _⟩

/-! ## What the host code before the launch leaves -/

theorem zero_of_int (i : (⟨0, ![]⟩ : Shape).Idx) : (sitofp .f32 (constantI ⟨0, ![]⟩ 32 0#32) : FVec Ideal ⟨0, ![]⟩ .f32) i = 0 := by
  show ((((0 : BitVec 32).toInt : ℝ)) : EReal) = 0
  simp

abbrev line : List (HloOp τ sig (Elt Ideal)) := List.flatten [hostOps0, hostOps0_1, hostOps0_2]

section
variable {m c} (g : Given m c X G W K B)
include g

theorem taps_rows : @Table 8 6144 (V m c main_v0) (fun r q => if r < 3 then K r q else 0) := by
  show @Table 8 6144 (after line (fun b => m (c, b)) (Proc.devRef .tc main_v0)) _
  after_reads_simp
  exact (g.taps.padded 0 5 _ zero_of_int pads_S3x6144_S8x6144_050_000 h_S_).congr fun r q _ _ => by simp

theorem gain_rows : @Table 1 1024 (V m c main_v1) (fun _ q => G q) := by
  show @Table 1 1024 (after line (fun b => m (c, b)) (Proc.devRef .tc main_v1)) _
  after_reads_simp
  exact g.gain.cast _

theorem weight_rows : @Table 6144 1024 (V m c main_v3) (fun r q => W q r) := by
  show @Table 6144 1024 (after line (fun b => m (c, b)) (Proc.devRef .tc main_v3)) _
  after_reads_simp
  exact (g.weight.flip _).truncf _

theorem bias_rows : @Table 1 6144 (V m c main_v4) (fun _ q => B q) := by
  show @Table 1 6144 (after line (fun b => m (c, b)) (Proc.devRef .tc main_v4)) _
  after_reads_simp
  exact g.bias.cast _

theorem input_rows : @Table 4096 1024 (V m c main_arg0) X := by
  rw [V_main_arg0]; exact g.input

end

/-! ## The blocks -/

theorem index0 : ∀ t : Fin cfg0.N, win0_0.index t = ![t.val / 4, 0] :=
  (by decide +kernel : ∀ t : Fin grid0.N, win0_0.index t = ![t.val / 4, 0])
theorem index1 : ∀ t : Fin cfg0.N, win0_1.index t = ![0, 0] :=
  (by decide +kernel : ∀ t : Fin grid0.N, win0_1.index t = ![0, 0])
theorem index2 : ∀ t : Fin cfg0.N, win0_2.index t = ![t.val % 4, 0] :=
  (by decide +kernel : ∀ t : Fin grid0.N, win0_2.index t = ![t.val % 4, 0])
theorem index3 : ∀ t : Fin cfg0.N, win0_3.index t = ![t.val % 4 + 4, 0] :=
  (by decide +kernel : ∀ t : Fin grid0.N, win0_3.index t = ![t.val % 4 + 4, 0])
theorem index4 : ∀ t : Fin cfg0.N, win0_4.index t = ![0, t.val % 4] :=
  (by decide +kernel : ∀ t : Fin grid0.N, win0_4.index t = ![0, t.val % 4])
theorem index5 : ∀ t : Fin cfg0.N, win0_5.index t = ![0, t.val % 4 + 4] :=
  (by decide +kernel : ∀ t : Fin grid0.N, win0_5.index t = ![0, t.val % 4 + 4])
theorem index6 : ∀ t : Fin cfg0.N, win0_6.index t = ![0, t.val % 4] :=
  (by decide +kernel : ∀ t : Fin grid0.N, win0_6.index t = ![0, t.val % 4])
theorem index7 : ∀ t : Fin cfg0.N, win0_7.index t = ![0, t.val % 4 + 4] :=
  (by decide +kernel : ∀ t : Fin grid0.N, win0_7.index t = ![0, t.val % 4 + 4])
theorem index8 : ∀ t : Fin cfg0.N, win0_8.index t = ![t.val / 4, t.val % 4] :=
  (by decide +kernel : ∀ t : Fin grid0.N, win0_8.index t = ![t.val / 4, t.val % 4])
theorem index9 : ∀ t : Fin cfg0.N, win0_9.index t = ![t.val / 4, t.val % 4] :=
  (by decide +kernel : ∀ t : Fin grid0.N, win0_9.index t = ![t.val / 4, t.val % 4])
theorem index10 : ∀ t : Fin cfg0.N, win0_10.index t = ![t.val / 4, t.val % 4] :=
  (by decide +kernel : ∀ t : Fin grid0.N, win0_10.index t = ![t.val / 4, t.val % 4])
theorem index11 : ∀ t : Fin cfg0.N, win0_11.index t = ![t.val / 4, t.val % 4] :=
  (by decide +kernel : ∀ t : Fin grid0.N, win0_11.index t = ![t.val / 4, t.val % 4])
theorem index12 : ∀ t : Fin cfg0.N, win0_12.index t = ![t.val / 4, t.val % 4] :=
  (by decide +kernel : ∀ t : Fin grid0.N, win0_12.index t = ![t.val / 4, t.val % 4])
theorem index13 : ∀ t : Fin cfg0.N, win0_13.index t = ![t.val / 4, 0] :=
  (by decide +kernel : ∀ t : Fin grid0.N, win0_13.index t = ![t.val / 4, 0])

section
variable (t : Fin cfg0.N) {f : ℕ → ℕ → EReal} {l : ℕ → EReal}

theorem block0 (h : Table (V m c main_arg0) f) : @Table 1024 1024 (iblk m c 0 t) (fun r q => f (t.val / 4 * 1024 + r) q) := fun y => by
  blk_simp [iblk]; refine (h _).trans ?_; blk_simp [index0 t]
theorem block1 (h : Table (V m c main_v1) (fun _ q => l q)) : @Table 1 1024 (iblk m c 1 t) (fun _ q => l q) := fun y => by
  blk_simp [iblk]; refine (h _).trans ?_; blk_simp [index1 t]
theorem block2 (h : Table (V m c main_v3) f) : @Table 768 1024 (iblk m c 2 t) (fun r q => f (t.val % 4 * 768 + r) q) := fun y => by
  blk_simp [iblk]; refine (h _).trans ?_; blk_simp [index2 t]
theorem block3 (h : Table (V m c main_v3) f) : @Table 768 1024 (iblk m c 3 t) (fun r q => f (3072 + (t.val % 4 * 768 + r)) q) := fun y => by
  blk_simp [iblk]; refine (h _).trans ?_; blk_simp [index3 t]
  congr 1; omega
theorem block4 (h : Table (V m c main_v0) f) : @Table 8 768 (iblk m c 4 t) (fun r q => f r (t.val % 4 * 768 + q)) := fun y => by
  blk_simp [iblk]; refine (h _).trans ?_; blk_simp [index4 t]
theorem block5 (h : Table (V m c main_v0) f) : @Table 8 768 (iblk m c 5 t) (fun r q => f r (3072 + (t.val % 4 * 768 + q))) := fun y => by
  blk_simp [iblk]; refine (h _).trans ?_; blk_simp [index5 t]
  congr 1; omega
theorem block6 (h : Table (V m c main_v4) (fun _ q => l q)) : @Table 1 768 (iblk m c 6 t) (fun _ q => l (t.val % 4 * 768 + q)) := fun y => by
  blk_simp [iblk]; refine (h _).trans ?_; blk_simp [index6 t]
theorem block7 (h : Table (V m c main_v4) (fun _ q => l q)) : @Table 1 768 (iblk m c 7 t) (fun _ q => l (3072 + (t.val % 4 * 768 + q))) := fun y => by
  blk_simp [iblk]; refine (h _).trans ?_; blk_simp [index7 t]
  congr 1; omega

end

/-! ## What the points leave -/

section
variable {m c} (g : Given m c X G W K B) (t : Fin cfg0.N)
include g

theorem hidden_tile : @Table 1024 1024 (hidden m c t) (fun r q => normed X G (t.val / 4 * 1024 + r) q) := by
  have e : (first t).val / 4 = t.val / 4 := by show 4 * (t.val / 4) / 4 = _; omega
  have h0 := block0 m c (first t) (input_rows g)
  rw [e] at h0
  exact hidden_rows h0 (block1 m c (first t) (gain_rows g))

theorem gates_tile : Table (gates m c t) (fun r q => pushed X G W (t.val / 4 * 1024 + r) (t.val % 4 * 768 + q)) :=
  gate_product (hidden_tile g t) (block2 m c t (weight_rows g))

theorem ups_tile : Table (ups m c t) (fun r q => pushed X G W (t.val / 4 * 1024 + r) (3072 + (t.val % 4 * 768 + q))) :=
  up_product (hidden_tile g t) (block3 m c t (weight_rows g))

/-- The last rows of the tile before. -/
theorem gates_before (h : (grid0.coords t 0).val ≠ 0) : Table (shapeCast S8x768 (gateTail m c (old t)) shapeCasts_S1x8x768_S8x768)
    (fun r q => pushed X G W (((grid0.coords t 0).val - 1) * 1024 + (1016 + r)) (t.val % 4 * 768 + q)) := by
  rw [row_of] at h ⊢
  have e0 : (old t).val / 4 = t.val / 4 - 1 := by show (t.val - 4) / 4 = _; omega
  have e1 : (old t).val % 4 = t.val % 4 := by show (t.val - 4) % 4 = _; omega
  have h' := gates_tile g (old t)
  rw [e0, e1] at h'
  exact gate_tail h'

theorem ups_before (h : (grid0.coords t 0).val ≠ 0) : Table (shapeCast S8x768 (upTail m c (old t)) shapeCasts_S1x8x768_S8x768)
    (fun r q => pushed X G W (((grid0.coords t 0).val - 1) * 1024 + (1016 + r)) (3072 + (t.val % 4 * 768 + q))) := by
  rw [row_of] at h ⊢
  have e0 : (old t).val / 4 = t.val / 4 - 1 := by show (t.val - 4) / 4 = _; omega
  have e1 : (old t).val % 4 = t.val % 4 := by show (t.val - 4) % 4 = _; omega
  have h' := ups_tile g (old t)
  rw [e0, e1] at h'
  exact up_tail h'

theorem gates_led : Table (k0_pay5 (F := Ideal) (grid0.coords t) (hidden m c t) (iblk m c 2 t) (gateTail m c (old t)))
    (led (fun r q => pushed X G W r (t.val % 4 * 768 + q)) (grid0.coords t 0).val) := by
  refine gate_led ?_ (gates_before g t)
  rw [row_of]; exact gates_tile g t

theorem ups_led : Table (k0_pay6 (F := Ideal) (grid0.coords t) (hidden m c t) (iblk m c 3 t) (upTail m c (old t)))
    (led (fun r q => pushed X G W r (3072 + (t.val % 4 * 768 + q))) (grid0.coords t 0).val) := by
  refine up_led ?_ (ups_before g t)
  rw [row_of]; exact ups_tile g t

/-- The two halves of the convolution. -/
theorem gate_conv : Table (k0_pay8 (F := Ideal) (k0_pay5 (grid0.coords t) (hidden m c t) (iblk m c 2 t) (gateTail m c (old t)))
      (k0_pay7 (grid0.coords t) (hidden m c t) (iblk m c 2 t) (gateTail m c (old t)) (iblk m c 6 t) (tap2 (iblk m c 4 t))) (tap1 (iblk m c 4 t)) (tap0 (iblk m c 4 t)))
    (fun r q => conv (pushed X G W) K B (t.val / 4 * 1024 + r) (t.val % 4 * 768 + q)) := by
  have w := block4 m c t (taps_rows g)
  have h := gate_sum (W := fun k q => if k < 3 then K k (t.val % 4 * 768 + q) else 0) (B := fun q => B (t.val % 4 * 768 + q)) (gates_led g t)
    (gate_start (gates_led g t) (block6 m c t (bias_rows g)) (tap2_rows w)) (tap1_rows w) (tap0_rows w)
  rw [row_of] at h
  exact h.congr fun r q _ _ => by simp [conv, past]

theorem up_conv : Table (k0_pay15 (F := Ideal) (k0_pay6 (grid0.coords t) (hidden m c t) (iblk m c 3 t) (upTail m c (old t)))
      (k0_pay14 (k0_pay6 (grid0.coords t) (hidden m c t) (iblk m c 3 t) (upTail m c (old t))) (iblk m c 7 t) (tap2 (iblk m c 5 t))) (tap1 (iblk m c 5 t)) (tap0 (iblk m c 5 t)))
    (fun r q => conv (pushed X G W) K B (t.val / 4 * 1024 + r) (3072 + (t.val % 4 * 768 + q))) := by
  have w := block5 m c t (taps_rows g)
  have h := up_sum (W := fun k q => if k < 3 then K k (3072 + (t.val % 4 * 768 + q)) else 0) (B := fun q => B (3072 + (t.val % 4 * 768 + q))) (ups_led g t)
    (up_start (ups_led g t) (block7 m c t (bias_rows g)) (tap2_rows w)) (tap1_rows w) (tap0_rows w)
  rw [row_of] at h
  exact h.congr fun r q _ _ => by simp [conv, past]

theorem act_tile : Table (actAt m c t) (fun r q => gelu (conv (pushed X G W) K B (t.val / 4 * 1024 + r) (t.val % 4 * 768 + q))
    * conv (pushed X G W) K B (t.val / 4 * 1024 + r) (3072 + (t.val % 4 * 768 + q))) := by
  unfold actAt act Gen.bend
  exact act_rows (up_conv g t) (gelu_rows (gate_conv g t))

theorem slopes_tile : Table (slopesAt m c t) (fun r q => conv (pushed X G W) K B (t.val / 4 * 1024 + r) (3072 + (t.val % 4 * 768 + q))
    * slope (conv (pushed X G W) K B (t.val / 4 * 1024 + r) (t.val % 4 * 768 + q))) := by
  unfold slopesAt slopes slant
  exact turned_rows (up_conv g t) (slope_rows (gate_conv g t))

theorem bent_tile : Table (bentAt m c t) (fun r q => gelu (conv (pushed X G W) K B (t.val / 4 * 1024 + r) (t.val % 4 * 768 + q))) := by
  unfold bentAt bent Gen.bend k0_pay18
  exact (gelu_rows (gate_conv g t)).truncf _

theorem gates_out : Table (k0_pay19 (F := Ideal) (gates m c t)) (fun r q => pushed X G W (t.val / 4 * 1024 + r) (t.val % 4 * 768 + q)) := by
  unfold k0_pay19
  exact (gates_tile g t).truncf _

theorem ups_out : Table (k0_pay20 (F := Ideal) (ups m c t)) (fun r q => pushed X G W (t.val / 4 * 1024 + r) (3072 + (t.val % 4 * 768 + q))) := by
  unfold k0_pay20
  exact (ups_tile g t).truncf _

end

/-! ## The arrays -/

section
variable {m c} (g : Given m c X G W K B)
include g

theorem array8 : @Table 4096 3072 ((dats m 0 c).arrAt 8 cfg0.N)
    (fun r q => gelu (conv (pushed X G W) K B r q) * conv (pushed X G W) K B r (3072 + q)) := by
  refine fun i => congrFun ((dats m 0 c).arrAt_eq_of_covers 8
    (fun i => gelu (conv (pushed X G W) K B (i 0).val (i 1).val) * conv (pushed X G W) K B (i 0).val (3072 + (i 1).val)) (by decide +kernel) fun t hf y => ?_) i
  blk_simp
  rw [after0_8]
  refine (act_tile g t y).trans ?_
  blk_simp [index8 t]

theorem array9 : @Table 4096 3072 ((dats m 0 c).arrAt 9 cfg0.N)
    (fun r q => conv (pushed X G W) K B r (3072 + q) * slope (conv (pushed X G W) K B r q)) := by
  refine fun i => congrFun ((dats m 0 c).arrAt_eq_of_covers 9
    (fun i => conv (pushed X G W) K B (i 0).val (3072 + (i 1).val) * slope (conv (pushed X G W) K B (i 0).val (i 1).val)) (by decide +kernel) fun t hf y => ?_) i
  blk_simp
  rw [after0_9]
  refine (slopes_tile g t y).trans ?_
  blk_simp [index9 t]

theorem array10 : @Table 4096 3072 ((dats m 0 c).arrAt 10 cfg0.N) (fun r q => gelu (conv (pushed X G W) K B r q)) := by
  refine fun i => congrFun ((dats m 0 c).arrAt_eq_of_covers 10
    (fun i => gelu (conv (pushed X G W) K B (i 0).val (i 1).val)) (by decide +kernel) fun t hf y => ?_) i
  blk_simp
  rw [after0_10]
  refine (bent_tile g t y).trans ?_
  blk_simp [index10 t]

theorem array11 : @Table 4096 3072 ((dats m 0 c).arrAt 11 cfg0.N) (pushed X G W) := by
  refine fun i => congrFun ((dats m 0 c).arrAt_eq_of_covers 11
    (fun i => pushed X G W (i 0).val (i 1).val) (by decide +kernel) fun t hf y => ?_) i
  blk_simp
  rw [after0_11]
  refine (gates_out g t y).trans ?_
  blk_simp [index11 t]

theorem array12 : @Table 4096 3072 ((dats m 0 c).arrAt 12 cfg0.N) (fun r q => pushed X G W r (3072 + q)) := by
  refine fun i => congrFun ((dats m 0 c).arrAt_eq_of_covers 12
    (fun i => pushed X G W (i 0).val (3072 + (i 1).val)) (by decide +kernel) fun t hf y => ?_) i
  blk_simp
  rw [after0_12]
  refine (ups_out g t y).trans ?_
  blk_simp [index12 t]

theorem array13 : @Table 4096 1024 ((dats m 0 c).arrAt 13 cfg0.N) (normed X G) := by
  refine fun i => congrFun ((dats m 0 c).arrAt_eq_of_covers 13
    (fun i => normed X G (i 0).val (i 1).val) (by decide +kernel) fun t hf y => ?_) i
  blk_simp
  rw [after0_13]
  refine (hidden_tile g t y).trans ?_
  blk_simp [index13 t]

end

/-- The results, and the arguments, at the end. -/
theorem run_result (ρ : Dev nD → PrngReg) : θ_run defs (onTc (τ := τ) (main (F := Ideal))) ⟨m, fun _ => 0, ρ⟩ fun r => ∀ c : Dev nD,
    r.2.mem ((c.tc : Thread nD τ).loc main_v5_0) = (dats m 0 c).arrAt 8 cfg0.N
    ∧ r.2.mem ((c.tc : Thread nD τ).loc main_v5_1) = (dats m 0 c).arrAt 9 cfg0.N
    ∧ r.2.mem ((c.tc : Thread nD τ).loc main_v5_2) = (dats m 0 c).arrAt 10 cfg0.N
    ∧ r.2.mem ((c.tc : Thread nD τ).loc main_v5_3) = (dats m 0 c).arrAt 11 cfg0.N
    ∧ r.2.mem ((c.tc : Thread nD τ).loc main_v5_4) = (dats m 0 c).arrAt 12 cfg0.N
    ∧ r.2.mem ((c.tc : Thread nD τ).loc main_v5_5) = (dats m 0 c).arrAt 13 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1 8, (h c).1 9, (h c).1 10, (h c).1 11, (h c).1 12, (h c).1 13,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.Proof.UpProj

end
-- ==== Proof.UpTie.lean ====
/- The up projection's arrays are the reference's. -/
module

public import proofs.«01_k».proof.Proof.UpRef
public import proofs.«01_k».proof.Proof.UpArrays

@[expose] public section

set_option maxRecDepth 16384
set_option maxHeartbeats 1600000

noncomputable section

namespace Cert.Proof.UpProj

open Idealize.ShloMosaic Idealize.ShloMosaic.TcCoe Cert.UpProjIdeal Cert.UpProjIdeal.Gen Cert.UpProjRefIdeal.Read Cert.Proof

variable {m : (ℓ : Loc nD τ sig) → Buf (Elt Ideal) ℓ} {c : Dev nD} {X W K : ℕ → ℕ → EReal} {G B : ℕ → EReal} (g : Given m c X G W K B)
include g

theorem conv_given : Table (val_main_v38 (F := Ideal) (m (c.tc.loc main_arg0)) (m (c.tc.loc main_arg1)) (m (c.tc.loc main_arg2))
    (m (c.tc.loc main_arg3)) (m (c.tc.loc main_arg4))) (conv (pushed X G W) K B) :=
  ref_conv (ref_pushed g.input g.gain g.weight) g.taps g.bias

theorem tie8 : (dats m 0 c).arrAt 8 cfg0.N = val_main_v76 (F := Ideal) (m (c.tc.loc main_arg0)) (m (c.tc.loc main_arg1)) (m (c.tc.loc main_arg2))
    (m (c.tc.loc main_arg3)) (m (c.tc.loc main_arg4)) :=
  (array8 g).eq (ref_act (conv_given g)) fun _ _ _ _ => rfl

theorem tie9 : (dats m 0 c).arrAt 9 cfg0.N = val_main_v78 (F := Ideal) (m (c.tc.loc main_arg0)) (m (c.tc.loc main_arg1)) (m (c.tc.loc main_arg2))
    (m (c.tc.loc main_arg3)) (m (c.tc.loc main_arg4)) :=
  (array9 g).eq (ref_turned (conv_given g)) fun _ _ _ _ => rfl

theorem tie10 : (dats m 0 c).arrAt 10 cfg0.N = val_main_v79 (F := Ideal) (m (c.tc.loc main_arg0)) (m (c.tc.loc main_arg1)) (m (c.tc.loc main_arg2))
    (m (c.tc.loc main_arg3)) (m (c.tc.loc main_arg4)) :=
  (array10 g).eq (ref_bent (conv_given g)) fun _ _ _ _ => rfl

theorem tie11 : (dats m 0 c).arrAt 11 cfg0.N = val_main_v81 (F := Ideal) (m (c.tc.loc main_arg0)) (m (c.tc.loc main_arg1)) (m (c.tc.loc main_arg2)) :=
  (array11 g).eq (ref_gates (ref_pushed g.input g.gain g.weight)) fun _ _ _ _ => rfl

theorem tie12 : (dats m 0 c).arrAt 12 cfg0.N = val_main_v83 (F := Ideal) (m (c.tc.loc main_arg0)) (m (c.tc.loc main_arg1)) (m (c.tc.loc main_arg2)) :=
  (array12 g).eq (ref_ups (ref_pushed g.input g.gain g.weight)) fun _ _ _ _ => rfl

theorem tie13 : (dats m 0 c).arrAt 13 cfg0.N = val_main_v84 (F := Ideal) (m (c.tc.loc main_arg0)) (m (c.tc.loc main_arg1)) :=
  (array13 g).eq (ref_stored (ref_hidden g.input g.gain)) fun _ _ _ _ => rfl

end Cert.Proof.UpProj

end
-- ==== Proof.AttnStep.lean ====
/- The gradient of the attention's norm, of rows of 512, in the extended reals: its two forms, and the sums over the heads
   of 64 columns. The kernel takes such a sum as a product with a matrix that is 1/64 within a head, of the numbers and of
   what is left of them after one rounding; the two are the same where the numbers are real. -/
module

public import proofs.«01_k».proof.Proof.NormStep

@[expose] public section

noncomputable section

namespace Cert.Proof.Attn

open Idealize.ShloMosaic Finset

/-- The mean square of a row of 512, and the scale of the row. -/
def msq (X : ℕ → ℕ → EReal) (r : ℕ) : EReal :=
  Ideal.div (∑ k ∈ range 512, X r k * X r k) (word 0x44000000#32) + word 0x358637BD#32

def scale (X : ℕ → ℕ → EReal) (r : ℕ) : EReal := Ideal.rsqrt (msq X r)

/-- The gradient with respect to the norm's input, of the gradient `H` with respect to the norm. -/
def gradX (X : ℕ → ℕ → EReal) (G : ℕ → EReal) (H : ℕ → ℕ → EReal) (r c : ℕ) : EReal :=
  scale X r * (H r c * G c)
    - X r c * (scale X r * scale X r * scale X r) * Ideal.div (∑ k ∈ range 512, H r k * G k * X r k) (word 0x44000000#32)

/-- The gradient with respect to the gain. -/
def gradG (X H : ℕ → ℕ → EReal) (c : ℕ) : EReal := ∑ r ∈ range 4096, H r c * X r c * scale X r

/-- What a row's gradient and its input come to, and their sum over a head. -/
def dot (X : ℕ → ℕ → EReal) (G : ℕ → EReal) (H : ℕ → ℕ → EReal) (r c : ℕ) : EReal := gradX X G H r c * X r c

def heads (V : ℕ → ℕ → EReal) (r c : ℕ) : EReal := ∑ k ∈ range 64, V r (c / 64 * 64 + k)

theorem word_width : word 0x44000000#32 = ((512 : ℝ) : EReal) := by
  simp [word, Ideal.ofBits, Ideal.ieee]
  norm_num
  rw [← EReal.coe_mul]
  norm_num

theorem cube (X : ℕ → ℕ → EReal) (r : ℕ) : Ideal.div (scale X r) (msq X r) = scale X r * scale X r * scale X r :=
  cube_of _ (by
    rw [word_width, Ideal.div_coe (by norm_num)]
    exact EReal.mul_nonneg (sum_nonneg fun k _ => sq_nonneg' _) (EReal.coe_nonneg.mpr (by norm_num)))

/-- The other form of the gradient. -/
theorem gradX_eq (X : ℕ → ℕ → EReal) (G : ℕ → EReal) (H : ℕ → ℕ → EReal) (r c : ℕ) (S : EReal)
    (hS : S = Ideal.div ((∑ k ∈ range 512, X r k * (H r k * G k)) * (word 0xBF000000#32 * Ideal.div (scale X r) (msq X r)))
      (word 0x44000000#32)) :
    H r c * G c * scale X r + X r c * S + S * X r c = gradX X G H r c := by
  unfold gradX
  rw [hS, cube, word_half, word_width, Ideal.div_coe (by norm_num), Ideal.div_coe (by norm_num), add_assoc, sub_eq_add_neg,
    mul_comm (H r c * G c), sum_congr rfl fun k _ => mul_comm (X r k) (H r k * G k)]
  congr 1
  rw [← halves]
  congr 1 <;> ac_rfl

/-! ## Real entries -/

/-- The number is a real one. -/
def IsReal (x : EReal) : Prop := ∃ v : ℝ, x = (v : EReal)

theorem IsReal.mul {x y : EReal} (hx : IsReal x) (hy : IsReal y) : IsReal (x * y) := by
  obtain ⟨v, rfl⟩ := hx; obtain ⟨w, rfl⟩ := hy
  exact ⟨v * w, (EReal.coe_mul v w).symm⟩

theorem IsReal.sub {x y : EReal} (hx : IsReal x) (hy : IsReal y) : IsReal (x - y) := by
  obtain ⟨v, rfl⟩ := hx; obtain ⟨w, rfl⟩ := hy
  exact ⟨v - w, (EReal.coe_sub v w).symm⟩

theorem IsReal.sum {n : ℕ} {f : ℕ → EReal} (h : ∀ k, IsReal (f k)) : IsReal (∑ k ∈ range n, f k) := by
  choose v hv using h
  exact ⟨∑ k ∈ range n, v k, by rw [coe_sum]; exact sum_congr rfl fun k _ => hv k⟩

theorem IsReal.mean {x : EReal} (h : IsReal x) : IsReal (Ideal.div x (word 0x44000000#32)) := by
  rw [word_width, Ideal.div_coe (by norm_num)]
  exact h.mul ⟨_, rfl⟩

theorem scale_real {X : ℕ → ℕ → EReal} (hX : ∀ r c, IsReal (X r c)) (r : ℕ) : IsReal (scale X r) := by
  obtain ⟨e, he, hw⟩ := word_small
  have h0 : 0 ≤ Ideal.div (∑ k ∈ range 512, X r k * X r k) (word 0x44000000#32) := by
    rw [word_width, Ideal.div_coe (by norm_num)]
    exact EReal.mul_nonneg (sum_nonneg fun k _ => sq_nonneg' _) (EReal.coe_nonneg.mpr (by norm_num))
  obtain ⟨v, hv⟩ := (IsReal.sum (n := 512) fun k => (hX r k).mul (hX r k)).mean
  rw [hv] at h0
  have hp : 0 < v + e := by have := EReal.coe_nonneg.mp h0; linarith
  unfold scale msq
  rw [hv, hw, ← EReal.coe_add, Ideal.rsqrt_coe, if_neg (by linarith), if_neg (by linarith)]
  exact ⟨_, rfl⟩

theorem dot_real {X H : ℕ → ℕ → EReal} {G : ℕ → EReal} (hX : ∀ r c, IsReal (X r c)) (hG : ∀ c, IsReal (G c))
    (hH : ∀ r c, IsReal (H r c)) (r c : ℕ) : IsReal (dot X G H r c) := by
  have s := scale_real hX r
  exact IsReal.mul (IsReal.sub (s.mul ((hH r c).mul (hG c))) (((hX r c).mul ((s.mul s).mul s)).mul
    (IsReal.sum fun k => ((hH r k).mul (hG k)).mul (hX r k)).mean)) (hX r c)

/-! ## The sums over the heads -/

/-- The kernel's matrix for two heads: 1/64 within each. -/
def within (r c : ℕ) : EReal :=
  if r < 64 then (if c < 64 then Ideal.ofBits .bf16 0x3C80#16 else Ideal.ofBits .bf16 0x0000#16)
  else if c < 64 then Ideal.ofBits .bf16 0x0000#16 else Ideal.ofBits .bf16 0x3C80#16

/-- The kernel's sum over a head, of the numbers `V` and what is left of them. -/
def pieced (V : ℕ → ℕ → EReal) (r c : ℕ) : EReal :=
  (∑ q ∈ range 128, V r (c / 128 * 128 + q) * within q (c % 128)
    + ∑ q ∈ range 128, (V r (c / 128 * 128 + q) - V r (c / 128 * 128 + q)) * within q (c % 128)) * word 0x42800000#32

theorem word_share : Ideal.ofBits .bf16 0x3C80#16 = ((1 / 64 : ℝ) : EReal) := by
  simp [Ideal.ofBits, Ideal.ieee]
  norm_num
  rw [← EReal.coe_mul]
  norm_num

theorem word_head : word 0x42800000#32 = ((64 : ℝ) : EReal) := by
  simp [word, Ideal.ofBits, Ideal.ieee]
  norm_num
  rw [← EReal.coe_mul]
  norm_num

theorem within_real (r c : ℕ) (hr : r < 128) (hc : c < 128) : within r c = ((if r / 64 = c / 64 then 1 / 64 else 0 : ℝ) : EReal) := by
  unfold within
  rw [word_share, show Ideal.ofBits .bf16 0x0000#16 = ((0 : ℝ) : EReal) by simp [Ideal.ofBits, Ideal.ieee]]
  by_cases h : r < 64 <;> by_cases h' : c < 64
  · rw [if_pos h, if_pos h', if_pos (by omega)]
  · rw [if_pos h, if_neg h', if_neg (by omega)]
  · rw [if_neg h, if_pos h', if_neg (by omega)]
  · rw [if_neg h, if_neg h', if_pos (by omega)]

/-- Of real numbers it is their sum over the head. -/
theorem pieced_eq {V : ℕ → ℕ → EReal} (h : ∀ r c, IsReal (V r c)) (r c : ℕ) : pieced V r c = heads V r c := by
  choose v hv using h
  have hd : c % 128 < 128 := Nat.mod_lt _ (by norm_num)
  have left : ∀ q, V r q - V r q = 0 := fun q => by rw [hv, ← EReal.coe_sub, sub_self, EReal.coe_zero]
  unfold pieced heads
  simp only [left, zero_mul, sum_const_zero, add_zero]
  rw [word_head, sum_congr rfl fun q hq => by rw [hv, within_real q _ (mem_range.mp hq) hd, ← EReal.coe_mul], ← coe_sum,
    ← EReal.coe_mul, sum_congr rfl fun q _ => hv r _, ← coe_sum]
  congr 1
  have hq : ∀ q < 64, (64 + q) / 64 = 1 := fun q hq => by omega
  have hq' : ∀ q < 64, q / 64 = 0 := fun q hq => by omega
  rw [show (128 : ℕ) = 64 + 64 by rfl, sum_range_add]
  rw [sum_congr rfl fun q h => by rw [hq' q (mem_range.mp h)],
    sum_congr (s₁ := range 64) (f := fun x => v r (c / (64 + 64) * (64 + 64) + (64 + x)) * _) rfl fun q h => by
      rw [hq q (mem_range.mp h)]]
  have hcase : c % (64 + 64) / 64 = 0 ∨ c % (64 + 64) / 64 = 1 := by omega
  rcases hcase with e | e <;> rw [e]
  · have e' : c / 64 * 64 = c / (64 + 64) * (64 + 64) := by omega
    rw [e']
    simp [← sum_mul]
  · have e' : c / 64 * 64 = c / (64 + 64) * (64 + 64) + 64 := by omega
    rw [e']
    simp [← sum_mul, add_assoc]

end Cert.Proof.Attn

namespace Cert.Proof

open Idealize.ShloMosaic Finset

section
variable {a b n k m : ℕ} {f g : ℕ → ℕ → EReal}

/-- Columns put beside columns. -/
theorem Table.beside {x : (⟨2, ![a, m]⟩ : Shape).Idx → EReal} {y : (⟨2, ![a, k]⟩ : Shape).Idx → EReal} (hx : Table x f) (hy : Table y g)
    (h : Shape.Concatenates [⟨2, ![a, m]⟩, ⟨2, ![a, k]⟩] ⟨2, ![a, b]⟩ 1) (hb : b = m + k) :
    Table (concatenate ⟨2, ![a, b]⟩ 1 [⟨⟨2, ![a, m]⟩, x⟩, ⟨⟨2, ![a, k]⟩, y⟩] h) (fun r c => if c < m then f r c else g r (c - m)) :=
  fun i => by
  have h0 : (i 1).val < b := (i 1).isLt
  by_cases hr : (i 1).val < m
  · rw [concatenate_pair_apply_left 1 x y h i rfl (ix2 (i 0) ⟨(i 1).val, hr⟩)
      (fun d => match d with | ⟨0, _⟩ => rfl | ⟨1, _⟩ => rfl)]
    exact (hx _).trans (if_pos hr).symm
  · rw [concatenate_pair_apply_right 1 x y h i rfl rfl (ix2 (i 0) ⟨(i 1).val - m, by omega⟩)
      (fun d => match d with | ⟨0, _⟩ => fun _ => rfl | ⟨1, _⟩ => fun hd => absurd rfl hd)
      (by show (i 1).val - m + m = (i 1).val; omega)]
    exact (hy _).trans (if_neg hr).symm

/-- Four pieces of `k` columns side by side. -/
theorem tables_abreast {x : Fin 4 → (⟨2, ![a, k]⟩ : Shape).Idx → EReal} {p : ℕ → ℕ → ℕ → EReal} (hx : ∀ j : Fin 4, Table (x j) (p j.val))
    (hk : 0 < k) (hb : b = 4 * k)
    (h : Shape.Concatenates [⟨2, ![a, k]⟩, ⟨2, ![a, k]⟩, ⟨2, ![a, k]⟩, ⟨2, ![a, k]⟩] ⟨2, ![a, b]⟩ 1) :
    Table (concatenate ⟨2, ![a, b]⟩ 1 [⟨⟨2, ![a, k]⟩, x 0⟩, ⟨⟨2, ![a, k]⟩, x 1⟩, ⟨⟨2, ![a, k]⟩, x 2⟩, ⟨⟨2, ![a, k]⟩, x 3⟩] h)
      (fun r c => p (c / k) r (c % k)) := fun i => by
  have h1 : (i 1).val < 4 * k := hb ▸ (i 1).isLt
  have e := concatenate_ofFn_apply (t := ⟨2, ![a, b]⟩) (s₁ := ⟨2, ![a, k]⟩) 1 x h rfl k rfl i
    ⟨(i 1).val / k, (Nat.div_lt_iff_lt_mul hk).mpr h1⟩ rfl (ix2 (i 0) ⟨(i 1).val % k, Nat.mod_lt _ hk⟩) rfl
    (fun d => match d with | ⟨0, _⟩ => fun _ => rfl | ⟨1, _⟩ => fun hd => absurd rfl hd)
  exact e.trans (hx _ _)

/-- The sums over groups of `k` columns, each put back in every column of its group. -/
theorem Table.grouped {x : FVec Ideal ⟨2, ![a, b]⟩ .f32} (hx : Table x f) (hk : 0 < k) (v : FVec Ideal ⟨0, ![]⟩ .f32) (hv : ∀ i, v i = 0)
    (hb : b = n * k)
    (h1 : (⟨2, ![a, b]⟩ : Shape).ShapeCasts ⟨3, ![a, n, k]⟩) (h2 : (⟨3, ![a, n, k]⟩ : Shape).ReducesTo [2] ⟨2, ![a, n]⟩)
    (h2' : (⟨3, ![a, n, k]⟩ : Shape).Reduces [2] ⟨2, ![a, n]⟩) (hu : 0 < (⟨0, ![]⟩ : Shape).numel)
    (h3 : (⟨2, ![a, n]⟩ : Shape).BroadcastsInDim ⟨3, ![a, n, 1]⟩ ![0, 1])
    (h4 : (⟨3, ![a, n, 1]⟩ : Shape).BroadcastsInDim ⟨3, ![a, n, k]⟩ ![0, 1, 2])
    (h5 : (⟨3, ![a, n, k]⟩ : Shape).ShapeCasts ⟨2, ![a, b]⟩) :
    Table (shapeCast ⟨2, ![a, b]⟩ (broadcastInDim ⟨3, ![a, n, k]⟩ ![0, 1, 2] h4 (broadcastInDim ⟨3, ![a, n, 1]⟩ ![0, 1] h3
      (Host.reduceAdd (shapeCast ⟨3, ![a, n, k]⟩ x h1 : FVec Ideal ⟨3, ![a, n, k]⟩ .f32) v h2 hu : FVec Ideal ⟨2, ![a, n]⟩ .f32))) h5)
      (fun r c => ∑ q ∈ range k, f r (c / k * k + q)) := fun i => by
  subst hb
  have h0 : (i 1).val < n * k := (i 1).isLt
  have hd := Nat.div_add_mod' (i 1).val k
  have hn : (i 1).val / k < n := (Nat.div_lt_iff_lt_mul hk).mpr h0
  have hr : (i 0).val < a := (i 0).isLt
  have alone : ∀ x y : ℕ, x < y → x = if y = 1 then 0 else x := fun x y h => by split <;> omega
  have e5 := shapeCast_apply (broadcastInDim ⟨3, ![a, n, k]⟩ ![0, 1, 2] h4 (broadcastInDim ⟨3, ![a, n, 1]⟩ ![0, 1] h3
      (Host.reduceAdd (shapeCast ⟨3, ![a, n, k]⟩ x h1 : FVec Ideal ⟨3, ![a, n, k]⟩ .f32) v h2 hu : FVec Ideal ⟨2, ![a, n]⟩ .f32))) h5 i
    (ValueIdx.ix3 ⟨(i 0).val, hr⟩ ⟨(i 1).val / k, hn⟩ ⟨(i 1).val % k, Nat.mod_lt _ hk⟩) (by
      rw [Shape.rowMajor_val_three, Shape.rowMajor_val_two]
      show ((i 0).val * n + (i 1).val / k) * k + (i 1).val % k = (i 0).val * (n * k) + (i 1).val
      rw [Nat.add_mul, Nat.add_assoc, hd, Nat.mul_assoc])
  rw [e5, broadcastInDim_apply ![0, 1, 2] h4 _ _ (ValueIdx.ix3 ⟨(i 0).val, hr⟩ ⟨(i 1).val / k, hn⟩ 0) (fun d => match d with
      | ⟨0, _⟩ => by show (i 0).val = if a = 1 then 0 else (i 0).val; exact alone _ _ hr
      | ⟨1, _⟩ => by show (i 1).val / k = if n = 1 then 0 else (i 1).val / k; exact alone _ _ hn
      | ⟨2, _⟩ => rfl),
    broadcastInDim_apply ![0, 1] h3 _ _ (ix2 ⟨(i 0).val, hr⟩ ⟨(i 1).val / k, hn⟩) (fun d => match d with
      | ⟨0, _⟩ => by show (i 0).val = if a = 1 then 0 else (i 0).val; exact alone _ _ hr
      | ⟨1, _⟩ => by show (i 1).val / k = if n = 1 then 0 else (i 1).val / k; exact alone _ _ hn)]
  simp only [Host.reduceAdd, Ideal.hostReduceAdd_def]
  rw [Ideal.hostReduceAdd_single h2 h2', hv, zero_add, ← Fin.sum_univ_eq_sum_range (fun q => f (i 0).val ((i 1).val / k * k + q)) k]
  refine sum_congr rfl fun q _ => ?_
  have hq : q.val < k := q.isLt
  have hle : (i 1).val / k * k + q.val < n * k := by
    calc (i 1).val / k * k + q.val < (i 1).val / k * k + k := by omega
      _ = ((i 1).val / k + 1) * k := (Nat.succ_mul _ _).symm
      _ ≤ n * k := Nat.mul_le_mul_right k hn
  rw [shapeCast_apply x h1 _ (ix2 ⟨(i 0).val, hr⟩ ⟨(i 1).val / k * k + q.val, hle⟩) (by
    rw [Shape.rowMajor_val_three, Shape.rowMajor_val_two]
    show (i 0).val * (n * k) + ((i 1).val / k * k + q.val) = ((i 0).val * n + (i 1).val / k) * k + q.val
    rw [Nat.add_mul, Nat.add_assoc, Nat.mul_assoc]), hx]
  rfl

end

end Cert.Proof

end
-- ==== Proof.AttnBlock.lean ====
/- The gradient of the attention's norm: what the kernel's body leaves at one grid point. Grid point `t` works on row tile
   `t`; the first sets the gain's gradient to zero and each adds its tile's part. -/
module

public import proofs.«01_k».proof.Proof.AttnStep
public import proofs.«01_k».proof.Proof.Gen.AttnNormIdeal.Value
public import Idealize.ShloMosaic.Lib.StableHlo.RunRead
public import Idealize.ShloMosaic.Lib.Pipeline.ReadBack

@[expose] public section

set_option maxRecDepth 16384
set_option maxHeartbeats 1600000

noncomputable section

namespace Cert.Proof.Attn

open Idealize.ShloMosaic Idealize.ShloMosaic.TcCoe Idealize.ShloMosaic.StableHlo Cert.AttnNormIdeal Cert.AttnNormIdeal.Gen Cert.Proof Finset

/-! ## The stored values -/

section
variable {x h : FVec Ideal S1024x512 .f32} {g d : FVec Ideal S1x512 .f32} {b : FVec Ideal S128x128 .bf16} {X H D : ℕ → ℕ → EReal}
  {G : ℕ → EReal}

theorem scale_column (hx : Table x X) : Table (k0_pay4 (F := Ideal) x) (fun r _ => scale X r) :=
  ((((((hx.mulf (φ := .f32) hx).rowsum _ _ _).stand _).divf (φ := .f32) (table_filled _)).addf (φ := .f32) (table_filled _)).rsqrt
    (φ := .f32))

theorem x_tile (hh : Table h H) (hx : Table x X) (hg : Table g (fun _ c => G c)) :
    Table (k0_pay5 (F := Ideal) h x g) (gradX X G H) := by
  have s := scale_column hx
  have e : Table (mulf h (broadcastTo S1024x512 (shapeCast S1x512 g shapeCasts_S1x512_S1x512) broadcasts_S1x512_S1024x512) :
    FVec Ideal S1024x512 .f32) (fun r c => H r c * G c) := hh.mulf (φ := .f32) ((hg.self _).repeated _)
  have w := (((e.mulf (φ := .f32) hx).rowsum reduces_S1024x512_S1024 (.inl rfl) rfl).stand shapeCasts_S1024_S1024x1).divf (φ := .f32)
    (table_filled 0x44000000#32)
  exact ((s.widened broadcasts_S1024x1_S1024x512).mulf (φ := .f32) e).subf (φ := .f32)
    ((hx.mulf (φ := .f32) (((s.mulf (φ := .f32) s).mulf (φ := .f32) s).widened broadcasts_S1024x1_S1024x512)).mulf (φ := .f32)
      (w.widened broadcasts_S1024x1_S1024x512))

theorem gain_tile (hh : Table h H) (hx : Table x X) (hd : Table d D) :
    Table (k0_pay2 (F := Ideal) h x (k0_pay4 x) d) (fun _ c => D 0 c + ∑ r ∈ range 1024, H r c * X r c * scale X r) := by
  refine ((hd.self _).addf (φ := .f32) ((((hh.mulf (φ := .f32) hx).mulf (φ := .f32)
    ((scale_column hx).widened broadcasts_S1024x1_S1024x512)).colsum _ _ _).cast _)).congr fun r c hr _ => ?_
  obtain rfl : r = 0 := (by omega)
  rfl

/-- Columns `o` to `o + 128` of the sums. -/
theorem head_part {u l : FVec Ideal S1024x512 .bf16} {U L B : ℕ → ℕ → EReal} (hu : Table u U) (hl : Table l L) (hb : Table b B) (o : ℕ)
    (w : S1024x512.Slices ![0, o] S1024x128) :
    Table (addf (matmul dot_S1024x128_S128x128_S1024x128_1_0_0_1_n_n none (extractStridedSlice S1024x128 ![0, o] u w) b
        (constant S1024x128 .f32 0x00000000#32))
      (matmul dot_S1024x128_S128x128_S1024x128_1_0_0_1_n_n none (extractStridedSlice S1024x128 ![0, o] l w) b
        (constant S1024x128 .f32 0x00000000#32)) : FVec Ideal S1024x128 .f32)
      (fun r c => ∑ q ∈ range 128, U r (o + q) * B q c + ∑ q ∈ range 128, L r (o + q) * B q c) := by
  refine (((hu.slice 0 o w).dot (φ₁ := .bf16) (φ₂ := .bf16) hb _ rfl).addf (φ := .f32)
    ((hl.slice 0 o w).dot (φ₁ := .bf16) (φ₂ := .bf16) hb _ rfl)).congr fun r c _ _ => ?_
  simp only [Nat.zero_add]

theorem head_tile (hh : Table h H) (hx : Table x X) (hg : Table g (fun _ c => G c)) (hb : Table b within) :
    Table (k0_pay1 (F := Ideal) (k0_pay7 b) (k0_pay8 h x g) (k0_pay9 h x g) (k0_pay10 h x g)) (pieced (dot X G H)) := by
  have v : Table (k0_pay6 (F := Ideal) h x g) (dot X G H) := (x_tile hh hx hg).mulf (φ := .f32) hx
  have u : Table (k0_pay8 (F := Ideal) h x g) (dot X G H) := v.truncf _
  have l : Table (k0_pay9 (F := Ideal) h x g) (fun r c => dot X G H r c - dot X G H r c) :=
    (v.subf (φ := .f32) (u.extf bitsLt_bf16_f32)).truncf _
  have b' : Table (k0_pay7 (F := Ideal) b) within := hb.self _
  exact (tables_abreast (x := ![_, _, _, _]) (k := 128) (p := fun j r c => ∑ q ∈ range 128, dot X G H r (j * 128 + q) * within q c
      + ∑ q ∈ range 128, (dot X G H r (j * 128 + q) - dot X G H r (j * 128 + q)) * within q c)
    (fun j => match j with
      | ⟨0, _⟩ => head_part u l b' (0 * 128) slices_S1024x512_o0_0_S1024x128
      | ⟨1, _⟩ => head_part u l b' (1 * 128) slices_S1024x512_o0_128_S1024x128
      | ⟨2, _⟩ => head_part u l b' (2 * 128) slices_S1024x512_o0_256_S1024x128
      | ⟨3, _⟩ => head_part u l b' (3 * 128) slices_S1024x512_o0_384_S1024x128)
    (by norm_num) rfl _).mulf (φ := .f32) (table_filled _)

end

/-! ## The arrays the launch reads -/

variable (m : (ℓ : Loc nD τ sig) → Buf (Elt Ideal) ℓ) (c : Dev nD)

/-- The arguments. -/
abbrev argH : ℕ → ℕ → EReal := cell (a := 4096) (b := 1024) (m (c.tc.loc main_arg0))
abbrev argX : ℕ → ℕ → EReal := cell (a := 4096) (b := 512) (m (c.tc.loc main_arg1))
abbrev argG : ℕ → EReal := item (a := 512) (m (c.tc.loc main_arg2))

/-- The host code before the launch. -/
abbrev line : List (HloOp τ sig (Elt Ideal)) := List.flatten [hostOps0]

theorem gain : @Table 1 512 (V m c main_v5) (fun _ q => argG m c q) := by
  show @Table 1 512 (after line (fun b => m (c, b)) (Proc.devRef .tc main_v5)) _
  after_reads_simp
  exact (listed_item (a := 512) (m (c.tc.loc main_arg2))).cast _

/-- An array filled with a number of 16 bits. -/
theorem filled16 {a b : ℕ} (w : BitVec 16) (h : (⟨0, ![]⟩ : Shape).BroadcastsInDim ⟨2, ![a, b]⟩ ![]) :
    Table (broadcastInDim ⟨2, ![a, b]⟩ ![] h (constant ⟨0, ![]⟩ .bf16 w : FVec Ideal ⟨0, ![]⟩ .bf16))
      (fun _ _ => Ideal.ofBits .bf16 w) := fun _ => rfl

theorem matrix : @Table 128 128 (V m c main_v4) within := by
  show @Table 128 128 (after line (fun b => m (c, b)) (Proc.devRef .tc main_v4)) _
  after_reads_simp
  have p := filled16 (a := 64) (b := 64) 0x3C80#16 bcast_S_S64x64
  have z := filled16 (a := 64) (b := 64) 0x0000#16 bcast_S_S64x64
  exact (p.beside z concatenates_S64x64_S64x64_S64x128_d1 rfl).below (z.beside p concatenates_S64x64_S64x64_S64x128_d1 rfl)
    concatenates_S64x128_S64x128_S128x128_d0 rfl

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])

section
variable (t : Fin cfg0.N)

theorem block0 : @Table 1024 512 (iblk m c 0 t) (fun r q => argH m c (t.val * 1024 + r) q) := fun y => by
  blk_simp [iblk]; refine (table_cell (a := 4096) (b := 1024) (m (c.tc.loc main_arg0)) _).trans ?_; blk_simp [index0 t]
theorem block1 : @Table 1024 512 (iblk m c 1 t) (fun r q => argX m c (t.val * 1024 + r) q) := fun y => by
  blk_simp [iblk]; refine (table_cell (a := 4096) (b := 512) (m (c.tc.loc main_arg1)) _).trans ?_; blk_simp [index1 t]
theorem block2 : @Table 1 512 (iblk m c 2 t) (fun _ q => argG m c q) := fun y => by
  blk_simp [iblk]; refine (gain m c _).trans ?_; blk_simp [index2 t]
theorem block3 : @Table 128 128 (iblk m c 3 t) within := fun y => by
  blk_simp [iblk]; refine (matrix m c _).trans ?_; blk_simp [index3 t]

/-- Each point stores the gradient of its rows and the sums over their heads. -/
theorem out4_rows : @Table 1024 512 (outsAt0 m c t.val t.isLt).1
    (fun r q => gradX (argX m c) (argG m c) (argH m c) (t.val * 1024 + r) q) := by
  refine fun y => Eq.trans ?_ (x_tile (block0 m c t) (block1 m c t) (block2 m c t) y)
  by_cases h : t.val % 4 = 0
  · rw [outsAt0_A m c t h]; frame_out
  · rw [outsAt0_B m c t h]; frame_out

theorem out5_rows : @Table 1024 512 (outsAt0 m c t.val t.isLt).2.1
    (fun r q => pieced (dot (argX m c) (argG m c) (argH m c)) (t.val * 1024 + r) q) := by
  refine fun y => Eq.trans ?_ (head_tile (block0 m c t) (block1 m c t) (block2 m c t) (block3 m c t) y)
  by_cases h : t.val % 4 = 0
  · rw [outsAt0_A m c t h]; frame_out
  · rw [outsAt0_B m c t h]; frame_out

/-- The tile's part of the gain's gradient. -/
def part (s q : ℕ) : EReal := ∑ r ∈ range 1024, argH m c (s * 1024 + r) q * argX m c (s * 1024 + r) q * scale (argX m c) (s * 1024 + r)

theorem out6_first (h : t.val % 4 = 0) : @Table 1 512 (outsAt0 m c t.val t.isLt).2.2 (fun _ q => part m c t.val q) := by
  have z : Table (k0_pay3 (F := Ideal)) (fun _ _ => word 0x00000000#32) := table_filled _
  have e := (gain_tile (block0 m c t) (block1 m c t) z).congr (g := fun _ q => part m c t.val q) fun _ q _ _ =>
    (congrArg (· + _) Ideal.ofBits_zero_f32).trans (zero_add _)
  refine fun y => Eq.trans ?_ (e y)
  rw [outsAt0_A m c t h]
  frame_open
  simp (disch := decide) only [↓ View.readCov_skip, ↓ View.readCov_cons_toLoadRect, ↓ View.readCov_fill]
  frame_out
  try rfl

theorem out6_next (h : ¬ t.val % 4 = 0) {A : ℕ → ℕ → EReal}
    (hA : @Table 1 512 (outsAt0 m c (t.val - 1) (by have := t.isLt; omega)).2.2 A) :
    @Table 1 512 (outsAt0 m c t.val t.isLt).2.2 (fun _ q => A 0 q + part m c t.val q) := by
  refine fun y => Eq.trans ?_ (gain_tile (block0 m c t) (block1 m c t) hA y)
  rw [outsAt0_B m c t h]
  frame_open
  simp (disch := decide) only [↓ View.readCov_skip, ↓ View.readCov_cons_toLoadRect, ↓ View.readCov_fill]
  frame_out
  try rfl

end

end Cert.Proof.Attn

end
-- ==== Proof.AttnArrays.lean ====
/- The gradient of the attention's norm: the arrays the kernel leaves. -/
module

public import proofs.«01_k».proof.Proof.AttnBlock

@[expose] public section

set_option maxRecDepth 16384
set_option maxHeartbeats 1600000

noncomputable section

namespace Cert.Proof.Attn

open Idealize.ShloMosaic Idealize.ShloMosaic.TcCoe Cert.AttnNormIdeal Cert.AttnNormIdeal.Gen Cert.Proof Finset

variable (m : (ℓ : Loc nD τ sig) → Buf (Elt Ideal) ℓ) (c : Dev nD)

/-- The gain's gradient so far. -/
theorem out6_rows (n : ℕ) (h : n < cfg0.N) : @Table 1 512 (outsAt0 m c n h).2.2 (fun _ q => ∑ s ∈ range (n % 4 + 1), part m c s q) := by
  have hn : n < 4 := h
  refine Table.congr (so_far (N := cfg0.N) (p := 4) (by decide) (fun n h => (outsAt0 m c n h).2.2)
    (fun j s _ q => part m c (j * 4 + s) q) (fun t h => ?_) (fun t h A hA => ?_) n h) fun r q _ _ => ?_
  · refine (out6_first m c t h).congr fun _ q _ _ => ?_
    rw [Nat.div_add_mod' t.val 4]
  · refine (out6_next m c t h hA).congr fun r q hr _ => ?_
    obtain rfl : r = 0 := (by omega)
    rw [Nat.div_add_mod' t.val 4]
  · exact sum_congr rfl fun s _ => by rw [show n / 4 * 4 + s = s by omega]

theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![0, 0] :=
  (by decide +kernel : ∀ t : Fin grid0.N, win0_6.index t = ![0, 0])

theorem array4 : @Table 4096 512 ((dats m 0 c).arrAt 4 cfg0.N) (gradX (argX m c) (argG m c) (argH m c)) := by
  refine fun i => congrFun ((dats m 0 c).arrAt_eq_of_covers 4
    (fun i => gradX (argX m c) (argG m c) (argH m c) (i 0).val (i 1).val) (by decide +kernel) fun t _ y => ?_) i
  blk_simp
  refine (out4_rows m c t y).trans ?_
  blk_simp [index4 t]

theorem array5 : @Table 4096 512 ((dats m 0 c).arrAt 5 cfg0.N) (pieced (dot (argX m c) (argG m c) (argH m c))) := by
  refine fun i => congrFun ((dats m 0 c).arrAt_eq_of_covers 5
    (fun i => pieced (dot (argX m c) (argG m c) (argH m c)) (i 0).val (i 1).val) (by decide +kernel) fun t _ y => ?_) i
  blk_simp
  refine (out5_rows m c t y).trans ?_
  blk_simp [index5 t]

theorem array6 : @Table 1 512 ((dats m 0 c).arrAt 6 cfg0.N) (fun _ q => gradG (argX m c) (argH m c) q) := by
  refine fun i => congrFun ((dats m 0 c).arrAt_eq_of_covers 6
    (fun i => gradG (argX m c) (argH m c) (i 1).val) (by decide +kernel) fun t hf y => ?_) i
  blk_simp
  refine (out6_rows m c t.val t.isLt y).trans ?_
  blk_simp [index6 t]
  rw [(flush0_6 t).mp hf]
  exact in_parts 4 1024 fun r => argH m c r (y 1).val * argX m c r (y 1).val * scale (argX m c) r

end Cert.Proof.Attn

end
-- ==== Proof.AttnRef.lean ====
/- The gradient of the attention's norm: what the reference computes. It differentiates the forward norm, so the mean
   square's gradient comes with its half twice, and sums each head's columns. -/
module

public import proofs.«01_k».proof.Proof.AttnStep
public import proofs.«01_k».proof.Proof.Gen.AttnNormRefIdeal.Read

@[expose] public section

set_option maxRecDepth 16384
set_option maxHeartbeats 1600000

noncomputable section

namespace Cert.Proof.Attn

open Idealize.ShloMosaic Cert.AttnNormRefIdeal Cert.AttnNormRefIdeal.Gen Cert.AttnNormRefIdeal.Read Cert.Proof Finset

variable {x0 : (⟨2, ![4096, 1024]⟩ : Shape).Idx → EReal} {x1 : (⟨2, ![4096, 512]⟩ : Shape).Idx → EReal}
  {x2 : (⟨1, ![512]⟩ : Shape).Idx → EReal} {X H : ℕ → ℕ → EReal} {G : ℕ → EReal}

/-- The scale of the rows, and the scale over the mean square. -/
theorem ref_scale (h1 : Table x1 X) :
    Table (val_main_v7 (F := Ideal) x1) (fun r _ => scale X r)
    ∧ Table (val_main_v8 (F := Ideal) x1) (fun r _ => Ideal.div (scale X r) (msq X r)) := by
  have v0 : Table (val_main_v0 (F := Ideal) x1) _ := h1.mulf h1
  have v1 : Listed (val_main_v1 (F := Ideal) x1) _ := v0.hostRowsum _ zero_of_literal _ (by decide) _
  have v2 : Table (val_main_v2 (F := Ideal) x1) _ := v1.column _
  have v3 : Table (val_main_v3 (F := Ideal)) _ := table_literal _ _
  have v4 : Table (val_main_v4 (F := Ideal) x1) _ := v2.hostDivf v3
  have v5 : Table (val_main_v5 (F := Ideal)) _ := table_literal _ _
  have v6 : Table (val_main_v6 (F := Ideal) x1) (fun r _ => msq X r) := v4.addf v5
  have v7 : Table (val_main_v7 (F := Ideal) x1) (fun r _ => scale X r) := v6.hostRsqrt
  exact ⟨v7, v7.hostDivf v6⟩

/-- The gradient with respect to the norm: the first half of the columns. -/
theorem ref_back (h0 : Table x0 H) : Table (val_main_v16 (F := Ideal) x0) H := by
  have v16 : Table (val_main_v16 (F := Ideal) x0) _ := h0.slice 0 0 _
  exact v16.congr fun r q _ _ => by rw [Nat.zero_add, Nat.zero_add]

/-- The gradient with respect to the norm's input. -/
theorem ref_x (h0 : Table x0 H) (h1 : Table x1 X) (h2 : Listed x2 G) :
    Table (val_main_v36 (F := Ideal) x0 x1 x2) (gradX X G H) := by
  obtain ⟨v7, v8⟩ := ref_scale h1
  have v9 : Table (val_main_v9 (F := Ideal)) _ := table_literal _ _
  have v10 : Table (val_main_v10 (F := Ideal) x1) _ := v9.mulf v8
  have v13 : Table (val_main_v13 (F := Ideal) x2) _ := h2.row _
  have v20 : Table (val_main_v20 (F := Ideal) x2) _ := v13.spread _
  have v21 : Table (val_main_v21 (F := Ideal) x0 x2) _ := (ref_back h0).mulf v20
  have v23 : Table (val_main_v23 (F := Ideal) x0 x1 x2) _ := h1.mulf v21
  have v24 : Listed (val_main_v24 (F := Ideal) x0 x1 x2) _ := v23.hostRowsum _ zero_of_literal _ (by decide) _
  have v25 : Table (val_main_v25 (F := Ideal) x0 x1 x2) _ := v24.stand _
  have v26 : Table (val_main_v26 (F := Ideal) x1) _ := v7.hostWidened _
  have v27 : Table (val_main_v27 (F := Ideal) x0 x1 x2) _ := v21.mulf v26
  have v28 : Table (val_main_v28 (F := Ideal) x0 x1 x2) _ := v25.mulf v10
  have v29 : Table (val_main_v29 (F := Ideal)) _ := table_literal _ _
  have v30 : Table (val_main_v30 (F := Ideal) x0 x1 x2) _ := v28.hostDivf v29
  have v31 : Listed (val_main_v31 (F := Ideal) x0 x1 x2) _ := v30.hostRowsum _ zero_of_literal _ (by decide) _
  have v32 : Table (val_main_v32 (F := Ideal) x0 x1 x2) _ := v31.column _
  have v33 : Table (val_main_v33 (F := Ideal) x0 x1 x2) _ := h1.mulf v32
  have v34 : Table (val_main_v34 (F := Ideal) x0 x1 x2) _ := v27.addf v33
  have v35 : Table (val_main_v35 (F := Ideal) x0 x1 x2) _ := v32.mulf h1
  have v36 : Table (val_main_v36 (F := Ideal) x0 x1 x2) _ := v34.addf v35
  exact v36.congr fun r q _ _ => gradX_eq X G H r q _ (sum_range_one _)

/-- The sums over the heads. -/
theorem ref_heads (h0 : Table x0 H) (h1 : Table x1 X) (h2 : Listed x2 G) :
    Table (val_main_v42 (F := Ideal) x0 x1 x2) (heads (dot X G H)) := by
  have v37 : Table (val_main_v37 (F := Ideal) x0 x1 x2) (dot X G H) := (ref_x h0 h1 h2).mulf h1
  have v42 : Table (val_main_v42 (F := Ideal) x0 x1 x2) _ := v37.grouped (n := 8) (k := 64) (by norm_num) _ zero_of_literal rfl
    shapeCasts_S4096x512_S4096x8x64 reducesTo_S4096x8x64_S4096x8_d2 (by decide) h_S_ bcast_S4096x8_S4096x8x1_0_1
    bcast_S4096x8x1_S4096x8x64_0_1_2 shapeCasts_S4096x8x64_S4096x512
  exact v42

/-- The gradient with respect to the gain. -/
theorem ref_g (h0 : Table x0 H) (h1 : Table x1 X) : Table (val_main_v43 (F := Ideal) x0 x1) (fun _ q => gradG X H q) := by
  have v11 : Table (val_main_v11 (F := Ideal) x1) _ := (ref_scale h1).1.hostWidened _
  have v12 : Table (val_main_v12 (F := Ideal) x1) _ := h1.mulf v11
  have v17 : Table (val_main_v17 (F := Ideal) x0 x1) _ := v12.mulf (ref_back h0)
  have v18 : Listed (val_main_v18 (F := Ideal) x0 x1) _ := v17.hostColsum _ zero_of_literal _ (by decide) _
  have v19 : Table (val_main_v19 (F := Ideal) x0 x1) _ := v18.cast _
  have v22 : Listed (val_main_v22 (F := Ideal) x0 x1) _ := v19.hostColsum _ zero_of_literal _ (by decide) _
  have v43 : Table (val_main_v43 (F := Ideal) x0 x1) _ := v22.cast _
  refine v43.congr fun r q _ _ => ?_
  beta_reduce
  rw [sum_range_one]
  exact sum_congr rfl fun r _ => by ac_rfl

end Cert.Proof.Attn

end
-- ==== Proof.AttnTie.lean ====
/- The results of the attention's norm's backward kernel are the reference's. -/
module

public import proofs.«01_k».proof.Proof.AttnArrays
public import proofs.«01_k».proof.Proof.AttnRef
public import proofs.«01_k».proof.Proof.Finite

@[expose] public section

set_option maxRecDepth 16384
set_option maxHeartbeats 1600000

noncomputable section

namespace Cert.Proof.Attn

open Idealize.ShloMosaic Idealize.ShloMosaic.TcCoe Cert.AttnNormIdeal Cert.AttnNormIdeal.Gen Cert.AttnNormRefIdeal.Read

/-- Entries of an array of real numbers. -/
theorem cell_real {a b : ℕ} {x : (⟨2, ![a, b]⟩ : Shape).Idx → EReal} (h : ∀ i, IsReal (x i)) (r c : ℕ) :
    IsReal (cell x r c) := by
  unfold cell
  split
  · exact h _
  · exact ⟨0, rfl⟩

theorem item_real {a : ℕ} {x : (⟨1, ![a]⟩ : Shape).Idx → EReal} (h : ∀ i, IsReal (x i)) (c : ℕ) :
    IsReal (item x c) := by
  unfold item
  split
  · exact h _
  · exact ⟨0, rfl⟩

variable (m : (ℓ : Loc nD τ sig) → Buf (Elt Ideal) ℓ) (c : Dev nD)

theorem tie4 : (dats m 0 c).arrAt 4 cfg0.N = val_main_v36 (F := Ideal) (m (c.tc.loc main_arg0)) (m (c.tc.loc main_arg1))
    (m (c.tc.loc main_arg2)) :=
  (array4 m c).eq (ref_x (table_cell _) (table_cell _) (listed_item _)) fun _ _ _ _ => rfl

theorem tie6 : (dats m 0 c).arrAt 6 cfg0.N = val_main_v43 (F := Ideal) (m (c.tc.loc main_arg0)) (m (c.tc.loc main_arg1)) :=
  (array6 m c).eq (ref_g (table_cell _) (table_cell _)) fun _ _ _ _ => rfl

/-- The sums over the heads, of arguments that are real numbers. -/
theorem tie5 (hH : ∀ i : (⟨2, ![4096, 1024]⟩ : Shape).Idx, IsReal (m (c.tc.loc main_arg0) i))
    (hX : ∀ i : (⟨2, ![4096, 512]⟩ : Shape).Idx, IsReal (m (c.tc.loc main_arg1) i))
    (hG : ∀ i : (⟨1, ![512]⟩ : Shape).Idx, IsReal (m (c.tc.loc main_arg2) i)) :
    (dats m 0 c).arrAt 5 cfg0.N = val_main_v42 (F := Ideal) (m (c.tc.loc main_arg0)) (m (c.tc.loc main_arg1))
      (m (c.tc.loc main_arg2)) :=
  (array5 m c).eq (ref_heads (table_cell _) (table_cell _) (listed_item _)) fun r q _ _ =>
    pieced_eq (dot_real (cell_real hX) (item_real hG) (cell_real hH)) r q

end Cert.Proof.Attn

end
-- ==== Proof.QkStep.lean ====
/- The gradient of the norm of heads of 64 columns and of the rotation after it, in the extended reals. Rows hold eight
   heads; the reference takes each head as a row of its own. -/
module

public import proofs.«01_k».proof.Proof.AttnStep

@[expose] public section

noncomputable section

namespace Cert.Proof.Qk

open Idealize.ShloMosaic Finset Cert.Proof Cert.Proof.Attn

/-- The mean square of a head and the scale of it. -/
def msq (X : ℕ → ℕ → EReal) (r c : ℕ) : EReal :=
  Ideal.div (heads (fun r c => X r c * X r c) r c) (word 0x42800000#32) + word 0x358637BD#32

def scale (X : ℕ → ℕ → EReal) (r c : ℕ) : EReal := Ideal.rsqrt (msq X r c)

/-- The gradient with respect to the norm's input, of the gradient `H` with respect to the norm. -/
def gradX (X : ℕ → ℕ → EReal) (G : ℕ → EReal) (H : ℕ → ℕ → EReal) (r c : ℕ) : EReal :=
  scale X r c * (H r c * G c) - X r c * (scale X r c * scale X r c * scale X r c)
    * Ideal.div (heads (fun r c => H r c * G c * X r c) r c) (word 0x42800000#32)

/-- The gradient with respect to the gain. -/
def gradG (X H : ℕ → ℕ → EReal) (c : ℕ) : EReal := ∑ r ∈ range 4096, H r c * X r c * scale X r c

/-- The frequencies, and the angle of a column at the position of a row. -/
def freq (j : ℕ) : EReal :=
  Ideal.pow (word 0x461C4000#32) (Ideal.div (-(((BitVec.ofNat 32 j).toInt : ℝ) : EReal)) (word 0x42000000#32))

def angle (P : ℕ → EReal) (r c : ℕ) : EReal := P r * freq (c % 32)

/-- The gradient through the rotation. -/
def back (D : ℕ → ℕ → EReal) (P : ℕ → EReal) (r c : ℕ) : EReal :=
  if c % 64 < 32 then D r c * Ideal.cos (angle P r c) + D r (c + 32) * Ideal.sin (angle P r c)
  else D r c * Ideal.cos (angle P r c) - D r (c - 32) * Ideal.sin (angle P r c)

/-- Three parts side by side. -/
def pick (A B C : ℕ → ℕ → EReal) : ℕ → ℕ → ℕ → EReal
  | 0 => A
  | 1 => B
  | _ => C

/-! ## Real entries -/

theorem word_base : ∃ v : ℝ, word 0x461C4000#32 = (v : EReal) := ⟨_, lit_coe _ (by decide)⟩

theorem word_count : word 0x42000000#32 = ((32 : ℝ) : EReal) := by
  simp [word, Ideal.ofBits, Ideal.ieee]
  norm_num
  rw [← EReal.coe_mul]
  norm_num

theorem freq_real (j : ℕ) : IsReal (freq j) := by
  obtain ⟨v, hv⟩ := word_base
  unfold freq
  rw [hv, word_count, Ideal.div_coe (by norm_num), ← EReal.coe_neg, ← EReal.coe_mul]
  exact ⟨_, rfl⟩

theorem cos_real {x : EReal} (h : IsReal x) : IsReal (Ideal.cos x) := by obtain ⟨v, rfl⟩ := h; exact ⟨_, rfl⟩
theorem sin_real {x : EReal} (h : IsReal x) : IsReal (Ideal.sin x) := by obtain ⟨v, rfl⟩ := h; exact ⟨_, rfl⟩

theorem add_real {x y : EReal} (hx : IsReal x) (hy : IsReal y) : IsReal (x + y) := by
  obtain ⟨v, rfl⟩ := hx; obtain ⟨w, rfl⟩ := hy
  exact ⟨v + w, (EReal.coe_add v w).symm⟩

theorem back_real {D : ℕ → ℕ → EReal} {P : ℕ → EReal} (hD : ∀ r c, IsReal (D r c)) (hP : ∀ r, IsReal (P r)) (r c : ℕ) :
    IsReal (back D P r c) := by
  have a : IsReal (angle P r c) := (hP r).mul (freq_real _)
  unfold back
  split
  · exact add_real ((hD _ _).mul (cos_real a)) ((hD _ _).mul (sin_real a))
  · exact ((hD _ _).mul (cos_real a)).sub ((hD _ _).mul (sin_real a))

/-! ## The kernel's means over the heads -/

/-- The product with the matrix that is 1/64 within a head, of the numbers and of what is left of them. -/
def shared (V : ℕ → ℕ → EReal) (r c : ℕ) : EReal :=
  ∑ q ∈ range 128, V r (c / 128 * 128 + q) * within q (c % 128)
    + ∑ q ∈ range 128, (V r (c / 128 * 128 + q) - V r (c / 128 * 128 + q)) * within q (c % 128)

theorem shared_eq {V : ℕ → ℕ → EReal} (h : ∀ r c, IsReal (V r c)) (r c : ℕ) :
    shared V r c = Ideal.div (heads V r c) (word 0x42800000#32) := by
  rw [← pieced_eq h, word_head, Ideal.div_coe (by norm_num)]
  show _ = shared V r c * word 0x42800000#32 * _
  rw [word_head, mul_assoc, ← EReal.coe_mul, show (64 * (1 / 64) : ℝ) = 1 by norm_num, EReal.coe_one, mul_one]

/-! ## The reference's rows -/

/-- A head as a row. -/
def apart (f : ℕ → ℕ → EReal) (R j : ℕ) : EReal := f (R / 8) (R % 8 * 64 + j)

def rowMsq (X : ℕ → ℕ → EReal) (R : ℕ) : EReal :=
  Ideal.div (∑ k ∈ range 64, X R k * X R k) (word 0x42800000#32) + word 0x358637BD#32

def rowScale (X : ℕ → ℕ → EReal) (R : ℕ) : EReal := Ideal.rsqrt (rowMsq X R)

def rowX (X G H : ℕ → ℕ → EReal) (R j : ℕ) : EReal :=
  rowScale X R * (H R j * G R j) - X R j * (rowScale X R * rowScale X R * rowScale X R)
    * Ideal.div (∑ k ∈ range 64, H R k * G R k * X R k) (word 0x42800000#32)

theorem row_cube (X : ℕ → ℕ → EReal) (R : ℕ) :
    Ideal.div (rowScale X R) (rowMsq X R) = rowScale X R * rowScale X R * rowScale X R :=
  cube_of _ (by
    rw [word_head, Ideal.div_coe (by norm_num)]
    exact EReal.mul_nonneg (sum_nonneg fun k _ => sq_nonneg' _) (EReal.coe_nonneg.mpr (by norm_num)))

/-- The other form of the gradient. -/
theorem rowX_eq (X G H : ℕ → ℕ → EReal) (R j : ℕ) (S : EReal)
    (hS : S = Ideal.div ((∑ k ∈ range 64, X R k * (H R k * G R k)) * (word 0xBF000000#32 * Ideal.div (rowScale X R) (rowMsq X R)))
      (word 0x42800000#32)) :
    H R j * G R j * rowScale X R + X R j * S + S * X R j = rowX X G H R j := by
  unfold rowX
  rw [hS, row_cube, word_half, word_head, Ideal.div_coe (by norm_num), Ideal.div_coe (by norm_num), add_assoc, sub_eq_add_neg,
    mul_comm (H R j * G R j), sum_congr rfl fun k _ => mul_comm (X R k) (H R k * G R k)]
  congr 1
  rw [← halves]
  congr 1 <;> ac_rfl

section
variable (X H : ℕ → ℕ → EReal) (G : ℕ → EReal) (t c : ℕ) (hc : c < 512)
include hc

theorem row_of : (t * 8 + c / 64) / 8 = t ∧ (t * 8 + c / 64) % 8 = c / 64 := by omega

theorem scale_apart : rowScale (apart X) (t * 8 + c / 64) = scale X t c := by
  obtain ⟨h1, h2⟩ := row_of t c hc
  unfold rowScale rowMsq scale msq heads apart
  rw [h1, h2]

theorem gradX_apart : rowX (apart X) (apart fun _ c => G c) (apart H) (t * 8 + c / 64) (c % 64) = gradX X G H t c := by
  obtain ⟨h1, h2⟩ := row_of t c hc
  unfold rowX gradX
  rw [scale_apart X t c hc]
  unfold heads apart
  rw [h1, h2, Nat.div_add_mod' c 64]

end

/-- The gradient through the rotation, of heads as rows. -/
theorem back_apart (D : ℕ → ℕ → EReal) (P : ℕ → EReal) (R j : ℕ) (hj : j < 64) :
    (if 32 ≤ j ∧ j < 32 + 32 then apart D R (32 + (j - 32)) * Ideal.cos (P (R / 8) * freq (j - 32))
        + -apart D R (j - 32) * Ideal.sin (P (R / 8) * freq (j - 32)) else 0)
      + (if 0 ≤ j ∧ j < 0 + 32 then apart D R (32 + (j - 0)) * Ideal.sin (P (R / 8) * freq (j - 0))
        + apart D R (j - 0) * Ideal.cos (P (R / 8) * freq (j - 0)) else 0) = apart (back D P) R j := by
  have h64 : (R % 8 * 64 + j) % 64 = j := by omega
  unfold apart back angle
  rw [h64]
  by_cases h : j < 32
  · rw [if_neg (by omega), if_pos (by omega), if_pos h, zero_add, Nat.sub_zero, show (R % 8 * 64 + j) % 32 = j by omega,
      show R % 8 * 64 + (32 + j) = R % 8 * 64 + j + 32 by omega, add_comm]
  · rw [if_pos (by omega), if_neg (by omega), if_neg h, add_zero, show (R % 8 * 64 + j) % 32 = j - 32 by omega,
      show 32 + (j - 32) = j by omega, show R % 8 * 64 + j - 32 = R % 8 * 64 + (j - 32) by omega, EReal.neg_mul, sub_eq_add_neg]

end Cert.Proof.Qk

namespace Cert.Proof

open Idealize.ShloMosaic Finset

section
variable {a b n k m : ℕ} {f g : ℕ → ℕ → EReal} {l : ℕ → EReal}

section
variable {φ : FTy} {x : FVec Ideal ⟨2, ![a, b]⟩ φ}

theorem Table.negf (hx : Table x f) : Table (Host.negf x) (fun r c => -f r c) := fun i => by
  show -(x i) = _
  rw [hx i]

theorem Table.cos (hx : Table x f) : Table (cos x) (fun r c => Ideal.cos (f r c)) := fun i => by
  show Ideal.cos (x i) = _
  rw [hx i]

theorem Table.sin (hx : Table x f) : Table (sin x) (fun r c => Ideal.sin (f r c)) := fun i => by
  show Ideal.sin (x i) = _
  rw [hx i]

theorem Table.hostCos (hx : Table x f) : Table (Host.cos x) (fun r c => Ideal.cos (f r c)) := fun i => by
  show Ideal.cos (x i) = _
  rw [hx i]

theorem Table.hostSin (hx : Table x f) : Table (Host.sin x) (fun r c => Ideal.sin (f r c)) := fun i => by
  show Ideal.sin (x i) = _
  rw [hx i]

end

/-- The columns turned, the last coming in again at the left. -/
theorem Table.turnedAcross {x : (⟨2, ![a, b]⟩ : Shape).Idx → EReal} (hx : Table x f) (w : BitVec 32) (s : ℕ) (hw : w.toNat + s = b) (hs : 0 < s)
    (h : (⟨2, ![a, b]⟩ : Shape).Rotates 1 none) :
    Table (dynamicRotate 1 w none x h) (fun r c => f r ((c + s) % b)) := fun i => by
  have h0 : (i 1).val < b := (i 1).isLt
  rw [dynamicRotate_apply 1 w x h i (ix2 (i 0) ⟨((i 1).val + s) % b, Nat.mod_lt _ (by omega)⟩)
    (fun d => match d with
      | ⟨0, _⟩ => rfl
      | ⟨1, _⟩ => by
          show ((i 1).val + s) % b = if (1 : Fin 2) = 1 then ((i 1).val + b - w.toNat % b) % b else (i 1).val
          rw [if_pos rfl, Nat.mod_eq_of_lt (by omega : w.toNat < b)]
          congr 1; omega), hx]
  rfl

/-- Zero columns put on the left and on the right. -/
theorem Table.flanked {x : (⟨2, ![a, m]⟩ : Shape).Idx → EReal} (hx : Table x f) (p q : ℕ) (v : (⟨0, ![]⟩ : Shape).Idx → EReal) (hv : ∀ i, v i = 0)
    (h : (⟨2, ![a, m]⟩ : Shape).Pads ![0, p] ![0, q] ![0, 0] ⟨2, ![a, b]⟩) (hu : 0 < (⟨0, ![]⟩ : Shape).numel) :
    Table (pad ⟨2, ![a, b]⟩ ![0, p] ![0, q] ![0, 0] x v h hu) (fun r c => if p ≤ c ∧ c < p + m then f r (c - p) else 0) :=
  fun i => by
  by_cases hr : p ≤ (i 1).val ∧ (i 1).val < p + m
  · rw [pad_apply_of_inside ![0, p] ![0, q] ![0, 0] x v h hu i (ix2 (i 0) ⟨(i 1).val - p, by omega⟩)
      (fun d => match d with
        | ⟨0, _⟩ => by show (i 0).val = 0 + (i 0).val * (0 + 1); omega
        | ⟨1, _⟩ => by show (i 1).val = p + ((i 1).val - p) * (0 + 1); omega)]
    exact (hx _).trans (if_pos hr).symm
  · rw [pad_apply_of_not_inside ![0, p] ![0, q] ![0, 0] x v h hu i 1 (fun hc => hr (by
      have h1 : p ≤ (i 1).val := hc.1
      have h2 : ((i 1).val - p) / (0 + 1) < m := hc.2.2
      rw [Nat.div_one] at h2
      omega))]
    exact (hv _).trans (if_neg hr).symm

/-- A row of `n` groups as `n` rows, and back. -/
theorem Table.parted {x : (⟨2, ![a, b]⟩ : Shape).Idx → EReal} (hx : Table x f) (hn : 0 < n) (hb : b = n * k) (hm : m = a * n)
    (h : (⟨2, ![a, b]⟩ : Shape).ShapeCasts ⟨2, ![m, k]⟩) :
    Table (shapeCast ⟨2, ![m, k]⟩ x h) (fun r c => f (r / n) (r % n * k + c)) := fun i => by
  subst hb hm
  have h0 : (i 0).val < a * n := (i 0).isLt
  have h1 : (i 1).val < k := (i 1).isLt
  have hd := Nat.div_add_mod' (i 0).val n
  have hr : (i 0).val % n < n := Nat.mod_lt _ hn
  have hle : (i 0).val % n * k + (i 1).val < n * k :=
    calc (i 0).val % n * k + (i 1).val < (i 0).val % n * k + k := by omega
      _ = ((i 0).val % n + 1) * k := (Nat.succ_mul _ _).symm
      _ ≤ n * k := Nat.mul_le_mul_right k hr
  rw [shapeCast_apply x h i (ix2 ⟨(i 0).val / n, (Nat.div_lt_iff_lt_mul hn).mpr h0⟩ ⟨(i 0).val % n * k + (i 1).val, hle⟩) (by
    rw [Shape.rowMajor_val_two, Shape.rowMajor_val_two]
    show (i 0).val / n * (n * k) + ((i 0).val % n * k + (i 1).val) = (i 0).val * k + (i 1).val
    rw [← Nat.mul_assoc, ← Nat.add_assoc, ← Nat.add_mul, hd]), hx]
  rfl

theorem Table.joined {x : (⟨2, ![m, k]⟩ : Shape).Idx → EReal} (hx : Table x f) (hk : 0 < k) (hb : b = n * k) (hm : m = a * n)
    (h : (⟨2, ![m, k]⟩ : Shape).ShapeCasts ⟨2, ![a, b]⟩) :
    Table (shapeCast ⟨2, ![a, b]⟩ x h) (fun r c => f (r * n + c / k) (c % k)) := fun i => by
  subst hb hm
  have h0 : (i 0).val < a := (i 0).isLt
  have h1 : (i 1).val < n * k := (i 1).isLt
  have hd := Nat.div_add_mod' (i 1).val k
  have hn : (i 1).val / k < n := (Nat.div_lt_iff_lt_mul hk).mpr h1
  have hle : (i 0).val * n + (i 1).val / k < a * n :=
    calc (i 0).val * n + (i 1).val / k < (i 0).val * n + n := by omega
      _ = ((i 0).val + 1) * n := (Nat.succ_mul _ _).symm
      _ ≤ a * n := Nat.mul_le_mul_right n h0
  rw [shapeCast_apply x h i (ix2 ⟨(i 0).val * n + (i 1).val / k, hle⟩ ⟨(i 1).val % k, Nat.mod_lt _ hk⟩) (by
    rw [Shape.rowMajor_val_two, Shape.rowMajor_val_two]
    show ((i 0).val * n + (i 1).val / k) * k + (i 1).val % k = (i 0).val * (n * k) + (i 1).val
    rw [Nat.add_mul, Nat.add_assoc, hd, Nat.mul_assoc]), hx]
  rfl

/-- Rows one after the other. -/
theorem Table.strung {x : (⟨2, ![n, k]⟩ : Shape).Idx → EReal} (hx : Table x f) (hk : 0 < k) (hb : b = n * k)
    (h : (⟨2, ![n, k]⟩ : Shape).ShapeCasts ⟨1, ![b]⟩) : Listed (shapeCast ⟨1, ![b]⟩ x h) (fun c => f (c / k) (c % k)) := fun i => by
  subst hb
  have h0 : (i 0).val < n * k := (i 0).isLt
  rw [shapeCast_apply x h i (ix2 ⟨(i 0).val / k, (Nat.div_lt_iff_lt_mul hk).mpr h0⟩ ⟨(i 0).val % k, Nat.mod_lt _ hk⟩) (by
    rw [Shape.rowMajor_val_one, Shape.rowMajor_val_two]
    exact Nat.div_add_mod' (i 0).val k), hx]
  rfl

/-- A vector in every row. -/
theorem Listed.rows {x : (⟨1, ![b]⟩ : Shape).Idx → EReal} (hx : Listed x l) (h : (⟨1, ![b]⟩ : Shape).BroadcastsInDim ⟨2, ![a, b]⟩ ![1]) :
    Table (broadcastInDim ⟨2, ![a, b]⟩ ![1] h x) (fun _ c => l c) := fun i => by
  rw [broadcastInDim_apply ![1] h x i (ix1 (i 1)) (fun d => match d with
    | ⟨0, _⟩ => by
        show (i 1).val = if b = 1 then 0 else (i 1).val
        have : (i 1).val < b := (i 1).isLt
        split <;> omega), hx]
  rfl

/-- Each row `n` times. -/
theorem Table.again {x : (⟨2, ![a, k]⟩ : Shape).Idx → EReal} (hx : Table x f) (hn : 0 < n) (hm : m = a * n)
    (h1 : (⟨2, ![a, k]⟩ : Shape).BroadcastsInDim ⟨3, ![a, 1, k]⟩ ![0, 2])
    (h2 : (⟨3, ![a, 1, k]⟩ : Shape).BroadcastsInDim ⟨3, ![a, n, k]⟩ ![0, 1, 2])
    (h3 : (⟨3, ![a, n, k]⟩ : Shape).ShapeCasts ⟨2, ![m, k]⟩) :
    Table (shapeCast ⟨2, ![m, k]⟩ (broadcastInDim ⟨3, ![a, n, k]⟩ ![0, 1, 2] h2 (broadcastInDim ⟨3, ![a, 1, k]⟩ ![0, 2] h1 x)) h3)
      (fun r c => f (r / n) c) := fun i => by
  subst hm
  have h0 : (i 0).val < a * n := (i 0).isLt
  have hc : (i 1).val < k := (i 1).isLt
  have hd := Nat.div_add_mod' (i 0).val n
  have hr : (i 0).val / n < a := (Nat.div_lt_iff_lt_mul hn).mpr h0
  have alone : ∀ x y : ℕ, x < y → x = if y = 1 then 0 else x := fun x y h => by split <;> omega
  have e3 := shapeCast_apply (broadcastInDim ⟨3, ![a, n, k]⟩ ![0, 1, 2] h2 (broadcastInDim ⟨3, ![a, 1, k]⟩ ![0, 2] h1 x)) h3 i
    (ValueIdx.ix3 ⟨(i 0).val / n, hr⟩ ⟨(i 0).val % n, Nat.mod_lt _ hn⟩ ⟨(i 1).val, hc⟩) (by
      rw [Shape.rowMajor_val_three, Shape.rowMajor_val_two]
      show ((i 0).val / n * n + (i 0).val % n) * k + (i 1).val = (i 0).val * k + (i 1).val
      rw [hd])
  rw [e3, broadcastInDim_apply ![0, 1, 2] h2 _ _ (ValueIdx.ix3 ⟨(i 0).val / n, hr⟩ 0 ⟨(i 1).val, hc⟩) (fun d => match d with
      | ⟨0, _⟩ => by show (i 0).val / n = if a = 1 then 0 else (i 0).val / n; exact alone _ _ hr
      | ⟨1, _⟩ => rfl
      | ⟨2, _⟩ => by show (i 1).val = if k = 1 then 0 else (i 1).val; exact alone _ _ hc),
    broadcastInDim_apply ![0, 2] h1 _ _ (ix2 ⟨(i 0).val / n, hr⟩ ⟨(i 1).val, hc⟩) (fun d => match d with
      | ⟨0, _⟩ => by show (i 0).val / n = if a = 1 then 0 else (i 0).val / n; exact alone _ _ hr
      | ⟨1, _⟩ => by show (i 1).val = if k = 1 then 0 else (i 1).val; exact alone _ _ hc), hx]
  rfl

/-- Three pieces of `k` columns side by side. -/
theorem tables_three {x : Fin 3 → (⟨2, ![a, k]⟩ : Shape).Idx → EReal} {p : ℕ → ℕ → ℕ → EReal} (hx : ∀ j : Fin 3, Table (x j) (p j.val))
    (hk : 0 < k) (hb : b = 3 * k)
    (h : Shape.Concatenates [⟨2, ![a, k]⟩, ⟨2, ![a, k]⟩, ⟨2, ![a, k]⟩] ⟨2, ![a, b]⟩ 1) :
    Table (concatenate ⟨2, ![a, b]⟩ 1 [⟨⟨2, ![a, k]⟩, x 0⟩, ⟨⟨2, ![a, k]⟩, x 1⟩, ⟨⟨2, ![a, k]⟩, x 2⟩] h)
      (fun r c => p (c / k) r (c % k)) := fun i => by
  have h1 : (i 1).val < 3 * k := hb ▸ (i 1).isLt
  have e := concatenate_ofFn_apply (t := ⟨2, ![a, b]⟩) (s₁ := ⟨2, ![a, k]⟩) 1 x h rfl k rfl i
    ⟨(i 1).val / k, (Nat.div_lt_iff_lt_mul hk).mpr h1⟩ rfl (ix2 (i 0) ⟨(i 1).val % k, Nat.mod_lt _ hk⟩) rfl
    (fun d => match d with | ⟨0, _⟩ => fun _ => rfl | ⟨1, _⟩ => fun hd => absurd rfl hd)
  exact e.trans (hx _ _)

end

end Cert.Proof

end
-- ==== Proof.QkTile.lean ====
/- The gradient of the norm of the heads and of the rotation: the values the kernel's body stores, of a tile of 512 rows. -/
module

public import proofs.«01_k».proof.Proof.QkStep
public import proofs.«01_k».proof.Proof.Gen.QkPrepIdeal.Skeleton

@[expose] public section

set_option maxRecDepth 16384
set_option maxHeartbeats 1600000

noncomputable section

namespace Cert.Proof.Qk

open Idealize.ShloMosaic Cert.QkPrepIdeal Cert.QkPrepIdeal.Gen Cert.Proof Cert.Proof.Attn Finset

abbrev Tile := FVec Ideal S512x512 .f32

/-! ## Of one of the two -/

def onHalf : IVec S512x512 1 :=
  cmpi .slt (andi (iota .tc S512x512 32 [1] iota_S512x512_d1_w32) (broadcast S512x512 63#32)) (broadcast S512x512 32#32)

def tileBack (z c s : Tile) : Tile :=
  subf (mulf z c) (select onHalf
    (subf (broadcast S512x512 (Scalar.ofBits .f32 0x00000000#32 : Ideal .f32)) (dynamicRotate 1 480#32 none (mulf z s) rotates_S512x512_d1))
    (dynamicRotate 1 32#32 none (mulf z s) rotates_S512x512_d1))

def tilePart (o : ℕ) (h : S512x512.Slices ![0, o] S512x128) (v : Tile) (b : FVec Ideal S128x128 .bf16) : FVec Ideal S512x128 .f32 :=
  addf (matmul dot_S512x128_S128x128_S512x128_1_0_0_1_n_n none
      (extractStridedSlice S512x128 ![0, o] (truncf .bf16 v bitsLt_bf16_f32 : FVec Ideal S512x512 .bf16) h) b
      (constant S512x128 .f32 0x00000000#32))
    (matmul dot_S512x128_S128x128_S512x128_1_0_0_1_n_n none
      (extractStridedSlice S512x128 ![0, o]
        (truncf .bf16 (subf v (extf .f32 (truncf .bf16 v bitsLt_bf16_f32 : FVec Ideal S512x512 .bf16) bitsLt_bf16_f32)) bitsLt_bf16_f32 :
          FVec Ideal S512x512 .bf16) h) b
      (constant S512x128 .f32 0x00000000#32))

def tileShared (v : Tile) (b : FVec Ideal S128x128 .bf16) : Tile :=
  concatenate S512x512 1 [⟨S512x128, tilePart 0 slices_S512x512_o0_0_S512x128 v b⟩, ⟨S512x128, tilePart 128 slices_S512x512_o0_128_S512x128 v b⟩,
    ⟨S512x128, tilePart 256 slices_S512x512_o0_256_S512x128 v b⟩, ⟨S512x128, tilePart 384 slices_S512x512_o0_384_S512x128 v b⟩]
    concatenates_S512x128_S512x128_S512x128_S512x128_S512x512_d1

def tileScale (x : Tile) (b : FVec Ideal S128x128 .bf16) : Tile :=
  rsqrt (addf (tileShared (mulf x x) b) (broadcast S512x512 (Scalar.ofBits .f32 0x358637BD#32 : Ideal .f32)))

def tileGrad (x e s : Tile) (b : FVec Ideal S128x128 .bf16) : Tile :=
  subf (mulf s e) (mulf (mulf x (mulf (mulf s s) s)) (tileShared (mulf e x) b))

theorem half_bit : ∀ c : Fin 512, IntOp.cmpi .slt (IntOp.andi (BitVec.ofNat 32 c.val) 63#32) 32#32 = BitVec.ofBool (decide (c.val % 64 < 32)) := by
  decide +kernel

theorem onHalf_apply (i : S512x512.Idx) : onHalf i = BitVec.ofBool (decide ((i 1).val % 64 < 32)) := by
  have h : (i 1).val < 512 := (i 1).isLt
  refine Eq.trans ?_ (half_bit ⟨(i 1).val, h⟩)
  show IntOp.cmpi .slt (IntOp.andi (iota .tc S512x512 32 [1] iota_S512x512_d1_w32 i) 63#32) 32#32 = _
  rw [iota_single_apply]

theorem onHalf_select {x y : Tile} {f g : ℕ → ℕ → EReal} (hx : Table x f) (hy : Table y g) :
    Table (select onHalf x y) (fun r c => if c % 64 < 32 then f r c else g r c) := fun i => by
  show Scalar.select (onHalf i) (x i) (y i) = _
  rw [onHalf_apply]
  beta_reduce
  by_cases h : (i 1).val % 64 < 32
  · rw [if_pos h, decide_eq_true h]; exact hx i
  · rw [if_neg h, decide_eq_false h]; exact hy i

section
variable {z cs sn x y e s v : Tile} {g d : FVec Ideal S1x512 .f32} {b : FVec Ideal S128x128 .bf16} {X D H V : ℕ → ℕ → EReal}
  {P G : ℕ → EReal}

theorem back_tile (hz : Table z D) (hc : Table cs (fun r c => Ideal.cos (angle P r c))) (hs : Table sn (fun r c => Ideal.sin (angle P r c))) :
    Table (tileBack z cs sn) (back D P) := by
  have w := hz.mulf (φ := .f32) hs
  have l := (table_filled 0x00000000#32).subf (φ := .f32) (w.turnedAcross 480#32 32 rfl (by norm_num) rotates_S512x512_d1)
  have r := w.turnedAcross 32#32 480 rfl (by norm_num) rotates_S512x512_d1
  refine Table.congr ((hz.mulf (φ := .f32) hc).subf (φ := .f32) (onHalf_select l r)) fun r c _ hc => ?_
  unfold back
  split
  · rename_i h
    rw [show (c + 32) % 512 = c + 32 by omega, show word 0x00000000#32 = 0 from Ideal.ofBits_zero_f32, zero_sub, sub_eq_add_neg, neg_neg]
    unfold angle
    rw [Nat.add_mod_right]
  · rename_i h
    rw [show (c + 480) % 512 = c - 32 by omega]
    unfold angle
    rw [show (c - 32) % 32 = c % 32 by omega]

theorem part_tile (hv : Table v V) (hb : Table b within) (j o : ℕ) (ho : o = j * 128) (w : S512x512.Slices ![0, o] S512x128) :
    Table (tilePart o w v b) (fun r c => ∑ q ∈ range 128, V r (j * 128 + q) * within q c
      + ∑ q ∈ range 128, (V r (j * 128 + q) - V r (j * 128 + q)) * within q c) := by
  subst ho
  have u := hv.truncf bitsLt_bf16_f32
  have l := (hv.subf (φ := .f32) (u.extf bitsLt_bf16_f32)).truncf bitsLt_bf16_f32
  refine Table.congr (((u.slice 0 (j * 128) w).dot (φ₁ := .bf16) (φ₂ := .bf16) hb _ rfl).addf (φ := .f32)
    ((l.slice 0 (j * 128) w).dot (φ₁ := .bf16) (φ₂ := .bf16) hb _ rfl)) fun r c _ _ => ?_
  simp only [Nat.zero_add]

theorem shared_tile (hv : Table v V) (hb : Table b within) (h : ∀ r c, IsReal (V r c)) :
    Table (tileShared v b) (fun r c => Ideal.div (heads V r c) (word 0x42800000#32)) := by
  have t : Table (tileShared v b) (shared V) := tables_abreast (k := 128)
    (x := ![tilePart 0 slices_S512x512_o0_0_S512x128 v b, tilePart 128 slices_S512x512_o0_128_S512x128 v b,
      tilePart 256 slices_S512x512_o0_256_S512x128 v b, tilePart 384 slices_S512x512_o0_384_S512x128 v b])
    (p := fun j r c => ∑ q ∈ range 128, V r (j * 128 + q) * within q c
      + ∑ q ∈ range 128, (V r (j * 128 + q) - V r (j * 128 + q)) * within q c)
    (fun j => match j with
      | ⟨0, _⟩ => part_tile hv hb 0 0 rfl _
      | ⟨1, _⟩ => part_tile hv hb 1 128 rfl _
      | ⟨2, _⟩ => part_tile hv hb 2 256 rfl _
      | ⟨3, _⟩ => part_tile hv hb 3 384 rfl _)
    (by norm_num) rfl concatenates_S512x128_S512x128_S512x128_S512x128_S512x512_d1
  exact t.congr fun r c _ _ => shared_eq h r c

theorem scale_tile (hx : Table x X) (hb : Table b within) (h : ∀ r c, IsReal (X r c)) : Table (tileScale x b) (scale X) :=
  ((shared_tile (hx.mulf (φ := .f32) hx) hb fun r c => (h r c).mul (h r c)).addf (φ := .f32) (table_filled _)).rsqrt (φ := .f32)

theorem grad_tile (hx : Table x X) (hy : Table y H) (hg : Table g (fun _ c => G c)) (hb : Table b within) (hX : ∀ r c, IsReal (X r c))
    (hH : ∀ r c, IsReal (H r c)) (hG : ∀ c, IsReal (G c)) :
    Table (tileGrad x (mulf y (broadcastTo S512x512 g broadcasts_S1x512_S512x512)) (tileScale x b) b) (gradX X G H) := by
  have e : Table (mulf y (broadcastTo S512x512 g broadcasts_S1x512_S512x512) : Tile) (fun r c => H r c * G c) :=
    hy.mulf (φ := .f32) (hg.repeated _)
  have s := scale_tile hx hb hX
  have m := shared_tile (e.mulf (φ := .f32) hx) hb fun r c => ((hH r c).mul (hG c)).mul (hX r c)
  exact (s.mulf (φ := .f32) e).subf (φ := .f32) ((hx.mulf (φ := .f32) ((s.mulf (φ := .f32) s).mulf (φ := .f32) s)).mulf (φ := .f32) m)

def tileGain (x y s : Tile) (d : FVec Ideal S1x512 .f32) : FVec Ideal S1x512 .f32 :=
  addf (shapeCast S1x512 d shapeCasts_S1x512_S1x512)
    (shapeCast S1x512 (multiReduction .add [0] S512 (mulf (mulf y x) s) 0x00000000#32 reduces_S512x512_S512 (.inl rfl) rfl)
      shapeCasts_S512_S1x512)

theorem gain_tile (hx : Table x X) (hy : Table y H) (hd : Table d D) (hb : Table b within) (hX : ∀ r c, IsReal (X r c)) :
    Table (tileGain x y (tileScale x b) d) (fun _ c => D 0 c + ∑ r ∈ range 512, H r c * X r c * scale X r c) := by
  refine Table.congr ((hd.self _).addf (φ := .f32) ((((hy.mulf (φ := .f32) hx).mulf (φ := .f32) (scale_tile hx hb hX)).colsum _ _ _).cast _))
    fun r c hr _ => ?_
  obtain rfl : r = 0 := (by omega)
  rfl

end

/-! ## The stored values -/

section
variable {pos : Vec Ideal S512x1 .i32} {inv : FVec Ideal S1x128 .f32} {xq xk dq dk dv : Tile} {gq gk d : FVec Ideal S1x512 .f32}
  {b : FVec Ideal S128x128 .bf16} {XQ XK DQ DK DV D : ℕ → ℕ → EReal} {P GQ GK : ℕ → EReal}

theorem angle_tile (hp : Table (sitofp .f32 pos : FVec Ideal S512x1 .f32) (fun r _ => P r)) (hi : Table inv (fun _ c => freq (c % 32))) :
    Table (k0_pay3 (F := Ideal) pos inv) (angle P) :=
  ((hp.self shapeCasts_S512x1_S512x1).widened broadcasts_S512x1_S512x128).mulf (φ := .f32) ((hi.self _).repeated _)

theorem same_angle (r c : ℕ) : angle P r (c % 128) = angle P r c := by
  unfold angle
  rw [show c % 128 % 32 = c % 32 by omega]

theorem cos_tile (hp : Table (sitofp .f32 pos : FVec Ideal S512x1 .f32) (fun r _ => P r)) (hi : Table inv (fun _ c => freq (c % 32))) :
    Table (k0_pay4 (F := Ideal) pos inv) (fun r c => Ideal.cos (angle P r c)) := by
  have a := (angle_tile hp hi).cos (φ := .f32)
  refine Table.congr (tables_abreast (x := fun _ => cos (k0_pay3 (F := Ideal) pos inv)) (k := 128) (p := fun _ r c => Ideal.cos (angle P r c))
    (fun _ => a) (by norm_num) rfl concatenates_S512x128_S512x128_S512x128_S512x128_S512x512_d1) fun r c _ _ => ?_
  beta_reduce
  rw [same_angle]

theorem sin_tile (hp : Table (sitofp .f32 pos : FVec Ideal S512x1 .f32) (fun r _ => P r)) (hi : Table inv (fun _ c => freq (c % 32))) :
    Table (k0_pay5 (F := Ideal) pos inv) (fun r c => Ideal.sin (angle P r c)) := by
  have a := (angle_tile hp hi).sin (φ := .f32)
  refine Table.congr (tables_abreast (x := fun _ => sin (k0_pay3 (F := Ideal) pos inv)) (k := 128) (p := fun _ r c => Ideal.sin (angle P r c))
    (fun _ => a) (by norm_num) rfl concatenates_S512x128_S512x128_S512x128_S512x128_S512x512_d1) fun r c _ _ => ?_
  beta_reduce
  rw [same_angle]

theorem dq_tile (hp : Table (sitofp .f32 pos : FVec Ideal S512x1 .f32) (fun r _ => P r)) (hi : Table inv (fun _ c => freq (c % 32)))
    (hd : Table dq DQ) : Table (k0_pay7 (F := Ideal) pos inv dq) (back (fun r c => DQ r c * word 0x3E000000#32) P) :=
  back_tile (hd.mulf (φ := .f32) (table_filled _)) (cos_tile hp hi) (sin_tile hp hi)

/-- What the body makes of the key's gradient. -/
abbrev keyBack (pos : Vec Ideal S512x1 .i32) (inv : FVec Ideal S1x128 .f32) (dk : Tile) : Tile :=
  k0_pay28 (F := Ideal) (k0_pay24 (k0_pay4 pos inv) dk) (k0_pay25 (k0_pay5 pos inv) dk) k0_pay26 (k0_pay27 (k0_pay5 pos inv) dk)

theorem dk_tile (hp : Table (sitofp .f32 pos : FVec Ideal S512x1 .f32) (fun r _ => P r)) (hi : Table inv (fun _ c => freq (c % 32)))
    (hd : Table dk DK) : Table (keyBack pos inv dk) (back DK P) := by
  have z : Table (k0_pay23 (F := Ideal) dk) DK := (hd.mulf (φ := .f32) (table_filled 0x3F800000#32)).congr fun r c _ _ => by
    rw [show word 0x3F800000#32 = 1 from Ideal.ofBits_one_f32, mul_one]
  exact back_tile z (cos_tile hp hi) (sin_tile hp hi)

abbrev queryScale (xq : Tile) (b : FVec Ideal S128x128 .bf16) : Tile := k0_pay11 (F := Ideal) (k0_pay8 xq) (k0_pay9 b) (k0_pay10 xq)

theorem queryScale_eq : queryScale xq b = tileScale xq b := by
  show tileScale xq (shapeCast S128x128 b shapeCasts_S128x128_S128x128) = _
  rw [shapeCast_self]

theorem keyScale_eq : k0_pay29 (F := Ideal) xk b = tileScale xk b := by
  show tileScale xk (shapeCast S128x128 b shapeCasts_S128x128_S128x128) = _
  rw [shapeCast_self]

abbrev queryGrad (xq y : Tile) (g : FVec Ideal S1x512 .f32) (b : FVec Ideal S128x128 .bf16) : Tile :=
  k0_pay20 (F := Ideal) xq (queryScale xq b) (k0_pay12 g y) (k0_pay14 b) (k0_pay15 xq g y) (k0_pay16 xq g y) (k0_pay17 xq g y b)
    (k0_pay18 xq g y b) (k0_pay19 xq g y b)

theorem queryGrad_eq (y : Tile) (g : FVec Ideal S1x512 .f32) :
    queryGrad xq y g b = tileGrad xq (mulf y (broadcastTo S512x512 g broadcasts_S1x512_S512x512)) (tileScale xq b) b := by
  unfold queryGrad
  rw [queryScale_eq]
  show tileGrad xq _ _ (shapeCast S128x128 b shapeCasts_S128x128_S128x128) = _
  rw [shapeCast_self]
  rfl

/-- The tile of the three gradients. -/
abbrev stored (pos : Vec Ideal S512x1 .i32) (inv : FVec Ideal S1x128 .f32) (xq xk dq dk dv : Tile) (gq gk : FVec Ideal S1x512 .f32)
    (b : FVec Ideal S128x128 .bf16) : FVec Ideal S512x1536 .bf16 :=
  k0_pay36 (F := Ideal) (queryGrad xq (k0_pay7 pos inv dq) (k0_pay6 gq) b) xk (k0_pay29 xk b)
    (k0_pay30 (k0_pay22 gk) (k0_pay24 (k0_pay4 pos inv) dk) (k0_pay25 (k0_pay5 pos inv) dk) k0_pay26 (k0_pay27 (k0_pay5 pos inv) dk))
    (k0_pay32 b)
    (k0_pay33 xk (k0_pay22 gk) (k0_pay24 (k0_pay4 pos inv) dk) (k0_pay25 (k0_pay5 pos inv) dk) k0_pay26 (k0_pay27 (k0_pay5 pos inv) dk))
    (k0_pay34 xk (k0_pay22 gk) (k0_pay24 (k0_pay4 pos inv) dk) (k0_pay25 (k0_pay5 pos inv) dk) k0_pay26 (k0_pay27 (k0_pay5 pos inv) dk)) dv

theorem stored_tile (hp : Table (sitofp .f32 pos : FVec Ideal S512x1 .f32) (fun r _ => P r)) (hi : Table inv (fun _ c => freq (c % 32)))
    (hxq : Table xq XQ) (hxk : Table xk XK) (hdq : Table dq DQ) (hdk : Table dk DK) (hdv : Table dv DV)
    (hgq : Table gq (fun _ c => GQ c)) (hgk : Table gk (fun _ c => GK c)) (hb : Table b within)
    (rP : ∀ r, IsReal (P r)) (rXQ : ∀ r c, IsReal (XQ r c)) (rXK : ∀ r c, IsReal (XK r c))
    (rDQ : ∀ r c, IsReal (DQ r c * word 0x3E000000#32)) (rDK : ∀ r c, IsReal (DK r c)) (rGQ : ∀ c, IsReal (GQ c)) (rGK : ∀ c, IsReal (GK c)) :
    Table (stored pos inv xq xk dq dk dv gq gk b)
      (fun r c => pick (gradX XQ GQ (back (fun r c => DQ r c * word 0x3E000000#32) P)) (gradX XK GK (back DK P)) DV (c / 512) r (c % 512)) := by
  have b' : Table (k0_pay32 (F := Ideal) b) within := hb.self _
  have q := grad_tile hxq (dq_tile hp hi hdq) (hgq.self shapeCasts_S1x512_S1x512) hb rXQ (back_real rDQ rP) rGQ
  rw [← queryGrad_eq] at q
  have k := grad_tile hxk (dk_tile hp hi hdk) (hgk.self shapeCasts_S1x512_S1x512) b' rXK (back_real rDK rP) rGK
  exact tables_three (x := ![queryGrad xq (k0_pay7 pos inv dq) (k0_pay6 gq) b,
      tileGrad xk (mulf (keyBack pos inv dk) (broadcastTo S512x512 (k0_pay22 gk) broadcasts_S1x512_S512x512)) (tileScale xk (k0_pay32 b)) (k0_pay32 b),
      dv]) (k := 512) (p := pick _ _ DV) (fun j => match j with
    | ⟨0, _⟩ => q
    | ⟨1, _⟩ => k
    | ⟨2, _⟩ => hdv) (by norm_num) rfl concatenates_S512x512_S512x512_S512x512_S512x1536_d1

theorem query_gain (hp : Table (sitofp .f32 pos : FVec Ideal S512x1 .f32) (fun r _ => P r)) (hi : Table inv (fun _ c => freq (c % 32)))
    (hx : Table xq XQ) (hd : Table dq DQ) (hb : Table b within) (ha : Table d D) (rX : ∀ r c, IsReal (XQ r c)) :
    Table (k0_pay21 (F := Ideal) xq (k0_pay7 pos inv dq) (queryScale xq b) d)
      (fun _ c => D 0 c + ∑ r ∈ range 512, back (fun r c => DQ r c * word 0x3E000000#32) P r c * XQ r c * scale XQ r c) := by
  rw [queryScale_eq]
  exact gain_tile hx (dq_tile hp hi hd) ha hb rX

theorem key_gain (hp : Table (sitofp .f32 pos : FVec Ideal S512x1 .f32) (fun r _ => P r)) (hi : Table inv (fun _ c => freq (c % 32)))
    (hx : Table xk XK) (hd : Table dk DK) (hb : Table b within) (ha : Table d D) (rX : ∀ r c, IsReal (XK r c)) :
    Table (k0_pay35 (F := Ideal) xk (keyBack pos inv dk) (k0_pay29 xk b) d)
      (fun _ c => D 0 c + ∑ r ∈ range 512, back DK P r c * XK r c * scale XK r c) := by
  rw [keyScale_eq]
  exact gain_tile hx (dk_tile hp hi hd) ha hb rX

end

end Cert.Proof.Qk

end
-- ==== Proof.QkBlock.lean ====
/- The gradient of the norm of the heads and of the rotation: what the kernel's body leaves at one grid point. Grid point `t`
   works on row tile `t`; the first sets the gains' gradients to zero and each adds its tile's part. -/
module

public import proofs.«01_k».proof.Proof.QkTile
public import proofs.«01_k».proof.Proof.AttnBlock
public import proofs.«01_k».proof.Proof.Gen.QkPrepIdeal.Value
public import Idealize.ShloMosaic.Lib.StableHlo.RunRead
public import Idealize.ShloMosaic.Lib.Pipeline.ReadBack

@[expose] public section

set_option maxRecDepth 16384
set_option maxHeartbeats 1600000

noncomputable section

namespace Cert.Proof.Qk

open Idealize.ShloMosaic Idealize.ShloMosaic.TcCoe Idealize.ShloMosaic.StableHlo Cert.QkPrepIdeal Cert.QkPrepIdeal.Gen Cert.Proof Cert.Proof.Attn Finset

variable (m : (ℓ : Loc nD τ sig) → Buf (Elt Ideal) ℓ) (c : Dev nD)

/-! ## The arrays the launch reads -/

abbrev argP : ℕ → ℕ → EReal := cell (a := 4096) (b := 2560) (m (c.tc.loc main_arg0))
abbrev argQ : ℕ → ℕ → EReal := fun r q => argP m c r (0 + q)
abbrev argK : ℕ → ℕ → EReal := fun r q => argP m c r (512 + q)
abbrev argDQ : ℕ → ℕ → EReal := cell (a := 4096) (b := 512) (m (c.tc.loc main_arg1))
abbrev argDK : ℕ → ℕ → EReal := cell (a := 4096) (b := 512) (m (c.tc.loc main_arg2))
abbrev argDV : ℕ → ℕ → EReal := cell (a := 4096) (b := 512) (m (c.tc.loc main_arg3))
/-- The positions, as numbers. -/
abbrev posOf (x : (⟨1, ![4096]⟩ : Shape).Idx → BitVec 32) : ℕ → EReal :=
  item (a := 4096) (sitofp .f32 x : FVec Ideal ⟨1, ![4096]⟩ .f32)
abbrev argPos : ℕ → EReal := posOf (m (c.tc.loc main_arg4))
abbrev argGQ : ℕ → EReal := fun q => item (a := 64) (m (c.tc.loc main_arg5)) (q % 64)
abbrev argGK : ℕ → EReal := fun q => item (a := 64) (m (c.tc.loc main_arg6)) (q % 64)

/-- The host code before the launch. -/
abbrev line : List (HloOp τ sig (Elt Ideal)) := List.flatten [hostOps0]

theorem tiled {n k b : ℕ} {l : ℕ → EReal} {x : (⟨1, ![k]⟩ : Shape).Idx → EReal} (hx : Listed x l) (hk : 0 < k) (hb : b = n * k)
    (h1 : (⟨1, ![k]⟩ : Shape).ShapeCasts ⟨2, ![1, k]⟩) (h2 : (⟨2, ![1, k]⟩ : Shape).BroadcastsInDim ⟨2, ![n, k]⟩ ![0, 1])
    (h3 : (⟨2, ![n, k]⟩ : Shape).ShapeCasts ⟨1, ![b]⟩) (h4 : (⟨1, ![b]⟩ : Shape).ShapeCasts ⟨2, ![1, b]⟩) :
    Table (shapeCast ⟨2, ![1, b]⟩ (shapeCast ⟨1, ![b]⟩ (broadcastInDim ⟨2, ![n, k]⟩ ![0, 1] h2 (shapeCast ⟨2, ![1, k]⟩ x h1)) h3) h4)
      (fun _ q => l (q % k)) :=
  (((hx.cast h1).spread h2).strung hk hb h3).cast h4

theorem gainQ : @Table 1 512 (V m c main_v18) (fun _ q => argGQ m c q) := by
  show @Table 1 512 (after line (fun b => m (c, b)) (Proc.devRef .tc main_v18)) _
  after_reads_simp
  exact tiled (n := 8) (k := 64) (listed_item (a := 64) (m (c.tc.loc main_arg5))) (by norm_num) rfl _ _ _ _

theorem gainK : @Table 1 512 (V m c main_v22) (fun _ q => argGK m c q) := by
  show @Table 1 512 (after line (fun b => m (c, b)) (Proc.devRef .tc main_v22)) _
  after_reads_simp
  exact tiled (n := 8) (k := 64) (listed_item (a := 64) (m (c.tc.loc main_arg6))) (by norm_num) rfl _ _ _ _

theorem freqs : @Table 1 512 (V m c main_v9) (fun _ q => freq (q % 32)) := by
  show @Table 1 512 (after line (fun b => m (c, b)) (Proc.devRef .tc main_v9)) _
  after_reads_simp
  exact tiled (n := 16) (k := 32) (l := freq) (fun _ => rfl) (by norm_num) rfl _ _ _ _

theorem matrix : @Table 128 128 (V m c main_v14) within := by
  show @Table 128 128 (after line (fun b => m (c, b)) (Proc.devRef .tc main_v14)) _
  after_reads_simp
  have p := filled16 (a := 64) (b := 64) 0x3C80#16 bcast_S_S64x64
  have z := filled16 (a := 64) (b := 64) 0x0000#16 bcast_S_S64x64
  exact (p.beside z concatenates_S64x64_S64x64_S64x128_d1 rfl).below (z.beside p concatenates_S64x64_S64x64_S64x128_d1 rfl)
    concatenates_S64x128_S64x128_S128x128_d0 rfl

theorem positions : @Table 4096 1 (fun i => (((V m c main_v23 : (⟨2, ![4096, 1]⟩ : Shape).Idx → BitVec 32) i).toInt : ℝ))
    (fun r _ => argPos m c r) := by
  show @Table 4096 1 (fun i => ((((after line (fun b => m (c, b)) (Proc.devRef .tc main_v23)) :
    (⟨2, ![4096, 1]⟩ : Shape).Idx → BitVec 32) i).toInt : ℝ)) _
  after_reads_simp
  exact (listed_item (a := 4096) (sitofp .f32 (m (c.tc.loc main_arg4)) : FVec Ideal ⟨1, ![4096]⟩ .f32)).stand shapeCasts_S4096_S4096x1

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 1] :=
  (by decide +kernel : ∀ t : Fin grid0.N, win0_1.index t = ![t.val, 1])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])

section
variable (t : Fin cfg0.N)

theorem block0 : @Table 512 512 (iblk m c 0 t) (fun r q => argQ m c (t.val * 512 + r) q) := fun y => by
  blk_simp [iblk]; refine (table_cell (a := 4096) (b := 2560) (m (c.tc.loc main_arg0)) _).trans ?_; blk_simp [index0 t]; rw [argQ, Nat.zero_add]
theorem block1 : @Table 512 512 (iblk m c 1 t) (fun r q => argK m c (t.val * 512 + r) q) := fun y => by
  blk_simp [iblk]; refine (table_cell (a := 4096) (b := 2560) (m (c.tc.loc main_arg0)) _).trans ?_; blk_simp [index1 t]
theorem block2 : @Table 512 512 (iblk m c 2 t) (fun r q => argDQ m c (t.val * 512 + r) q) := fun y => by
  blk_simp [iblk]; refine (table_cell (a := 4096) (b := 512) (m (c.tc.loc main_arg1)) _).trans ?_; blk_simp [index2 t]
theorem block3 : @Table 512 512 (iblk m c 3 t) (fun r q => argDK m c (t.val * 512 + r) q) := fun y => by
  blk_simp [iblk]; refine (table_cell (a := 4096) (b := 512) (m (c.tc.loc main_arg2)) _).trans ?_; blk_simp [index3 t]
theorem block4 : @Table 512 512 (iblk m c 4 t) (fun r q => argDV m c (t.val * 512 + r) q) := fun y => by
  blk_simp [iblk]; refine (table_cell (a := 4096) (b := 512) (m (c.tc.loc main_arg3)) _).trans ?_; blk_simp [index4 t]
theorem block5 : @Table 512 1 (sitofp .f32 (iblk m c 5 t : Vec Ideal S512x1 .i32) : FVec Ideal S512x1 .f32)
    (fun r _ => argPos m c (t.val * 512 + r)) := fun y => by
  show ((((iblk m c 5 t : Vec Ideal S512x1 .i32) y).toInt : ℝ) : EReal) = _
  blk_simp [iblk]; refine (positions m c _).trans ?_; blk_simp [index5 t]
theorem block6 : @Table 1 512 (iblk m c 6 t) (fun _ q => freq (q % 32)) := fun y => by
  blk_simp [iblk]; refine (freqs m c _).trans ?_; blk_simp [index6 t]
theorem block7 : @Table 1 512 (iblk m c 7 t) (fun _ q => argGQ m c q) := fun y => by
  blk_simp [iblk]; refine (gainQ m c _).trans ?_; blk_simp [index7 t]
theorem block8 : @Table 1 512 (iblk m c 8 t) (fun _ q => argGK m c q) := fun y => by
  blk_simp [iblk]; refine (gainK m c _).trans ?_; blk_simp [index8 t]
theorem block9 : @Table 128 128 (iblk m c 9 t) within := fun y => by
  blk_simp [iblk]; refine (matrix m c _).trans ?_; blk_simp [index9 t]

end

/-- The columns of the frequencies that the body reads. -/
abbrev inv (t : Fin cfg0.N) : FVec Ideal S1x128 .f32 :=
  View.ld (iblk m c 6 t) (Rect.unit ![0, 0] ![1, 128] inb_S1x512_S1x128_0_0)

theorem inv_freq (t : Fin cfg0.N) : Table (inv m c t) (fun _ q => freq (q % 32)) := by
  have e : inv m c t = extractStridedSlice S1x128 ![0, 0] (iblk m c 6 t : FVec Ideal S1x512 .f32) ⟨rfl, inb_S1x512_S1x128_0_0⟩ :=
    View.ld_unit _ _ _ _
  rw [e]
  exact ((block6 m c t).slice 0 0 _).congr fun r q _ _ => by rw [Nat.zero_add]

/-- The numbers that have to be real ones. -/
structure Given : Prop where
  proj : ∀ i : (⟨2, ![4096, 2560]⟩ : Shape).Idx, IsReal (m (c.tc.loc main_arg0) i)
  dq : ∀ i : (⟨2, ![4096, 512]⟩ : Shape).Idx, IsReal (m (c.tc.loc main_arg1) i)
  dk : ∀ i : (⟨2, ![4096, 512]⟩ : Shape).Idx, IsReal (m (c.tc.loc main_arg2) i)
  gq : ∀ i : (⟨1, ![64]⟩ : Shape).Idx, IsReal (m (c.tc.loc main_arg5) i)
  gk : ∀ i : (⟨1, ![64]⟩ : Shape).Idx, IsReal (m (c.tc.loc main_arg6) i)

theorem cell_real {a b : ℕ} {x : (⟨2, ![a, b]⟩ : Shape).Idx → EReal} (h : ∀ i, IsReal (x i)) (r c : ℕ) :
    IsReal (cell x r c) := by
  unfold cell
  split
  · exact h _
  · exact ⟨0, rfl⟩

theorem item_real {a : ℕ} {x : (⟨1, ![a]⟩ : Shape).Idx → EReal} (h : ∀ i, IsReal (x i)) (c : ℕ) :
    IsReal (item x c) := by
  unfold item
  split
  · exact h _
  · exact ⟨0, rfl⟩

theorem word_eighth : IsReal (word 0x3E000000#32) := ⟨_, lit_coe _ (by decide)⟩

/-- The query's gradient, scaled. -/
abbrev argSQ : ℕ → ℕ → EReal := fun r q => argDQ m c r q * word 0x3E000000#32

section
variable {m c} (hm : Given m c) (t : Fin cfg0.N)
include hm

/-- Each point stores the gradients of its rows. -/
theorem out10_rows : @Table 512 1536 (outsAt0 m c t.val t.isLt).1
    (fun r q => pick (gradX (argQ m c) (argGQ m c) (back (argSQ m c) (argPos m c)))
      (gradX (argK m c) (argGK m c) (back (argDK m c) (argPos m c))) (argDV m c) (q / 512) (t.val * 512 + r) (q % 512)) := by
  have s := stored_tile (block5 m c t) (inv_freq m c t) (block0 m c t) (block1 m c t) (block2 m c t) (block3 m c t) (block4 m c t)
    (block7 m c t) (block8 m c t) (block9 m c t) (fun r => item_real (fun _ => ⟨_, rfl⟩) _) (fun r q => cell_real hm.proj _ _)
    (fun r q => cell_real hm.proj _ _) (fun r q => (cell_real hm.dq _ _).mul word_eighth) (fun r q => cell_real hm.dk _ _)
    (fun q => item_real hm.gq _) (fun q => item_real hm.gk _)
  have e := s.congr (g := fun r q => pick (gradX (argQ m c) (argGQ m c) (back (argSQ m c) (argPos m c)))
      (gradX (argK m c) (argGK m c) (back (argDK m c) (argPos m c))) (argDV m c) (q / 512) (t.val * 512 + r) (q % 512)) fun r q _ hq => by
    rcases (by omega : q / 512 = 0 ∨ q / 512 = 1 ∨ q / 512 = 2) with h | h | h <;> rw [h] <;> rfl
  refine fun y => Eq.trans ?_ (e y)
  by_cases h : t.val % 8 = 0
  · rw [outsAt0_A m c t h]; frame_out; rfl
  · rw [outsAt0_B m c t h]; frame_out; rfl

end

/-- A tile's part of a gain's gradient. -/
def part (X H : ℕ → ℕ → EReal) (s q : ℕ) : EReal :=
  ∑ r ∈ range 512, H (s * 512 + r) q * X (s * 512 + r) q * scale X (s * 512 + r) q

abbrev partQ : ℕ → ℕ → EReal := part (argQ m c) (back (argSQ m c) (argPos m c))
abbrev partK : ℕ → ℕ → EReal := part (argK m c) (back (argDK m c) (argPos m c))

section
variable {m c} (hm : Given m c) (t : Fin cfg0.N)
include hm

theorem gain_query {d : FVec Ideal S1x512 .f32} {A : ℕ → ℕ → EReal} (hd : Table d A) :
    Table (k0_pay21 (F := Ideal) (iblk m c 0 t) (k0_pay7 (iblk m c 5 t) (inv m c t) (iblk m c 2 t)) (queryScale (iblk m c 0 t) (iblk m c 9 t)) d)
      (fun _ q => A 0 q + partQ m c t.val q) :=
  query_gain (block5 m c t) (inv_freq m c t) (block0 m c t) (block2 m c t) (block9 m c t) hd fun _ _ => cell_real hm.proj _ _

theorem gain_key {d : FVec Ideal S1x512 .f32} {A : ℕ → ℕ → EReal} (hd : Table d A) :
    Table (k0_pay35 (F := Ideal) (iblk m c 1 t) (keyBack (iblk m c 5 t) (inv m c t) (iblk m c 3 t)) (k0_pay29 (iblk m c 1 t) (iblk m c 9 t)) d)
      (fun _ q => A 0 q + partK m c t.val q) :=
  key_gain (block5 m c t) (inv_freq m c t) (block1 m c t) (block3 m c t) (block9 m c t) hd fun _ _ => cell_real hm.proj _ _

theorem from_zero {d : FVec Ideal S1x512 .f32} {p : ℕ → EReal} (h : Table d (fun _ q => word 0x00000000#32 + p q)) : Table d (fun _ q => p q) :=
  h.congr fun _ _ _ _ => (congrArg (· + _) Ideal.ofBits_zero_f32).trans (zero_add _)

theorem out11_first (h : t.val % 8 = 0) : @Table 1 512 (outsAt0 m c t.val t.isLt).2.1 (fun _ q => partQ m c t.val q) := by
  have e := from_zero hm (gain_query hm t (d := k0_pay1 (F := Ideal)) (table_filled _))
  refine fun y => Eq.trans ?_ (e y)
  rw [outsAt0_A m c t h]
  frame_open
  simp (disch := decide) only [↓ View.readCov_skip, ↓ View.readCov_cons_toLoadRect, ↓ View.readCov_fill]
  frame_out
  try rfl

theorem out12_first (h : t.val % 8 = 0) : @Table 1 512 (outsAt0 m c t.val t.isLt).2.2 (fun _ q => partK m c t.val q) := by
  have e := from_zero hm (gain_key hm t (d := k0_pay2 (F := Ideal)) (table_filled _))
  refine fun y => Eq.trans ?_ (e y)
  rw [outsAt0_A m c t h]
  frame_open
  simp (disch := decide) only [↓ View.readCov_skip, ↓ View.readCov_cons_toLoadRect, ↓ View.readCov_fill]
  frame_out
  try rfl

theorem out11_next (h : ¬ t.val % 8 = 0) {A : ℕ → ℕ → EReal}
    (hA : @Table 1 512 (outsAt0 m c (t.val - 1) (by have := t.isLt; omega)).2.1 A) :
    @Table 1 512 (outsAt0 m c t.val t.isLt).2.1 (fun _ q => A 0 q + partQ m c t.val q) := by
  refine fun y => Eq.trans ?_ (gain_query hm t hA y)
  rw [outsAt0_B m c t h]
  frame_open
  simp (disch := decide) only [↓ View.readCov_skip, ↓ View.readCov_cons_toLoadRect, ↓ View.readCov_fill]
  frame_out
  try rfl

theorem out12_next (h : ¬ t.val % 8 = 0) {A : ℕ → ℕ → EReal}
    (hA : @Table 1 512 (outsAt0 m c (t.val - 1) (by have := t.isLt; omega)).2.2 A) :
    @Table 1 512 (outsAt0 m c t.val t.isLt).2.2 (fun _ q => A 0 q + partK m c t.val q) := by
  refine fun y => Eq.trans ?_ (gain_key hm t hA y)
  rw [outsAt0_B m c t h]
  frame_open
  simp (disch := decide) only [↓ View.readCov_skip, ↓ View.readCov_cons_toLoadRect, ↓ View.readCov_fill]
  frame_out
  try rfl

end

end Cert.Proof.Qk

end
-- ==== Proof.QkArrays.lean ====
/- The gradient of the norm of the heads and of the rotation: the arrays the kernel leaves. -/
module

public import proofs.«01_k».proof.Proof.QkBlock

@[expose] public section

set_option maxRecDepth 16384
set_option maxHeartbeats 1600000

noncomputable section

namespace Cert.Proof.Qk

open Idealize.ShloMosaic Idealize.ShloMosaic.TcCoe Cert.QkPrepIdeal Cert.QkPrepIdeal.Gen Cert.Proof Finset

variable {m : (ℓ : Loc nD τ sig) → Buf (Elt Ideal) ℓ} {c : Dev nD} (hm : Given m c)
include hm

/-- The gains' gradients so far. -/
theorem out11_rows (n : ℕ) (h : n < cfg0.N) : @Table 1 512 (outsAt0 m c n h).2.1 (fun _ q => ∑ s ∈ range (n % 8 + 1), partQ m c s q) := by
  have hn : n < 8 := h
  refine Table.congr (so_far (N := cfg0.N) (p := 8) (by decide) (fun n h => (outsAt0 m c n h).2.1)
    (fun j s _ q => partQ m c (j * 8 + s) q) (fun t h => ?_) (fun t h A hA => ?_) n h) fun r q _ _ => ?_
  · refine (out11_first hm t h).congr fun _ q _ _ => ?_
    rw [Nat.div_add_mod' t.val 8]
  · refine (out11_next hm t h hA).congr fun r q hr _ => ?_
    obtain rfl : r = 0 := (by omega)
    rw [Nat.div_add_mod' t.val 8]
  · exact sum_congr rfl fun s _ => by rw [show n / 8 * 8 + s = s by omega]

theorem out12_rows (n : ℕ) (h : n < cfg0.N) : @Table 1 512 (outsAt0 m c n h).2.2 (fun _ q => ∑ s ∈ range (n % 8 + 1), partK m c s q) := by
  have hn : n < 8 := h
  refine Table.congr (so_far (N := cfg0.N) (p := 8) (by decide) (fun n h => (outsAt0 m c n h).2.2)
    (fun j s _ q => partK m c (j * 8 + s) q) (fun t h => ?_) (fun t h A hA => ?_) n h) fun r q _ _ => ?_
  · refine (out12_first hm t h).congr fun _ q _ _ => ?_
    rw [Nat.div_add_mod' t.val 8]
  · refine (out12_next hm t h hA).congr fun r q hr _ => ?_
    obtain rfl : r = 0 := (by omega)
    rw [Nat.div_add_mod' t.val 8]
  · exact sum_congr rfl fun s _ => by rw [show n / 8 * 8 + s = s by omega]

omit hm in
theorem index10 : ∀ t : Fin cfg0.N, win0_10.index t = ![t.val, 0] :=
  (by decide +kernel : ∀ t : Fin grid0.N, win0_10.index t = ![t.val, 0])
omit hm in
theorem index11 : ∀ t : Fin cfg0.N, win0_11.index t = ![0, 0] :=
  (by decide +kernel : ∀ t : Fin grid0.N, win0_11.index t = ![0, 0])
omit hm in
theorem index12 : ∀ t : Fin cfg0.N, win0_12.index t = ![0, 0] :=
  (by decide +kernel : ∀ t : Fin grid0.N, win0_12.index t = ![0, 0])

theorem array10 : @Table 4096 1536 ((dats m 0 c).arrAt 10 cfg0.N)
    (fun r q => pick (gradX (argQ m c) (argGQ m c) (back (argSQ m c) (argPos m c)))
      (gradX (argK m c) (argGK m c) (back (argDK m c) (argPos m c))) (argDV m c) (q / 512) r (q % 512)) := by
  refine fun i => congrFun ((dats m 0 c).arrAt_eq_of_covers 10
    (fun i => pick (gradX (argQ m c) (argGQ m c) (back (argSQ m c) (argPos m c)))
      (gradX (argK m c) (argGK m c) (back (argDK m c) (argPos m c))) (argDV m c) ((i 1).val / 512) (i 0).val ((i 1).val % 512))
    (by decide +kernel) fun t _ y => ?_) i
  blk_simp
  refine (out10_rows hm t y).trans ?_
  blk_simp [index10 t]

theorem array11 : @Table 1 512 ((dats m 0 c).arrAt 11 cfg0.N) (fun _ q => gradG (argQ m c) (back (argSQ m c) (argPos m c)) q) := by
  refine fun i => congrFun ((dats m 0 c).arrAt_eq_of_covers 11
    (fun i => gradG (argQ m c) (back (argSQ m c) (argPos m c)) (i 1).val) (by decide +kernel) fun t hf y => ?_) i
  blk_simp
  refine (out11_rows hm t.val t.isLt y).trans ?_
  blk_simp [index11 t]
  rw [(flush0_11 t).mp hf]
  exact in_parts 8 512 fun r => back (argSQ m c) (argPos m c) r (y 1).val * argQ m c r (y 1).val * scale (argQ m c) r (y 1).val

theorem array12 : @Table 1 512 ((dats m 0 c).arrAt 12 cfg0.N) (fun _ q => gradG (argK m c) (back (argDK m c) (argPos m c)) q) := by
  refine fun i => congrFun ((dats m 0 c).arrAt_eq_of_covers 12
    (fun i => gradG (argK m c) (back (argDK m c) (argPos m c)) (i 1).val) (by decide +kernel) fun t hf y => ?_) i
  blk_simp
  refine (out12_rows hm t.val t.isLt y).trans ?_
  blk_simp [index12 t]
  rw [(flush0_12 t).mp hf]
  exact in_parts 8 512 fun r => back (argDK m c) (argPos m c) r (y 1).val * argK m c r (y 1).val * scale (argK m c) r (y 1).val

end Cert.Proof.Qk

end
-- ==== Proof.QkRef.lean ====
/- The gradient of the norm of the heads and of the rotation: what the reference computes. It takes each head as a row. -/
module

public import proofs.«01_k».proof.Proof.QkStep
public import proofs.«01_k».proof.Proof.Gen.QkPrepRefIdeal.Read

@[expose] public section

set_option maxRecDepth 16384
set_option maxHeartbeats 1600000

noncomputable section

namespace Cert.Proof.Qk

open Idealize.ShloMosaic Cert.QkPrepRefIdeal Cert.QkPrepRefIdeal.Gen Cert.QkPrepRefIdeal.Read Cert.Proof Finset

/-! ## Of one of the two, as functions of its rows -/

abbrev Rows := FVec Ideal S32768x64 .f32
abbrev Halves := FVec Ideal S32768x32 .f32
abbrev Column := FVec Ideal S32768x1 .f32

def refMsq (x : Rows) : Column :=
  addf (Host.divf (broadcastInDim S32768x1 ![0] bcast_S32768_S32768x1_0
      (Host.reduceAdd (mulf x x) (constant S_ .f32 0x00000000#32) reducesTo_S32768x64_S32768_d1 h_S_ : FVec Ideal S32768 .f32))
    (broadcastInDim S32768x1 ![] bcast_S_S32768x1 (constant S_ .f32 0x42800000#32)))
    (broadcastInDim S32768x1 ![] bcast_S_S32768x1 (constant S_ .f32 0x358637BD#32))

def refNormed (x : Rows) : Rows := mulf x (broadcastInDim S32768x64 ![0, 1] bcast_S32768x1_S32768x64_0_1 (Host.rsqrt (refMsq x)))

def refShare (x e : Rows) : Rows :=
  broadcastInDim S32768x64 ![0] bcast_S32768_S32768x64_0
    (Host.reduceAdd (Host.divf (mulf
        (shapeCast S32768x1 (Host.reduceAdd (mulf x e) (constant S_ .f32 0x00000000#32) reducesTo_S32768x64_S32768_d1 h_S_ : FVec Ideal S32768 .f32)
          shapeCasts_S32768_S32768x1)
        (mulf (broadcastInDim S32768x1 ![] bcast_S_S32768x1 (constant S_ .f32 0xBF000000#32))
          (Host.divf (Host.rsqrt (refMsq x)) (refMsq x))))
      (broadcastInDim S32768x1 ![] bcast_S_S32768x1 (constant S_ .f32 0x42800000#32)) : Column)
      (constant S_ .f32 0x00000000#32) reducesTo_S32768x1_S32768_d1 h_S_ : FVec Ideal S32768 .f32)

def refGrad (x e : Rows) : Rows :=
  addf (addf (mulf e (broadcastInDim S32768x64 ![0, 1] bcast_S32768x1_S32768x64_0_1 (Host.rsqrt (refMsq x)))) (mulf x (refShare x e)))
    (mulf (refShare x e) x)

def refBack (z : Rows) (c s : Halves) : Rows :=
  addf (pad S32768x64 ![0, 32] ![0, 0] ![0, 0]
      (addf (mulf (extractStridedSlice S32768x32 ![0, 32] z slices_S32768x64_S32768x32_0_32) c)
        (mulf (Host.negf (extractStridedSlice S32768x32 ![0, 0] z slices_S32768x64_S32768x32_0_0)) s) : Halves)
      (constant S_ .f32 0x00000000#32 : FVec Ideal S_ .f32) pads_S32768x32_S32768x64_000_3200 h_S_)
    (pad S32768x64 ![0, 0] ![0, 32] ![0, 0]
      (addf (mulf (extractStridedSlice S32768x32 ![0, 32] z slices_S32768x64_S32768x32_0_32) s)
        (mulf (extractStridedSlice S32768x32 ![0, 0] z slices_S32768x64_S32768x32_0_0) c) : Halves)
      (constant S_ .f32 0x00000000#32 : FVec Ideal S_ .f32) pads_S32768x32_S32768x64_000_0320 h_S_)

section
variable {x g h e : Rows} {X G H E : ℕ → ℕ → EReal}

theorem msq_column (hx : Table x X) : Table (refMsq x) (fun R _ => rowMsq X R) :=
  ((((hx.mulf (φ := .f32) hx).hostRowsum _ zero_of_literal _ (by decide) _).column _).hostDivf (φ := .f32) (table_literal _ _)).addf
    (φ := .f32) (table_literal _ _)

theorem scale_rows (hx : Table x X) : Table (broadcastInDim S32768x64 ![0, 1] bcast_S32768x1_S32768x64_0_1 (Host.rsqrt (refMsq x)))
    (fun R _ => rowScale X R) :=
  (msq_column hx).hostRsqrt.hostWidened _

theorem normed_rows (hx : Table x X) : Table (refNormed x) (fun R j => X R j * rowScale X R) := hx.mulf (φ := .f32) (scale_rows hx)

theorem grad_rows (hx : Table x X) (hh : Table h H) (hg : Table g G) : Table (refGrad x (mulf h g)) (rowX X G H) := by
  have he : Table (mulf h g : Rows) _ := hh.mulf (φ := .f32) hg
  have m := msq_column hx
  have s : Table (refShare x (mulf h g)) _ := ((((((hx.mulf (φ := .f32) he).hostRowsum _ zero_of_literal _ (by decide) _).stand _).mulf (φ := .f32)
    ((table_literal _ _).mulf (φ := .f32) (m.hostRsqrt.hostDivf (φ := .f32) m))).hostDivf (φ := .f32) (table_literal _ _)).hostRowsum _
      zero_of_literal _ (by decide) _).column _
  have t : Table (refGrad x (mulf h g)) _ := ((he.mulf (φ := .f32) (scale_rows hx)).addf (φ := .f32) (hx.mulf (φ := .f32) s)).addf (φ := .f32)
    (s.mulf (φ := .f32) hx)
  exact t.congr fun R j _ _ => rowX_eq X G H R j _ (sum_range_one _)

theorem back_rows {z : Rows} {c s : Halves} {D : ℕ → ℕ → EReal} {P : ℕ → EReal} (hz : Table z (apart D))
    (hc : Table c (fun R j => Ideal.cos (P (R / 8) * freq j))) (hs : Table s (fun R j => Ideal.sin (P (R / 8) * freq j))) :
    Table (refBack z c s) (apart (back D P)) := by
  have z1 := hz.slice 0 0 slices_S32768x64_S32768x32_0_0
  have z2 := hz.slice 0 32 slices_S32768x64_S32768x32_0_32
  have l := (((z2.mulf (φ := .f32) hc).addf (φ := .f32) ((z1.negf (φ := .f32)).mulf (φ := .f32) hs)).flanked 32 0
    (constant S_ .f32 0x00000000#32 : FVec Ideal S_ .f32) zero_of_literal pads_S32768x32_S32768x64_000_3200 h_S_)
  have r := (((z2.mulf (φ := .f32) hs).addf (φ := .f32) (z1.mulf (φ := .f32) hc)).flanked 0 32
    (constant S_ .f32 0x00000000#32 : FVec Ideal S_ .f32) zero_of_literal pads_S32768x32_S32768x64_000_0320 h_S_)
  refine Table.congr (l.addf (φ := .f32) r) fun R j _ hj => ?_
  refine Eq.trans ?_ (back_apart D P R j hj)
  simp only [Nat.zero_add]

/-- The gradients, a head's row put back beside the others. -/
theorem grad_joined {X H : ℕ → ℕ → EReal} {G : ℕ → EReal} (hx : Table x (apart X)) (hh : Table h (apart H)) (hg : Table g (apart fun _ c => G c)) :
    Table (shapeCast S4096x512 (refGrad x (mulf h g)) shapeCasts_S32768x64_S4096x512) (gradX X G H) :=
  ((grad_rows hx hh hg).joined (n := 8) (k := 64) (by norm_num) rfl rfl _).congr fun r c _ hc => gradX_apart X H G r c hc

theorem gain_joined {X H : ℕ → ℕ → EReal} (hx : Table x (apart X)) (hh : Table h (apart H)) :
    Listed (Host.reduceAdd (shapeCast S4096x512 (mulf (refNormed x) h) shapeCasts_S32768x64_S4096x512)
      (constant S_ .f32 0x00000000#32) reducesTo_S4096x512_S512_d0 h_S_ : FVec Ideal S512 .f32) (gradG X H) := by
  have t := ((normed_rows hx).mulf (φ := .f32) hh).joined (n := 8) (k := 64) (b := 512) (a := 4096) (by norm_num) rfl rfl
    shapeCasts_S32768x64_S4096x512
  have u := (t.congr (g := fun r c => H r c * X r c * scale X r c) fun r c _ hc => by
    obtain ⟨h1, h2⟩ := row_of r c hc
    rw [scale_apart X r c hc]
    unfold apart
    rw [h1, h2, Nat.div_add_mod' c 64]
    ac_rfl)
  exact Table.hostColsum u _ zero_of_literal _ (by decide) _

end

/-! ## The reference's values -/

variable {x0 : (⟨2, ![4096, 2560]⟩ : Shape).Idx → EReal} {x1 x2 x3 : (⟨2, ![4096, 512]⟩ : Shape).Idx → EReal}
  {x4 : (⟨1, ![4096]⟩ : Shape).Idx → BitVec 32} {x5 x6 : (⟨1, ![64]⟩ : Shape).Idx → EReal} {X D : ℕ → ℕ → EReal} {P G : ℕ → EReal}

theorem freq_listed : Listed (val_main_v7 (F := Ideal)) freq := fun _ => rfl

theorem ref_angle (h4 : Listed (sitofp .f32 x4 : FVec Ideal S4096 .f32) P) :
    Table (val_main_v11 (F := Ideal) x4) (fun r j => P r * freq j) := by
  have v1 : Table (val_main_v1 (F := Ideal) x4) _ := h4.column _
  have v9 : Table (val_main_v9 (F := Ideal) x4) _ := v1.hostWidened _
  have v8 : Table (val_main_v8 (F := Ideal)) _ := freq_listed.row _
  have v10 : Table (val_main_v10 (F := Ideal)) _ := v8.spread _
  exact v9.mulf (φ := .f32) v10

theorem ref_cos (h4 : Listed (sitofp .f32 x4 : FVec Ideal S4096 .f32) P) :
    Table (val_main_v16 (F := Ideal) x4) (fun R j => Ideal.cos (P (R / 8) * freq j)) :=
  (ref_angle h4).hostCos.again (n := 8) (by norm_num) rfl bcast_S4096x32_S4096x1x32_0_2 bcast_S4096x1x32_S4096x8x32_0_1_2
    shapeCasts_S4096x8x32_S32768x32

theorem ref_sin (h4 : Listed (sitofp .f32 x4 : FVec Ideal S4096 .f32) P) :
    Table (val_main_v19 (F := Ideal) x4) (fun R j => Ideal.sin (P (R / 8) * freq j)) :=
  (ref_angle h4).hostSin.again (n := 8) (by norm_num) rfl bcast_S4096x32_S4096x1x32_0_2 bcast_S4096x1x32_S4096x8x32_0_1_2
    shapeCasts_S4096x8x32_S32768x32

theorem ref_gain (h5 : Listed x5 G) : Table (val_main_v29 (F := Ideal) x5) (apart fun _ c => G (c % 64)) := by
  have v20 : Table (val_main_v20 (F := Ideal) x5) _ := h5.cast _
  have v21 : Table (val_main_v21 (F := Ideal) x5) _ := v20.spread _
  have v22 : Listed (val_main_v22 (F := Ideal) x5) (fun c => G (c % 64)) := v21.strung (by norm_num) rfl _
  have v28 : Table (val_main_v28 (F := Ideal) x5) _ := v22.rows _
  exact v28.parted (n := 8) (by norm_num) rfl rfl _

theorem ref_q (h0 : Table x0 X) : Table (val_main_v27 (F := Ideal) x0) (apart fun r c => X r (0 + c)) := by
  have v26 : Table (val_main_v26 (F := Ideal) x0) _ := h0.slice 0 0 _
  exact (v26.congr (g := fun r c => X r (0 + c)) fun r c _ _ => by rw [Nat.zero_add]).parted (n := 8) (by norm_num) rfl rfl _

theorem ref_k (h0 : Table x0 X) : Table (val_main_v89 (F := Ideal) x0) (apart fun r c => X r (512 + c)) := by
  have v88 : Table (val_main_v88 (F := Ideal) x0) _ := h0.slice 0 512 _
  exact (v88.congr (g := fun r c => X r (512 + c)) fun r c _ _ => by rw [Nat.zero_add]).parted (n := 8) (by norm_num) rfl rfl _

theorem ref_dq (h1 : Table x1 D) (h4 : Listed (sitofp .f32 x4 : FVec Ideal S4096 .f32) P) :
    Table (val_main_v68 (F := Ideal) x1 x4) (apart (back (fun r c => D r c * word 0x3E000000#32) P)) := by
  have v55 : Table (val_main_v55 (F := Ideal) x1) _ := h1.mulf (φ := .f32) (table_literal _ _)
  have v56 : Table (val_main_v56 (F := Ideal) x1) (apart fun r c => D r c * word 0x3E000000#32) := v55.parted (n := 8) (by norm_num) rfl rfl _
  exact back_rows v56 (ref_cos h4) (ref_sin h4)

theorem ref_dk (h2 : Table x2 D) (h4 : Listed (sitofp .f32 x4 : FVec Ideal S4096 .f32) P) :
    Table (val_main_v128 (F := Ideal) x2 x4) (apart (back D P)) := by
  have v116 : Table (val_main_v116 (F := Ideal) x2) (apart D) := h2.parted (n := 8) (by norm_num) rfl rfl _
  exact back_rows v116 (ref_cos h4) (ref_sin h4)

section
variable {DQ DK DV : ℕ → ℕ → EReal} {GQ GK : ℕ → EReal}

theorem ref_gq (h0 : Table x0 X) (h1 : Table x1 DQ) (h4 : Listed (sitofp .f32 x4 : FVec Ideal S4096 .f32) P) :
    Table (val_main_v150 (F := Ideal) x0 x1 x4)
      (fun _ c => gradG (fun r c => X r (0 + c)) (back (fun r c => DQ r c * word 0x3E000000#32) P) c) := by
  have v86 : Listed (val_main_v86 (F := Ideal) x0 x1 x4) _ := gain_joined (ref_q h0) (ref_dq h1 h4)
  exact v86.cast _

theorem ref_gk (h0 : Table x0 X) (h2 : Table x2 DK) (h4 : Listed (sitofp .f32 x4 : FVec Ideal S4096 .f32) P) :
    Table (val_main_v151 (F := Ideal) x0 x2 x4) (fun _ c => gradG (fun r c => X r (512 + c)) (back DK P) c) := by
  have v146 : Listed (val_main_v146 (F := Ideal) x0 x2 x4) _ := gain_joined (ref_k h0) (ref_dk h2 h4)
  exact v146.cast _

theorem ref_qkv (h0 : Table x0 X) (h1 : Table x1 DQ) (h2 : Table x2 DK) (h3 : Table x3 DV)
    (h4 : Listed (sitofp .f32 x4 : FVec Ideal S4096 .f32) P) (h5 : Listed x5 GQ) (h6 : Listed x6 GK) :
    Table (val_main_v149 (F := Ideal) x0 x1 x2 x3 x4 x5 x6)
      (fun r c => pick (gradX (fun r c => X r (0 + c)) (fun c => GQ (c % 64)) (back (fun r c => DQ r c * word 0x3E000000#32) P))
        (gradX (fun r c => X r (512 + c)) (fun c => GK (c % 64)) (back DK P)) DV (c / 512) r (c % 512)) := by
  have v87 : Table (val_main_v87 (F := Ideal) x0 x1 x4 x5) _ := grad_joined (ref_q h0) (ref_dq h1 h4) (ref_gain h5)
  have v91 : Table (val_main_v91 (F := Ideal) x6) (apart fun _ c => GK (c % 64)) := ref_gain h6
  have v147 : Table (val_main_v147 (F := Ideal) x0 x2 x4 x6) _ := grad_joined (ref_k h0) (ref_dk h2 h4) v91
  exact tables_three (x := ![val_main_v87 (F := Ideal) x0 x1 x4 x5, val_main_v147 (F := Ideal) x0 x2 x4 x6, x3]) (k := 512)
    (p := pick _ _ DV) (fun j => match j with
    | ⟨0, _⟩ => v87
    | ⟨1, _⟩ => v147
    | ⟨2, _⟩ => h3) (by norm_num) rfl concatenates_S4096x512_S4096x512_S4096x512_S4096x1536_d1

end

end Cert.Proof.Qk

end
-- ==== Proof.QkTie.lean ====
/- The results of the backward kernel of the norm of the heads and the rotation are the reference's. -/
module

public import proofs.«01_k».proof.Proof.QkArrays
public import proofs.«01_k».proof.Proof.QkRef
public import proofs.«01_k».proof.Proof.Finite

@[expose] public section

set_option maxRecDepth 16384
set_option maxHeartbeats 1600000

noncomputable section

namespace Cert.Proof.Qk

open Idealize.ShloMosaic Idealize.ShloMosaic.TcCoe Cert.QkPrepIdeal Cert.QkPrepIdeal.Gen Cert.QkPrepRefIdeal.Read

variable {m : (ℓ : Loc nD τ sig) → Buf (Elt Ideal) ℓ} {c : Dev nD} (hm : Given m c)
include hm

theorem tie10 : (dats m 0 c).arrAt 10 cfg0.N = val_main_v149 (F := Ideal) (m (c.tc.loc main_arg0)) (m (c.tc.loc main_arg1))
    (m (c.tc.loc main_arg2)) (m (c.tc.loc main_arg3)) (m (c.tc.loc main_arg4)) (m (c.tc.loc main_arg5)) (m (c.tc.loc main_arg6)) :=
  (array10 hm).eq (ref_qkv (table_cell _) (table_cell _) (table_cell _) (table_cell _) (listed_item _) (listed_item _) (listed_item _))
    fun _ _ _ _ => rfl

theorem tie11 : (dats m 0 c).arrAt 11 cfg0.N = val_main_v150 (F := Ideal) (m (c.tc.loc main_arg0)) (m (c.tc.loc main_arg1))
    (m (c.tc.loc main_arg4)) :=
  (array11 hm).eq (ref_gq (table_cell _) (table_cell _) (listed_item _)) fun _ _ _ _ => rfl

theorem tie12 : (dats m 0 c).arrAt 12 cfg0.N = val_main_v151 (F := Ideal) (m (c.tc.loc main_arg0)) (m (c.tc.loc main_arg2))
    (m (c.tc.loc main_arg4)) :=
  (array12 hm).eq (ref_gk (table_cell _) (table_cell _) (listed_item _)) fun _ _ _ _ => rfl

end Cert.Proof.Qk

end
-- ==== Proof.lean ====
/- The claim: the frames are the generated ones, and the value claim sets the kernel's arrays beside the reference's terms. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjRefIdeal
public import proofs.«01_k».proof.Proof.Gen.UpProjRefIdeal.Run
public import proofs.«01_k».proof.Proof.Gen.UpProjRefIdeal.Read
public import proofs.«01_k».proof.Proof.Gen.Pre_finite
public import proofs.«01_k».proof.Proof.Gen.Norm1
public import proofs.«01_k».proof.Proof.Gen.Norm1.Skeleton
public import proofs.«01_k».proof.Proof.Gen.Norm1.Launch
public import proofs.«01_k».proof.Proof.Gen.Norm1.Points
public import proofs.«01_k».proof.Proof.Gen.Norm1.Frame
public import proofs.«01_k».proof.Proof.Gen.Norm1Ideal
public import proofs.«01_k».proof.Proof.Gen.Norm1Ideal.Skeleton
public import proofs.«01_k».proof.Proof.Gen.Norm1Ideal.Launch
public import proofs.«01_k».proof.Proof.Gen.Norm1Ideal.Points
public import proofs.«01_k».proof.Proof.Gen.Norm1Ideal.Frame
public import proofs.«01_k».proof.Proof.Gen.Norm1Ideal.Value
public import proofs.«01_k».proof.Proof.Gen.Norm1RefIdeal
public import proofs.«01_k».proof.Proof.Gen.Norm1RefIdeal.Run
public import proofs.«01_k».proof.Proof.Gen.Norm1RefIdeal.Read
public import proofs.«01_k».proof.Proof.Gen.GIn
public import proofs.«01_k».proof.Proof.Gen.GIn.Skeleton
public import proofs.«01_k».proof.Proof.Gen.GIn.Launch
public import proofs.«01_k».proof.Proof.Gen.GIn.Points
public import proofs.«01_k».proof.Proof.Gen.GIn.Frame
public import proofs.«01_k».proof.Proof.Gen.GInIdeal
public import proofs.«01_k».proof.Proof.Gen.GInIdeal.Skeleton
public import proofs.«01_k».proof.Proof.Gen.GInIdeal.Launch
public import proofs.«01_k».proof.Proof.Gen.GInIdeal.Points
public import proofs.«01_k».proof.Proof.Gen.GInIdeal.Frame
public import proofs.«01_k».proof.Proof.Gen.GInRefIdeal
public import proofs.«01_k».proof.Proof.Gen.GInRefIdeal.Run
public import proofs.«01_k».proof.Proof.Gen.GInRefIdeal.Read
public import proofs.«01_k».proof.Proof.Gen.GOut
public import proofs.«01_k».proof.Proof.Gen.GOut.Skeleton
public import proofs.«01_k».proof.Proof.Gen.GOut.Launch
public import proofs.«01_k».proof.Proof.Gen.GOut.Points
public import proofs.«01_k».proof.Proof.Gen.GOut.Frame
public import proofs.«01_k».proof.Proof.Gen.GOutIdeal
public import proofs.«01_k».proof.Proof.Gen.GOutIdeal.Skeleton
public import proofs.«01_k».proof.Proof.Gen.GOutIdeal.Launch
public import proofs.«01_k».proof.Proof.Gen.GOutIdeal.Points
public import proofs.«01_k».proof.Proof.Gen.GOutIdeal.Frame
public import proofs.«01_k».proof.Proof.Gen.GOutIdeal.Value
public import proofs.«01_k».proof.Proof.Gen.GOutRefIdeal
public import proofs.«01_k».proof.Proof.Gen.GOutRefIdeal.Run
public import proofs.«01_k».proof.Proof.Gen.GOutRefIdeal.Read
public import proofs.«01_k».proof.Proof.Gen.DMix
public import proofs.«01_k».proof.Proof.Gen.DMix.Skeleton
public import proofs.«01_k».proof.Proof.Gen.DMix.Launch
public import proofs.«01_k».proof.Proof.Gen.DMix.Points
public import proofs.«01_k».proof.Proof.Gen.DMix.Frame
public import proofs.«01_k».proof.Proof.Gen.DMixIdeal
public import proofs.«01_k».proof.Proof.Gen.DMixIdeal.Skeleton
public import proofs.«01_k».proof.Proof.Gen.DMixIdeal.Launch
public import proofs.«01_k».proof.Proof.Gen.DMixIdeal.Points
public import proofs.«01_k».proof.Proof.Gen.DMixIdeal.Frame
public import proofs.«01_k».proof.Proof.Gen.DMixIdeal.Value
public import proofs.«01_k».proof.Proof.Gen.DMixRefIdeal
public import proofs.«01_k».proof.Proof.Gen.DMixRefIdeal.Run
public import proofs.«01_k».proof.Proof.Gen.DMixRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.DownLoss
public import proofs.«01_k».proof.Proof.Gen.DownLoss.Skeleton
public import proofs.«01_k».proof.Proof.Gen.DownLoss.Launch
public import proofs.«01_k».proof.Proof.Gen.DownLoss.Points
public import proofs.«01_k».proof.Proof.Gen.DownLoss.Frame
public import proofs.«01_k».proof.Proof.Gen.DownLossIdeal
public import proofs.«01_k».proof.Proof.Gen.DownLossIdeal.Skeleton
public import proofs.«01_k».proof.Proof.Gen.DownLossIdeal.Launch
public import proofs.«01_k».proof.Proof.Gen.DownLossIdeal.Points
public import proofs.«01_k».proof.Proof.Gen.DownLossIdeal.Frame
public import proofs.«01_k».proof.Proof.Gen.DownLossRefIdeal
public import proofs.«01_k».proof.Proof.Gen.DownLossRefIdeal.Run
public import proofs.«01_k».proof.Proof.Gen.DownLossRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Norm2
public import proofs.«01_k».proof.Proof.Gen.Norm2.Skeleton
public import proofs.«01_k».proof.Proof.Gen.Norm2.Launch
public import proofs.«01_k».proof.Proof.Gen.Norm2.Points
public import proofs.«01_k».proof.Proof.Gen.Norm2.Frame
public import proofs.«01_k».proof.Proof.Gen.Norm2Ideal
public import proofs.«01_k».proof.Proof.Gen.Norm2Ideal.Skeleton
public import proofs.«01_k».proof.Proof.Gen.Norm2Ideal.Launch
public import proofs.«01_k».proof.Proof.Gen.Norm2Ideal.Points
public import proofs.«01_k».proof.Proof.Gen.Norm2Ideal.Frame
public import proofs.«01_k».proof.Proof.Gen.Norm2Ideal.Value
public import proofs.«01_k».proof.Proof.Gen.Norm2RefIdeal
public import proofs.«01_k».proof.Proof.Gen.Norm2RefIdeal.Run
public import proofs.«01_k».proof.Proof.Gen.Norm2RefIdeal.Read
public import proofs.«01_k».proof.Proof.Gen.AttnNorm
public import proofs.«01_k».proof.Proof.Gen.AttnNorm.Skeleton
public import proofs.«01_k».proof.Proof.Gen.AttnNorm.Launch
public import proofs.«01_k».proof.Proof.Gen.AttnNorm.Points
public import proofs.«01_k».proof.Proof.Gen.AttnNorm.Frame
public import proofs.«01_k».proof.Proof.Gen.AttnNormIdeal
public import proofs.«01_k».proof.Proof.Gen.AttnNormIdeal.Skeleton
public import proofs.«01_k».proof.Proof.Gen.AttnNormIdeal.Launch
public import proofs.«01_k».proof.Proof.Gen.AttnNormIdeal.Points
public import proofs.«01_k».proof.Proof.Gen.AttnNormIdeal.Frame
public import proofs.«01_k».proof.Proof.Gen.AttnNormIdeal.Value
public import proofs.«01_k».proof.Proof.Gen.AttnNormRefIdeal
public import proofs.«01_k».proof.Proof.Gen.AttnNormRefIdeal.Run
public import proofs.«01_k».proof.Proof.Gen.AttnNormRefIdeal.Read
public import proofs.«01_k».proof.Proof.Gen.QkPrep
public import proofs.«01_k».proof.Proof.Gen.QkPrep.Skeleton
public import proofs.«01_k».proof.Proof.Gen.QkPrep.Launch
public import proofs.«01_k».proof.Proof.Gen.QkPrep.Points
public import proofs.«01_k».proof.Proof.Gen.QkPrep.Frame
public import proofs.«01_k».proof.Proof.Gen.QkPrepIdeal
public import proofs.«01_k».proof.Proof.Gen.QkPrepIdeal.Skeleton
public import proofs.«01_k».proof.Proof.Gen.QkPrepIdeal.Launch
public import proofs.«01_k».proof.Proof.Gen.QkPrepIdeal.Points
public import proofs.«01_k».proof.Proof.Gen.QkPrepIdeal.Frame
public import proofs.«01_k».proof.Proof.Gen.QkPrepIdeal.Value
public import proofs.«01_k».proof.Proof.Gen.QkPrepRefIdeal
public import proofs.«01_k».proof.Proof.Gen.QkPrepRefIdeal.Run
public import proofs.«01_k».proof.Proof.Gen.QkPrepRefIdeal.Read
public import proofs.«01_k».proof.Proof.Gen.Pre_finite_an
public import proofs.«01_k».proof.Proof.Gen.Pre_finite_qk
public import proofs.«01_k».proof.Proof.Gen.GDown
public import proofs.«01_k».proof.Proof.Gen.GDown.Skeleton
public import proofs.«01_k».proof.Proof.Gen.GDown.Launch
public import proofs.«01_k».proof.Proof.Gen.GDown.Points
public import proofs.«01_k».proof.Proof.Gen.GDown.Frame
public import proofs.«01_k».proof.Proof.Gen.GDownIdeal
public import proofs.«01_k».proof.Proof.Gen.GDownIdeal.Skeleton
public import proofs.«01_k».proof.Proof.Gen.GDownIdeal.Launch
public import proofs.«01_k».proof.Proof.Gen.GDownIdeal.Points
public import proofs.«01_k».proof.Proof.Gen.GDownIdeal.Frame
public import proofs.«01_k».proof.Proof.Gen.GDownIdeal.Value
public import proofs.«01_k».proof.Proof.Gen.GDownRefIdeal
public import proofs.«01_k».proof.Proof.Gen.GDownRefIdeal.Run
public import proofs.«01_k».proof.Proof.Gen.GDownRefIdeal.Read
public import proofs.«01_k».proof.Proof.Gen.GUp
public import proofs.«01_k».proof.Proof.Gen.GUp.Skeleton
public import proofs.«01_k».proof.Proof.Gen.GUp.Launch
public import proofs.«01_k».proof.Proof.Gen.GUp.Points
public import proofs.«01_k».proof.Proof.Gen.GUp.Frame
public import proofs.«01_k».proof.Proof.Gen.GUpIdeal
public import proofs.«01_k».proof.Proof.Gen.GUpIdeal.Skeleton
public import proofs.«01_k».proof.Proof.Gen.GUpIdeal.Launch
public import proofs.«01_k».proof.Proof.Gen.GUpIdeal.Points
public import proofs.«01_k».proof.Proof.Gen.GUpIdeal.Frame
public import proofs.«01_k».proof.Proof.Gen.GUpRefIdeal
public import proofs.«01_k».proof.Proof.Gen.GUpRefIdeal.Run
public import proofs.«01_k».proof.Proof.Gen.GUpRefIdeal.Read
public import proofs.«01_k».proof.Proof.Tie
public import proofs.«01_k».proof.Proof.NormTie
public import proofs.«01_k».proof.Proof.GDownValue
public import proofs.«01_k».proof.Proof.GUpValue
public import proofs.«01_k».proof.Proof.Norm1Tie
public import proofs.«01_k».proof.Proof.GInValue
public import proofs.«01_k».proof.Proof.GOutValue
public import proofs.«01_k».proof.Proof.DMixValue
public import proofs.«01_k».proof.Proof.OutProjValue
public import proofs.«01_k».proof.Proof.DownLossValue
public import proofs.«01_k».proof.Proof.InProjValue
public import proofs.«01_k».proof.Proof.UpFrame
public import proofs.«01_k».proof.Proof.UpTie
public import proofs.«01_k».proof.Proof.AttnTie
public import proofs.«01_k».proof.Proof.QkTie
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.ReferenceIdeal.Read

/-- The precondition, read: every argument is an array of real numbers. -/
theorem given_of_pre {m : (ℓ : Loc Cert.KernelIdeal.nD Cert.KernelIdeal.τ Cert.KernelIdeal.sig) → Buf (Elt Ideal) ℓ} (h : Cert.Pre_KernelIdeal_finite m)
    (c : Dev Cert.KernelIdeal.nD) :
    Entry.Given m c (entries (a := 4096) (b := 6144) (m (c.tc.loc Cert.KernelIdeal.main_arg0)))
      (entries (a := 3) (b := 6144) (m (c.tc.loc Cert.KernelIdeal.main_arg1)))
      (entry (a := 6144) (m (c.tc.loc Cert.KernelIdeal.main_arg2)))
      (entries (a := 3072) (b := 1024) (m (c.tc.loc Cert.KernelIdeal.main_arg3)))
      (entries (a := 4096) (b := 1024) (m (c.tc.loc Cert.KernelIdeal.main_arg4))) where
  input := rows_entries (real_of_test _ _ (h c).1)
  weight := rows_entries (real_of_test _ _ (h c).2.1)
  bias := line_entry (real_of_test _ _ (h c).2.2.1)
  down := rows_entries (real_of_test _ _ (h c).2.2.2.1)
  cot := rows_entries (real_of_test _ _ (h c).2.2.2.2)
  stop r q hr := entries_beyond _ r q hr

/-- The reference declares no semaphore. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run m ρ)

theorem algebraic : Cert.algebraic_KernelIdeal_ReferenceIdeal_pre_finite := by
  pair_intro
  · run_from Cert.KernelIdeal.Value.run_blocks m g
  · refine (θ_run _ _ _).mono (fun r h c => ?_) (Cert.ReferenceIdeal.Value.run m' g')
    have hg := given_of_pre hpre c
    obtain ⟨a0, a1, a2, a3, a4⟩ := hagree c
    obtain ⟨h0, h1, h2, h3, h4, h5, hargs⟩ := h c
    refine ⟨h0.trans ((val_main_v105_eq _).trans (Eq.trans ?_ (Entry.tie11 hg).symm)),
      h1.trans ((val_main_v107_eq _).trans (Eq.trans ?_ (Entry.tie12 hg).symm)),
      h2.trans ((val_main_v108_eq _).trans (Eq.trans ?_ (Entry.tie13 hg).symm)),
      h3.trans ((val_main_v109_eq _).trans (Eq.trans ?_ (Entry.tie14 hg).symm)),
      h4.trans ((val_main_v111_eq _).trans (Eq.trans ?_ (Entry.tie15 hg).symm)),
      h5.trans ((val_main_v113_eq _).trans (Eq.trans ?_ (Entry.tie16 hg).symm)), hargs⟩
    all_goals simp only [Idealize.ShloMosaic.StableHlo.launchContents_devRef, a0, a1, a2, a3, a4]

/-! ## The gradient of the second normalisation -/

theorem frame_norm2_reference : Cert.quiescent_Norm2RefIdeal := fun m ρ _ =>
  (θ_run Cert.Norm2RefIdeal.defs _ _).mono (fun r h => ⟨fun c => (h c).2.2.2, sem_eq_zero_of_no_sems (by decide) r.2⟩)
    (Cert.Norm2RefIdeal.Value.run m ρ)

theorem algebraic_norm2 : Cert.algebraic_Norm2Ideal_Norm2RefIdeal := by
  pair_intro
  · run_from Cert.Norm2Ideal.Value.run_blocks m g
  · refine (θ_run _ _ _).mono (fun r h c => ?_) (Cert.Norm2RefIdeal.Value.run m' g')
    obtain ⟨a0, a1, a2, a3, a4⟩ := hagree c
    obtain ⟨h0, h1, h2, hargs⟩ := h c
    refine ⟨h0.trans ((Cert.Norm2RefIdeal.Read.val_main_v38_eq _ _).trans (Eq.trans ?_ (Norm2.tie6 m c).symm)),
      h1.trans ((Cert.Norm2RefIdeal.Read.val_main_v39_eq _ _).trans (Eq.trans ?_ (Norm2.tie7 m c).symm)),
      h2.trans ((Cert.Norm2RefIdeal.Read.val_main_v40_eq _ _ _).trans (Eq.trans ?_ (Norm2.tie8 m c).symm)), hargs⟩
    all_goals simp only [Idealize.ShloMosaic.StableHlo.launchContents_devRef, a0, a1, a2, a3, a4]

/-! ## The gradient of the down projection's weights -/

theorem frame_gdown_reference : Cert.quiescent_GDownRefIdeal := fun m ρ _ =>
  (θ_run Cert.GDownRefIdeal.defs _ _).mono (fun r h => ⟨fun c => (h c).2, sem_eq_zero_of_no_sems (by decide) r.2⟩)
    (Cert.GDownRefIdeal.Value.run m ρ)

theorem algebraic_gdown : Cert.algebraic_GDownIdeal_GDownRefIdeal := by
  pair_intro
  · run_from Cert.GDownIdeal.Value.run_blocks m g
  · refine (θ_run _ _ _).mono (fun r h c => ?_) (Cert.GDownRefIdeal.Value.run m' g')
    obtain ⟨a0, a1⟩ := hagree c
    obtain ⟨h0, hargs⟩ := h c
    refine ⟨h0.trans ((Cert.GDownRefIdeal.Read.val_main_v4_eq _ _).trans (Eq.trans ?_ (GDown.tie2 m c).symm)), hargs⟩
    all_goals simp only [Idealize.ShloMosaic.StableHlo.launchContents_devRef, a0, a1]

/-! ## The gradient of the gate and up projections' weights -/

theorem frame_gup_reference : Cert.quiescent_GUpRefIdeal := fun m ρ _ =>
  (θ_run Cert.GUpRefIdeal.defs _ _).mono (fun r h => ⟨fun c => (h c).2, sem_eq_zero_of_no_sems (by decide) r.2⟩)
    (Cert.GUpRefIdeal.Value.run m ρ)

theorem algebraic_gup : Cert.algebraic_GUpIdeal_GUpRefIdeal := by
  pair_intro
  · run_from GUp.run_result m g
  · refine (θ_run _ _ _).mono (fun r h c => ?_) (Cert.GUpRefIdeal.Value.run m' g')
    obtain ⟨a0, a1⟩ := hagree c
    obtain ⟨h0, hargs⟩ := h c
    refine ⟨h0.trans ((Cert.GUpRefIdeal.Read.val_main_v5_eq _ _).trans (Eq.trans ?_ (GUp.tie2 m g c).symm)), hargs⟩
    all_goals simp only [Idealize.ShloMosaic.StableHlo.launchContents_devRef, a0, a1]

/-! ## The gradient of the first normalisation -/

theorem frame_norm1_reference : Cert.quiescent_Norm1RefIdeal := fun m ρ _ =>
  (θ_run Cert.Norm1RefIdeal.defs _ _).mono (fun r h => ⟨fun c => (h c).2.2.2, sem_eq_zero_of_no_sems (by decide) r.2⟩)
    (Cert.Norm1RefIdeal.Value.run m ρ)

theorem algebraic_norm1 : Cert.algebraic_Norm1Ideal_Norm1RefIdeal := by
  pair_intro
  · run_from Cert.Norm1Ideal.Value.run_blocks m g
  · refine (θ_run _ _ _).mono (fun r h c => ?_) (Cert.Norm1RefIdeal.Value.run m' g')
    obtain ⟨a0, a1, a2, a3, a4⟩ := hagree c
    obtain ⟨h0, h1, h2, hargs⟩ := h c
    refine ⟨h0.trans ((Cert.Norm1RefIdeal.Read.val_main_v38_eq _ _).trans (Eq.trans ?_ (Norm1.tie6 m c).symm)),
      h1.trans ((Cert.Norm1RefIdeal.Read.val_main_v39_eq _ _).trans (Eq.trans ?_ (Norm1.tie7 m c).symm)),
      h2.trans ((Cert.Norm1RefIdeal.Read.val_main_v40_eq _ _ _).trans (Eq.trans ?_ (Norm1.tie8 m c).symm)), hargs⟩
    all_goals simp only [Idealize.ShloMosaic.StableHlo.launchContents_devRef, a0, a1, a2, a3, a4]

/-! ## The gradient of the input projections' weights -/

theorem frame_gin_reference : Cert.quiescent_GInRefIdeal := fun m ρ _ =>
  (θ_run Cert.GInRefIdeal.defs _ _).mono (fun r h => ⟨fun c => (h c).2, sem_eq_zero_of_no_sems (by decide) r.2⟩)
    (Cert.GInRefIdeal.Value.run m ρ)

theorem algebraic_gin : Cert.algebraic_GInIdeal_GInRefIdeal := by
  pair_intro
  · run_from GIn.run_result m g
  · refine (θ_run _ _ _).mono (fun r h c => ?_) (Cert.GInRefIdeal.Value.run m' g')
    obtain ⟨a0, a1⟩ := hagree c
    obtain ⟨h0, hargs⟩ := h c
    refine ⟨h0.trans ((Cert.GInRefIdeal.Read.val_main_v5_eq _ _).trans (Eq.trans ?_ (GIn.tie2 m g c).symm)), hargs⟩
    all_goals simp only [Idealize.ShloMosaic.StableHlo.launchContents_devRef, a0, a1]

/-! ## The gradient of the output projection's weights -/

theorem frame_gout_reference : Cert.quiescent_GOutRefIdeal := fun m ρ _ =>
  (θ_run Cert.GOutRefIdeal.defs _ _).mono (fun r h => ⟨fun c => (h c).2, sem_eq_zero_of_no_sems (by decide) r.2⟩)
    (Cert.GOutRefIdeal.Value.run m ρ)

theorem algebraic_gout : Cert.algebraic_GOutIdeal_GOutRefIdeal := by
  pair_intro
  · run_from Cert.GOutIdeal.Value.run_blocks m g
  · refine (θ_run _ _ _).mono (fun r h c => ?_) (Cert.GOutRefIdeal.Value.run m' g')
    obtain ⟨a0, a1⟩ := hagree c
    obtain ⟨h0, hargs⟩ := h c
    refine ⟨h0.trans ((Cert.GOutRefIdeal.Read.val_main_v4_eq _ _).trans (Eq.trans ?_ (GOut.tie2 m c).symm)), hargs⟩
    all_goals simp only [Idealize.ShloMosaic.StableHlo.launchContents_devRef, a0, a1]

/-! ## The gradient of the mixed activations -/

theorem frame_dmix_reference : Cert.quiescent_DMixRefIdeal := fun m ρ _ =>
  (θ_run Cert.DMixRefIdeal.defs _ _).mono (fun r h => ⟨fun c => (h c).2, sem_eq_zero_of_no_sems (by decide) r.2⟩)
    (Cert.DMixRefIdeal.Value.run m ρ)

theorem algebraic_dmix : Cert.algebraic_DMixIdeal_DMixRefIdeal := by
  pair_intro
  · run_from Cert.DMixIdeal.Value.run_blocks m g
  · refine (θ_run _ _ _).mono (fun r h c => ?_) (Cert.DMixRefIdeal.Value.run m' g')
    obtain ⟨a0, a1⟩ := hagree c
    obtain ⟨h0, hargs⟩ := h c
    refine ⟨h0.trans ((Cert.DMixRefIdeal.Read.val_main_v2_eq _ _).trans (Eq.trans ?_ (DMix.tie2 m c).symm)), hargs⟩
    all_goals simp only [Idealize.ShloMosaic.StableHlo.launchContents_devRef, a0, a1]

/-! ## The output projection -/

theorem frame_out_reference : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run m ρ)

theorem algebraic_out : Cert.algebraic_OutProjIdeal_OutProjRefIdeal := by
  pair_intro
  · run_from Cert.OutProjIdeal.Value.run_blocks m g
  · refine (θ_run _ _ _).mono (fun r h c => ?_) (Cert.OutProjRefIdeal.Value.run m' g')
    obtain ⟨a0, a1, a2⟩ := hagree c
    obtain ⟨h0, hargs⟩ := h c
    refine ⟨h0.trans ((Cert.OutProjRefIdeal.Read.val_main_v1_eq _ _ _).trans (Eq.trans ?_ (OutProj.tie3 m c).symm)), hargs⟩
    all_goals simp only [Idealize.ShloMosaic.StableHlo.launchContents_devRef, a0, a1, a2]

/-! ## The down projection with the loss -/

theorem frame_loss_reference : Cert.quiescent_DownLossRefIdeal := fun m ρ _ =>
  (θ_run Cert.DownLossRefIdeal.defs _ _).mono (fun r h => ⟨fun c => (h c).2.2.2, sem_eq_zero_of_no_sems (by decide) r.2⟩)
    (Cert.DownLossRefIdeal.Value.run m ρ)

theorem algebraic_loss : Cert.algebraic_DownLossIdeal_DownLossRefIdeal := by
  pair_intro
  · run_from DownLoss.run_result m g
  · refine (θ_run _ _ _).mono (fun r h c => ?_) (Cert.DownLossRefIdeal.Value.run m' g')
    obtain ⟨a0, a1, a2, a3⟩ := hagree c
    obtain ⟨h0, h1, h2, hargs⟩ := h c
    refine ⟨h0.trans ((Cert.DownLossRefIdeal.Read.val_main_v16_eq _ _ _ _).trans (Eq.trans ?_ (DownLoss.tie4 m c).symm)),
      h1.trans ((Cert.DownLossRefIdeal.Read.val_main_v17_eq _ _ _ _).trans (Eq.trans ?_ (DownLoss.tie5 m c).symm)),
      h2.trans ((Cert.DownLossRefIdeal.Read.val_main_v10_eq _ _ _ _).trans (Eq.trans ?_ (DownLoss.tie_loss m c).symm)), hargs⟩
    all_goals simp only [Idealize.ShloMosaic.StableHlo.launchContents_devRef, a0, a1, a2, a3]

/-! ## The input projections -/

theorem frame_in_reference : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run m ρ)

theorem algebraic_in : Cert.algebraic_InProjIdeal_InProjRefIdeal := by
  pair_intro
  · run_from Cert.InProjIdeal.Value.run_blocks m g
  · refine (θ_run _ _ _).mono (fun r h c => ?_) (Cert.InProjRefIdeal.Value.run m' g')
    obtain ⟨a0, a1, a2⟩ := hagree c
    obtain ⟨h0, h1, hargs⟩ := h c
    refine ⟨h0.trans ((Cert.InProjRefIdeal.Read.val_main_v13_eq _ _ _).trans (Eq.trans ?_ (InProj.tie3 m c).symm)),
      h1.trans ((Cert.InProjRefIdeal.Read.val_main_v14_eq _ _).trans (Eq.trans ?_ (InProj.tie4 m c).symm)), hargs⟩
    all_goals simp only [Idealize.ShloMosaic.StableHlo.launchContents_devRef, a0, a1, a2]

/-! ## The up projection -/

theorem frame_up_reference : Cert.quiescent_UpProjRefIdeal := fun m ρ _ =>
  (θ_run Cert.UpProjRefIdeal.defs _ _).mono (fun r h => ⟨fun c => (h c).2.2.2.2.2.2, sem_eq_zero_of_no_sems (by decide) r.2⟩)
    (Cert.UpProjRefIdeal.Value.run m ρ)

theorem preserves_up : Cert.preserves_UpProj_UpProjIdeal :=
  ⟨IdealRules.named_const.statement Cert.UpProjIdeal.κ "gelu_ca" .f32 0x3D122279#32 _ rfl,
    IdealRules.named_const.statement Cert.UpProjIdeal.κ "gelu_3ca" .f32 0x3DDB33B6#32 _ rfl⟩

theorem algebraic_up : Cert.algebraic_UpProjIdeal_UpProjRefIdeal := by
  pair_intro
  · run_from UpProj.run_result m g
  · refine (θ_run _ _ _).mono (fun r h c => ?_) (Cert.UpProjRefIdeal.Value.run m' g')
    have hg := UpProj.given_entries m c
    obtain ⟨a0, a1, a2, a3, a4⟩ := hagree c
    obtain ⟨h0, h1, h2, h3, h4, h5, hargs⟩ := h c
    refine ⟨h0.trans ((Cert.UpProjRefIdeal.Read.val_main_v76_eq _).trans (Eq.trans ?_ (UpProj.tie8 hg).symm)),
      h1.trans ((Cert.UpProjRefIdeal.Read.val_main_v78_eq _).trans (Eq.trans ?_ (UpProj.tie9 hg).symm)),
      h2.trans ((Cert.UpProjRefIdeal.Read.val_main_v79_eq _).trans (Eq.trans ?_ (UpProj.tie10 hg).symm)),
      h3.trans ((Cert.UpProjRefIdeal.Read.val_main_v81_eq _).trans (Eq.trans ?_ (UpProj.tie11 hg).symm)),
      h4.trans ((Cert.UpProjRefIdeal.Read.val_main_v83_eq _).trans (Eq.trans ?_ (UpProj.tie12 hg).symm)),
      h5.trans ((Cert.UpProjRefIdeal.Read.val_main_v84_eq _).trans (Eq.trans ?_ (UpProj.tie13 hg).symm)), hargs⟩
    all_goals simp only [Idealize.ShloMosaic.StableHlo.launchContents_devRef, a0, a1, a2, a3, a4]

/-! ## The gradient of the attention's norm -/

theorem frame_attn_norm_reference : Cert.quiescent_AttnNormRefIdeal := fun m ρ _ =>
  (θ_run Cert.AttnNormRefIdeal.defs _ _).mono (fun r h => ⟨fun c => (h c).2.2.2, sem_eq_zero_of_no_sems (by decide) r.2⟩)
    (Cert.AttnNormRefIdeal.Value.run m ρ)

theorem algebraic_attn_norm : Cert.algebraic_AttnNormIdeal_AttnNormRefIdeal_pre_finite_an := by
  pair_intro
  · run_from Cert.AttnNormIdeal.Value.run_blocks m g
  · refine (θ_run _ _ _).mono (fun r h c => ?_) (Cert.AttnNormRefIdeal.Value.run m' g')
    obtain ⟨p0, p1, p2⟩ := hpre c
    have hd := Attn.tie5 m c (fun i => ⟨_, real_of_test _ _ p0 i⟩) (fun i => ⟨_, real_of_test _ _ p1 i⟩) (fun i => ⟨_, real_of_test _ _ p2 i⟩)
    obtain ⟨a0, a1, a2⟩ := hagree c
    obtain ⟨h0, h1, h2, hargs⟩ := h c
    refine ⟨h0.trans ((Cert.AttnNormRefIdeal.Read.val_main_v36_eq _ _).trans (Eq.trans ?_ (Attn.tie4 m c).symm)),
      h1.trans ((Cert.AttnNormRefIdeal.Read.val_main_v42_eq _ _).trans (Eq.trans ?_ hd.symm)),
      h2.trans ((Cert.AttnNormRefIdeal.Read.val_main_v43_eq _ _).trans (Eq.trans ?_ (Attn.tie6 m c).symm)), hargs⟩
    all_goals simp only [Idealize.ShloMosaic.StableHlo.launchContents_devRef, a0, a1, a2]

/-! ## The gradient of the norm of the heads and of the rotation -/

theorem frame_qk_reference : Cert.quiescent_QkPrepRefIdeal := fun m ρ _ =>
  (θ_run Cert.QkPrepRefIdeal.defs _ _).mono (fun r h => ⟨fun c => (h c).2.2.2, sem_eq_zero_of_no_sems (by decide) r.2⟩)
    (Cert.QkPrepRefIdeal.Value.run m ρ)

theorem algebraic_qk : Cert.algebraic_QkPrepIdeal_QkPrepRefIdeal_pre_finite_qk := by
  pair_intro
  · run_from Cert.QkPrepIdeal.Value.run_blocks m g
  · refine (θ_run _ _ _).mono (fun r h c => ?_) (Cert.QkPrepRefIdeal.Value.run m' g')
    obtain ⟨p0, p1, p2, p3, p4⟩ := hpre c
    have hm : Qk.Given m c := ⟨fun i => ⟨_, real_of_test _ _ p0 i⟩, fun i => ⟨_, real_of_test _ _ p1 i⟩, fun i => ⟨_, real_of_test _ _ p2 i⟩,
      fun i => ⟨_, real_of_test _ _ p3 i⟩, fun i => ⟨_, real_of_test _ _ p4 i⟩⟩
    obtain ⟨a0, a1, a2, a3, a4, a5, a6⟩ := hagree c
    obtain ⟨h0, h1, h2, hargs⟩ := h c
    refine ⟨h0.trans ((Cert.QkPrepRefIdeal.Read.val_main_v149_eq _ _).trans (Eq.trans ?_ (Qk.tie10 hm).symm)),
      h1.trans ((Cert.QkPrepRefIdeal.Read.val_main_v150_eq _ _).trans (Eq.trans ?_ (Qk.tie11 hm).symm)),
      h2.trans ((Cert.QkPrepRefIdeal.Read.val_main_v151_eq _ _).trans (Eq.trans ?_ (Qk.tie12 hm).symm)), hargs⟩
    all_goals simp only [Idealize.ShloMosaic.StableHlo.launchContents_devRef, a0, a1, a2, a3, a4, a5, a6]

/-! ## The claim -/

theorem claim : Cert.Claim := ⟨Cert.Kernel.Gen.facts, Cert.KernelIdeal.Gen.facts, Cert.ReferenceIdeal.Gen.facts,
  Cert.Norm2.Gen.facts, Cert.Norm2Ideal.Gen.facts, Cert.Norm2RefIdeal.Gen.facts,
  Cert.GDown.Gen.facts, Cert.GDownIdeal.Gen.facts, Cert.GDownRefIdeal.Gen.facts,
  Cert.GUp.Gen.facts, Cert.GUpIdeal.Gen.facts, Cert.GUpRefIdeal.Gen.facts,
  Cert.Norm1.Gen.facts, Cert.Norm1Ideal.Gen.facts, Cert.Norm1RefIdeal.Gen.facts,
  Cert.GIn.Gen.facts, Cert.GInIdeal.Gen.facts, Cert.GInRefIdeal.Gen.facts,
  Cert.GOut.Gen.facts, Cert.GOutIdeal.Gen.facts, Cert.GOutRefIdeal.Gen.facts,
  Cert.DMix.Gen.facts, Cert.DMixIdeal.Gen.facts, Cert.DMixRefIdeal.Gen.facts,
  Cert.OutProj.Gen.facts, Cert.OutProjIdeal.Gen.facts, Cert.OutProjRefIdeal.Gen.facts,
  Cert.DownLoss.Gen.facts, Cert.DownLossIdeal.Gen.facts, Cert.DownLossRefIdeal.Gen.facts,
  Cert.InProj.Gen.facts, Cert.InProjIdeal.Gen.facts, Cert.InProjRefIdeal.Gen.facts,
  Cert.UpProj.Gen.facts, Cert.UpProjIdeal.Gen.facts, Cert.UpProjRefIdeal.Gen.facts,
  Cert.AttnNorm.Gen.facts, Cert.AttnNormIdeal.Gen.facts, Cert.AttnNormRefIdeal.Gen.facts,
  Cert.QkPrep.Gen.facts, Cert.QkPrepIdeal.Gen.facts, Cert.QkPrepRefIdeal.Gen.facts,
  Cert.Pre_finite.Gen.facts, Cert.Pre_finite_an.Gen.facts, Cert.Pre_finite_qk.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Norm2.Gen.frame m ρ, fun m ρ _ => Cert.Norm2Ideal.Gen.frame m ρ, frame_norm2_reference,
  fun m ρ _ => Cert.GDown.Gen.frame m ρ, fun m ρ _ => Cert.GDownIdeal.Gen.frame m ρ, frame_gdown_reference,
  fun m ρ _ => Cert.GUp.Gen.frame m ρ, fun m ρ _ => Cert.GUpIdeal.Gen.frame m ρ, frame_gup_reference,
  fun m ρ _ => Cert.Norm1.Gen.frame m ρ, fun m ρ _ => Cert.Norm1Ideal.Gen.frame m ρ, frame_norm1_reference,
  fun m ρ _ => Cert.GIn.Gen.frame m ρ, fun m ρ _ => Cert.GInIdeal.Gen.frame m ρ, frame_gin_reference,
  fun m ρ _ => Cert.GOut.Gen.frame m ρ, fun m ρ _ => Cert.GOutIdeal.Gen.frame m ρ, frame_gout_reference,
  fun m ρ _ => Cert.DMix.Gen.frame m ρ, fun m ρ _ => Cert.DMixIdeal.Gen.frame m ρ, frame_dmix_reference,
  fun m ρ _ => Cert.OutProj.Gen.frame m ρ, fun m ρ _ => Cert.OutProjIdeal.Gen.frame m ρ, frame_out_reference,
  fun m ρ _ => Cert.DownLoss.Gen.frame m ρ, fun m ρ _ => Cert.DownLossIdeal.Gen.frame m ρ, frame_loss_reference,
  fun m ρ _ => Cert.InProj.Gen.frame m ρ, fun m ρ _ => Cert.InProjIdeal.Gen.frame m ρ, frame_in_reference,
  fun m ρ _ => Cert.UpProj.Gen.frame m ρ, fun m ρ _ => Cert.UpProjIdeal.Gen.frame m ρ, frame_up_reference,
  fun m ρ _ => Cert.AttnNorm.Gen.frame m ρ, fun m ρ _ => Cert.AttnNormIdeal.Gen.frame m ρ, fun m ρ _ => Cert.AttnNormIdeal.Gen.frame m ρ,
  frame_attn_norm_reference, fun m ρ _ => frame_attn_norm_reference m ρ trivial,
  fun m ρ _ => Cert.QkPrep.Gen.frame m ρ, fun m ρ _ => Cert.QkPrepIdeal.Gen.frame m ρ, fun m ρ _ => Cert.QkPrepIdeal.Gen.frame m ρ,
  frame_qk_reference, fun m ρ _ => frame_qk_reference m ρ trivial,
  trivial, algebraic, trivial, algebraic_norm2, trivial, algebraic_gdown, trivial, algebraic_gup,
  trivial, algebraic_norm1, trivial, algebraic_gin, trivial, algebraic_gout, trivial, algebraic_dmix, trivial, algebraic_out, trivial, algebraic_loss, trivial, algebraic_in, preserves_up, algebraic_up, trivial, algebraic_attn_norm,
  trivial, algebraic_qk⟩

end Cert.Proof

end
